-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)
      ∧ m' ((c.tc : Thread Cert.OutRefIdeal.nD Cert.OutRefIdeal.τ).loc Cert.OutRefIdeal.main_arg6) = m ((c.tc : Thread Cert.OutProjIdeal.nD Cert.OutProjIdeal.τ).loc Cert.OutProjIdeal.main_arg6)
      ∧ m' ((c.tc : Thread Cert.OutRefIdeal.nD Cert.OutRefIdeal.τ).loc Cert.OutRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v17)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v17) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v40) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)
      ∧ m' ((c.tc : Thread Cert.InRefIdeal.nD Cert.InRefIdeal.τ).loc Cert.InRefIdeal.main_arg4) = m ((c.tc : Thread Cert.InProjIdeal.nD Cert.InProjIdeal.τ).loc Cert.InProjIdeal.main_arg4)
      ∧ m' ((c.tc : Thread Cert.InRefIdeal.nD Cert.InRefIdeal.τ).loc Cert.InRefIdeal.main_arg5) = m ((c.tc : Thread Cert.InProjIdeal.nD Cert.InProjIdeal.τ).loc Cert.InProjIdeal.main_arg5)
      ∧ m' ((c.tc : Thread Cert.InRefIdeal.nD Cert.InRefIdeal.τ).loc Cert.InRefIdeal.main_arg6) = m ((c.tc : Thread Cert.InProjIdeal.nD Cert.InProjIdeal.τ).loc Cert.InProjIdeal.main_arg6)
      ∧ m' ((c.tc : Thread Cert.InRefIdeal.nD Cert.InRefIdeal.τ).loc Cert.InRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v41_0)) (v1 : (c : Dev Cert.InProjIdeal.nD) → Buf (Elt Ideal) ((c.tc : Thread Cert.InProjIdeal.nD Cert.InProjIdeal.τ).loc Cert.InProjIdeal.main_v41_1)) (v2 : (c : Dev Cert.InProjIdeal.nD) → Buf (Elt Ideal) ((c.tc : Thread Cert.InProjIdeal.nD Cert.InProjIdeal.τ).loc Cert.InProjIdeal.main_v41_2)) (v3 : (c : Dev Cert.InProjIdeal.nD) → Buf (Elt Ideal) ((c.tc : Thread Cert.InProjIdeal.nD Cert.InProjIdeal.τ).loc Cert.InProjIdeal.main_v41_3)) (v4 : (c : Dev Cert.InProjIdeal.nD) → Buf (Elt Ideal) ((c.tc : Thread Cert.InProjIdeal.nD Cert.InProjIdeal.τ).loc Cert.InProjIdeal.main_v41_4)) (v5 : (c : Dev Cert.InProjIdeal.nD) → Buf (Elt Ideal) ((c.tc : Thread Cert.InProjIdeal.nD Cert.InProjIdeal.τ).loc Cert.InProjIdeal.main_v41_5)) (v6 : (c : Dev Cert.InProjIdeal.nD) → Buf (Elt Ideal) ((c.tc : Thread Cert.InProjIdeal.nD Cert.InProjIdeal.τ).loc Cert.InProjIdeal.main_v41_14)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v41_0) = v0 c
          ∧ r.2.mem ((c.tc : Thread Cert.InProjIdeal.nD Cert.InProjIdeal.τ).loc Cert.InProjIdeal.main_v41_1) = v1 c
          ∧ r.2.mem ((c.tc : Thread Cert.InProjIdeal.nD Cert.InProjIdeal.τ).loc Cert.InProjIdeal.main_v41_2) = v2 c
          ∧ r.2.mem ((c.tc : Thread Cert.InProjIdeal.nD Cert.InProjIdeal.τ).loc Cert.InProjIdeal.main_v41_3) = v3 c
          ∧ r.2.mem ((c.tc : Thread Cert.InProjIdeal.nD Cert.InProjIdeal.τ).loc Cert.InProjIdeal.main_v41_4) = v4 c
          ∧ r.2.mem ((c.tc : Thread Cert.InProjIdeal.nD Cert.InProjIdeal.τ).loc Cert.InProjIdeal.main_v41_5) = v5 c
          ∧ r.2.mem ((c.tc : Thread Cert.InProjIdeal.nD Cert.InProjIdeal.τ).loc Cert.InProjIdeal.main_v41_14) = v6 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v35) = v0 c
          ∧ r.2.mem ((c.tc : Thread Cert.InRefIdeal.nD Cert.InRefIdeal.τ).loc Cert.InRefIdeal.main_v89) = v1 c
          ∧ r.2.mem ((c.tc : Thread Cert.InRefIdeal.nD Cert.InRefIdeal.τ).loc Cert.InRefIdeal.main_v94) = v2 c
          ∧ r.2.mem ((c.tc : Thread Cert.InRefIdeal.nD Cert.InRefIdeal.τ).loc Cert.InRefIdeal.main_v98) = v3 c
          ∧ r.2.mem ((c.tc : Thread Cert.InRefIdeal.nD Cert.InRefIdeal.τ).loc Cert.InRefIdeal.main_v102) = v4 c
          ∧ r.2.mem ((c.tc : Thread Cert.InRefIdeal.nD Cert.InRefIdeal.τ).loc Cert.InRefIdeal.main_v55) = v5 c
          ∧ r.2.mem ((c.tc : Thread Cert.InRefIdeal.nD Cert.InRefIdeal.τ).loc Cert.InRefIdeal.main_v104) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7))

def Claim : Prop :=
  ∃ (hKernel : Cert.Kernel.Facts) (hKernelIdeal : Cert.KernelIdeal.Facts) (hReferenceIdeal : Cert.ReferenceIdeal.Facts) (hOutProj : Cert.OutProj.Facts) (hOutProjIdeal : Cert.OutProjIdeal.Facts) (hOutRefIdeal : Cert.OutRefIdeal.Facts) (hInProj : Cert.InProj.Facts) (hInProjIdeal : Cert.InProjIdeal.Facts) (hInRefIdeal : Cert.InRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_OutProj (hOutProj := hOutProj)
    ∧ quiescent_OutProjIdeal (hOutProjIdeal := hOutProjIdeal)
    ∧ quiescent_OutRefIdeal (hOutRefIdeal := hOutRefIdeal)
    ∧ quiescent_InProj (hInProj := hInProj)
    ∧ quiescent_InProjIdeal (hInProjIdeal := hInProjIdeal)
    ∧ quiescent_InRefIdeal (hInRefIdeal := hInRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_OutProj_OutProjIdeal
    ∧ algebraic_OutProjIdeal_OutRefIdeal (hOutProjIdeal := hOutProjIdeal) (hOutRefIdeal := hOutRefIdeal)
    ∧ preserves_InProj_InProjIdeal
    ∧ algebraic_InProjIdeal_InRefIdeal (hInProjIdeal := hInProjIdeal) (hInRefIdeal := hInRefIdeal)
-- ==== Pre_finite.lean ====
abbrev S4x4096x512 : Shape := ⟨3, ![4, 4096, 512]⟩
abbrev S16x10x256x256 : Shape := ⟨4, ![16, 10, 256, 256]⟩
abbrev S_ : Shape := ⟨0, ![]⟩

class Facts : Prop where
  bitsLt_bf16_f32 : FTy.bits .bf16 < FTy.bits .f32
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S16x10x256x256 : S_.BroadcastsInDim S16x10x256x256 (![] : Fin 0 → Fin S16x10x256x256.rank)
  reducesTo_S16x10x256x256_S_d0_1_2_3 : S16x10x256x256.ReducesTo [0, 1, 2, 3] S_

variable [Facts]

def fn_part1 {F : FTy → Type} [FloatOps F] (main_arg2 : FVec F S4x4096x512 .f32) (main_arg3 : FVec F S16x10x256x256 .f32) (main_v13 : IVec S_ 1) (main_v15 : IVec S4x4096x512 1) (main_cst_5 : FVec F S_ .f32) : IVec S_ 1 :=
  let main_v16 : FVec F S4x4096x512 .f32 := broadcastInDim S4x4096x512 ![] bcast_S_S4x4096x512 main_cst_5
  let main_v17 : IVec S4x4096x512 1 := cmpf .olt main_arg2 main_v16
  let main_v18 : IVec S4x4096x512 1 := andi main_v15 main_v17
  let main_c_6 : IVec S_ 1 := constantI S_ 1 1#1
  let main_v19 : IVec S_ 1 := (fun x v => Host.reduce IntOp.andi x v reducesTo_S4x4096x512_S_d0_1_2 h_S_) main_v18 main_c_6
  let main_v20 : IVec S_ 1 := andi main_v13 main_v19
  let main_cst_7 : FVec F S_ .f32 := constant S_ .f32 0xFF800000#32
  let main_v21 : FVec F S16x10x256x256 .f32 := broadcastInDim S16x10x256x256 ![] bcast_S_S16x10x256x256 main_cst_7
  let main_v22 : IVec S16x10x256x256 1 := cmpf .ogt main_arg3 main_v21
  let main_cst_8 : FVec F S_ .f32 := constant S_ .f32 0x7F800000#32
  let main_v23 : FVec F S16x10x256x256 .f32 := broadcastInDim S16x10x256x256 ![] bcast_S_S16x10x256x256 main_cst_8
  let main_v24 : IVec S16x10x256x256 1 := cmpf .olt main_arg3 main_v23
  let main_v25 : IVec S16x10x256x256 1 := andi main_v22 main_v24
  let main_c_9 : IVec S_ 1 := constantI S_ 1 1#1
  let main_v26 : IVec S_ 1 := (fun x v => Host.reduce IntOp.andi x v reducesTo_S16x10x256x256_S_d0_1_2_3 h_S_) main_v25 main_c_9
  let main_v27 : IVec S_ 1 := andi main_v20 main_v26
  main_v27

def fn {F : FTy → Type} [FloatOps F] (main_arg0 : FVec F S4x4096x512 .bf16) (main_arg1 : FVec F S4x4096x512 .f32) (main_arg2 : FVec F S4x4096x512 .f32) (main_arg3 : FVec F S16x10x256x256 .f32) : IVec S_ 1 :=
  let main_v0 : FVec F S4x4096x512 .f32 := (extf .f32 · bitsLt_bf16_f32) main_arg0
  let main_cst : FVec F S_ .f32 := constant S_ .f32 0xFF800000#32
  let main_v1 : FVec F S4x4096x512 .f32 := broadcastInDim S4x4096x512 ![] bcast_S_S4x4096x512 main_cst
  let main_v2 : IVec S4x4096x512 1 := cmpf .ogt main_v0 main_v1
  let main_cst_0 : FVec F S_ .f32 := constant S_ .f32 0x7F800000#32
  let main_v3 : FVec F S4x4096x512 .f32 := broadcastInDim S4x4096x512 ![] bcast_S_S4x4096x512 main_cst_0
  let main_v4 : IVec S4x4096x512 1 := cmpf .olt main_v0 main_v3
  let main_v5 : IVec S4x4096x512 1 := andi main_v2 main_v4
  let main_c : IVec S_ 1 := constantI S_ 1 1#1
  let main_v6 : IVec S_ 1 := (fun x v => Host.reduce IntOp.andi x v reducesTo_S4x4096x512_S_d0_1_2 h_S_) main_v5 main_c
  let main_cst_1 : FVec F S_ .f32 := constant S_ .f32 0xFF800000#32
  let main_v7 : FVec F S4x4096x512 .f32 := broadcastInDim S4x4096x512 ![] bcast_S_S4x4096x512 main_cst_1
  let main_v8 : IVec S4x4096x512 1 := cmpf .ogt main_arg1 main_v7
  let main_cst_2 : FVec F S_ .f32 := constant S_ .f32 0x7F800000#32
  let main_v9 : FVec F S4x4096x512 .f32 := broadcastInDim S4x4096x512 ![] bcast_S_S4x4096x512 main_cst_2
  let main_v10 : IVec S4x4096x512 1 := cmpf .olt main_arg1 main_v9
  let main_v11 : IVec S4x4096x512 1 := andi main_v8 main_v10
  let main_c_3 : IVec S_ 1 := constantI S_ 1 1#1
  let main_v12 : IVec S_ 1 := (fun x v => Host.reduce IntOp.andi x v reducesTo_S4x4096x512_S_d0_1_2 h_S_) main_v11 main_c_3
  let main_v13 : IVec S_ 1 := andi main_v6 main_v12
  let main_cst_4 : FVec F S_ .f32 := constant S_ .f32 0xFF800000#32
  let main_v14 : FVec F S4x4096x512 .f32 := broadcastInDim S4x4096x512 ![] bcast_S_S4x4096x512 main_cst_4
  let main_v15 : IVec S4x4096x512 1 := cmpf .ogt main_arg2 main_v14
  let main_cst_5 : FVec F S_ .f32 := constant S_ .f32 0x7F800000#32
  fn_part1 (F := F) main_arg2 main_arg3 main_v13 main_v15 main_cst_5
-- ==== Kernel.lean ====
abbrev S4x4096x512 : Shape := ⟨3, ![4, 4096, 512]⟩
abbrev S16x10x256x256 : Shape := ⟨4, ![16, 10, 256, 256]⟩
abbrev S_ : Shape := ⟨0, ![]⟩
abbrev S4x16x256x512 : Shape := ⟨4, ![4, 16, 256, 512]⟩
abbrev S4x16x512 : Shape := ⟨3, ![4, 16, 512]⟩
abbrev S256x256 : Shape := ⟨2, ![256, 256]⟩
abbrev S1x512x512 : Shape := ⟨3, ![1, 512, 512]⟩
abbrev S1x4096x512 : Shape := ⟨3, ![1, 4096, 512]⟩
abbrev S1x16x512 : Shape := ⟨3, ![1, 16, 512]⟩
abbrev S8x10x256x256 : Shape := ⟨4, ![8, 10, 256, 256]⟩
abbrev S4x1024x128 : Shape := ⟨3, ![4, 1024, 128]⟩
abbrev S512x128 : Shape := ⟨2, ![512, 128]⟩
abbrev S16x128 : Shape := ⟨2, ![16, 128]⟩
abbrev S16x4096 : Shape := ⟨2, ![16, 4096]⟩
abbrev S48x512 : Shape := ⟨2, ![48, 512]⟩
abbrev S1x512x128 : Shape := ⟨3, ![1, 512, 128]⟩
abbrev S1x16x128 : Shape := ⟨3, ![1, 16, 128]⟩
abbrev S16x512 : Shape := ⟨2, ![16, 512]⟩
abbrev S4096 : Shape := ⟨1, ![4096]⟩
abbrev S1x4096 : Shape := ⟨2, ![1, 4096]⟩
abbrev S128x512 : Shape := ⟨2, ![128, 512]⟩
abbrev S128x256 : Shape := ⟨2, ![128, 256]⟩
abbrev S256x128 : Shape := ⟨2, ![256, 128]⟩
abbrev S512x256 : Shape := ⟨2, ![512, 256]⟩
abbrev S1024x256 : Shape := ⟨2, ![1024, 256]⟩
abbrev S1x1x256x256 : Shape := ⟨4, ![1, 1, 256, 256]⟩
abbrev S512x512 : Shape := ⟨2, ![512, 512]⟩
abbrev S256x512 : Shape := ⟨2, ![256, 512]⟩
abbrev S512 : Shape := ⟨1, ![512]⟩
abbrev S512x1 : Shape := ⟨2, ![512, 1]⟩
abbrev S1x1024x128 : Shape := ⟨3, ![1, 1024, 128]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩

abbrev nBuf : Space → Nat
  | .hbm => 108
  | .vmem => 14
  | .smem => 0
  | _ => 0

abbrev bufTy : (tb : Table) → Fin (tcTables nBuf tb) → BufTy
  | .hbm, ⟨0, _⟩ => ⟨S4x4096x512, .bf16⟩
  | .hbm, ⟨1, _⟩ => ⟨S4x4096x512, .f32⟩
  | .hbm, ⟨2, _⟩ => ⟨S4x4096x512, .f32⟩
  | .hbm, ⟨3, _⟩ => ⟨S16x10x256x256, .f32⟩
  | .hbm, ⟨4, _⟩ => ⟨S4x4096x512, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S4x4096x512, .i32⟩
  | .hbm, ⟨12, _⟩ => ⟨S4x4096x512, .i32⟩
  | .hbm, ⟨13, _⟩ => ⟨S_, .i32⟩
  | .hbm, ⟨14, _⟩ => ⟨S4x4096x512, .i32⟩
  | .hbm, ⟨15, _⟩ => ⟨S4x4096x512, .i1⟩
  | .hbm, ⟨16, _⟩ => ⟨S_, .i32⟩
  | .hbm, ⟨17, _⟩ => ⟨S4x4096x512, .i32⟩
  | .hbm, ⟨18, _⟩ => ⟨S4x4096x512, .i1⟩
  | .hbm, ⟨19, _⟩ => ⟨S_, .i32⟩
  | .hbm, ⟨20, _⟩ => ⟨S_, .i1⟩
  | .hbm, ⟨21, _⟩ => ⟨S4x4096x512, .i1⟩
  | .hbm, ⟨22, _⟩ => ⟨S4x4096x512, .i1⟩
  | .hbm, ⟨23, _⟩ => ⟨S4x4096x512, .i1⟩
  | .hbm, ⟨24, _⟩ => ⟨S4x4096x512, .i32⟩
  | .hbm, ⟨25, _⟩ => ⟨S4x4096x512, .i32⟩
  | .hbm, ⟨26, _⟩ => ⟨S4x4096x512, .i32⟩
  | .hbm, ⟨27, _⟩ => ⟨S4x4096x512, .i32⟩
  | .hbm, ⟨28, _⟩ => ⟨S_, .i32⟩
  | .hbm, ⟨29, _⟩ => ⟨S_, .i32⟩
  | .hbm, ⟨30, _⟩ => ⟨S4x4096x512, .i32⟩
  | .hbm, ⟨31, _⟩ => ⟨S4x4096x512, .i32⟩
  | .hbm, ⟨32, _⟩ => ⟨S4x4096x512, .i32⟩
  | .hbm, ⟨33, _⟩ => ⟨S_, .i32⟩
  | .hbm, ⟨34, _⟩ => ⟨S4x4096x512, .i32⟩
  | .hbm, ⟨35, _⟩ => ⟨S4x4096x512, .i1⟩
  | .hbm, ⟨36, _⟩ => ⟨S4x4096x512, .i32⟩
  | .hbm, ⟨37, _⟩ => ⟨S4x4096x512, .i32⟩
  | .hbm, ⟨38, _⟩ => ⟨S_, .i32⟩
  | .hbm, ⟨39, _⟩ => ⟨S4x4096x512, .i32⟩
  | .hbm, ⟨40, _⟩ => ⟨S4x4096x512, .i1⟩
  | .hbm, ⟨41, _⟩ => ⟨S4x4096x512, .i1⟩
  | .hbm, ⟨42, _⟩ => ⟨S_, .i32⟩
  | .hbm, ⟨43, _⟩ => ⟨S4x4096x512, .i32⟩
  | .hbm, ⟨44, _⟩ => ⟨S4x4096x512, .i32⟩
  | .hbm, ⟨45, _⟩ => ⟨S4x4096x512, .i32⟩
  | .hbm, ⟨46, _⟩ => ⟨S_, .i32⟩
  | .hbm, ⟨47, _⟩ => ⟨S4x4096x512, .i32⟩
  | .hbm, ⟨48, _⟩ => ⟨S4x4096x512, .i1⟩
  | .hbm, ⟨49, _⟩ => ⟨S_, .i32⟩
  | .hbm, ⟨50, _⟩ => ⟨S4x4096x512, .i32⟩
  | .hbm, ⟨51, _⟩ => ⟨S4x4096x512, .i32⟩
  | .hbm, ⟨52, _⟩ => ⟨S4x4096x512, .i1⟩
  | .hbm, ⟨53, _⟩ => ⟨S_, .f32⟩
  | .hbm, ⟨54, _⟩ => ⟨S_, .f32⟩
  | .hbm, ⟨55, _⟩ => ⟨S4x4096x512, .f32⟩
  | .hbm, ⟨56, _⟩ => ⟨S4x4096x512, .f32⟩
  | .hbm, ⟨57, _⟩ => ⟨S4x4096x512, .f32⟩
  | .hbm, ⟨58, _⟩ => ⟨S4x4096x512, .f32⟩
  | .hbm, ⟨59, _⟩ => ⟨S4x4096x512, .f32⟩
  | .hbm, ⟨60, _⟩ => ⟨S4x4096x512, .bf16⟩
  | .hbm, ⟨61, _⟩ => ⟨S4x4096x512, .i1⟩
  | .hbm, ⟨62, _⟩ => ⟨S_, .f32⟩
  | .hbm, ⟨63, _⟩ => ⟨S_, .f32⟩
  | .hbm, ⟨64, _⟩ => ⟨S4x4096x512, .f32⟩
  | .hbm, ⟨65, _⟩ => ⟨S4x4096x512, .f32⟩
  | .hbm, ⟨66, _⟩ => ⟨S4x4096x512, .f32⟩
  | .hbm, ⟨67, _⟩ => ⟨S4x4096x512, .f32⟩
  | .hbm, ⟨68, _⟩ => ⟨S4x4096x512, .f32⟩
  | .hbm, ⟨69, _⟩ => ⟨S4x4096x512, .bf16⟩
  | .hbm, ⟨70, _⟩ => ⟨S_, .f32⟩
  | .hbm, ⟨71, _⟩ => ⟨S_, .f32⟩
  | .hbm, ⟨72, _⟩ => ⟨S4x4096x512, .f32⟩
  | .hbm, ⟨73, _⟩ => ⟨S4x4096x512, .f32⟩
  | .hbm, ⟨74, _⟩ => ⟨S4x4096x512, .bf16⟩
  | .hbm, ⟨75, _⟩ => ⟨S_, .f32⟩
  | .hbm, ⟨76, _⟩ => ⟨S_, .f32⟩
  | .hbm, ⟨77, _⟩ => ⟨S4x4096x512, .f32⟩
  | .hbm, ⟨78, _⟩ => ⟨S4x4096x512, .f32⟩
  | .hbm, ⟨79, _⟩ => ⟨S4x4096x512, .bf16⟩
  | .hbm, ⟨80, _⟩ => ⟨S4x16x256x512, .f32⟩
  | .hbm, ⟨81, _⟩ => ⟨S_, .f32⟩
  | .hbm, ⟨82, _⟩ => ⟨S4x16x512, .f32⟩
  | .hbm, ⟨83, _⟩ => ⟨S_, .f32⟩
  | .hbm, ⟨84, _⟩ => ⟨S4x16x512, .f32⟩
  | .hbm, ⟨85, _⟩ => ⟨S4x16x512, .f32⟩
  | .hbm, ⟨86, _⟩ => ⟨S16x10x256x256, .i32⟩
  | .hbm, ⟨87, _⟩ => ⟨S16x10x256x256, .i32⟩
  | .hbm, ⟨88, _⟩ => ⟨S16x10x256x256, .i32⟩
  | .hbm, ⟨89, _⟩ => ⟨S_, .i32⟩
  | .hbm, ⟨90, _⟩ => ⟨S16x10x256x256, .i32⟩
  | .hbm, ⟨91, _⟩ => ⟨S16x10x256x256, .i1⟩
  | .hbm, ⟨92, _⟩ => ⟨S16x10x256x256, .i1⟩
  | .hbm, ⟨93, _⟩ => ⟨S16x10x256x256, .i1⟩
  | .hbm, ⟨94, _⟩ => ⟨S_, .f32⟩
  | .hbm, ⟨95, _⟩ => ⟨S_, .f32⟩
  | .hbm, ⟨96, _⟩ => ⟨S16x10x256x256, .f32⟩
  | .hbm, ⟨97, _⟩ => ⟨S16x10x256x256, .f32⟩
  | .hbm, ⟨98, _⟩ => ⟨S256x256, .i32⟩
  | .hbm, ⟨99, _⟩ => ⟨S256x256, .i32⟩
  | .hbm, ⟨100, _⟩ => ⟨S256x256, .i1⟩
  | .hbm, ⟨101, _⟩ => ⟨S_, .f32⟩
  | .hbm, ⟨102, _⟩ => ⟨S_, .f32⟩
  | .hbm, ⟨103, _⟩ => ⟨S256x256, .f32⟩
  | .hbm, ⟨104, _⟩ => ⟨S256x256, .f32⟩
  | .hbm, ⟨105, _⟩ => ⟨S256x256, .f32⟩
  | .hbm, ⟨106, _⟩ => ⟨S256x256, .bf16⟩
  | .hbm, ⟨107, _⟩ => ⟨S4x4096x512, .f32⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x16x512, .f32⟩
  | .local _ .vmem, ⟨7, _⟩ => ⟨S1x16x512, .f32⟩
  | .local _ .vmem, ⟨8, _⟩ => ⟨S256x256, .bf16⟩
  | .local _ .vmem, ⟨9, _⟩ => ⟨S8x10x256x256, .f32⟩
  | .local _ .vmem, ⟨10, _⟩ => ⟨S1x512x512, .f32⟩
  | .local _ .vmem, ⟨11, _⟩ => ⟨S1x512x512, .f32⟩
  | .local _ .vmem, ⟨12, _⟩ => ⟨S4x1024x128, .f32⟩
  | .local _ .vmem, ⟨13, _⟩ => ⟨S4x1024x128, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_c : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_1 : Ref sig .tc := ⟨.hbm, 13, rfl⟩
abbrev main_call0_v5 : Ref sig .tc := ⟨.hbm, 14, rfl⟩
abbrev main_call0_v6 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_c_3 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v3 : Ref sig .tc := ⟨.hbm, 45, rfl⟩
abbrev main_c_1 : Ref sig .tc := ⟨.hbm, 46, rfl⟩
abbrev main_v4 : Ref sig .tc := ⟨.hbm, 47, rfl⟩
abbrev main_v5 : Ref sig .tc := ⟨.hbm, 48, rfl⟩
abbrev main_c_2 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst : Ref sig .tc := ⟨.hbm, 53, rfl⟩
abbrev main_cst_3 : Ref sig .tc := ⟨.hbm, 54, rfl⟩
abbrev main_call2_v0 : Ref sig .tc := ⟨.hbm, 55, rfl⟩
abbrev main_call2_v1 : Ref sig .tc := ⟨.hbm, 56, rfl⟩
abbrev main_v9 : Ref sig .tc := ⟨.hbm, 57, rfl⟩
abbrev main_call3_v0 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_cst_4 : Ref sig .tc := ⟨.hbm, 62, rfl⟩
abbrev main_cst_5 : Ref sig .tc := ⟨.hbm, 63, rfl⟩
abbrev main_call4_v0 : Ref sig .tc := ⟨.hbm, 64, rfl⟩
abbrev main_call4_v1 : Ref sig .tc := ⟨.hbm, 65, rfl⟩
abbrev main_v13 : Ref sig .tc := ⟨.hbm, 66, rfl⟩
abbrev main_call5_v0 : Ref sig .tc := ⟨.hbm, 67, rfl⟩
abbrev main_v14 : Ref sig .tc := ⟨.hbm, 68, rfl⟩
abbrev main_v15 : Ref sig .tc := ⟨.hbm, 69, rfl⟩
abbrev main_cst_6 : Ref sig .tc := ⟨.hbm, 70, rfl⟩
abbrev main_call6_v0 : Ref sig .tc := ⟨.hbm, 71, rfl⟩
abbrev main_call6_v1 : Ref sig .tc := ⟨.hbm, 72, rfl⟩
abbrev main_v16 : Ref sig .tc := ⟨.hbm, 73, rfl⟩
abbrev main_v17 : Ref sig .tc := ⟨.hbm, 74, rfl⟩
abbrev main_cst_7 : Ref sig .tc := ⟨.hbm, 75, rfl⟩
abbrev main_call7_v0 : Ref sig .tc := ⟨.hbm, 76, rfl⟩
abbrev main_call7_v1 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_cst_8 : Ref sig .tc := ⟨.hbm, 81, rfl⟩
abbrev main_v21 : Ref sig .tc := ⟨.hbm, 82, rfl⟩
abbrev main_cst_9 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_c_10 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_11 : Ref sig .tc := ⟨.hbm, 94, rfl⟩
abbrev main_call8_v0 : Ref sig .tc := ⟨.hbm, 95, rfl⟩
abbrev main_call8_v1 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_cst_12 : Ref sig .tc := ⟨.hbm, 101, rfl⟩
abbrev main_cst_13 : Ref sig .tc := ⟨.hbm, 102, rfl⟩
abbrev main_call9_v0 : Ref sig .tc := ⟨.hbm, 103, rfl⟩
abbrev main_call9_v1 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨3, ![4, 1, 8], ![false, false, false]⟩

def k0_mult1 (i : grid0.Coords) : BitVec 32 :=
  let arg2 : BitVec 32 := BitVec.ofNat 32 (i 2).val
  let c512_i32 : BitVec 32 := 512#32
  let v267 : BitVec 32 := Scalar.muli arg2 c512_i32
  v267
def k0_off1 (i : grid0.Coords) : Fin 3 → Nat :=
  let c0_109 : Index := 0#32
  let arg2 : BitVec 32 := BitVec.ofNat 32 (i 2).val
  let c512_i32 : BitVec 32 := 512#32
  let v267 : BitVec 32 := Scalar.muli arg2 c512_i32
  let v268 : BitVec 32 := v267
  let v269 : Index := Scalar.indexCast v268
  let c0_110 : Index := 0#32
  ![0, v269.toNat, 0]
def k0_mult2 (i : grid0.Coords) : BitVec 32 :=
  let arg2 : BitVec 32 := BitVec.ofNat 32 (i 2).val
  let c512_i32_185 : BitVec 32 := 512#32
  let v403 : BitVec 32 := Scalar.muli arg2 c512_i32_185
  v403
def k0_off2 (i : grid0.Coords) : Fin 3 → Nat :=
  let c0_186 : Index := 0#32
  let arg2 : BitVec 32 := BitVec.ofNat 32 (i 2).val
  let c512_i32_185 : BitVec 32 := 512#32
  let v403 : BitVec 32 := Scalar.muli arg2 c512_i32_185
  let v404 : BitVec 32 := v403
  let v405 : Index := Scalar.indexCast v404
  let c128_187 : Index := 128#32
  ![0, v405.toNat, 128]
def k0_mult3 (i : grid0.Coords) : BitVec 32 :=
  let arg2 : BitVec 32 := BitVec.ofNat 32 (i 2).val
  let c512_i32_264 : BitVec 32 := 512#32
  let v539 : BitVec 32 := Scalar.muli arg2 c512_i32_264
  v539
def k0_off3 (i : grid0.Coords) : Fin 3 → Nat :=
  let c0_265 : Index := 0#32
  let arg2 : BitVec 32 := BitVec.ofNat 32 (i 2).val
  let c512_i32_264 : BitVec 32 := 512#32
  let v539 : BitVec 32 := Scalar.muli arg2 c512_i32_264
  let v540 : BitVec 32 := v539
  let v541 : Index := Scalar.indexCast v540
  let c256_266 : Index := 256#32
  ![0, v541.toNat, 256]
def k0_mult4 (i : grid0.Coords) : BitVec 32 :=
  let arg2 : BitVec 32 := BitVec.ofNat 32 (i 2).val
  let c512_i32_343 : BitVec 32 := 512#32
  let v675 : BitVec 32 := Scalar.muli arg2 c512_i32_343
  v675
def k0_off4 (i : grid0.Coords) : Fin 3 → Nat :=
  let c0_344 : Index := 0#32
  let arg2 : BitVec 32 := BitVec.ofNat 32 (i 2).val
  let c512_i32_343 : BitVec 32 := 512#32
  let v675 : BitVec 32 := Scalar.muli arg2 c512_i32_343
  let v676 : BitVec 32 := v675
  let v677 : Index := Scalar.indexCast v676
  let c384_345 : Index := 384#32
  ![0, v677.toNat, 384]
@[reducible] def k0_t1_loop (i : grid0.Coords) : Scf.Loop 32 :=
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_424 : BitVec 32 := 1#32
  ⟨c0_i32_422, v815, c1_i32_424⟩
def k0_mult5 (i : grid0.Coords) (k0_t1 : Fin (k0_t1_loop i).trips) : BitVec 32 :=
  let c0_i32_422 : BitVec 32 := 0#32
  let c1_i32_424 : BitVec 32 := 1#32
  let arg14 : BitVec 32 := Scf.iv c0_i32_422 c1_i32_424 k0_t1
  let c512_i32_467 : BitVec 32 := 512#32
  let v862 : BitVec 32 := Scalar.muli arg14 c512_i32_467
  v862
def k0_off5 (i : grid0.Coords) (k0_t1 : Fin (k0_t1_loop i).trips) : Fin 3 → Nat :=
  let c0_468 : Index := 0#32
  let c0_i32_422 : BitVec 32 := 0#32
  let c1_i32_424 : BitVec 32 := 1#32
  let arg14 : BitVec 32 := Scf.iv c0_i32_422 c1_i32_424 k0_t1
  let c512_i32_467 : BitVec 32 := 512#32
  let v862 : BitVec 32 := Scalar.muli arg14 c512_i32_467
  let v863 : BitVec 32 := v862
  let v864 : Index := Scalar.indexCast v863
  let c0_469 : Index := 0#32
  ![0, v864.toNat, 0]
def k0_off6 (i : grid0.Coords) (k0_t1 : Fin (k0_t1_loop i).trips) (c0_i32_476 : BitVec 32) (c0_i32_477 : BitVec 32) : Fin 4 → Nat :=
  let c0_479 : Index := 0#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v877 : BitVec 32 := Scalar.addi v861 c0_i32_476
  let v878 : BitVec 32 := Scalar.subi v877 c0_i32_477
  let c0_i32_478 : BitVec 32 := 0#32
  let v879 : BitVec 1 := Scalar.cmpi .sge v878 c0_i32_478
  let c5_i32 : BitVec 32 := 5#32
  let v880 : BitVec 32 := Scalar.minsi v878 c5_i32
  let c9_i32 : BitVec 32 := 9#32
  let v881 : BitVec 32 := Scalar.select v879 v880 c9_i32
  let v882 : Index := Scalar.indexCast v881
  let c0_480 : Index := 0#32
  let c0_481 : Index := 0#32
  ![0, v882.toNat, 0, 0]
def k0_off7 (i : grid0.Coords) (k0_t1 : Fin (k0_t1_loop i).trips) (c0_i32_506 : BitVec 32) (c0_i32_507 : BitVec 32) : Fin 4 → Nat :=
  let c1_511 : Index := 1#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v911 : BitVec 32 := Scalar.addi v861 c0_i32_506
  let v912 : BitVec 32 := Scalar.subi v911 c0_i32_507
  let c0_i32_508 : BitVec 32 := 0#32
  let v913 : BitVec 1 := Scalar.cmpi .sge v912 c0_i32_508
  let c5_i32_509 : BitVec 32 := 5#32
  let v914 : BitVec 32 := Scalar.minsi v912 c5_i32_509
  let c9_i32_510 : BitVec 32 := 9#32
  let v915 : BitVec 32 := Scalar.select v913 v914 c9_i32_510
  let v916 : Index := Scalar.indexCast v915
  let c0_512 : Index := 0#32
  let c0_513 : Index := 0#32
  ![1, v916.toNat, 0, 0]
def k0_mult6 (i : grid0.Coords) (k0_t1 : Fin (k0_t1_loop i).trips) : BitVec 32 :=
  let c0_i32_422 : BitVec 32 := 0#32
  let c1_i32_424 : BitVec 32 := 1#32
  let arg14 : BitVec 32 := Scf.iv c0_i32_422 c1_i32_424 k0_t1
  let c512_i32_554 : BitVec 32 := 512#32
  let v989 : BitVec 32 := Scalar.muli arg14 c512_i32_554
  v989
def k0_off8 (i : grid0.Coords) (k0_t1 : Fin (k0_t1_loop i).trips) : Fin 3 → Nat :=
  let c0_555 : Index := 0#32
  let c0_i32_422 : BitVec 32 := 0#32
  let c1_i32_424 : BitVec 32 := 1#32
  let arg14 : BitVec 32 := Scf.iv c0_i32_422 c1_i32_424 k0_t1
  let c512_i32_554 : BitVec 32 := 512#32
  let v989 : BitVec 32 := Scalar.muli arg14 c512_i32_554
  let v990 : BitVec 32 := v989
  let v991 : Index := Scalar.indexCast v990
  let c128_556 : Index := 128#32
  ![0, v991.toNat, 128]
def k0_off9 (i : grid0.Coords) (k0_t1 : Fin (k0_t1_loop i).trips) (c0_i32_563 : BitVec 32) (c0_i32_564 : BitVec 32) : Fin 4 → Nat :=
  let c2_568 : Index := 2#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v1004 : BitVec 32 := Scalar.addi v861 c0_i32_563
  let v1005 : BitVec 32 := Scalar.subi v1004 c0_i32_564
  let c0_i32_565 : BitVec 32 := 0#32
  let v1006 : BitVec 1 := Scalar.cmpi .sge v1005 c0_i32_565
  let c5_i32_566 : BitVec 32 := 5#32
  let v1007 : BitVec 32 := Scalar.minsi v1005 c5_i32_566
  let c9_i32_567 : BitVec 32 := 9#32
  let v1008 : BitVec 32 := Scalar.select v1006 v1007 c9_i32_567
  let v1009 : Index := Scalar.indexCast v1008
  let c0_569 : Index := 0#32
  let c0_570 : Index := 0#32
  ![2, v1009.toNat, 0, 0]
def k0_off10 (i : grid0.Coords) (k0_t1 : Fin (k0_t1_loop i).trips) (c0_i32_595 : BitVec 32) (c0_i32_596 : BitVec 32) : Fin 4 → Nat :=
  let c3_600 : Index := 3#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v1038 : BitVec 32 := Scalar.addi v861 c0_i32_595
  let v1039 : BitVec 32 := Scalar.subi v1038 c0_i32_596
  let c0_i32_597 : BitVec 32 := 0#32
  let v1040 : BitVec 1 := Scalar.cmpi .sge v1039 c0_i32_597
  let c5_i32_598 : BitVec 32 := 5#32
  let v1041 : BitVec 32 := Scalar.minsi v1039 c5_i32_598
  let c9_i32_599 : BitVec 32 := 9#32
  let v1042 : BitVec 32 := Scalar.select v1040 v1041 c9_i32_599
  let v1043 : Index := Scalar.indexCast v1042
  let c0_601 : Index := 0#32
  let c0_602 : Index := 0#32
  ![3, v1043.toNat, 0, 0]
def k0_mult7 (i : grid0.Coords) (k0_t1 : Fin (k0_t1_loop i).trips) : BitVec 32 :=
  let c0_i32_422 : BitVec 32 := 0#32
  let c1_i32_424 : BitVec 32 := 1#32
  let arg14 : BitVec 32 := Scf.iv c0_i32_422 c1_i32_424 k0_t1
  let c512_i32_643 : BitVec 32 := 512#32
  let v1116 : BitVec 32 := Scalar.muli arg14 c512_i32_643
  v1116
def k0_off11 (i : grid0.Coords) (k0_t1 : Fin (k0_t1_loop i).trips) : Fin 3 → Nat :=
  let c0_644 : Index := 0#32
  let c0_i32_422 : BitVec 32 := 0#32
  let c1_i32_424 : BitVec 32 := 1#32
  let arg14 : BitVec 32 := Scf.iv c0_i32_422 c1_i32_424 k0_t1
  let c512_i32_643 : BitVec 32 := 512#32
  let v1116 : BitVec 32 := Scalar.muli arg14 c512_i32_643
  let v1117 : BitVec 32 := v1116
  let v1118 : Index := Scalar.indexCast v1117
  let c256_645 : Index := 256#32
  ![0, v1118.toNat, 256]
def k0_off12 (i : grid0.Coords) (k0_t1 : Fin (k0_t1_loop i).trips) (c0_i32_652 : BitVec 32) (c0_i32_653 : BitVec 32) : Fin 4 → Nat :=
  let c4_657 : Index := 4#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v1131 : BitVec 32 := Scalar.addi v861 c0_i32_652
  let v1132 : BitVec 32 := Scalar.subi v1131 c0_i32_653
  let c0_i32_654 : BitVec 32 := 0#32
  let v1133 : BitVec 1 := Scalar.cmpi .sge v1132 c0_i32_654
  let c5_i32_655 : BitVec 32 := 5#32
  let v1134 : BitVec 32 := Scalar.minsi v1132 c5_i32_655
  let c9_i32_656 : BitVec 32 := 9#32
  let v1135 : BitVec 32 := Scalar.select v1133 v1134 c9_i32_656
  let v1136 : Index := Scalar.indexCast v1135
  let c0_658 : Index := 0#32
  let c0_659 : Index := 0#32
  ![4, v1136.toNat, 0, 0]
def k0_off13 (i : grid0.Coords) (k0_t1 : Fin (k0_t1_loop i).trips) (c0_i32_684 : BitVec 32) (c0_i32_685 : BitVec 32) : Fin 4 → Nat :=
  let c5_689 : Index := 5#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v1165 : BitVec 32 := Scalar.addi v861 c0_i32_684
  let v1166 : BitVec 32 := Scalar.subi v1165 c0_i32_685
  let c0_i32_686 : BitVec 32 := 0#32
  let v1167 : BitVec 1 := Scalar.cmpi .sge v1166 c0_i32_686
  let c5_i32_687 : BitVec 32 := 5#32
  let v1168 : BitVec 32 := Scalar.minsi v1166 c5_i32_687
  let c9_i32_688 : BitVec 32 := 9#32
  let v1169 : BitVec 32 := Scalar.select v1167 v1168 c9_i32_688
  let v1170 : Index := Scalar.indexCast v1169
  let c0_690 : Index := 0#32
  let c0_691 : Index := 0#32
  ![5, v1170.toNat, 0, 0]
def k0_mult8 (i : grid0.Coords) (k0_t1 : Fin (k0_t1_loop i).trips) : BitVec 32 :=
  let c0_i32_422 : BitVec 32 := 0#32
  let c1_i32_424 : BitVec 32 := 1#32
  let arg14 : BitVec 32 := Scf.iv c0_i32_422 c1_i32_424 k0_t1
  let c512_i32_732 : BitVec 32 := 512#32
  let v1243 : BitVec 32 := Scalar.muli arg14 c512_i32_732
  v1243
def k0_off14 (i : grid0.Coords) (k0_t1 : Fin (k0_t1_loop i).trips) : Fin 3 → Nat :=
  let c0_733 : Index := 0#32
  let c0_i32_422 : BitVec 32 := 0#32
  let c1_i32_424 : BitVec 32 := 1#32
  let arg14 : BitVec 32 := Scf.iv c0_i32_422 c1_i32_424 k0_t1
  let c512_i32_732 : BitVec 32 := 512#32
  let v1243 : BitVec 32 := Scalar.muli arg14 c512_i32_732
  let v1244 : BitVec 32 := v1243
  let v1245 : Index := Scalar.indexCast v1244
  let c384_734 : Index := 384#32
  ![0, v1245.toNat, 384]
def k0_off15 (i : grid0.Coords) (k0_t1 : Fin (k0_t1_loop i).trips) (c0_i32_741 : BitVec 32) (c0_i32_742 : BitVec 32) : Fin 4 → Nat :=
  let c6_746 : Index := 6#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v1258 : BitVec 32 := Scalar.addi v861 c0_i32_741
  let v1259 : BitVec 32 := Scalar.subi v1258 c0_i32_742
  let c0_i32_743 : BitVec 32 := 0#32
  let v1260 : BitVec 1 := Scalar.cmpi .sge v1259 c0_i32_743
  let c5_i32_744 : BitVec 32 := 5#32
  let v1261 : BitVec 32 := Scalar.minsi v1259 c5_i32_744
  let c9_i32_745 : BitVec 32 := 9#32
  let v1262 : BitVec 32 := Scalar.select v1260 v1261 c9_i32_745
  let v1263 : Index := Scalar.indexCast v1262
  let c0_747 : Index := 0#32
  let c0_748 : Index := 0#32
  ![6, v1263.toNat, 0, 0]
def k0_off16 (i : grid0.Coords) (k0_t1 : Fin (k0_t1_loop i).trips) (c0_i32_773 : BitVec 32) (c0_i32_774 : BitVec 32) : Fin 4 → Nat :=
  let c7_778 : Index := 7#32
  let c2_i32_466 : BitVec 32 := 2#32
  let arg2 : BitVec 32 := BitVec.ofNat 32 (i 2).val
  let c0_i32_422 : BitVec 32 := 0#32
  let c1_i32_424 : BitVec 32 := 1#32
  let arg14 : BitVec 32 := Scf.iv c0_i32_422 c1_i32_424 k0_t1
  let v860 : BitVec 32 := Scalar.subi arg2 arg14
  let v861 : BitVec 32 := Scalar.muli c2_i32_466 v860
  let v1292 : BitVec 32 := Scalar.addi v861 c0_i32_773
  let v1293 : BitVec 32 := Scalar.subi v1292 c0_i32_774
  let c0_i32_775 : BitVec 32 := 0#32
  let v1294 : BitVec 1 := Scalar.cmpi .sge v1293 c0_i32_775
  let c5_i32_776 : BitVec 32 := 5#32
  let v1295 : BitVec 32 := Scalar.minsi v1293 c5_i32_776
  let c9_i32_777 : BitVec 32 := 9#32
  let v1296 : BitVec 32 := Scalar.select v1294 v1295 c9_i32_777
  let v1297 : Index := Scalar.indexCast v1296
  let c0_779 : Index := 0#32
  let c0_780 : Index := 0#32
  ![7, v1297.toNat, 0, 0]
@[reducible] def k0_t2_loop (i : grid0.Coords) : Scf.Loop 32 :=
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let v812 : BitVec 32 := Scalar.addi c0_i32_422 v811
  let c1_i32_425 : BitVec 32 := 1#32
  ⟨v815, v812, c1_i32_425⟩
def k0_mult9 (i : grid0.Coords) (k0_t2 : Fin (k0_t2_loop i).trips) : BitVec 32 :=
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_467 : BitVec 32 := 512#32
  let v862 : BitVec 32 := Scalar.muli arg14 c512_i32_467
  v862
def k0_off17 (i : grid0.Coords) (k0_t2 : Fin (k0_t2_loop i).trips) : Fin 3 → Nat :=
  let c0_468 : Index := 0#32
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_467 : BitVec 32 := 512#32
  let v862 : BitVec 32 := Scalar.muli arg14 c512_i32_467
  let v863 : BitVec 32 := v862
  let v864 : Index := Scalar.indexCast v863
  let c0_469 : Index := 0#32
  ![0, v864.toNat, 0]
def k0_off18 (i : grid0.Coords) (k0_t2 : Fin (k0_t2_loop i).trips) (c0_i32_476 : BitVec 32) (c0_i32_477 : BitVec 32) : Fin 4 → Nat :=
  let c0_479 : Index := 0#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v877 : BitVec 32 := Scalar.addi v861 c0_i32_476
  let v878 : BitVec 32 := Scalar.subi v877 c0_i32_477
  let c0_i32_478 : BitVec 32 := 0#32
  let v879 : BitVec 1 := Scalar.cmpi .sge v878 c0_i32_478
  let c5_i32 : BitVec 32 := 5#32
  let v880 : BitVec 32 := Scalar.minsi v878 c5_i32
  let c9_i32 : BitVec 32 := 9#32
  let v881 : BitVec 32 := Scalar.select v879 v880 c9_i32
  let v882 : Index := Scalar.indexCast v881
  let c0_480 : Index := 0#32
  let c0_481 : Index := 0#32
  ![0, v882.toNat, 0, 0]
def k0_off19 (i : grid0.Coords) (k0_t2 : Fin (k0_t2_loop i).trips) (c0_i32_506 : BitVec 32) (c0_i32_507 : BitVec 32) : Fin 4 → Nat :=
  let c1_511 : Index := 1#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v911 : BitVec 32 := Scalar.addi v861 c0_i32_506
  let v912 : BitVec 32 := Scalar.subi v911 c0_i32_507
  let c0_i32_508 : BitVec 32 := 0#32
  let v913 : BitVec 1 := Scalar.cmpi .sge v912 c0_i32_508
  let c5_i32_509 : BitVec 32 := 5#32
  let v914 : BitVec 32 := Scalar.minsi v912 c5_i32_509
  let c9_i32_510 : BitVec 32 := 9#32
  let v915 : BitVec 32 := Scalar.select v913 v914 c9_i32_510
  let v916 : Index := Scalar.indexCast v915
  let c0_512 : Index := 0#32
  let c0_513 : Index := 0#32
  ![1, v916.toNat, 0, 0]
def k0_mult10 (i : grid0.Coords) (k0_t2 : Fin (k0_t2_loop i).trips) : BitVec 32 :=
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_554 : BitVec 32 := 512#32
  let v989 : BitVec 32 := Scalar.muli arg14 c512_i32_554
  v989
def k0_off20 (i : grid0.Coords) (k0_t2 : Fin (k0_t2_loop i).trips) : Fin 3 → Nat :=
  let c0_555 : Index := 0#32
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_554 : BitVec 32 := 512#32
  let v989 : BitVec 32 := Scalar.muli arg14 c512_i32_554
  let v990 : BitVec 32 := v989
  let v991 : Index := Scalar.indexCast v990
  let c128_556 : Index := 128#32
  ![0, v991.toNat, 128]
def k0_off21 (i : grid0.Coords) (k0_t2 : Fin (k0_t2_loop i).trips) (c0_i32_563 : BitVec 32) (c0_i32_564 : BitVec 32) : Fin 4 → Nat :=
  let c2_568 : Index := 2#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v1004 : BitVec 32 := Scalar.addi v861 c0_i32_563
  let v1005 : BitVec 32 := Scalar.subi v1004 c0_i32_564
  let c0_i32_565 : BitVec 32 := 0#32
  let v1006 : BitVec 1 := Scalar.cmpi .sge v1005 c0_i32_565
  let c5_i32_566 : BitVec 32 := 5#32
  let v1007 : BitVec 32 := Scalar.minsi v1005 c5_i32_566
  let c9_i32_567 : BitVec 32 := 9#32
  let v1008 : BitVec 32 := Scalar.select v1006 v1007 c9_i32_567
  let v1009 : Index := Scalar.indexCast v1008
  let c0_569 : Index := 0#32
  let c0_570 : Index := 0#32
  ![2, v1009.toNat, 0, 0]
def k0_off22 (i : grid0.Coords) (k0_t2 : Fin (k0_t2_loop i).trips) (c0_i32_595 : BitVec 32) (c0_i32_596 : BitVec 32) : Fin 4 → Nat :=
  let c3_600 : Index := 3#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v1038 : BitVec 32 := Scalar.addi v861 c0_i32_595
  let v1039 : BitVec 32 := Scalar.subi v1038 c0_i32_596
  let c0_i32_597 : BitVec 32 := 0#32
  let v1040 : BitVec 1 := Scalar.cmpi .sge v1039 c0_i32_597
  let c5_i32_598 : BitVec 32 := 5#32
  let v1041 : BitVec 32 := Scalar.minsi v1039 c5_i32_598
  let c9_i32_599 : BitVec 32 := 9#32
  let v1042 : BitVec 32 := Scalar.select v1040 v1041 c9_i32_599
  let v1043 : Index := Scalar.indexCast v1042
  let c0_601 : Index := 0#32
  let c0_602 : Index := 0#32
  ![3, v1043.toNat, 0, 0]
def k0_mult11 (i : grid0.Coords) (k0_t2 : Fin (k0_t2_loop i).trips) : BitVec 32 :=
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_643 : BitVec 32 := 512#32
  let v1116 : BitVec 32 := Scalar.muli arg14 c512_i32_643
  v1116
def k0_off23 (i : grid0.Coords) (k0_t2 : Fin (k0_t2_loop i).trips) : Fin 3 → Nat :=
  let c0_644 : Index := 0#32
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_643 : BitVec 32 := 512#32
  let v1116 : BitVec 32 := Scalar.muli arg14 c512_i32_643
  let v1117 : BitVec 32 := v1116
  let v1118 : Index := Scalar.indexCast v1117
  let c256_645 : Index := 256#32
  ![0, v1118.toNat, 256]
def k0_off24 (i : grid0.Coords) (k0_t2 : Fin (k0_t2_loop i).trips) (c0_i32_652 : BitVec 32) (c0_i32_653 : BitVec 32) : Fin 4 → Nat :=
  let c4_657 : Index := 4#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v1131 : BitVec 32 := Scalar.addi v861 c0_i32_652
  let v1132 : BitVec 32 := Scalar.subi v1131 c0_i32_653
  let c0_i32_654 : BitVec 32 := 0#32
  let v1133 : BitVec 1 := Scalar.cmpi .sge v1132 c0_i32_654
  let c5_i32_655 : BitVec 32 := 5#32
  let v1134 : BitVec 32 := Scalar.minsi v1132 c5_i32_655
  let c9_i32_656 : BitVec 32 := 9#32
  let v1135 : BitVec 32 := Scalar.select v1133 v1134 c9_i32_656
  let v1136 : Index := Scalar.indexCast v1135
  let c0_658 : Index := 0#32
  let c0_659 : Index := 0#32
  ![4, v1136.toNat, 0, 0]
def k0_off25 (i : grid0.Coords) (k0_t2 : Fin (k0_t2_loop i).trips) (c0_i32_684 : BitVec 32) (c0_i32_685 : BitVec 32) : Fin 4 → Nat :=
  let c5_689 : Index := 5#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v1165 : BitVec 32 := Scalar.addi v861 c0_i32_684
  let v1166 : BitVec 32 := Scalar.subi v1165 c0_i32_685
  let c0_i32_686 : BitVec 32 := 0#32
  let v1167 : BitVec 1 := Scalar.cmpi .sge v1166 c0_i32_686
  let c5_i32_687 : BitVec 32 := 5#32
  let v1168 : BitVec 32 := Scalar.minsi v1166 c5_i32_687
  let c9_i32_688 : BitVec 32 := 9#32
  let v1169 : BitVec 32 := Scalar.select v1167 v1168 c9_i32_688
  let v1170 : Index := Scalar.indexCast v1169
  let c0_690 : Index := 0#32
  let c0_691 : Index := 0#32
  ![5, v1170.toNat, 0, 0]
def k0_mult12 (i : grid0.Coords) (k0_t2 : Fin (k0_t2_loop i).trips) : BitVec 32 :=
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_732 : BitVec 32 := 512#32
  let v1243 : BitVec 32 := Scalar.muli arg14 c512_i32_732
  v1243
def k0_off26 (i : grid0.Coords) (k0_t2 : Fin (k0_t2_loop i).trips) : Fin 3 → Nat :=
  let c0_733 : Index := 0#32
  let c0_i32_422 : BitVec 32 := 0#32
  let arg2 : BitVec 32 := BitVec.ofNat 32 (i 2).val
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let c512_i32_732 : BitVec 32 := 512#32
  let v1243 : BitVec 32 := Scalar.muli arg14 c512_i32_732
  let v1244 : BitVec 32 := v1243
  let v1245 : Index := Scalar.indexCast v1244
  let c384_734 : Index := 384#32
  ![0, v1245.toNat, 384]
def k0_off27 (i : grid0.Coords) (k0_t2 : Fin (k0_t2_loop i).trips) (c0_i32_741 : BitVec 32) (c0_i32_742 : BitVec 32) : Fin 4 → Nat :=
  let c6_746 : Index := 6#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v1258 : BitVec 32 := Scalar.addi v861 c0_i32_741
  let v1259 : BitVec 32 := Scalar.subi v1258 c0_i32_742
  let c0_i32_743 : BitVec 32 := 0#32
  let v1260 : BitVec 1 := Scalar.cmpi .sge v1259 c0_i32_743
  let c5_i32_744 : BitVec 32 := 5#32
  let v1261 : BitVec 32 := Scalar.minsi v1259 c5_i32_744
  let c9_i32_745 : BitVec 32 := 9#32
  let v1262 : BitVec 32 := Scalar.select v1260 v1261 c9_i32_745
  let v1263 : Index := Scalar.indexCast v1262
  let c0_747 : Index := 0#32
  let c0_748 : Index := 0#32
  ![6, v1263.toNat, 0, 0]
def k0_off28 (i : grid0.Coords) (k0_t2 : Fin (k0_t2_loop i).trips) (c0_i32_773 : BitVec 32) (c0_i32_774 : BitVec 32) : Fin 4 → Nat :=
  let c7_778 : Index := 7#32
  let c2_i32_466 : BitVec 32 := 2#32
  let arg2 : BitVec 32 := BitVec.ofNat 32 (i 2).val
  let c0_i32_422 : BitVec 32 := 0#32
  let v811 : BitVec 32 := Scalar.subi arg2 c0_i32_422
  let c1_i32_423 : BitVec 32 := 1#32
  let v813 : BitVec 32 := Scalar.divsi v811 c1_i32_423
  let v814 : BitVec 32 := Scalar.muli v813 c1_i32_423
  let v815 : BitVec 32 := Scalar.addi c0_i32_422 v814
  let c1_i32_425 : BitVec 32 := 1#32
  let arg14 : BitVec 32 := Scf.iv v815 c1_i32_425 k0_t2
  let v860 : BitVec 32 := Scalar.subi arg2 arg14
  let v861 : BitVec 32 := Scalar.muli c2_i32_466 v860
  let v1292 : BitVec 32 := Scalar.addi v861 c0_i32_773
  let v1293 : BitVec 32 := Scalar.subi v1292 c0_i32_774
  let c0_i32_775 : BitVec 32 := 0#32
  let v1294 : BitVec 1 := Scalar.cmpi .sge v1293 c0_i32_775
  let c5_i32_776 : BitVec 32 := 5#32
  let v1295 : BitVec 32 := Scalar.minsi v1293 c5_i32_776
  let c9_i32_777 : BitVec 32 := 9#32
  let v1296 : BitVec 32 := Scalar.select v1294 v1295 c9_i32_777
  let v1297 : Index := Scalar.indexCast v1296
  let c0_779 : Index := 0#32
  let c0_780 : Index := 0#32
  ![7, v1297.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1x4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]

abbrev stage0_4 : Fin 1 → Memref sig .tc .vmem S1x4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true, false]

abbrev stage0_5 : Fin 2 → Memref sig .tc .vmem S1x16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S8x10x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x512 : Shape := ⟨3, ![4, 4096, 512]⟩
abbrev S16x10x256x256 : Shape := ⟨4, ![16, 10, 256, 256]⟩
abbrev S4x4096x8x64 : Shape := ⟨4, ![4, 4096, 8, 64]⟩
abbrev S4x8x4096x64 : Shape := ⟨4, ![4, 8, 4096, 64]⟩
abbrev S4x8x16x256x64 : Shape := ⟨5, ![4, 8, 16, 256, 64]⟩
abbrev S_ : Shape := ⟨0, ![]⟩
abbrev S4x8x16x64 : Shape := ⟨4, ![4, 8, 16, 64]⟩
abbrev S4x8x4096x16 : Shape := ⟨4, ![4, 8, 4096, 16]⟩
abbrev S4096 : Shape := ⟨1, ![4096]⟩
abbrev S4096x1 : Shape := ⟨2, ![4096, 1]⟩
abbrev S16 : Shape := ⟨1, ![16]⟩
abbrev S1x16 : Shape := ⟨2, ![1, 16]⟩
abbrev S4096x16 : Shape := ⟨2, ![4096, 16]⟩
abbrev S4x8x4096x4 : Shape := ⟨4, ![4, 8, 4096, 4]⟩
abbrev S4x8x4096x1x4 : Shape := ⟨5, ![4, 8, 4096, 1, 4]⟩
abbrev S16x1 : Shape := ⟨2, ![16, 1]⟩
abbrev S1x1x1x16x1 : Shape := ⟨5, ![1, 1, 1, 16, 1]⟩
abbrev S4x8x4096x16x4 : Shape := ⟨5, ![4, 8, 4096, 16, 4]⟩
abbrev S4096x16x1 : Shape := ⟨3, ![4096, 16, 1]⟩
abbrev S8x1x256x256 : Shape := ⟨4, ![8, 1, 256, 256]⟩
abbrev S8x256x256 : Shape := ⟨3, ![8, 256, 256]⟩
abbrev S8x1x256x1x256 : Shape := ⟨5, ![8, 1, 256, 1, 256]⟩
abbrev S8x16x256x16x256 : Shape := ⟨5, ![8, 16, 256, 16, 256]⟩
abbrev S8x4096x16x256 : Shape := ⟨4, ![8, 4096, 16, 256]⟩
abbrev S4x8x4096x16x256 : Shape := ⟨5, ![4, 8, 4096, 16, 256]⟩
abbrev S1x8x4096x16x256 : Shape := ⟨5, ![1, 8, 4096, 16, 256]⟩
abbrev S4096x1x1 : Shape := ⟨3, ![4096, 1, 1]⟩
abbrev S1x16x1 : Shape := ⟨3, ![1, 16, 1]⟩
abbrev S256 : Shape := ⟨1, ![256]⟩
abbrev S1x1x256 : Shape := ⟨3, ![1, 1, 256]⟩
abbrev S1x16x256 : Shape := ⟨3, ![1, 16, 256]⟩
abbrev S4096x16x256 : Shape := ⟨3, ![4096, 16, 256]⟩
abbrev S4x8x4096x16x1 : Shape := ⟨5, ![4, 8, 4096, 16, 1]⟩
abbrev S1x1x4096x16x256 : Shape := ⟨5, ![1, 1, 4096, 16, 256]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩

abbrev nBuf : Space → Nat
  | .hbm => 179
  | .vmem => 0
  | .smem => 0
  | _ => 0

abbrev hbmTy0_0 (i : Nat) : BufTy := match i % 128 with
  | 0 => ⟨S4x4096x512, .bf16⟩
  | 1 => ⟨S4x4096x512, .f32⟩
  | 2 => ⟨S4x4096x512, .f32⟩
  | 3 => ⟨S16x10x256x256, .f32⟩
  | 4 => ⟨S4x4096x512, .f32⟩
  | 5 => ⟨S4x4096x8x64, .f32⟩
  | 6 => ⟨S4x8x4096x64, .f32⟩
  | 7 => ⟨S4x4096x8x64, .f32⟩
  | 8 => ⟨S4x8x4096x64, .f32⟩
  | 9 => ⟨S4x8x16x256x64, .f32⟩
  | 10 => ⟨S4x4096x8x64, .f32⟩
  | 11 => ⟨S4x8x4096x64, .f32⟩
  | 12 => ⟨S4x8x16x256x64, .f32⟩
  | 13 => ⟨S_, .f32⟩
  | 14 => ⟨S4x8x16x64, .f32⟩
  | 15 => ⟨S_, .f32⟩
  | 16 => ⟨S4x8x16x64, .f32⟩
  | 17 => ⟨S4x8x16x64, .f32⟩
  | 18 => ⟨S4x8x4096x16, .f32⟩
  | 19 => ⟨S4096, .i32⟩
  | 20 => ⟨S4096x1, .i32⟩
  | 21 => ⟨S_, .i32⟩
  | 22 => ⟨S_, .i32⟩
  | 23 => ⟨S4096x1, .i32⟩
  | 24 => ⟨S4096x1, .i32⟩
  | 25 => ⟨S4096x1, .i32⟩
  | 26 => ⟨S_, .i32⟩
  | 27 => ⟨S4096x1, .i32⟩
  | 28 => ⟨S4096x1, .i1⟩
  | 29 => ⟨S4096x1, .i32⟩
  | 30 => ⟨S4096x1, .i32⟩
  | 31 => ⟨S_, .i32⟩
  | 32 => ⟨S4096x1, .i32⟩
  | 33 => ⟨S4096x1, .i1⟩
  | 34 => ⟨S4096x1, .i1⟩
  | 35 => ⟨S_, .i32⟩
  | 36 => ⟨S4096x1, .i32⟩
  | 37 => ⟨S4096x1, .i32⟩
  | 38 => ⟨S4096x1, .i32⟩
  | 39 => ⟨S16, .i32⟩
  | 40 => ⟨S1x16, .i32⟩
  | 41 => ⟨S4096x16, .i32⟩
  | 42 => ⟨S4096x16, .i32⟩
  | 43 => ⟨S4096x16, .i1⟩
  | 44 => ⟨S4096x16, .i32⟩
  | 45 => ⟨S4096x16, .i32⟩
  | 46 => ⟨S4096x16, .i1⟩
  | 47 => ⟨S_, .f32⟩
  | 48 => ⟨S_, .f32⟩
  | 49 => ⟨S4x8x4096x16, .i1⟩
  | 50 => ⟨S4x8x4096x16, .f32⟩
  | 51 => ⟨S4x8x4096x16, .f32⟩
  | 52 => ⟨S_, .f32⟩
  | 53 => ⟨S_, .f32⟩
  | 54 => ⟨S4x8x4096x16, .i1⟩
  | 55 => ⟨S4x8x4096x16, .f32⟩
  | 56 => ⟨S4x8x4096x16, .f32⟩
  | 57 => ⟨S4x8x4096x4, .f32⟩
  | 58 => ⟨S4x8x4096x4, .i32⟩
  | 59 => ⟨S4x8x4096x1x4, .i32⟩
  | 60 => ⟨S16, .i32⟩
  | 61 => ⟨S16x1, .i32⟩
  | 62 => ⟨S1x1x1x16x1, .i32⟩
  | 63 => ⟨S4x8x4096x16x4, .i32⟩
  | 64 => ⟨S4x8x4096x16x4, .i32⟩
  | 65 => ⟨S4x8x4096x16x4, .i1⟩
  | 66 => ⟨S_, .i1⟩
  | 67 => ⟨S4x8x4096x16, .i1⟩
  | 68 => ⟨S4096x16, .i32⟩
  | 69 => ⟨S4096x16, .i32⟩
  | 70 => ⟨S4096x16, .i32⟩
  | 71 => ⟨S4096x16x1, .i32⟩
  | 72 => ⟨S8x1x256x256, .f32⟩
  | 73 => ⟨S8x256x256, .f32⟩
  | 74 => ⟨S8x1x256x1x256, .f32⟩
  | 75 => ⟨S8x16x256x16x256, .f32⟩
  | 76 => ⟨S8x4096x16x256, .f32⟩
  | 77 => ⟨S_, .i32⟩
  | 78 => ⟨S4096x16x1, .i32⟩
  | 79 => ⟨S4096x16x1, .i1⟩
  | 80 => ⟨S8x1x256x256, .f32⟩
  | 81 => ⟨S8x256x256, .f32⟩
  | 82 => ⟨S8x1x256x1x256, .f32⟩
  | 83 => ⟨S8x16x256x16x256, .f32⟩
  | 84 => ⟨S8x4096x16x256, .f32⟩
  | 85 => ⟨S8x4096x16x256, .i1⟩
  | 86 => ⟨S8x4096x16x256, .f32⟩
  | 87 => ⟨S_, .i32⟩
  | 88 => ⟨S4096x16x1, .i32⟩
  | 89 => ⟨S4096x16x1, .i1⟩
  | 90 => ⟨S8x1x256x256, .f32⟩
  | 91 => ⟨S8x256x256, .f32⟩
  | 92 => ⟨S8x1x256x1x256, .f32⟩
  | 93 => ⟨S8x16x256x16x256, .f32⟩
  | 94 => ⟨S8x4096x16x256, .f32⟩
  | 95 => ⟨S8x4096x16x256, .i1⟩
  | 96 => ⟨S8x4096x16x256, .f32⟩
  | 97 => ⟨S_, .i32⟩
  | 98 => ⟨S4096x16x1, .i32⟩
  | 99 => ⟨S4096x16x1, .i1⟩
  | 100 => ⟨S8x1x256x256, .f32⟩
  | 101 => ⟨S8x256x256, .f32⟩
  | 102 => ⟨S8x1x256x1x256, .f32⟩
  | 103 => ⟨S8x16x256x16x256, .f32⟩
  | 104 => ⟨S8x4096x16x256, .f32⟩
  | 105 => ⟨S8x4096x16x256, .i1⟩
  | 106 => ⟨S8x4096x16x256, .f32⟩
  | 107 => ⟨S_, .i32⟩
  | 108 => ⟨S4096x16x1, .i32⟩
  | 109 => ⟨S4096x16x1, .i1⟩
  | 110 => ⟨S8x1x256x256, .f32⟩
  | 111 => ⟨S8x256x256, .f32⟩
  | 112 => ⟨S8x1x256x1x256, .f32⟩
  | 113 => ⟨S8x16x256x16x256, .f32⟩
  | 114 => ⟨S8x4096x16x256, .f32⟩
  | 115 => ⟨S8x4096x16x256, .i1⟩
  | 116 => ⟨S8x4096x16x256, .f32⟩
  | 117 => ⟨S_, .i32⟩
  | 118 => ⟨S4096x16x1, .i32⟩
  | 119 => ⟨S4096x16x1, .i1⟩
  | 120 => ⟨S8x1x256x256, .f32⟩
  | 121 => ⟨S8x256x256, .f32⟩
  | 122 => ⟨S8x1x256x1x256, .f32⟩
  | 123 => ⟨S8x16x256x16x256, .f32⟩
  | 124 => ⟨S8x4096x16x256, .f32⟩
  | 125 => ⟨S8x4096x16x256, .i1⟩
  | 126 => ⟨S8x4096x16x256, .f32⟩
  | 127 => ⟨S4x8x4096x16x256, .f32⟩
  | _ => ⟨S4x4096x512, .bf16⟩

abbrev hbmTy0_1 (i : Nat) : BufTy := match i % 128 with
  | 0 => ⟨S1x8x4096x16x256, .f32⟩
  | 1 => ⟨S4x8x4096x16x256, .f32⟩
  | 2 => ⟨S4x8x4096x16x256, .f32⟩
  | 3 => ⟨S4096, .i32⟩
  | 4 => ⟨S4096x1x1, .i32⟩
  | 5 => ⟨S1x16x1, .i32⟩
  | 6 => ⟨S_, .i32⟩
  | 7 => ⟨S1x16x1, .i32⟩
  | 8 => ⟨S1x16x1, .i32⟩
  | 9 => ⟨S256, .i32⟩
  | 10 => ⟨S1x1x256, .i32⟩
  | 11 => ⟨S1x16x256, .i32⟩
  | 12 => ⟨S1x16x256, .i32⟩
  | 13 => ⟨S1x16x256, .i32⟩
  | 14 => ⟨S4096x16x256, .i32⟩
  | 15 => ⟨S4096x16x256, .i32⟩
  | 16 => ⟨S4096x16x256, .i32⟩
  | 17 => ⟨S4x8x4096x16x1, .i1⟩
  | 18 => ⟨S_, .i32⟩
  | 19 => ⟨S4096x16x256, .i32⟩
  | 20 => ⟨S4096x16x256, .i1⟩
  | 21 => ⟨S1x1x4096x16x256, .i1⟩
  | 22 => ⟨S4x8x4096x16x256, .i1⟩
  | 23 => ⟨S4x8x4096x16x256, .i1⟩
  | 24 => ⟨S4x8x4096x16x256, .i1⟩
  | 25 => ⟨S_, .f32⟩
  | 26 => ⟨S_, .f32⟩
  | 27 => ⟨S4x8x4096x16x256, .f32⟩
  | 28 => ⟨S4x8x4096x16x256, .f32⟩
  | 29 => ⟨S4x8x4096x4096, .f32⟩
  | 30 => ⟨S_, .f32⟩
  | 31 => ⟨S_, .f32⟩
  | 32 => ⟨S_, .f32⟩
  | 33 => ⟨S4x8x4096, .f32⟩
  | 34 => ⟨S4x8x4096x1, .f32⟩
  | 35 => ⟨S4x8x4096x4096, .f32⟩
  | 36 => ⟨S4x8x4096x4096, .f32⟩
  | 37 => ⟨S_, .f32⟩
  | 38 => ⟨S4x8x4096x4096, .f32⟩
  | 39 => ⟨S4x8x4096x4096, .f32⟩
  | 40 => ⟨S4x8x4096x4096, .f32⟩
  | 41 => ⟨S_, .f32⟩
  | 42 => ⟨S4x8x4096, .f32⟩
  | 43 => ⟨S4x8x4096x1, .f32⟩
  | 44 => ⟨S4x8x4096x4096, .f32⟩
  | 45 => ⟨S4x8x4096x4096, .f32⟩
  | 46 => ⟨S4x4096x8x64, .f32⟩
  | 47 => ⟨S4x8x4096x64, .f32⟩
  | 48 => ⟨S4x8x4096x64, .f32⟩
  | 49 => ⟨S4x4096x8x64, .f32⟩
  | 50 => ⟨S4x4096x512, .f32⟩
  | _ => ⟨S4x4096x512, .bf16⟩

abbrev hbmTy (i : Nat) : BufTy := match i / 128 with
  | 0 => hbmTy0_0 i
  | 1 => hbmTy0_1 i
  | _ => ⟨S4x4096x512, .bf16⟩

abbrev bufTy : (tb : Table) → Fin (tcTables nBuf tb) → BufTy
  | .hbm, ⟨i, _⟩ => hbmTy i
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_1 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v24 : Ref sig .tc := ⟨.hbm, 51, rfl⟩
abbrev main_cst_2 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v25 : Ref sig .tc := ⟨.hbm, 56, rfl⟩
abbrev main_values : Ref sig .tc := ⟨.hbm, 57, rfl⟩
abbrev main_indices : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_3 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_c_4 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_call3_v0 : Ref sig .tc := ⟨.hbm, 85, rfl⟩
abbrev main_v50 : Ref sig .tc := ⟨.hbm, 86, rfl⟩
abbrev main_c_5 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_call4_v0 : Ref sig .tc := ⟨.hbm, 95, rfl⟩
abbrev main_v58 : Ref sig .tc := ⟨.hbm, 96, rfl⟩
abbrev main_c_6 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_call5_v0 : Ref sig .tc := ⟨.hbm, 105, rfl⟩
abbrev main_v66 : Ref sig .tc := ⟨.hbm, 106, rfl⟩
abbrev main_c_7 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_call6_v0 : Ref sig .tc := ⟨.hbm, 115, rfl⟩
abbrev main_v74 : Ref sig .tc := ⟨.hbm, 116, rfl⟩
abbrev main_c_8 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_call7_v0 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_c_9 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_c_10 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_11 : Ref sig .tc := ⟨.hbm, 153, rfl⟩
abbrev main_call8_v0 : Ref sig .tc := ⟨.hbm, 154, rfl⟩
abbrev main_call8_v1 : Ref sig .tc := ⟨.hbm, 155, rfl⟩
abbrev main_v107 : Ref sig .tc := ⟨.hbm, 156, rfl⟩
abbrev main_v108 : Ref sig .tc := ⟨.hbm, 157, rfl⟩
abbrev main_cst_12 : Ref sig .tc := ⟨.hbm, 158, rfl⟩
abbrev main_v109 : Ref sig .tc := ⟨.hbm, 159, rfl⟩
abbrev main_cst_13 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_cst_14 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩

abbrev nD : Nat := 1
abbrev τ : Topo := Topo.v7x

variable {F : FTy → Type} [FloatOps F]
-- ==== OutProj.lean ====
abbrev S4x4096x1024 : Shape := ⟨3, ![4, 4096, 1024]⟩
abbrev S1x1024 : Shape := ⟨2, ![1, 1024]⟩
abbrev S1x1024x5912 : Shape := ⟨3, ![1, 1024, 5912]⟩
abbrev S4x4096x512 : Shape := ⟨3, ![4, 4096, 512]⟩
abbrev S1x512x1024 : Shape := ⟨3, ![1, 512, 1024]⟩
abbrev S1x1024x1024 : Shape := ⟨3, ![1, 1024, 1024]⟩
abbrev S1x1024x3328 : Shape := ⟨3, ![1, 1024, 3328]⟩
abbrev S1024x3328 : Shape := ⟨2, ![1024, 3328]⟩
abbrev S1x1024x512 : Shape := ⟨3, ![1, 1024, 512]⟩
abbrev S1024x512 : Shape := ⟨2, ![1024, 512]⟩
abbrev S1x1024x2048 : Shape := ⟨3, ![1, 1024, 2048]⟩
abbrev S1024x2048 : Shape := ⟨2, ![1024, 2048]⟩
abbrev S1024 : Shape := ⟨1, ![1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1x512x512 : Shape := ⟨3, ![1, 512, 512]⟩
abbrev S512x512 : Shape := ⟨2, ![512, 512]⟩
abbrev S512x2048 : Shape := ⟨2, ![512, 2048]⟩

abbrev nBuf : Space → Nat
  | .hbm => 26
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5912, .f32⟩
  | .hbm, ⟨3, _⟩ => ⟨S4x4096x512, .f32⟩
  | .hbm, ⟨4, _⟩ => ⟨S4x4096x512, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024x3328, .f32⟩
  | .hbm, ⟨9, _⟩ => ⟨S1x1024x3328, .bf16⟩
  | .hbm, ⟨10, _⟩ => ⟨S1024x3328, .bf16⟩
  | .hbm, ⟨11, _⟩ => ⟨S1x1024x512, .f32⟩
  | .hbm, ⟨12, _⟩ => ⟨S1x1024x512, .bf16⟩
  | .hbm, ⟨13, _⟩ => ⟨S1024x512, .bf16⟩
  | .hbm, ⟨14, _⟩ => ⟨S1x1024x2048, .f32⟩
  | .hbm, ⟨15, _⟩ => ⟨S1x1024x2048, .bf16⟩
  | .hbm, ⟨16, _⟩ => ⟨S1024x2048, .bf16⟩
  | .hbm, ⟨17, _⟩ => ⟨S1024, .f32⟩
  | .hbm, ⟨18, _⟩ => ⟨S512x1024, .f32⟩
  | .hbm, ⟨19, _⟩ => ⟨S512x1024, .bf16⟩
  | .hbm, ⟨20, _⟩ => ⟨S512x1024, .f32⟩
  | .hbm, ⟨21, _⟩ => ⟨S512x1024, .bf16⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S4x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x1024x512, .f32⟩
  | .local _ .vmem, ⟨7, _⟩ => ⟨S1024x3328, .bf16⟩
  | .local _ .vmem, ⟨8, _⟩ => ⟨S1024x512, .bf16⟩
  | .local _ .vmem, ⟨9, _⟩ => ⟨S1024x2048, .bf16⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024x1024, .f32⟩
  | .local _ .vmem, ⟨14, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x3328 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutRefIdeal.lean ====
abbrev S4x4096x1024 : Shape := ⟨3, ![4, 4096, 1024]⟩
abbrev S1x1024 : Shape := ⟨2, ![1, 1024]⟩
abbrev S1x1024x5912 : Shape := ⟨3, ![1, 1024, 5912]⟩
abbrev S4x4096x512 : Shape := ⟨3, ![4, 4096, 512]⟩
abbrev S1x512x1024 : Shape := ⟨3, ![1, 512, 1024]⟩
abbrev S1x1024x1024 : Shape := ⟨3, ![1, 1024, 1024]⟩
abbrev S_ : Shape := ⟨0, ![]⟩
abbrev S4x4096 : Shape := ⟨2, ![4, 4096]⟩
abbrev S4x4096x1 : Shape := ⟨3, ![4, 4096, 1]⟩
abbrev S1024 : Shape := ⟨1, ![1024]⟩
abbrev S1x1x1024 : Shape := ⟨3, ![1, 1, 1024]⟩
abbrev S1024x5912 : Shape := ⟨2, ![1024, 5912]⟩
abbrev S4x4096x5912 : Shape := ⟨3, ![4, 4096, 5912]⟩
abbrev S4x4096x2048 : Shape := ⟨3, ![4, 4096, 2048]⟩
abbrev S512x1024 : Shape := ⟨2, ![512, 1024]⟩
abbrev S1024x1024 : Shape := ⟨2, ![1024, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5912, .f32⟩
  | .hbm, ⟨3, _⟩ => ⟨S4x4096x512, .f32⟩
  | .hbm, ⟨4, _⟩ => ⟨S4x4096x512, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S4x4096x1024, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x1024, .f32⟩
  | .hbm, ⟨20, _⟩ => ⟨S4x4096x1024, .f32⟩
  | .hbm, ⟨21, _⟩ => ⟨S1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S1024x5912, .f32⟩
  | .hbm, ⟨26, _⟩ => ⟨S4x4096x5912, .f32⟩
  | .hbm, ⟨27, _⟩ => ⟨S4x4096x512, .f32⟩
  | .hbm, ⟨28, _⟩ => ⟨S4x4096x512, .f32⟩
  | .hbm, ⟨29, _⟩ => ⟨S4x4096x2048, .f32⟩
  | .hbm, ⟨30, _⟩ => ⟨S4x4096x512, .f32⟩
  | .hbm, ⟨31, _⟩ => ⟨S4x4096x512, .f32⟩
  | .hbm, ⟨32, _⟩ => ⟨S_, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x512, .f32⟩
  | .hbm, ⟨41, _⟩ => ⟨S4x4096x512, .f32⟩
  | .hbm, ⟨42, _⟩ => ⟨S_, .f32⟩
  | .hbm, ⟨43, _⟩ => ⟨S4x4096x512, .f32⟩
  | .hbm, ⟨44, _⟩ => ⟨S4x4096x512, .f32⟩
  | .hbm, ⟨45, _⟩ => ⟨S_, .f32⟩
  | .hbm, ⟨46, _⟩ => ⟨S4x4096x512, .f32⟩
  | .hbm, ⟨47, _⟩ => ⟨S4x4096x512, .f32⟩
  | .hbm, ⟨48, _⟩ => ⟨S4x4096x512, .f32⟩
  | .hbm, ⟨49, _⟩ => ⟨S4x4096x512, .f32⟩
  | .hbm, ⟨50, _⟩ => ⟨S4x4096x2048, .f32⟩
  | .hbm, ⟨51, _⟩ => ⟨S4x4096x2048, .f32⟩
  | .hbm, ⟨52, _⟩ => ⟨S_, .f32⟩
  | .hbm, ⟨53, _⟩ => ⟨S4x4096x2048, .f32⟩
  | .hbm, ⟨54, _⟩ => ⟨S4x4096x2048, .f32⟩
  | .hbm, ⟨55, _⟩ => ⟨S_, .f32⟩
  | .hbm, ⟨56, _⟩ => ⟨S4x4096x2048, .f32⟩
  | .hbm, ⟨57, _⟩ => ⟨S4x4096x2048, .f32⟩
  | .hbm, ⟨58, _⟩ => ⟨S4x4096x1024, .f32⟩
  | .hbm, ⟨59, _⟩ => ⟨S512x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S512x1024, .f32⟩
  | .hbm, ⟨64, _⟩ => ⟨S4x4096x1024, .f32⟩
  | .hbm, ⟨65, _⟩ => ⟨S4x4096x1024, .f32⟩
  | .hbm, ⟨66, _⟩ => ⟨S4x4096x1024, .f32⟩
  | .hbm, ⟨67, _⟩ => ⟨S1024x1024, .f32⟩
  | .hbm, ⟨68, _⟩ => ⟨S4x4096x1024, .f32⟩
  | .hbm, ⟨69, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]
-- ==== InProj.lean ====
abbrev S4x4096x1024 : Shape := ⟨3, ![4, 4096, 1024]⟩
abbrev S1x1024 : Shape := ⟨2, ![1, 1024]⟩
abbrev S1x1024x5912 : Shape := ⟨3, ![1, 1024, 5912]⟩
abbrev S1x64 : Shape := ⟨2, ![1, 64]⟩
abbrev S64 : Shape := ⟨1, ![64]⟩
abbrev S1x1024x3328 : Shape := ⟨3, ![1, 1024, 3328]⟩
abbrev S1024x3328 : Shape := ⟨2, ![1024, 3328]⟩
abbrev S1x1024x24 : Shape := ⟨3, ![1, 1024, 24]⟩
abbrev S1024x24 : Shape := ⟨2, ![1024, 24]⟩
abbrev S_ : Shape := ⟨0, ![]⟩
abbrev S1024x128 : Shape := ⟨2, ![1024, 128]⟩
abbrev S1x1024x512 : Shape := ⟨3, ![1, 1024, 512]⟩
abbrev S1024x512 : Shape := ⟨2, ![1024, 512]⟩
abbrev S1x1024x2048 : Shape := ⟨3, ![1, 1024, 2048]⟩
abbrev S1024x2048 : Shape := ⟨2, ![1024, 2048]⟩
abbrev S8x64 : Shape := ⟨2, ![8, 64]⟩
abbrev S512 : Shape := ⟨1, ![512]⟩
abbrev S1024 : Shape := ⟨1, ![1024]⟩
abbrev S256 : Shape := ⟨1, ![256]⟩
abbrev S2x64 : Shape := ⟨2, ![2, 64]⟩
abbrev S128 : Shape := ⟨1, ![128]⟩
abbrev S3456 : Shape := ⟨1, ![3456]⟩
abbrev S1x3456 : Shape := ⟨2, ![1, 3456]⟩
abbrev S4x4096x512 : Shape := ⟨3, ![4, 4096, 512]⟩
abbrev S4x16x8x512 : Shape := ⟨4, ![4, 16, 8, 512]⟩
abbrev S4x2x256x1024 : Shape := ⟨4, ![4, 2, 256, 1024]⟩
abbrev S4x2x4096x128 : Shape := ⟨4, ![4, 2, 4096, 128]⟩
abbrev S4x4096x128 : Shape := ⟨3, ![4, 4096, 128]⟩
abbrev S1x1024x1024 : Shape := ⟨3, ![1, 1024, 1024]⟩
abbrev S1x4x8x512 : Shape := ⟨4, ![1, 4, 8, 512]⟩
abbrev S1x2x64x1024 : Shape := ⟨4, ![1, 2, 64, 1024]⟩
abbrev S1x2x1024x128 : Shape := ⟨4, ![1, 2, 1024, 128]⟩
abbrev S1x1024x128 : Shape := ⟨3, ![1, 1024, 128]⟩
abbrev S2x512x128 : Shape := ⟨3, ![2, 512, 128]⟩
abbrev S1x512x1024 : Shape := ⟨3, ![1, 512, 1024]⟩
abbrev S512x1024 : Shape := ⟨2, ![512, 1024]⟩
abbrev S512x1 : Shape := ⟨2, ![512, 1]⟩
abbrev S512x128 : Shape := ⟨2, ![512, 128]⟩
abbrev S512x512 : Shape := ⟨2, ![512, 512]⟩
abbrev S1x128 : Shape := ⟨2, ![1, 128]⟩
abbrev S1x512x512 : Shape := ⟨3, ![1, 512, 512]⟩
abbrev S1x512x128 : Shape := ⟨3, ![1, 512, 128]⟩
abbrev S256x128 : Shape := ⟨2, ![256, 128]⟩
abbrev S8x128 : Shape := ⟨2, ![8, 128]⟩
abbrev S1x2x8x512 : Shape := ⟨4, ![1, 2, 8, 512]⟩
abbrev S1x1x8x128 : Shape := ⟨4, ![1, 1, 8, 128]⟩
abbrev S1024x768 : Shape := ⟨2, ![1024, 768]⟩
abbrev S512x768 : Shape := ⟨2, ![512, 768]⟩
abbrev S256x1024 : Shape := ⟨2, ![256, 1024]⟩
abbrev S32x128 : Shape := ⟨2, ![32, 128]⟩
abbrev S1x2x32x1024 : Shape := ⟨4, ![1, 2, 32, 1024]⟩
abbrev S1x1x32x128 : Shape := ⟨4, ![1, 1, 32, 128]⟩
abbrev S1x2x512x128 : Shape := ⟨4, ![1, 2, 512, 128]⟩
abbrev S1x1x512x128 : Shape := ⟨4, ![1, 1, 512, 128]⟩

abbrev nBuf : Space → Nat
  | .hbm => 70
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x5912, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x1024x3328, .f32⟩
  | .hbm, ⟨14, _⟩ => ⟨S1x1024x3328, .bf16⟩
  | .hbm, ⟨15, _⟩ => ⟨S1024x3328, .bf16⟩
  | .hbm, ⟨16, _⟩ => ⟨S1x1024x24, .f32⟩
  | .hbm, ⟨17, _⟩ => ⟨S1x1024x24, .bf16⟩
  | .hbm, ⟨18, _⟩ => ⟨S1024x24, .bf16⟩
  | .hbm, ⟨19, _⟩ => ⟨S_, .i32⟩
  | .hbm, ⟨20, _⟩ => ⟨S_, .bf16⟩
  | .hbm, ⟨21, _⟩ => ⟨S1024x128, .bf16⟩
  | .hbm, ⟨22, _⟩ => ⟨S1x1024x512, .f32⟩
  | .hbm, ⟨23, _⟩ => ⟨S1x1024x512, .bf16⟩
  | .hbm, ⟨24, _⟩ => ⟨S1024x512, .bf16⟩
  | .hbm, ⟨25, _⟩ => ⟨S1x1024x2048, .f32⟩
  | .hbm, ⟨26, _⟩ => ⟨S1x1024x2048, .bf16⟩
  | .hbm, ⟨27, _⟩ => ⟨S1024x2048, .bf16⟩
  | .hbm, ⟨28, _⟩ => ⟨S1x64, .f32⟩
  | .hbm, ⟨29, _⟩ => ⟨S8x64, .f32⟩
  | .hbm, ⟨30, _⟩ => ⟨S512, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S_, .f32⟩
  | .hbm, ⟨35, _⟩ => ⟨S1024, .f32⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S_, .f32⟩
  | .hbm, ⟨40, _⟩ => ⟨S256, .f32⟩
  | .hbm, ⟨41, _⟩ => ⟨S1x64, .f32⟩
  | .hbm, ⟨42, _⟩ => ⟨S2x64, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S1x64, .f32⟩
  | .hbm, ⟨47, _⟩ => ⟨S2x64, .f32⟩
  | .hbm, ⟨48, _⟩ => ⟨S128, .f32⟩
  | .hbm, ⟨49, _⟩ => ⟨S_, .f32⟩
  | .hbm, ⟨50, _⟩ => ⟨S256, .f32⟩
  | .hbm, ⟨51, _⟩ => ⟨S3456, .f32⟩
  | .hbm, ⟨52, _⟩ => ⟨S1x3456, .f32⟩
  | .hbm, ⟨53, _⟩ => ⟨S1024, .f32⟩
  | .hbm, ⟨54, _⟩ => ⟨S1x1024, .f32⟩
  | .hbm, ⟨55, _⟩ => ⟨S4x4096x512, .bf16⟩
  | .hbm, ⟨56, _⟩ => ⟨S4x4096x512, .bf16⟩
  | .hbm, ⟨57, _⟩ => ⟨S4x4096x512, .bf16⟩
  | .hbm, ⟨58, _⟩ => ⟨S4x4096x512, .bf16⟩
  | .hbm, ⟨59, _⟩ => ⟨S4x4096x512, .bf16⟩
  | .hbm, ⟨60, _⟩ => ⟨S4x4096x512, .bf16⟩
  | .hbm, ⟨61, _⟩ => ⟨S4x16x8x512, .f32⟩
  | .hbm, ⟨62, _⟩ => ⟨S4x2x256x1024, .bf16⟩
  | .hbm, ⟨63, _⟩ => ⟨S4x2x256x1024, .bf16⟩
  | .hbm, ⟨64, _⟩ => ⟨S4x2x4096x128, .bf16⟩
  | .hbm, ⟨65, _⟩ => ⟨S4x2x4096x128, .bf16⟩
  | .hbm, ⟨66, _⟩ => ⟨S4x2x4096x128, .bf16⟩
  | .hbm, ⟨67, _⟩ => ⟨S4x2x4096x128, .bf16⟩
  | .hbm, ⟨68, _⟩ => ⟨S4x2x4096x128, .bf16⟩
  | .hbm, ⟨69, _⟩ => ⟨S4x4096x128, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1024x3328, .bf16⟩
  | .local _ .vmem, ⟨4, _⟩ => ⟨S1024x128, .bf16⟩
  | .local _ .vmem, ⟨5, _⟩ => ⟨S1x3456, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x4x8x512, .f32⟩
  | .local _ .vmem, ⟨19, _⟩ => ⟨S1x4x8x512, .f32⟩
  | .local _ .vmem, ⟨20, _⟩ => ⟨S1x2x64x1024, .bf16⟩
  | .local _ .vmem, ⟨21, _⟩ => ⟨S1x2x64x1024, .bf16⟩
  | .local _ .vmem, ⟨22, _⟩ => ⟨S1x2x64x1024, .bf16⟩
  | .local _ .vmem, ⟨23, _⟩ => ⟨S1x2x64x1024, .bf16⟩
  | .local _ .vmem, ⟨24, _⟩ => ⟨S1x2x1024x128, .bf16⟩
  | .local _ .vmem, ⟨25, _⟩ => ⟨S1x2x1024x128, .bf16⟩
  | .local _ .vmem, ⟨26, _⟩ => ⟨S1x2x1024x128, .bf16⟩
  | .local _ .vmem, ⟨27, _⟩ => ⟨S1x2x1024x128, .bf16⟩
  | .local _ .vmem, ⟨28, _⟩ => ⟨S1x2x1024x128, .bf16⟩
  | .local _ .vmem, ⟨29, _⟩ => ⟨S1x2x1024x128, .bf16⟩
  | .local _ .vmem, ⟨30, _⟩ => ⟨S1x2x1024x128, .bf16⟩
  | .local _ .vmem, ⟨31, _⟩ => ⟨S1x2x1024x128, .bf16⟩
  | .local _ .vmem, ⟨32, _⟩ => ⟨S1x2x1024x128, .bf16⟩
  | .local _ .vmem, ⟨33, _⟩ => ⟨S1x2x1024x128, .bf16⟩
  | .local _ .vmem, ⟨34, _⟩ => ⟨S1x1024x128, .f32⟩
  | .local _ .vmem, ⟨35, _⟩ => ⟨S1x1024x128, .f32⟩
  | .local _ .vmem, ⟨36, _⟩ => ⟨S2x512x128, .f32⟩
  | .local _ .vmem, ⟨37, _⟩ => ⟨S2x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_0 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_1 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_2 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41_0 : Ref sig .tc := ⟨.hbm, 55, rfl⟩
abbrev main_v41_1 : Ref sig .tc := ⟨.hbm, 56, rfl⟩
abbrev main_v41_2 : Ref sig .tc := ⟨.hbm, 57, rfl⟩
abbrev main_v41_3 : Ref sig .tc := ⟨.hbm, 58, rfl⟩
abbrev main_v41_4 : Ref sig .tc := ⟨.hbm, 59, rfl⟩
abbrev main_v41_5 : Ref sig .tc := ⟨.hbm, 60, rfl⟩
abbrev main_v41_6 : Ref sig .tc := ⟨.hbm, 61, rfl⟩
abbrev main_v41_7 : Ref sig .tc := ⟨.hbm, 62, rfl⟩
abbrev main_v41_8 : Ref sig .tc := ⟨.hbm, 63, rfl⟩
abbrev main_v41_9 : Ref sig .tc := ⟨.hbm, 64, rfl⟩
abbrev main_v41_10 : Ref sig .tc := ⟨.hbm, 65, rfl⟩
abbrev main_v41_11 : Ref sig .tc := ⟨.hbm, 66, rfl⟩
abbrev main_v41_12 : Ref sig .tc := ⟨.hbm, 67, rfl⟩
abbrev main_v41_13 : Ref sig .tc := ⟨.hbm, 68, rfl⟩
abbrev main_v41_14 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_scratch0 : Ref sig .tc := ⟨.vmem, 36, rfl⟩
abbrev cc0_scratch1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3456 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x1024x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x1024x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x1024x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x1024x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x1024x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== InRefIdeal.lean ====
abbrev S4x4096x1024 : Shape := ⟨3, ![4, 4096, 1024]⟩
abbrev S1x1024 : Shape := ⟨2, ![1, 1024]⟩
abbrev S1x1024x5912 : Shape := ⟨3, ![1, 1024, 5912]⟩
abbrev S1x64 : Shape := ⟨2, ![1, 64]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x5912 : Shape := ⟨2, ![1024, 5912]⟩
abbrev S4x4096x5912 : Shape := ⟨3, ![4, 4096, 5912]⟩
abbrev S4x4096x512 : Shape := ⟨3, ![4, 4096, 512]⟩
abbrev S4x4096x8x64 : Shape := ⟨4, ![4, 4096, 8, 64]⟩
abbrev S64 : Shape := ⟨1, ![64]⟩
abbrev S4x4096x8 : Shape := ⟨3, ![4, 4096, 8]⟩
abbrev S4x4096x8x1 : Shape := ⟨4, ![4, 4096, 8, 1]⟩
abbrev S1x1x1x64 : Shape := ⟨4, ![1, 1, 1, 64]⟩
abbrev S4096 : Shape := ⟨1, ![4096]⟩
abbrev S4096x1x1 : Shape := ⟨3, ![4096, 1, 1]⟩
abbrev S1x1x64 : Shape := ⟨3, ![1, 1, 64]⟩
abbrev S4096x1x64 : Shape := ⟨3, ![4096, 1, 64]⟩
abbrev S4x4096x4x64 : Shape := ⟨4, ![4, 4096, 4, 64]⟩
abbrev S4x4096x4x128 : Shape := ⟨4, ![4, 4096, 4, 128]⟩
abbrev S4x4096x24 : Shape := ⟨3, ![4, 4096, 24]⟩
abbrev S4x4096x128 : Shape := ⟨3, ![4, 4096, 128]⟩

abbrev nBuf : Space → Nat
  | .hbm => 151
  | .vmem => 0
  | .smem => 0
  | _ => 0

abbrev hbmTy0_0 (i : Nat) : BufTy := match i % 128 with
  | 0 => ⟨S4x4096x1024, .f32⟩
  | 1 => ⟨S1x1024, .f32⟩
  | 2 => ⟨S1x1024x5912, .f32⟩
  | 3 => ⟨S1x64, .f32⟩
  | 4 => ⟨S1x64, .f32⟩
  | 5 => ⟨S1x64, .f32⟩
  | 6 => ⟨S1x64, .f32⟩
  | 7 => ⟨S1x64, .f32⟩
  | 8 => ⟨S1024, .f32⟩
  | 9 => ⟨S4x4096x1024, .f32⟩
  | 10 => ⟨S_, .f32⟩
  | 11 => ⟨S4x4096, .f32⟩
  | 12 => ⟨S4x4096x1, .f32⟩
  | 13 => ⟨S_, .f32⟩
  | 14 => ⟨S4x4096x1, .f32⟩
  | 15 => ⟨S4x4096x1, .f32⟩
  | 16 => ⟨S_, .f32⟩
  | 17 => ⟨S4x4096x1, .f32⟩
  | 18 => ⟨S4x4096x1, .f32⟩
  | 19 => ⟨S4x4096x1, .f32⟩
  | 20 => ⟨S4x4096x1024, .f32⟩
  | 21 => ⟨S4x4096x1024, .f32⟩
  | 22 => ⟨S1x1x1024, .f32⟩
  | 23 => ⟨S4x4096x1024, .f32⟩
  | 24 => ⟨S4x4096x1024, .f32⟩
  | 25 => ⟨S1024x5912, .f32⟩
  | 26 => ⟨S4x4096x5912, .f32⟩
  | 27 => ⟨S4x4096x512, .f32⟩
  | 28 => ⟨S4x4096x8x64, .f32⟩
  | 29 => ⟨S64, .f32⟩
  | 30 => ⟨S4x4096x8x64, .f32⟩
  | 31 => ⟨S_, .f32⟩
  | 32 => ⟨S4x4096x8, .f32⟩
  | 33 => ⟨S4x4096x8x1, .f32⟩
  | 34 => ⟨S_, .f32⟩
  | 35 => ⟨S4x4096x8x1, .f32⟩
  | 36 => ⟨S4x4096x8x1, .f32⟩
  | 37 => ⟨S_, .f32⟩
  | 38 => ⟨S4x4096x8x1, .f32⟩
  | 39 => ⟨S4x4096x8x1, .f32⟩
  | 40 => ⟨S4x4096x8x1, .f32⟩
  | 41 => ⟨S4x4096x8x64, .f32⟩
  | 42 => ⟨S4x4096x8x64, .f32⟩
  | 43 => ⟨S1x1x1x64, .f32⟩
  | 44 => ⟨S4x4096x8x64, .f32⟩
  | 45 => ⟨S4x4096x8x64, .f32⟩
  | 46 => ⟨S_, .f32⟩
  | 47 => ⟨S4x4096x8x64, .f32⟩
  | 48 => ⟨S4x4096x8x64, .f32⟩
  | 49 => ⟨S4x4096x512, .f32⟩
  | 50 => ⟨S4x4096x512, .bf16⟩
  | 51 => ⟨S4x4096x512, .f32⟩
  | 52 => ⟨S4x4096x8x64, .f32⟩
  | 53 => ⟨S64, .f32⟩
  | 54 => ⟨S4x4096x8x64, .f32⟩
  | 55 => ⟨S_, .f32⟩
  | 56 => ⟨S4x4096x8, .f32⟩
  | 57 => ⟨S4x4096x8x1, .f32⟩
  | 58 => ⟨S_, .f32⟩
  | 59 => ⟨S4x4096x8x1, .f32⟩
  | 60 => ⟨S4x4096x8x1, .f32⟩
  | 61 => ⟨S_, .f32⟩
  | 62 => ⟨S4x4096x8x1, .f32⟩
  | 63 => ⟨S4x4096x8x1, .f32⟩
  | 64 => ⟨S4x4096x8x1, .f32⟩
  | 65 => ⟨S4x4096x8x64, .f32⟩
  | 66 => ⟨S4x4096x8x64, .f32⟩
  | 67 => ⟨S1x1x1x64, .f32⟩
  | 68 => ⟨S4x4096x8x64, .f32⟩
  | 69 => ⟨S4x4096x8x64, .f32⟩
  | 70 => ⟨S_, .f32⟩
  | 71 => ⟨S4x4096x8x64, .f32⟩
  | 72 => ⟨S4x4096x8x64, .f32⟩
  | 73 => ⟨S4x4096x512, .f32⟩
  | 74 => ⟨S4x4096x512, .bf16⟩
  | 75 => ⟨S4x4096x512, .f32⟩
  | 76 => ⟨S4x4096x8x64, .f32⟩
  | 77 => ⟨S64, .f32⟩
  | 78 => ⟨S4x4096x8x64, .f32⟩
  | 79 => ⟨S_, .f32⟩
  | 80 => ⟨S4x4096x8, .f32⟩
  | 81 => ⟨S4x4096x8x1, .f32⟩
  | 82 => ⟨S_, .f32⟩
  | 83 => ⟨S4x4096x8x1, .f32⟩
  | 84 => ⟨S4x4096x8x1, .f32⟩
  | 85 => ⟨S_, .f32⟩
  | 86 => ⟨S4x4096x8x1, .f32⟩
  | 87 => ⟨S4x4096x8x1, .f32⟩
  | 88 => ⟨S4x4096x8x1, .f32⟩
  | 89 => ⟨S4x4096x8x64, .f32⟩
  | 90 => ⟨S4x4096x8x64, .f32⟩
  | 91 => ⟨S1x1x1x64, .f32⟩
  | 92 => ⟨S4x4096x8x64, .f32⟩
  | 93 => ⟨S4x4096x8x64, .f32⟩
  | 94 => ⟨S4x4096x512, .f32⟩
  | 95 => ⟨S4x4096x8x64, .f32⟩
  | 96 => ⟨S4096, .i32⟩
  | 97 => ⟨S4096x1x1, .i32⟩
  | 98 => ⟨S_, .i32⟩
  | 99 => ⟨S_, .i32⟩
  | 100 => ⟨S4096x1x1, .i32⟩
  | 101 => ⟨S4096x1x1, .i32⟩
  | 102 => ⟨S4096x1x1, .i32⟩
  | 103 => ⟨S_, .i32⟩
  | 104 => ⟨S4096x1x1, .i32⟩
  | 105 => ⟨S4096x1x1, .i1⟩
  | 106 => ⟨S4096x1x1, .i32⟩
  | 107 => ⟨S4096x1x1, .i32⟩
  | 108 => ⟨S_, .i32⟩
  | 109 => ⟨S4096x1x1, .i32⟩
  | 110 => ⟨S4096x1x1, .i1⟩
  | 111 => ⟨S4096x1x1, .i1⟩
  | 112 => ⟨S_, .i32⟩
  | 113 => ⟨S4096x1x1, .i32⟩
  | 114 => ⟨S4096x1x1, .i32⟩
  | 115 => ⟨S4096x1x1, .i32⟩
  | 116 => ⟨S64, .i32⟩
  | 117 => ⟨S1x1x64, .i32⟩
  | 118 => ⟨S4096x1x64, .i32⟩
  | 119 => ⟨S4096x1x64, .i32⟩
  | 120 => ⟨S4096x1x64, .i1⟩
  | 121 => ⟨S_, .f32⟩
  | 122 => ⟨S_, .f32⟩
  | 123 => ⟨S4096x1x64, .f32⟩
  | 124 => ⟨S4096x1x64, .f32⟩
  | 125 => ⟨S4096x1x64, .f32⟩
  | 126 => ⟨S4x4096x4x64, .f32⟩
  | 127 => ⟨S_, .f32⟩
  | _ => ⟨S4x4096x1024, .f32⟩

abbrev hbmTy0_1 (i : Nat) : BufTy := match i % 128 with
  | 0 => ⟨S4x4096x4x64, .f32⟩
  | 1 => ⟨S4x4096x4x64, .f32⟩
  | 2 => ⟨S4x4096x4x64, .f32⟩
  | 3 => ⟨S4x4096x4x128, .f32⟩
  | 4 => ⟨S4x4096x512, .f32⟩
  | 5 => ⟨S4x4096x512, .bf16⟩
  | 6 => ⟨S4x4096x4x64, .f32⟩
  | 7 => ⟨S4x4096x4x64, .f32⟩
  | 8 => ⟨S4x4096x4x128, .f32⟩
  | 9 => ⟨S4x4096x512, .f32⟩
  | 10 => ⟨S4x4096x512, .bf16⟩
  | 11 => ⟨S4x4096x4x64, .f32⟩
  | 12 => ⟨S4x4096x4x128, .f32⟩
  | 13 => ⟨S4x4096x512, .f32⟩
  | 14 => ⟨S4x4096x512, .bf16⟩
  | 15 => ⟨S4x4096x4x64, .f32⟩
  | 16 => ⟨S4x4096x4x128, .f32⟩
  | 17 => ⟨S4x4096x512, .f32⟩
  | 18 => ⟨S4x4096x512, .bf16⟩
  | 19 => ⟨S4x4096x24, .f32⟩
  | 20 => ⟨S_, .i32⟩
  | 21 => ⟨S_, .f32⟩
  | 22 => ⟨S4x4096x128, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_c : Ref sig .tc := ⟨.hbm, 98, rfl⟩
abbrev main_call0_v0 : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_v5 : Ref sig .tc := ⟨.hbm, 104, rfl⟩
abbrev main_call0_v6 : Ref sig .tc := ⟨.hbm, 105, rfl⟩
abbrev main_call0_v7 : Ref sig .tc := ⟨.hbm, 106, rfl⟩
abbrev main_call0_v8 : Ref sig .tc := ⟨.hbm, 107, rfl⟩
abbrev main_call0_c : Ref sig .tc := ⟨.hbm, 108, rfl⟩
abbrev main_call0_v9 : Ref sig .tc := ⟨.hbm, 109, rfl⟩
abbrev main_call0_v10 : Ref sig .tc := ⟨.hbm, 110, rfl⟩
abbrev main_call0_v11 : Ref sig .tc := ⟨.hbm, 111, rfl⟩
abbrev main_call0_c_0 : Ref sig .tc := ⟨.hbm, 112, rfl⟩
abbrev main_call0_v12 : Ref sig .tc := ⟨.hbm, 113, rfl⟩
abbrev main_call0_v13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_cst_14 : Ref sig .tc := ⟨.hbm, 122, rfl⟩
abbrev main_call1_v0 : Ref sig .tc := ⟨.hbm, 123, rfl⟩
abbrev main_call1_v1 : Ref sig .tc := ⟨.hbm, 124, rfl⟩
abbrev main_v82 : Ref sig .tc := ⟨.hbm, 125, rfl⟩
abbrev main_v83 : Ref sig .tc := ⟨.hbm, 126, rfl⟩
abbrev main_cst_15 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_c_16 : Ref sig .tc := ⟨.hbm, 148, rfl⟩
abbrev main_call2_v0 : Ref sig .tc := ⟨.hbm, 149, rfl⟩
abbrev main_v104 : Ref sig .tc := ⟨.hbm, 150, rfl⟩

abbrev nD : Nat := 1
abbrev τ : Topo := Topo.v7x

variable {F : FTy → Type} [FloatOps F]
-- ==== Proof.OutRow.lean ====
/- The output stage of the layer, one token at a time: the function of a token's activations, of its two attention outputs and
   of the weights that both the tiled kernel and the plain reference compute. -/
module

public import proofs.«01_k».proof.Proof.Gen.OutProjIdeal.Skeleton
public import proofs.«01_k».proof.Proof.Gen.OutRefIdeal.Run
public import Idealize.ShloMosaic.Lib.Pipeline.ValueKit

@[expose] public section

set_option maxRecDepth 16384

noncomputable section

open Idealize.ShloMosaic Idealize.ShloMosaic.TcCoe Idealize.SL.Sem

namespace Cert.OutRow

/-- The token's activations after the RMS norm: `x k · rsqrt(mean x² + ε) · w k`. -/
def normed (x w : Fin 1024 → EReal) (k : Fin 1024) : EReal :=
  x k * Ideal.rsqrt (Ideal.div (∑ l, x l * x l) (Ideal.ofBits FTy.f32 1149239296#32) + Ideal.ofBits FTy.f32 897988541#32) * w k

/-- A linear map's output `n`. -/
def lin {a b : ℕ} (h : Fin a → EReal) (w : Fin a → Fin b → EReal) (n : Fin b) : EReal := ∑ k, h k * w k n

/-- An attention output gated by the SiLU of its projection: `o k · (z k · σ(z k))`. -/
def gated (o : Fin 512 → EReal) (h : Fin 1024 → EReal) (w : Fin 1024 → Fin 512 → EReal) (k : Fin 512) : EReal :=
  o k * (lin h w k * Ideal.logistic (lin h w k))

/-- The two gated branches, projected and merged by the sigmoid of the merge projection's two halves. -/
def merged (h : Fin 1024 → EReal) (a b : Fin 512 → EReal) (g : Fin 1024 → Fin 2048 → EReal) (wa wb : Fin 512 → Fin 1024 → EReal)
    (n : Fin 1024) : EReal :=
  Ideal.logistic (lin h g ⟨n.val, by omega⟩) * lin a wa n + Ideal.logistic (lin h g ⟨1024 + n.val, by omega⟩) * lin b wb n

/-- The layer's output for one token: the residual plus the output projection of the merged branches. -/
def out (x nw : Fin 1024 → EReal) (oa ob : Fin 512 → EReal) (za zb : Fin 1024 → Fin 512 → EReal) (g : Fin 1024 → Fin 2048 → EReal)
    (wa wb : Fin 512 → Fin 1024 → EReal) (wo : Fin 1024 → Fin 1024 → EReal) (n : Fin 1024) : EReal :=
  x n + lin (merged (normed x nw) (gated oa (normed x nw) za) (gated ob (normed x nw) zb) g wa wb) wo n

section Kernel

open Cert.OutProjIdeal Cert.OutProjIdeal.Gen

/-- The first half block's store, at row `r` and column `n`, is the token function of the rows and weights it loads. -/
theorem first_at (x : Vec Ideal S1x512x1024 .f32) (nw : Vec Ideal S1x1024 .f32) (oa ob : Vec Ideal S1x512x512 .f32)
    (za zb : Vec Ideal S1024x512 .bf16) (g : Vec Ideal S1024x2048 .bf16) (wa wb : Vec Ideal S512x1024 .bf16)
    (wo : Vec Ideal S1024x1024 .bf16) (r : Fin 512) (n : Fin 1024) :
    k0_pay6 (k0_pay2 x) (k0_pay3 x nw) (k0_pay4 x nw oa za) (k0_pay5 x nw ob zb) g wa wb wo (ix3 0 r n)
      = out (fun k => x (ix3 0 r k)) (fun k => nw (ix2 0 k)) (fun k => oa (ix3 0 r k)) (fun k => ob (ix3 0 r k))
          (fun k l => za (ix2 k l)) (fun k l => zb (ix2 k l)) (fun k l => g (ix2 k l)) (fun k l => wa (ix2 k l))
          (fun k l => wb (ix2 k l)) (fun k l => wo (ix2 k l)) n := by
  pointwise [k0_pay6, k0_pay5, k0_pay4, k0_pay3, k0_pay2]
  rfl

/-- The second half block's store likewise. -/
theorem second_at (x : Vec Ideal S1x512x1024 .f32) (nw : Vec Ideal S1x1024 .f32) (oa ob : Vec Ideal S1x512x512 .f32)
    (za zb : Vec Ideal S1024x512 .bf16) (g : Vec Ideal S1024x2048 .bf16) (wa wb : Vec Ideal S512x1024 .bf16)
    (wo : Vec Ideal S1024x1024 .bf16) (r : Fin 512) (n : Fin 1024) :
    k0_pay1 (k0_pay7 x) (k0_pay9 (k0_pay8 x nw) oa za ob zb g wa wb) (k0_pay10 wo) (ix3 0 r n)
      = out (fun k => x (ix3 0 r k)) (fun k => nw (ix2 0 k)) (fun k => oa (ix3 0 r k)) (fun k => ob (ix3 0 r k))
          (fun k l => za (ix2 k l)) (fun k l => zb (ix2 k l)) (fun k l => g (ix2 k l)) (fun k l => wa (ix2 k l))
          (fun k l => wb (ix2 k l)) (fun k l => wo (ix2 k l)) n := by
  pointwise [k0_pay1, k0_pay7, k0_pay8, k0_pay9, k0_pay10]
  rfl

end Kernel

section Reference

open Cert.OutRefIdeal Cert.OutRefIdeal.Gen

/-- The reference's normed activations. -/
def refNormed (x : FVec Ideal S4x4096x1024 .f32) (nw : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ nw shapeCasts_S1x1024_S1024)))

/-- The reference's input projection. -/
def refProj (h : FVec Ideal S4x4096x1024 .f32) (w : FVec Ideal S1x1024x5912 .f32) : FVec Ideal S4x4096x5912 .f32 :=
  Host.dotGeneral dot_S4x4096x1024_S1024x5912_S4x4096x5912_2_0_01_1_n_n none h (shapeCast _ w shapeCasts_S1x1024x5912_S1024x5912)

/-- The reference's SiLU gate of an attention output. -/
def refGated (o z : FVec Ideal S4x4096x512 .f32) : FVec Ideal S4x4096x512 .f32 :=
  mulf o (mulf z (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf z)))))

/-- The reference's sigmoid of the merge projection. -/
def refSigmoid (z : FVec Ideal S4x4096x2048 .f32) : FVec Ideal S4x4096x2048 .f32 :=
  Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf z)))

/-- The reference's last lines: the merge of the two branches, the output projection and the residual. -/
def refOut (x : FVec Ideal S4x4096x1024 .f32) (a b : FVec Ideal S4x4096x512 .f32) (g : FVec Ideal S4x4096x2048 .f32)
    (wa wb : FVec Ideal S1x512x1024 .f32) (wo : FVec Ideal S1x1024x1024 .f32) : FVec Ideal S4x4096x1024 .f32 :=
  addf x (Host.dotGeneral dot_S4x4096x1024_S1024x1024_S4x4096x1024_2_0_01_1_n_n none (addf
    (mulf (extractStridedSlice S4x4096x1024 ![0, 0, 0] g slices_S4x4096x2048_S4x4096x1024_0_0_0) (Host.dotGeneral dot_S4x4096x512_S512x1024_S4x4096x1024_2_0_01_1_n_n none a (shapeCast _ wa shapeCasts_S1x512x1024_S512x1024)))
    (mulf (extractStridedSlice S4x4096x1024 ![0, 0, 1024] g slices_S4x4096x2048_S4x4096x1024_0_0_1024) (Host.dotGeneral dot_S4x4096x512_S512x1024_S4x4096x1024_2_0_01_1_n_n none b (shapeCast _ wb shapeCasts_S1x512x1024_S512x1024))))
    (shapeCast _ wo shapeCasts_S1x1024x1024_S1024x1024))

/-- The normed activations, read at an index. -/
theorem refNormed_at (x : FVec Ideal S4x4096x1024 .f32) (nw : FVec Ideal S1x1024 .f32) (b : Fin 4) (s : Fin 4096) (k : Fin 1024) :
    refNormed x nw (ix3 b s k) = normed (fun k => x (ix3 b s k)) (fun k => nw (ix2 0 k)) k := by
  pointwise [refNormed]
  rfl

/-- The input projection, read at an index. -/
theorem refProj_at (h : FVec Ideal S4x4096x1024 .f32) (w : FVec Ideal S1x1024x5912 .f32) (b : Fin 4) (s : Fin 4096) (l : Fin 5912) :
    refProj h w (ix3 b s l) = ∑ k : Fin 1024, h (ix3 b s k) * w (ix3 0 k l) := by
  pointwise [refProj]

/-- The SiLU gate, read at an index. -/
theorem refGated_at (o z : FVec Ideal S4x4096x512 .f32) (b : Fin 4) (s : Fin 4096) (k : Fin 512) :
    refGated o z (ix3 b s k) = o (ix3 b s k) * (z (ix3 b s k) * Ideal.logistic (z (ix3 b s k))) := by
  pointwise [refGated]
  rfl

/-- The sigmoid, read at an index. -/
theorem refSigmoid_at (z : FVec Ideal S4x4096x2048 .f32) (b : Fin 4) (s : Fin 4096) (k : Fin 2048) :
    refSigmoid z (ix3 b s k) = Ideal.logistic (z (ix3 b s k)) := by
  pointwise [refSigmoid]
  rfl

/-- The last lines, read at an index. -/
theorem refOut_at (x : FVec Ideal S4x4096x1024 .f32) (a b : FVec Ideal S4x4096x512 .f32) (g : FVec Ideal S4x4096x2048 .f32)
    (wa wb : FVec Ideal S1x512x1024 .f32) (wo : FVec Ideal S1x1024x1024 .f32) (i : Fin 4) (s : Fin 4096) (n : Fin 1024) :
    refOut x a b g wa wb wo (ix3 i s n)
      = x (ix3 i s n) + ∑ l : Fin 1024, (g (ix3 i s ⟨l.val, by omega⟩) * (∑ k : Fin 512, a (ix3 i s k) * wa (ix3 0 k l))
          + g (ix3 i s ⟨1024 + l.val, by omega⟩) * (∑ k : Fin 512, b (ix3 i s k) * wb (ix3 0 k l))) * wo (ix3 0 l n) := by
  pointwise [refOut]

/-- The reference's whole term over its arguments. -/
def refTerm (x : FVec Ideal S4x4096x1024 .f32) (nw : FVec Ideal S1x1024 .f32)
    (w : FVec Ideal S1x1024x5912 .f32) (oa ob : FVec Ideal S4x4096x512 .f32) (wa wb : FVec Ideal S1x512x1024 .f32)
    (wo : FVec Ideal S1x1024x1024 .f32) : FVec Ideal S4x4096x1024 .f32 :=
  refOut x
    (refGated oa (extractStridedSlice S4x4096x512 ![0, 0, 1536] (refProj (refNormed x nw) w) slices_S4x4096x5912_S4x4096x512_0_0_1536))
    (refGated ob (extractStridedSlice S4x4096x512 ![0, 0, 3352] (refProj (refNormed x nw) w) slices_S4x4096x5912_S4x4096x512_0_0_3352))
    (refSigmoid (extractStridedSlice S4x4096x2048 ![0, 0, 3864] (refProj (refNormed x nw) w) slices_S4x4096x5912_S4x4096x2048_0_0_3864))
    wa wb wo

/-- The generated composed term is `refTerm` of the argument arrays. -/
theorem res_eq (m : (ℓ : Loc nD τ sig) → Buf (Elt Ideal) ℓ) (c : Dev nD) :
    Value.res_main_v40 m c = refTerm (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7)) := by
  unfold Value.res_main_v40 refTerm refOut refGated refSigmoid refProj refNormed
  rfl

/-- The reference's result at batch `b`, token `s`, column `n` is the token function of the arguments' rows. -/
theorem ref_at (x : FVec Ideal S4x4096x1024 .f32) (nw : FVec Ideal S1x1024 .f32)
    (w : FVec Ideal S1x1024x5912 .f32) (oa ob : FVec Ideal S4x4096x512 .f32) (wa wb : FVec Ideal S1x512x1024 .f32)
    (wo : FVec Ideal S1x1024x1024 .f32) (b : Fin 4) (s : Fin 4096) (n : Fin 1024) :
    refTerm x nw w oa ob wa wb wo (ix3 b s n)
      = out (fun k => x (ix3 b s k)) (fun k => nw (ix2 0 k)) (fun k => oa (ix3 b s k)) (fun k => ob (ix3 b s k))
          (fun k l => w (ix3 0 k ⟨1536 + l.val, by omega⟩)) (fun k l => w (ix3 0 k ⟨3352 + l.val, by omega⟩))
          (fun k l => w (ix3 0 k ⟨3864 + l.val, by omega⟩)) (fun k l => wa (ix3 0 k l))
          (fun k l => wb (ix3 0 k l)) (fun k l => wo (ix3 0 k l)) n := by
  unfold refTerm
  rw [refOut_at]
  simp only [refSigmoid_at, refGated_at]
  pointwise
  simp only [refProj_at, refNormed_at]
  rfl

end Reference

end Cert.OutRow

end
-- ==== Proof.OutValue.lean ====
/- The output call's result array is the reference's term of its arguments. -/
module

public import proofs.«01_k».proof.Proof.OutRow
public import proofs.«01_k».proof.Proof.Gen.OutProjIdeal.Frame

@[expose] public section

set_option maxRecDepth 16384

noncomputable section

open Idealize.ShloMosaic Idealize.ShloMosaic.TcCoe Idealize.SL.Sem
open Idealize.ShloMosaic.Pipeline (Dat)

namespace Cert.OutValue

open Cert.OutProjIdeal Cert.OutProjIdeal.Gen

variable (m : (ℓ : Loc nD τ sig) → Buf (Elt Ideal) ℓ)

theorem idx : ∀ t : Fin cfg0.N, win0_0.index t = ![t.val / 4, t.val % 4, 0] ∧ win0_1.index t = ![0, 0]
    ∧ win0_2.index t = ![t.val / 4, t.val % 4, 0] ∧ win0_3.index t = ![t.val / 4, t.val % 4, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![t.val / 4, t.val % 4, 0] ∧ t.val / 4 < 4 :=
  (by decide +kernel : ∀ t : Fin grid0.N, _)

/-- The token function of equal rows and weights. -/
theorem out_congr {x x' nw nw' : Fin 1024 → EReal} {oa oa' ob ob' : Fin 512 → EReal} {za za' zb zb' : Fin 1024 → Fin 512 → EReal}
    {g g' : Fin 1024 → Fin 2048 → EReal} {wa wa' wb wb' : Fin 512 → Fin 1024 → EReal} {wo wo' : Fin 1024 → Fin 1024 → EReal}
    (h0 : ∀ k, x k = x' k) (h1 : ∀ k, nw k = nw' k) (h2 : ∀ k, oa k = oa' k) (h3 : ∀ k, ob k = ob' k) (h4 : ∀ k l, za k l = za' k l)
    (h5 : ∀ k l, zb k l = zb' k l) (h6 : ∀ k l, g k l = g' k l) (h7 : ∀ k l, wa k l = wa' k l) (h8 : ∀ k l, wb k l = wb' k l)
    (h9 : ∀ k l, wo k l = wo' k l) (n : Fin 1024) :
    OutRow.out x nw oa ob za zb g wa wb wo n = OutRow.out x' nw' oa' ob' za' zb' g' wa' wb' wo' n := by
  rw [funext h0, funext h1, funext h2, funext h3, funext₂ h4, funext₂ h5, funext₂ h6, funext₂ h7, funext₂ h8, funext₂ h9]

/-- What the body stores at block index `y` of point `t` is the reference's term at the array index where `y` sits. -/
theorem point (c : Dev nD) (t : Fin cfg0.N) (y) :
    out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) y
      = OutRow.refTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (((cfg0.win 10).blk t).view.emb y) := by
  unfold out0_10
  canon_tiles x h
  · obtain ⟨r, hr⟩ : ∃ r : Fin 512, r = x 1 := ⟨_, rfl⟩
    obtain ⟨n, hn⟩ : ∃ n : Fin 1024, n = x 2 := ⟨_, rfl⟩
    have hx : x = ix3 0 r n := by subst hr hn; blk_ext
    have hy : ((cfg0.win 10).blk t).view.emb y = ix3 (⟨t.val / 4, (idx t).2.2.2.2.2.2.2.2.2.2.2⟩ : Fin 4) (⟨t.val % 4 * 1024 + 512 + r.val, by omega⟩ : Fin 4096) n := by
      subst hr hn; blk_ext [idx t]
    rw [hx, hy]
    refine (OutRow.second_at _ _ _ _ _ _ _ _ _ _ r n).trans (Eq.trans ?_ (OutRow.ref_at _ _ _ _ _ _ _ _ _ _ n).symm)
    refine out_congr ?_ ?_ ?_ ?_ ?_ ?_ ?_ ?_ ?_ ?_ n
    all_goals intros
    all_goals (pointwise; blk_point [iblk, V, idx t])
  · obtain ⟨r, hr⟩ : ∃ r : Fin 512, r = x 1 := ⟨_, rfl⟩
    obtain ⟨n, hn⟩ : ∃ n : Fin 1024, n = x 2 := ⟨_, rfl⟩
    have hx : x = ix3 0 r n := by subst hr hn; blk_ext
    have hy : ((cfg0.win 10).blk t).view.emb y = ix3 (⟨t.val / 4, (idx t).2.2.2.2.2.2.2.2.2.2.2⟩ : Fin 4) (⟨t.val % 4 * 1024 + r.val, by omega⟩ : Fin 4096) n := by
      subst hr hn; blk_ext [idx t]
    rw [hx, hy]
    refine (OutRow.first_at _ _ _ _ _ _ _ _ _ _ r n).trans (Eq.trans ?_ (OutRow.ref_at _ _ _ _ _ _ _ _ _ _ n).symm)
    refine out_congr ?_ ?_ ?_ ?_ ?_ ?_ ?_ ?_ ?_ ?_ n
    all_goals intros
    all_goals (pointwise; blk_point [iblk, V, idx t])

/-- The result array after the run is the reference's term of the arguments. -/
theorem final (c : Dev nD) : (dats m 0 c).arrAt 10 (cfgs 0).N
    = OutRow.refTerm (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  refine (dats m 0 c).arrAt_eq_of_covers 10 _ (by decide +kernel) fun t _ y => ?_
  blk_simp
  rw [after0_10]
  exact point m c t y

end Cert.OutValue

end
-- ==== Proof.OutClaims.lean ====
/- The claims about the output call: both frames, the reference's frame, and that kernel and reference compute one function. -/
module

public import proofs.«01_k».proof.Defs
public import proofs.«01_k».proof.Proof.OutValue
public import proofs.«01_k».proof.Proof.Gen.OutProj.Frame
public import proofs.«01_k».proof.Proof.Gen.OutProjIdeal.Value
public import Idealize.ShloMosaic.Lib.Claim

@[expose] public section

noncomputable section

open Idealize.ShloMosaic Idealize.ShloMosaic.TcCoe Idealize.SL.Sem

namespace Cert.Proof.OutClaims

instance : Cert.OutProj.Facts := Cert.OutProj.Gen.facts
instance : Cert.OutProjIdeal.Facts := Cert.OutProjIdeal.Gen.facts
instance : Cert.OutRefIdeal.Facts := Cert.OutRefIdeal.Gen.facts

/-- The output call's frame, at the machine's floats. -/
theorem frame_p : Cert.quiescent_OutProj := fun m ρ _ => Cert.OutProj.Gen.frame m ρ

/-- The output call's frame, at the extended reals. -/
theorem frame_pi : Cert.quiescent_OutProjIdeal := fun m ρ _ => Cert.OutProjIdeal.Gen.frame m ρ

/-- The reference's frame, from its run. -/
theorem frame_ri : Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The output call and its reference compute the same function of their arguments. -/
theorem algebraic : Cert.algebraic_OutProjIdeal_OutRefIdeal := by
  intro m ρ m' ρ' _ hagree
  refine ⟨_, Cert.OutProjIdeal.Value.run_blocks (F := Ideal) m ρ, ?_⟩
  refine (θ_run Cert.OutRefIdeal.defs _ _).mono (fun _ h c => ⟨(h c).1.trans ?_, (h c).2⟩)
    (Cert.OutRefIdeal.Value.run (F := Ideal) m' ρ')
  obtain ⟨h0, h1, h2, h3, h4, h5, h6, h7⟩ := hagree c
  refine Eq.trans ?_ (Cert.OutValue.final m c).symm
  rw [Cert.OutRow.res_eq, h0, h1, h2, h3, h4, h5, h6, h7]

end Cert.Proof.OutClaims

end
-- ==== Proof.MobaSelect.lean ====
/- The choice of blocks: three times taking the best block that is left, and the first four places of a stable sort, choose the same past
   blocks, those that fewer than three past blocks beat. -/
module

public import Idealize.ShloMosaic.Lib.Pipeline.ValueKit
public import Idealize.ShloMosaic.Lib.SortFacts

@[expose] public section

noncomputable section

open Idealize.ShloMosaic

namespace Cert.Moba

/-- Block `a` beats block `b`: its score is greater, or equal and its place earlier. -/
def better (x : Fin 16 → EReal) (a b : Fin 16) : Prop := x b < x a ∨ (x a = x b ∧ a < b)

instance (x : Fin 16 → EReal) (a b : Fin 16) : Decidable (better x a b) := Classical.propDecidable _

theorem better_asymm {x : Fin 16 → EReal} {a b : Fin 16} (h : better x a b) : ¬ better x b a := by
  rintro (h' | ⟨h', hl'⟩) <;> rcases h with h | ⟨h, hl⟩
  · exact lt_asymm h h'
  · exact absurd h'.ne' (by rw [h]; simp)
  · exact absurd h.ne (by rw [h']; simp)
  · exact lt_asymm hl hl'

theorem better_total (x : Fin 16 → EReal) {a b : Fin 16} (hab : a ≠ b) (h : ¬ better x a b) : better x b a := by
  unfold better at *
  push Not at h
  rcases lt_trichotomy (x a) (x b) with h' | h' | h'
  · exact .inl h'
  · exact .inr ⟨h'.symm, lt_of_le_of_ne (h.2 h') (Ne.symm hab)⟩
  · exact absurd h.1 (not_le.mpr h')

theorem better_trans {x : Fin 16 → EReal} {a b c : Fin 16} (h : better x a b) (h' : better x b c) : better x a c := by
  rcases h with h | ⟨h, hl⟩ <;> rcases h' with h' | ⟨h', hl'⟩
  · exact .inl (lt_trans h' h)
  · exact .inl (h' ▸ h)
  · exact .inl (h.symm ▸ h')
  · exact .inr ⟨h.trans h', lt_trans hl hl'⟩

/-- The blocks of `P` that beat block `j`. -/
def above (x : Fin 16 → EReal) (P : Finset (Fin 16)) (j : Fin 16) : Finset (Fin 16) := P.filter fun k => better x k j

/-- `A` holds the best `n` blocks of `P`, or all of `P` where it has fewer. -/
structure Best (x : Fin 16 → EReal) (P : Finset (Fin 16)) (n : ℕ) (A : Finset (Fin 16)) : Prop where
  sub : A ⊆ P
  beats : ∀ a ∈ A, ∀ b ∈ P, b ∉ A → better x a b
  le : A.card ≤ n
  full : A.card = n ∨ A = P

/-- A block of `P` is among the best `n` exactly when fewer than `n` beat it. -/
theorem Best.mem_iff {x P n A} (h : Best x P n A) {j : Fin 16} (hj : j ∈ P) : j ∈ A ↔ (above x P j).card < n := by
  constructor
  · intro hA
    have hs : above x P j ⊆ A.erase j := by
      intro k hk
      rw [above, Finset.mem_filter] at hk
      refine Finset.mem_erase.mpr ⟨?_, ?_⟩
      · rintro rfl; exact better_asymm hk.2 hk.2
      · by_contra hkA; exact better_asymm (h.beats j hA k hk.1 hkA) hk.2
    have hc := Finset.card_le_card hs
    have h1 := Finset.card_erase_lt_of_mem hA
    have h2 := h.le
    omega
  · intro hc
    by_contra hA
    have hn : A.card = n := h.full.resolve_right fun e => hA (e ▸ hj)
    have hs : A ⊆ above x P j := fun a ha => Finset.mem_filter.mpr ⟨h.sub ha, h.beats a ha j hj hA⟩
    have := Finset.card_le_card hs
    omega

/-- A block with the greatest remaining score, the first of those that have it, can be added. -/
theorem Best.insert {x P n A} (h : Best x P n A) {b : Fin 16} (hb : b ∈ P) (hbA : b ∉ A)
    (hbest : ∀ k ∈ P, k ∉ A → k ≠ b → better x b k) : Best x P (n + 1) (insert b A) where
  sub := Finset.insert_subset hb h.sub
  beats a ha k hk hkA := by
    rw [Finset.mem_insert, not_or] at hkA
    rcases Finset.mem_insert.mp ha with rfl | ha
    · exact hbest k hk hkA.2 hkA.1
    · exact h.beats a ha k hk hkA.2
  le := by rw [Finset.card_insert_of_notMem hbA]; have := h.le; omega
  full := by
    left
    rw [Finset.card_insert_of_notMem hbA]
    rcases h.full with e | e
    · rw [e]
    · exact absurd (e ▸ hb) hbA

theorem Best.stay {x P n A} (h : Best x P n A) (hA : A = P) : Best x P (n + 1) A where
  sub := h.sub
  beats := h.beats
  le := h.le.trans (Nat.le_succ n)
  full := .inr hA

theorem best_zero (x : Fin 16 → EReal) (P : Finset (Fin 16)) : Best x P 0 ∅ where
  sub := Finset.empty_subset P
  beats := fun a ha => absurd ha (Finset.notMem_empty a)
  le := le_refl 0
  full := .inl rfl

/-- The scores that are left: those of the blocks of `P` not yet taken, the others at minus infinity. -/
def left (x : Fin 16 → EReal) (P A : Finset (Fin 16)) : Fin 16 → EReal := fun j => if j ∈ P ∧ j ∉ A then x j else ⊥

/-- The first of the blocks with the greatest score. -/
def first (sc : Fin 16 → EReal) : ℕ :=
  (Finset.univ : Finset (Fin 16)).fold min 16 fun k => if sc k = Finset.univ.sup sc then k.1 else 16

theorem first_spec (sc : Fin 16 → EReal) : ∃ b : Fin 16, first sc = b.1 ∧ sc b = Finset.univ.sup sc ∧
    ∀ k, sc k = Finset.univ.sup sc → b ≤ k := by
  obtain ⟨m, -, hm⟩ := Finset.exists_mem_eq_sup Finset.univ ⟨0, Finset.mem_univ _⟩ sc
  have hle : ∀ k : Fin 16, first sc ≤ (if sc k = Finset.univ.sup sc then k.1 else 16) :=
    fun k => (Finset.le_fold_min (first sc)).mp (le_refl (first sc)) |>.2 k (Finset.mem_univ k)
  have hlt : first sc < 16 := lt_of_le_of_lt (hle m) (by rw [if_pos hm.symm]; exact m.2)
  have hex : ∃ k : Fin 16, (if sc k = Finset.univ.sup sc then k.1 else 16) ≤ first sc := by
    rcases (Finset.fold_min_le (first sc)).mp (le_refl (first sc)) with h | ⟨k, -, h⟩
    · omega
    · exact ⟨k, h⟩
  obtain ⟨k, hk⟩ := hex
  have hs : sc k = Finset.univ.sup sc := by
    by_contra hne
    rw [if_neg hne] at hk; omega
  rw [if_pos hs] at hk
  have hk' := hle k
  rw [if_pos hs] at hk'
  refine ⟨k, le_antisymm hk' hk, hs, fun j hj => ?_⟩
  have := hle j
  rw [if_pos hj] at this
  exact Fin.le_def.mpr (hk.trans this)

/-- A round: the first best block of those left is the one to add, or none is left and it is block 0. -/
theorem round {x : Fin 16 → EReal} {P : Finset (Fin 16)} {n : ℕ} {A : Finset (Fin 16)} (h : Best x P n A) (hx : ∀ j, x j ≠ ⊥) :
    ∃ A', Best x P (n + 1) A' ∧ (∀ j, (if j.1 = first (left x P A) then ⊥ else left x P A j) = left x P A' j) ∧
      ∀ j ∈ P, j ∈ A' ↔ (j ∈ A ∨ j.1 = first (left x P A)) := by
  obtain ⟨b, hb, hbs, hbf⟩ := first_spec (left x P A)
  rw [hb]
  by_cases he : A = P
  · refine ⟨A, h.stay he, fun j => ?_, fun j hj => by simp [he ▸ hj]⟩
    have : left x P A j = ⊥ := by unfold left; rw [if_neg]; rintro ⟨h1, h2⟩; exact h2 (he ▸ h1)
    rw [this]; simp
  · obtain ⟨c, hc, hcA⟩ : ∃ c ∈ P, c ∉ A := by
      by_contra hno; push Not at hno
      exact he (Finset.Subset.antisymm h.sub hno)
    have hlc : left x P A c = x c := by unfold left; rw [if_pos ⟨hc, hcA⟩]
    have hle : ∀ k, left x P A k ≤ left x P A b := fun k => hbs ▸ Finset.le_sup (Finset.mem_univ k)
    have hbP : b ∈ P ∧ b ∉ A := by
      by_contra hno
      have hb0 : left x P A b = ⊥ := by unfold left; rw [if_neg hno]
      have := hle c
      rw [hlc, hb0] at this
      exact hx c (le_bot_iff.mp this)
    have hlb : left x P A b = x b := by unfold left; rw [if_pos hbP]
    refine ⟨insert b A, h.insert hbP.1 hbP.2 fun k hk hkA hkb => ?_, fun j => ?_, fun j hj => ?_⟩
    · have hlk : left x P A k = x k := by unfold left; rw [if_pos ⟨hk, hkA⟩]
      have h1 := hle k
      rw [hlk, hlb] at h1
      rcases lt_or_eq_of_le h1 with h1 | h1
      · exact .inl h1
      · refine .inr ⟨h1.symm, lt_of_le_of_ne (hbf k ?_) (Ne.symm hkb)⟩
        rw [hlk, h1, ← hlb, hbs]
    · unfold left
      by_cases hjb : j = b
      · subst hjb; simp
      · rw [if_neg (fun e => hjb (Fin.ext e))]
        simp [Finset.mem_insert, hjb]
    · rw [Finset.mem_insert]
      constructor
      · rintro (rfl | hj')
        · exact .inr rfl
        · exact .inl hj'
      · rintro (hj' | hj')
        · exact .inr hj'
        · exact .inl (Fin.ext hj')

/-- The blocks before the query's own. -/
def pastOf (qb : Fin 16) : Finset (Fin 16) := Finset.univ.filter fun j => j < qb

/-- A query of block `qb` attends to block `j`: its own, or a past one that fewer than three past blocks beat. -/
def Sel (x : Fin 16 → EReal) (qb j : Fin 16) : Prop := j = qb ∨ (j < qb ∧ (above x (pastOf qb) j).card < 3)

/-- What three rounds leave of the flags: 0 at the chosen blocks, 1 at the others. -/
theorem three_rounds (x : Fin 16 → EReal) (hx : ∀ j, x j ≠ ⊥) (qb : Fin 16) (s0 s1 s2 : Fin 16 → EReal) (f0 f1 f2 f3 : Fin 16 → EReal)
    (hs0 : ∀ j, s0 j = if j < qb then x j else ⊥) (hs1 : ∀ j, s1 j = if j.1 = first s0 then ⊥ else s0 j)
    (hs2 : ∀ j, s2 j = if j.1 = first s1 then ⊥ else s1 j) (hf0 : ∀ j, f0 j = if j = qb then 0 else 1)
    (hf1 : ∀ j, f1 j = if j.1 = first s0 then 0 else f0 j) (hf2 : ∀ j, f2 j = if j.1 = first s1 then 0 else f1 j)
    (hf3 : ∀ j, f3 j = if j.1 = first s2 then 0 else f2 j) (j : Fin 16) (hj : j ≤ qb) :
    (Sel x qb j → f3 j = 0) ∧ (¬ Sel x qb j → f3 j = 1) := by
  have e0 : s0 = left x (pastOf qb) ∅ := by funext k; rw [hs0]; unfold left pastOf; simp
  obtain ⟨A1, hA1, hl1, hm1⟩ := round (best_zero x (pastOf qb)) hx
  have e1 : s1 = left x (pastOf qb) A1 := by funext k; rw [hs1, e0, hl1]
  obtain ⟨A2, hA2, hl2, hm2⟩ := round hA1 hx
  have e2 : s2 = left x (pastOf qb) A2 := by funext k; rw [hs2, e1, hl2]
  obtain ⟨A3, hA3, hl3, hm3⟩ := round hA2 hx
  rw [← e0] at hm1; rw [← e1] at hm2; rw [← e2] at hm3
  by_cases hq : j = qb
  · refine ⟨fun _ => ?_, fun h => absurd (.inl hq) h⟩
    rw [hf3, hf2, hf1, hf0, if_pos hq]; simp
  · have hjP : j ∈ pastOf qb := Finset.mem_filter.mpr ⟨Finset.mem_univ _, lt_of_le_of_ne hj hq⟩
    have key : Sel x qb j ↔ (j.1 = first s0 ∨ j.1 = first s1) ∨ j.1 = first s2 := by
      rw [← or_false (j.1 = first s0), or_comm (a := j.1 = first s0)]
      have h3 := hm3 j hjP
      rw [hm2 j hjP, hm1 j hjP, hA3.mem_iff hjP] at h3
      simp only [Finset.notMem_empty] at h3
      rw [← h3]
      unfold Sel
      simp [hq, lt_of_le_of_ne hj hq]
    rw [key, hf3, hf2, hf1, hf0, if_neg hq]
    constructor
    · rintro ((h | h) | h) <;> simp [h]
    · intro h; push Not at h; simp [h.1.1, h.1.2, h.2]

/-- A stable sort of the places in order does not tell ties by the score from ties by the place. -/
theorem stableSort_better (y : Fin 16 → EReal) (l : List (Fin 16)) (hl : l.Pairwise (· < ·)) :
    stableSort (fun a b => decide (y b < y a)) l = stableSort (fun a b => decide (better y a b)) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    refine decide_eq_decide.mpr ⟨.inl, ?_⟩
    rintro (h | ⟨-, h⟩)
    · exact h
    · exact absurd h (lt_asymm hb')

theorem sortedFrom_of_positions {n : ℕ} (R R' : Fin n → Fin n → Bool) (h : sortPositions n R = sortPositions n R') : sortedFrom R = sortedFrom R' := by
  funext k
  unfold sortedFrom
  rw [List.get_of_eq h]
  rfl

theorem sortedFrom_better (y : Fin 16 → EReal) :
    sortedFrom (fun a b : Fin 16 => decide (y b < y a)) = sortedFrom (fun a b => decide (better y a b)) :=
  sortedFrom_of_positions _ _ (stableSort_better y _ (List.pairwise_lt_finRange 16))

theorem card_four {f : Fin 16 → Fin 16} (hf : Function.Injective f) (h : 4 ≤ 16) :
    ((Finset.univ : Finset (Fin 4)).image fun k => f (Fin.castLE h k)).card = 4 := by
  rw [Finset.card_image_of_injective _ (fun a b e => Fin.castLE_injective h (hf e) : Function.Injective fun k : Fin 4 => f (Fin.castLE h k)),
    Finset.card_fin]

/-- The first four places of the stable sort hold the four best blocks. -/
theorem best_sorted (y : Fin 16 → EReal) :
    Best y Finset.univ 4 ((Finset.univ : Finset (Fin 4)).image fun k => sortedFrom (fun a b : Fin 16 => decide (y b < y a)) (Fin.castLE (by decide) k)) where
  sub := Finset.subset_univ _
  beats a ha b _ hb := by
    rw [sortedFrom_better] at ha hb
    obtain ⟨k, -, rfl⟩ := Finset.mem_image.mp ha
    obtain ⟨l, rfl⟩ := sortedFrom_surjective (fun a b : Fin 16 => decide (better y a b)) b
    have hkl : Fin.castLE (by decide) k < l := by
      by_contra hno
      have hl4 : l.1 < 4 := lt_of_le_of_lt (Fin.le_def.mp (not_lt.mp hno)) k.2
      exact hb (Finset.mem_image.mpr ⟨⟨l.1, hl4⟩, Finset.mem_univ _, rfl⟩)
    have hinv := sortedFrom_noInversion (fun a b : Fin 16 => decide (better y a b)) (fun a b : Fin 16 => decide (better y a b))
      (fun a b h => decide_eq_false (better_asymm (of_decide_eq_true h))) (fun a b h => h)
      (fun a b c hab hbc => decide_eq_false fun hac => by
        have hab := of_decide_eq_false hab
        have hbc := of_decide_eq_false hbc
        rcases eq_or_ne a b with e | e
        · exact hbc (e ▸ hac)
        · exact hbc (better_trans (better_total y e hab) hac)) _ _ hkl
    refine better_total y ?_ (of_decide_eq_false hinv)
    intro e
    exact absurd (sortedFrom_injective _ e) (ne_of_gt hkl)
  le := le_of_eq (card_four (sortedFrom_injective _) _)
  full := .inl (card_four (sortedFrom_injective _) _)

/-- Own block first, past blocks by their scores, later blocks last: the first four places hold a block up to the own one exactly when it is
    chosen. -/
theorem sorted_iff (x : Fin 16 → EReal) (hx : ∀ j, x j ≠ ⊥) (hx' : ∀ j, x j ≠ ⊤) (qb : Fin 16) (y : Fin 16 → EReal)
    (hy : ∀ j, y j = if j = qb then ⊤ else if j < qb then x j else ⊥) (j : Fin 16) (hj : j ≤ qb) :
    (∃ k : Fin 4, sortedFrom (fun a b : Fin 16 => decide (y b < y a)) (Fin.castLE (by decide) k) = j) ↔ Sel x qb j := by
  have hm := (best_sorted y).mem_iff (Finset.mem_univ j)
  rw [Finset.mem_image] at hm
  simp only [Finset.mem_univ, true_and] at hm
  rw [hm]
  unfold Sel
  by_cases hq : j = qb
  · have : above y Finset.univ j = ∅ := by
      refine Finset.filter_eq_empty_iff.mpr fun k _ => ?_
      rintro (h | ⟨h, hl⟩)
      · rw [hy j, if_pos hq] at h; exact absurd h not_top_lt
      · rw [hy j, if_pos hq, hy k] at h
        have hkq : k < qb := lt_of_lt_of_le hl hj
        rw [if_neg (ne_of_lt hkq), if_pos hkq] at h
        exact hx' k h
    rw [this]; simp [hq]
  · have hjq : j < qb := lt_of_le_of_ne hj hq
    have hyj : y j = x j := by rw [hy, if_neg hq, if_pos hjq]
    have : above y Finset.univ j = insert qb (above x (pastOf qb) j) := by
      ext k
      rw [Finset.mem_insert, above, above, Finset.mem_filter, Finset.mem_filter, pastOf, Finset.mem_filter]
      simp only [Finset.mem_univ, true_and]
      unfold better
      rw [hyj, hy k]
      by_cases hk : k = qb
      · simp [hk, lt_top_iff_ne_top.mpr (hx' j)]
      · rw [if_neg hk]
        by_cases hk' : k < qb
        · simp [hk, hk']
        · simp [hk, hk', (hx j).symm]
    rw [this, Finset.card_insert_of_notMem (by simp [above, pastOf])]
    simp only [hq, hjq, false_or, true_and]
    omega

end Cert.Moba
-- ==== Proof.MobaRef.lean ====
/- The reference of the block attention, in stages: each stage's array, and the array read at an index. -/
module

public import proofs.«01_k».proof.Proof.Gen.ReferenceIdeal.Run
public import proofs.«01_k».proof.Proof.MobaSelect
public import Idealize.ShloMosaic.Lib.Pipeline.ValueKit

@[expose] public section

set_option maxRecDepth 16384

noncomputable section

open Idealize.ShloMosaic Idealize.ShloMosaic.TcCoe Idealize.SL.Sem

namespace Cert.MobaRef

open Cert.ReferenceIdeal Cert.ReferenceIdeal.Gen

/-- An array of heads side by side, with the heads as an axis. -/
def heads (x : FVec Ideal S4x4096x512 .f32) : FVec Ideal S4x8x4096x64 .f32 :=
  transpose S4x8x4096x64 [0, 2, 1, 3] (shapeCast S4x4096x8x64 x shapeCasts_S4x4096x512_S4x4096x8x64) transposes_S4x4096x8x64_S4x8x4096x64_0_2_1_3

/-- The same, cut into blocks of 256 tokens. -/
def blocks (x : FVec Ideal S4x4096x512 .f32) : FVec Ideal S4x8x16x256x64 .f32 :=
  shapeCast S4x8x16x256x64 (heads x) shapeCasts_S4x8x4096x64_S4x8x16x256x64

/-- The block of each token. -/
def qbR : IVec S4096x1 32 :=
  (select (andi (cmpi .ne (signi (broadcastInDim S4096x1 ![0] bcast_S4096_S4096x1_0 (iotaInDim S4096 32 0))) (broadcastInDim S4096x1 ![] bcast_S_S4096x1 (signi (id (constantI S_ 32 256#32))))) (cmpi .ne (Host.remsi (broadcastInDim S4096x1 ![0] bcast_S4096_S4096x1_0 (iotaInDim S4096 32 0)) (broadcastInDim S4096x1 ![] bcast_S_S4096x1 (id (constantI S_ 32 256#32)))) (broadcastInDim S4096x1 ![] bcast_S_S4096x1 (constantI S_ 32 0#32)))) (subi (Host.divsi (broadcastInDim S4096x1 ![0] bcast_S4096_S4096x1_0 (iotaInDim S4096 32 0)) (broadcastInDim S4096x1 ![] bcast_S_S4096x1 (id (constantI S_ 32 256#32)))) (broadcastInDim S4096x1 ![] bcast_S_S4096x1 (constantI S_ 32 1#32))) (Host.divsi (broadcastInDim S4096x1 ![0] bcast_S4096_S4096x1_0 (iotaInDim S4096 32 0)) (broadcastInDim S4096x1 ![] bcast_S_S4096x1 (id (constantI S_ 32 256#32)))))

/-- The blocks' numbers. -/
def bkR : IVec S1x16 32 :=
  (broadcastInDim S1x16 ![1] bcast_S16_S1x16_1 (iotaInDim S16 32 0))

/-- The gate's scores. -/
def gateR (q k : FVec Ideal S4x4096x512 .f32) : FVec Ideal S4x8x4096x16 .f32 :=
  (Host.dotGeneral dot_S4x8x4096x64_S4x8x16x64_S4x8x4096x16_3_3_2_2_01_01 none (heads q) (Host.divf (Host.reduceAdd (blocks k) (constant S_ .f32 0x00000000#32) reducesTo_S4x8x16x256x64_S4x8x16x64_d3 h_S_) (broadcastInDim S4x8x16x64 ![] bcast_S_S4x8x16x64 (constant S_ .f32 0x43800000#32))))

/-- The scores with the own block first and the future ones last. -/
def scoreR (q k : FVec Ideal S4x4096x512 .f32) : FVec Ideal S4x8x4096x16 .f32 :=
  (select (broadcastInDim S4x8x4096x16 ![2, 3] bcast_S4096x16_S4x8x4096x16_2_3 (cmpi .eq (broadcastInDim S4096x16 ![0, 1] bcast_S1x16_S4096x16_0_1 bkR) (broadcastInDim S4096x16 ![0, 1] bcast_S4096x1_S4096x16_0_1 qbR))) (broadcastInDim S4x8x4096x16 ![] bcast_S_S4x8x4096x16 (id (constant S_ .f32 0x7F800000#32))) (select (broadcastInDim S4x8x4096x16 ![2, 3] bcast_S4096x16_S4x8x4096x16_2_3 (cmpi .slt (broadcastInDim S4096x16 ![0, 1] bcast_S1x16_S4096x16_0_1 bkR) (broadcastInDim S4096x16 ![0, 1] bcast_S4096x1_S4096x16_0_1 qbR))) (gateR q k) (broadcastInDim S4x8x4096x16 ![] bcast_S_S4x8x4096x16 (id (constant S_ .f32 0xFF800000#32)))))

/-- The four blocks of a query. -/
def selR (x : FVec Ideal S4x8x4096x16 .f32) : IVec S4x8x4096x4 32 :=
  (Host.topK S4x8x4096x4 3 (FloatOps.cmpfTotal .gt) x sliceFits_S4x8x4096x16_S4x8x4096x4).2

/-- Whether a block is among a query's four. -/
def chosenR (s : IVec S4x8x4096x4 32) : IVec S4x8x4096x16 1 :=
  (Host.reduce IntOp.ori (cmpi .eq (broadcastInDim S4x8x4096x16x4 ![0, 1, 2, 3, 4] bcast_S4x8x4096x1x4_S4x8x4096x16x4_0_1_2_3_4 (broadcastInDim S4x8x4096x1x4 ![0, 1, 2, 4] bcast_S4x8x4096x4_S4x8x4096x1x4_0_1_2_4 s)) (broadcastInDim S4x8x4096x16x4 ![0, 1, 2, 3, 4] bcast_S1x1x1x16x1_S4x8x4096x16x4_0_1_2_3_4 (broadcastInDim S1x1x1x16x1 ![3, 4] bcast_S16x1_S1x1x1x16x1_3_4 (broadcastInDim S16x1 ![0] bcast_S16_S16x1_0 (iotaInDim S16 32 0))))) (constantI S_ 1 0#1) reducesTo_S4x8x4096x16x4_S4x8x4096x16_d4 h_S_)

/-- Whether a key is not in the future. -/
def pastR : IVec S4096x16x256 1 :=
  (cmpi .sge (subi (broadcastInDim S4096x16x256 ![0, 1, 2] bcast_S4096x1x1_S4096x16x256_0_1_2 (broadcastInDim S4096x1x1 ![0] bcast_S4096_S4096x1x1_0 (iotaInDim S4096 32 0))) (broadcastInDim S4096x16x256 ![0, 1, 2] bcast_S1x16x256_S4096x16x256_0_1_2 (addi (broadcastInDim S1x16x256 ![0, 1, 2] bcast_S1x16x1_S1x16x256_0_1_2 (muli (broadcastInDim S1x16x1 ![0, 1] bcast_S1x16_S1x16x1_0_1 bkR) (broadcastInDim S1x16x1 ![] bcast_S_S1x16x1 (constantI S_ 32 256#32)))) (broadcastInDim S1x16x256 ![0, 1, 2] bcast_S1x1x256_S1x16x256_0_1_2 (broadcastInDim S1x1x256 ![2] bcast_S256_S1x1x256_2 (iotaInDim S256 32 0)))))) (broadcastInDim S4096x16x256 ![] bcast_S_S4096x16x256 (constantI S_ 32 0#32)))

/-- How many blocks lie between a token and a block. -/
def apartR : IVec S4096x16x1 32 :=
  (broadcastInDim S4096x16x1 ![0, 1] bcast_S4096x16_S4096x16x1_0_1 (subi (broadcastInDim S4096x16 ![0, 1] bcast_S4096x1_S4096x16_0_1 qbR) (broadcastInDim S4096x16 ![0, 1] bcast_S1x16_S4096x16_0_1 bkR)))

/-- A bias tile, laid over all pairs of blocks. -/
def tileR (x : FVec Ideal S8x1x256x256 .f32) : FVec Ideal S8x4096x16x256 .f32 :=
  (shapeCast _ (broadcastInDim S8x16x256x16x256 ![0, 1, 2, 3, 4] bcast_S8x1x256x1x256_S8x16x256x16x256_0_1_2_3_4 (broadcastInDim S8x1x256x1x256 ![0, 2, 4] bcast_S8x256x256_S8x1x256x1x256_0_2_4 (shapeCast _ x shapeCasts_S8x1x256x256_S8x256x256))) shapeCasts_S8x16x256x16x256_S8x4096x16x256)

/-- The relative-position bias. -/
def relR (b : FVec Ideal S16x10x256x256 .f32) : FVec Ideal S8x4096x16x256 .f32 :=
  (select (broadcastInDim S8x4096x16x256 ![1, 2, 3] bcast_S4096x16x1_S8x4096x16x256_1_2_3 (cmpi .eq apartR (broadcastInDim S4096x16x1 ![] bcast_S_S4096x16x1 (constantI S_ 32 4#32)))) (tileR (extractStridedSlice S8x1x256x256 ![0, 4, 0, 0] b slices_S16x10x256x256_S8x1x256x256_0_4_0_0)) (select (broadcastInDim S8x4096x16x256 ![1, 2, 3] bcast_S4096x16x1_S8x4096x16x256_1_2_3 (cmpi .eq apartR (broadcastInDim S4096x16x1 ![] bcast_S_S4096x16x1 (constantI S_ 32 3#32)))) (tileR (extractStridedSlice S8x1x256x256 ![0, 3, 0, 0] b slices_S16x10x256x256_S8x1x256x256_0_3_0_0)) (select (broadcastInDim S8x4096x16x256 ![1, 2, 3] bcast_S4096x16x1_S8x4096x16x256_1_2_3 (cmpi .eq apartR (broadcastInDim S4096x16x1 ![] bcast_S_S4096x16x1 (constantI S_ 32 2#32)))) (tileR (extractStridedSlice S8x1x256x256 ![0, 2, 0, 0] b slices_S16x10x256x256_S8x1x256x256_0_2_0_0)) (select (broadcastInDim S8x4096x16x256 ![1, 2, 3] bcast_S4096x16x1_S8x4096x16x256_1_2_3 (cmpi .eq apartR (broadcastInDim S4096x16x1 ![] bcast_S_S4096x16x1 (constantI S_ 32 1#32)))) (tileR (extractStridedSlice S8x1x256x256 ![0, 1, 0, 0] b slices_S16x10x256x256_S8x1x256x256_0_1_0_0)) (select (broadcastInDim S8x4096x16x256 ![1, 2, 3] bcast_S4096x16x1_S8x4096x16x256_1_2_3 (cmpi .eq apartR (broadcastInDim S4096x16x1 ![] bcast_S_S4096x16x1 (constantI S_ 32 0#32)))) (tileR (extractStridedSlice S8x1x256x256 ![0, 0, 0, 0] b slices_S16x10x256x256_S8x1x256x256_0_0_0_0)) (tileR (extractStridedSlice S8x1x256x256 ![0, 5, 0, 0] b slices_S16x10x256x256_S8x1x256x256_0_5_0_0)))))))

/-- The masked logits. -/
def logitsR (q k : FVec Ideal S4x4096x512 .f32) (b : FVec Ideal S16x10x256x256 .f32) : FVec Ideal S4x8x4096x4096 .f32 :=
  (shapeCast S4x8x4096x4096 (select (andi (broadcastInDim S4x8x4096x16x256 ![0, 1, 2, 3, 4] bcast_S4x8x4096x16x1_S4x8x4096x16x256_0_1_2_3_4 (broadcastInDim S4x8x4096x16x1 ![0, 1, 2, 3] bcast_S4x8x4096x16_S4x8x4096x16x1_0_1_2_3 (chosenR (selR (scoreR q k))))) (broadcastInDim S4x8x4096x16x256 ![0, 1, 2, 3, 4] bcast_S1x1x4096x16x256_S4x8x4096x16x256_0_1_2_3_4 (broadcastInDim S1x1x4096x16x256 ![2, 3, 4] bcast_S4096x16x256_S1x1x4096x16x256_2_3_4 pastR))) (addf (Host.dotGeneral dot_S4x8x4096x64_S4x8x16x256x64_S4x8x4096x16x256_3_4_2_23_01_01 none (heads q) (blocks k)) (broadcastInDim S4x8x4096x16x256 ![0, 1, 2, 3, 4] bcast_S1x8x4096x16x256_S4x8x4096x16x256_0_1_2_3_4 (broadcastInDim S1x8x4096x16x256 ![1, 2, 3, 4] bcast_S8x4096x16x256_S1x8x4096x16x256_1_2_3_4 (relR b)))) (broadcastInDim S4x8x4096x16x256 ![] bcast_S_S4x8x4096x16x256 (id (constant S_ .f32 0xFF800000#32)))) shapeCasts_S4x8x4096x16x256_S4x8x4096x4096)

/-- The softmax's exponentials. -/
def expR (l : FVec Ideal S4x8x4096x4096 .f32) : FVec Ideal S4x8x4096x4096 .f32 :=
  (Host.exp (mulf (broadcastInDim S4x8x4096x4096 ![] bcast_S_S4x8x4096x4096 (id (Host.log (constant S_ .f32 0x40000000#32)))) (subf l (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduce FloatOps.maximumf l (constant S_ .f32 0xFF800000#32) reducesTo_S4x8x4096x4096_S4x8x4096_d3 h_S_))))))

/-- The softmax's quotients, applied to the values. -/
def outR (e : FVec Ideal S4x8x4096x4096 .f32) (v : FVec Ideal S4x4096x512 .f32) : FVec Ideal S4x4096x512 .f32 :=
  shapeCast S4x4096x512 (transpose S4x4096x8x64 [0, 2, 1, 3] (Host.dotGeneral dot_S4x8x4096x4096_S4x8x4096x64_S4x8x4096x64_3_2_2_3_01_01 none (Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduceAdd e (constant S_ .f32 0x00000000#32) reducesTo_S4x8x4096x4096_S4x8x4096_d3 h_S_)))) (heads v)) transposes_S4x8x4096x64_S4x4096x8x64_0_2_1_3) shapeCasts_S4x4096x8x64_S4x4096x512

/-- The reference's whole term. -/
def refTerm (q : FVec Ideal S4x4096x512 .bf16) (k v : FVec Ideal S4x4096x512 .f32) (b : FVec Ideal S16x10x256x256 .f32) : FVec Ideal S4x4096x512 .f32 :=
  outR (expR (logitsR (extf .f32 q bitsLt_bf16_f32) k b)) v

/-- The generated composed term is `refTerm` of the argument arrays. -/
theorem res_eq (m : (ℓ : Loc nD τ sig) → Buf (Elt Ideal) ℓ) (c : Dev nD) :
    Value.res_out0 m c = refTerm (m ((c.tc : Thread nD τ).loc main_arg0)) (m ((c.tc : Thread nD τ).loc main_arg1))
      (m ((c.tc : Thread nD τ).loc main_arg2)) (m ((c.tc : Thread nD τ).loc main_arg3)) := by
  unfold Value.res_out0 Value.res_main_v126 refTerm outR expR logitsR relR tileR apartR pastR chosenR selR scoreR gateR qbR bkR blocks heads
  rfl

end Cert.MobaRef
-- ==== Proof.MobaMath.lean ====
/- The base-2 softmax over the extended reals: a maximum and a weighted sum over a set of keys, how both grow by a chunk of keys, and the
   quotient of two weighted sums as the sum of normalised weights. -/
module

public import Idealize.ShloMosaic.Lib.Pipeline.ValueKit

@[expose] public section

noncomputable section

open Idealize.ShloMosaic

namespace Cert.Moba

variable {ι κ : Type*} [DecidableEq ι] [Fintype κ]

/-- The weight `2^(s - M)` of a score against a real maximum, as a real number. -/
def wt (s : EReal) (M : ℝ) : ℝ := (Ideal.exp2 (s - (M : EReal))).toReal

theorem exp2_eq_wt {s : EReal} (hs : s ≠ ⊤) (M : ℝ) : Ideal.exp2 (s - (M : EReal)) = (wt s M : EReal) := by
  unfold wt
  induction s with
  | bot => simp
  | top => exact absurd rfl hs
  | coe x => rw [← EReal.coe_sub, Ideal.exp2_coe]; simp

theorem wt_bot (M : ℝ) : wt ⊥ M = 0 := by simp [wt]

theorem wt_coe (x M : ℝ) : wt (x : EReal) M = (2 : ℝ) ^ (x - M) := by
  unfold wt; rw [← EReal.coe_sub, Ideal.exp2_coe]; simp

theorem wt_nonneg {s : EReal} (hs : s ≠ ⊤) (M : ℝ) : 0 ≤ wt s M := by
  induction s with
  | bot => simp [wt_bot]
  | top => exact absurd rfl hs
  | coe x => rw [wt_coe]; positivity

/-- Raising the maximum rescales a weight. -/
theorem wt_rescale {s : EReal} (hs : s ≠ ⊤) (M N : ℝ) : wt (M : EReal) N * wt s M = wt s N := by
  induction s with
  | bot => simp [wt_bot]
  | top => exact absurd rfl hs
  | coe x => rw [wt_coe, wt_coe, wt_coe, ← Real.rpow_add (by norm_num)]; congr 1; ring

theorem coe_sum {α : Type*} (T : Finset α) (f : α → ℝ) : (∑ t ∈ T, (f t : EReal)) = ((∑ t ∈ T, f t : ℝ) : EReal) := by
  classical
  induction T using Finset.induction_on with
  | empty => simp
  | insert a T ha ih => rw [Finset.sum_insert ha, Finset.sum_insert ha, ih, EReal.coe_add]

/-- The weighted sum of the values of a set of keys against the set's largest score. -/
def num (T : Finset ι) (s v : ι → EReal) : EReal := ∑ t ∈ T, Ideal.exp2 (s t - T.sup s) * v t

theorem num_eq {T : Finset ι} {s : ι → EReal} (hs : ∀ t, s t ≠ ⊤) (v : ι → ℝ) {M : ℝ} (hM : T.sup s = (M : EReal)) :
    num T s (fun t => (v t : EReal)) = ((∑ t ∈ T, wt (s t) M * v t : ℝ) : EReal) := by
  unfold num
  rw [hM, ← coe_sum]
  exact Finset.sum_congr rfl fun t _ => by rw [exp2_eq_wt (hs t), EReal.coe_mul]

/-- The largest score of a set of keys that has a real score and none infinite is real. -/
theorem sup_real {T : Finset ι} {s : ι → EReal} (hs : ∀ t, s t ≠ ⊤) {t₀ : ι} (h₀ : t₀ ∈ T) (hb : s t₀ ≠ ⊥) :
    ∃ M : ℝ, T.sup s = (M : EReal) := by
  have h1 : T.sup s ≠ ⊤ := by
    intro h
    rcases Finset.exists_mem_eq_sup T ⟨t₀, h₀⟩ s with ⟨t, _, ht⟩
    exact hs t (ht ▸ h)
  have h2 : T.sup s ≠ ⊥ := fun h => hb (le_bot_iff.mp (h ▸ Finset.le_sup h₀))
  exact ⟨(T.sup s).toReal, (EReal.coe_toReal h1 h2).symm⟩

theorem sup_chunk (T : Finset ι) (s : ι → EReal) (e : κ → ι) :
    (T ∪ Finset.univ.image e).sup s = max (T.sup s) (Finset.univ.sup fun u => s (e u)) := by
  rw [Finset.sup_union, Finset.sup_image]; rfl

/-- A chunk of further keys: the old sum is rescaled to the new maximum and the chunk's weighted values are added. -/
theorem num_chunk {T : Finset ι} {s : ι → EReal} (hs : ∀ t, s t ≠ ⊤) (v : ι → ℝ) {t₀ : ι} (h₀ : t₀ ∈ T) (hb : s t₀ ≠ ⊥)
    (e : κ → ι) (he : Function.Injective e) (hd : ∀ u, e u ∉ T) :
    Ideal.exp2 (T.sup s - (T ∪ Finset.univ.image e).sup s) * num T s (fun t => (v t : EReal))
      + ∑ u, Ideal.exp2 (s (e u) - (T ∪ Finset.univ.image e).sup s) * (v (e u) : EReal)
      = num (T ∪ Finset.univ.image e) s (fun t => (v t : EReal)) := by
  obtain ⟨M, hM⟩ := sup_real hs h₀ hb
  obtain ⟨N, hN⟩ := sup_real (T := T ∪ Finset.univ.image e) hs (Finset.mem_union_left _ h₀) hb
  have hdis : Disjoint T (Finset.univ.image e) := by
    rw [Finset.disjoint_right]
    intro t ht
    obtain ⟨u, _, rfl⟩ := Finset.mem_image.mp ht
    exact hd u
  have hsum : (∑ u, Ideal.exp2 (s (e u) - (N : EReal)) * (v (e u) : EReal)) = ((∑ u, wt (s (e u)) N * v (e u) : ℝ) : EReal) := by
    rw [← coe_sum]
    exact Finset.sum_congr rfl fun u _ => by rw [exp2_eq_wt (hs _), EReal.coe_mul]
  rw [num_eq hs v hM, num_eq hs v hN, hM, hN, hsum, exp2_eq_wt (EReal.coe_ne_top M), ← EReal.coe_mul, ← EReal.coe_add]
  congr 1
  rw [Finset.sum_union hdis, Finset.sum_image fun a _ b _ h => he h, Finset.mul_sum]
  congr 1
  exact Finset.sum_congr rfl fun t _ => by rw [← mul_assoc, wt_rescale (hs t)]

/-- The quotient of the weighted values by the weights is the sum of the values under normalised weights. -/
theorem div_num [Fintype ι] {s : ι → EReal} (hs : ∀ t, s t ≠ ⊤) (v : ι → ℝ) {t₀ : ι} (hb : s t₀ ≠ ⊥) :
    Ideal.div (num Finset.univ s (fun t => (v t : EReal))) (num Finset.univ s (fun _ => ((1 : ℝ) : EReal)))
      = ∑ t, Ideal.div (Ideal.exp2 (s t - Finset.univ.sup s)) (∑ t', Ideal.exp2 (s t' - Finset.univ.sup s)) * (v t : EReal) := by
  obtain ⟨M, hM⟩ := sup_real (T := Finset.univ) hs (Finset.mem_univ t₀) hb
  have hD : (∑ t', Ideal.exp2 (s t' - Finset.univ.sup s)) = ((∑ t, wt (s t) M : ℝ) : EReal) := by
    rw [hM, ← coe_sum]; exact Finset.sum_congr rfl fun t _ => exp2_eq_wt (hs t) M
  have hpos : 0 < ∑ t, wt (s t) M := by
    refine Finset.sum_pos' (fun t _ => wt_nonneg (hs t) M) ⟨t₀, Finset.mem_univ _, ?_⟩
    rw [← EReal.coe_toReal (hs t₀) hb, wt_coe]; positivity
  rw [hD, num_eq hs v hM, num_eq hs (fun _ => (1 : ℝ)) hM]
  simp only [mul_one]
  rw [Ideal.div_coe hpos.ne', ← EReal.coe_mul]
  have : ∀ t, Ideal.div (Ideal.exp2 (s t - Finset.univ.sup s)) ((∑ t, wt (s t) M : ℝ) : EReal) * (v t : EReal)
      = ((wt (s t) M * (1 / ∑ t, wt (s t) M) * v t : ℝ) : EReal) := fun t => by
    rw [hM, exp2_eq_wt (hs t), Ideal.div_coe hpos.ne', ← EReal.coe_mul, ← EReal.coe_mul]
  rw [Finset.sum_congr rfl fun t _ => this t, coe_sum]
  congr 1
  rw [Finset.sum_mul]
  exact Finset.sum_congr rfl fun t _ => by ring

/-- Keys of score `⊥` may be left out of the maximum and of the sum. -/
theorem sup_of_bot {T U : Finset ι} (h : T ⊆ U) {s : ι → EReal} (hs : ∀ t ∈ U, t ∉ T → s t = ⊥) : U.sup s = T.sup s :=
  le_antisymm (Finset.sup_le fun t ht => by
    by_cases hT : t ∈ T
    · exact Finset.le_sup hT
    · rw [hs t ht hT]; exact bot_le) (Finset.sup_mono h)

theorem num_of_bot {T U : Finset ι} (h : T ⊆ U) {s : ι → EReal} (hs : ∀ t ∈ U, t ∉ T → s t = ⊥) (v : ι → EReal) {M : ℝ}
    (hM : T.sup s = (M : EReal)) : num U s v = num T s v := by
  unfold num
  rw [sup_of_bot h hs]
  refine (Finset.sum_subset h fun t ht hT => ?_).symm
  rw [hs t ht hT, hM]
  simp

/-- The exponential with base `e` of `ln 2 · x` is the one with base 2 of `x`. -/
theorem exp_ln2 {x : EReal} (hx : x ≠ ⊤) : Ideal.exp (((Real.log 2 : ℝ) : EReal) * x) = Ideal.exp2 x := by
  induction x with
  | bot => rw [EReal.coe_mul_bot_of_pos (Real.log_pos (by norm_num))]; rfl
  | top => exact absurd rfl hx
  | coe r =>
    rw [← EReal.coe_mul, Ideal.exp_coe, Ideal.exp2_coe]
    congr 1
    exact (Real.rpow_def_of_pos (by norm_num) r).symm

theorem ofBits_neg_inf : Ideal.ofBits .f32 0xFF800000#32 = ⊥ := by simp [Ideal.ofBits, Ideal.ieee]

theorem fold_max_bot {α : Type*} (T : Finset α) (f : α → EReal) : Finset.fold max ⊥ f T = T.sup f := by
  classical
  induction T using Finset.induction_on with
  | empty => simp
  | insert a T ha ih => rw [Finset.fold_insert ha, Finset.sup_insert, ih]

end Cert.Moba
-- ==== Proof.MobaStep.lean ====
/- One chunk of keys in the block attention: the scores of 1024 stacked query rows against 512 keys, and the running maximum and the
   running weighted sum after the chunk, entry by entry. -/
module

public import proofs.«01_k».proof.Proof.Gen.KernelIdeal.Skeleton
public import proofs.«01_k».proof.Proof.MobaMath

@[expose] public section

set_option maxRecDepth 16384

noncomputable section

open Idealize.ShloMosaic Idealize.ShloMosaic.TcCoe Idealize.SL.Sem

namespace Cert.KernelIdeal.Step

open Cert.KernelIdeal Cert.KernelIdeal.Gen

variable [Facts]

/-- The scores of a chunk: queries times keys, plus the bias. -/
def score (qq : FVec Ideal S1024x256 .bf16) (kk : FVec Ideal S512x256 .bf16) (b : FVec Ideal S1024x512 .f32) : FVec Ideal S1024x512 .f32 :=
  addf (matmul dot_S1024x256_S512x256_S1024x512_1_1_0_0_n_n none qq kk (constant S1024x512 .f32 0x00000000#32)) b

/-- The four lane blocks of the scores. -/
def lanes0 (s : FVec Ideal S1024x512 .f32) : FVec Ideal S1024x128 .f32 := extractStridedSlice S1024x128 ![0, 0] s slices_S1024x512_o0_0_S1024x128
@[inherit_doc lanes0]
def lanes1 (s : FVec Ideal S1024x512 .f32) : FVec Ideal S1024x128 .f32 := extractStridedSlice S1024x128 ![0, 128] s slices_S1024x512_o0_128_S1024x128
@[inherit_doc lanes0]
def lanes2 (s : FVec Ideal S1024x512 .f32) : FVec Ideal S1024x128 .f32 := extractStridedSlice S1024x128 ![0, 256] s slices_S1024x512_o0_256_S1024x128
@[inherit_doc lanes0]
def lanes3 (s : FVec Ideal S1024x512 .f32) : FVec Ideal S1024x128 .f32 := extractStridedSlice S1024x128 ![0, 384] s slices_S1024x512_o0_384_S1024x128

/-- The running maximum after the chunk. -/
def newM (s : FVec Ideal S1024x512 .f32) (m : FVec Ideal S1024x128 .f32) : FVec Ideal S1024x128 .f32 :=
  maximumf m (broadcastTo S1024x128 (shapeCast S1024x1 (shapeCast S1024x1 (multiReduction .maximumf [1] S1024
    (maximumf (maximumf (maximumf (lanes0 s) (lanes1 s)) (lanes2 s)) (lanes3 s)) 0xFF800000#32 reduces_S1024x128_S1024 (.inl rfl) rfl)
      shapeCasts_S1024_S1024x1) shapeCasts_S1024x1_S1024x1) broadcasts_S1024x1_S1024x128)

/-- The chunk's weights against a maximum. -/
def probs (s : FVec Ideal S1024x512 .f32) (m : FVec Ideal S1024x128 .f32) : FVec Ideal S1024x512 .bf16 :=
  truncf .bf16 (concatenate S1024x512 1 [⟨S1024x128, exp2 (subf (lanes0 s) m)⟩, ⟨S1024x128, exp2 (subf (lanes1 s) m)⟩,
    ⟨S1024x128, exp2 (subf (lanes2 s) m)⟩, ⟨S1024x128, exp2 (subf (lanes3 s) m)⟩]
    concatenates_S1024x128_S1024x128_S1024x128_S1024x128_S1024x512_d1) bitsLt_bf16_f32

/-- The running weighted sum after the chunk; the two halves of the rows have values of their own. -/
def newA (s : FVec Ideal S1024x512 .f32) (m0 m1 a : FVec Ideal S1024x128 .f32) (ve vo : FVec Ideal S512x128 .bf16) : FVec Ideal S1024x128 .f32 :=
  addf (mulf (exp2 (subf m0 m1)) a) (concatenate S1024x128 0
    [⟨S512x128, matmul dot_S512x512_S512x128_S512x128_1_0_0_1_n_n none (extractStridedSlice S512x512 ![0, 0] (probs s m1) slices_S1024x512_o0_0_S512x512) ve
      (constant S512x128 .f32 0x00000000#32)⟩,
     ⟨S512x128, matmul dot_S512x512_S512x128_S512x128_1_0_0_1_n_n none (extractStridedSlice S512x512 ![512, 0] (probs s m1) slices_S1024x512_o512_0_S512x512) vo
      (constant S512x128 .f32 0x00000000#32)⟩] concatenates_S512x128_S512x128_S1024x128_d0)

/-- The largest of four lane blocks of a row is the row's largest. -/
theorem sup_lanes4 (f : Fin 512 → EReal) : (Finset.univ.sup fun x : Fin 128 =>
    max (max (max (f ⟨x.val, by omega⟩) (f ⟨128 + x.val, by omega⟩)) (f ⟨256 + x.val, by omega⟩)) (f ⟨384 + x.val, by omega⟩))
    = Finset.univ.sup f := by
  refine le_antisymm (Finset.sup_le fun x _ => ?_) (Finset.sup_le fun u _ => ?_)
  · exact max_le (max_le (max_le (Finset.le_sup (Finset.mem_univ _)) (Finset.le_sup (Finset.mem_univ _))) (Finset.le_sup (Finset.mem_univ _)))
      (Finset.le_sup (Finset.mem_univ _))
  · refine le_trans ?_ (Finset.le_sup (Finset.mem_univ (⟨u.val % 128, by omega⟩ : Fin 128)))
    have h : u.val / 128 = 0 ∨ u.val / 128 = 1 ∨ u.val / 128 = 2 ∨ u.val / 128 = 3 := by omega
    rcases h with h | h | h | h
    · have : u = ⟨u.val % 128, by omega⟩ := Fin.ext (by simp only []; omega)
      exact le_trans (le_of_eq (congrArg f this)) (le_trans (le_max_left _ _) (le_trans (le_max_left _ _) (le_max_left _ _)))
    · have : u = ⟨128 + u.val % 128, by omega⟩ := Fin.ext (by simp only []; omega)
      exact le_trans (le_of_eq (congrArg f this)) (le_trans (le_max_right _ _) (le_trans (le_max_left _ _) (le_max_left _ _)))
    · have : u = ⟨256 + u.val % 128, by omega⟩ := Fin.ext (by simp only []; omega)
      exact le_trans (le_of_eq (congrArg f this)) (le_trans (le_max_right _ _) (le_max_left _ _))
    · have : u = ⟨384 + u.val % 128, by omega⟩ := Fin.ext (by simp only []; omega)
      exact le_trans (le_of_eq (congrArg f this)) (le_max_right _ _)

/-- The same for two lane blocks. -/
theorem sup_lanes2 (f : Fin 256 → EReal) : (Finset.univ.sup fun x : Fin 128 =>
    max (f ⟨x.val, by omega⟩) (f ⟨128 + x.val, by omega⟩)) = Finset.univ.sup f := by
  refine le_antisymm (Finset.sup_le fun x _ => ?_) (Finset.sup_le fun u _ => ?_)
  · exact max_le (Finset.le_sup (Finset.mem_univ _)) (Finset.le_sup (Finset.mem_univ _))
  · refine le_trans ?_ (Finset.le_sup (Finset.mem_univ (⟨u.val % 128, by omega⟩ : Fin 128)))
    have h : u.val / 128 = 0 ∨ u.val / 128 = 1 := by omega
    rcases h with h | h
    · have : u = ⟨u.val % 128, by omega⟩ := Fin.ext (by simp only []; omega)
      exact le_trans (le_of_eq (congrArg f this)) (le_max_left _ _)
    · have : u = ⟨128 + u.val % 128, by omega⟩ := Fin.ext (by simp only []; omega)
      exact le_trans (le_of_eq (congrArg f this)) (le_max_right _ _)

theorem score_at (qq kk b) (R : Fin 1024) (u : Fin 512) :
    score qq kk b (ix2 R u) = ∑ x, qq (ix2 R x) * kk (ix2 u x) + b (ix2 R u) := by
  unfold score
  pointwise

theorem newM_at (s m) (R : Fin 1024) (l : Fin 128) : newM s m (ix2 R l) = max (m (ix2 R l)) (Finset.univ.sup fun u => s (ix2 R u)) := by
  unfold newM lanes0 lanes1 lanes2 lanes3
  pointwise
  rw [Cert.Moba.ofBits_neg_inf, Cert.Moba.fold_max_bot]
  exact congrArg _ (sup_lanes4 fun u => s (ix2 R u))

theorem probs_at (s m) (R : Fin 1024) {M : EReal} (hm : ∀ l, m (ix2 R l) = M) (u : Fin 512) :
    probs s m (ix2 R u) = Ideal.exp2 (s (ix2 R u) - M) := by
  unfold probs lanes0 lanes1 lanes2 lanes3
  pointwise
  simp only [hm]
  split_ifs <;> refine congrArg Ideal.exp2 (congrArg (· - M) (congrArg s (congrArg (ix2 R) (Fin.ext ?_)))) <;> simp only [] <;> omega

theorem newA_at (s m0 m1 a ve vo) (R : Fin 1024) {M : EReal} (hm : ∀ l, m1 (ix2 R l) = M) (l : Fin 128) : newA s m0 m1 a ve vo (ix2 R l)
    = Ideal.exp2 (m0 (ix2 R l) - M) * a (ix2 R l) + ∑ u, Ideal.exp2 (s (ix2 R u) - M) * (if R.val < 512 then ve (ix2 u l) else vo (ix2 u l)) := by
  unfold newA
  pointwise
  rw [hm]
  refine congrArg₂ (· + ·) rfl ?_
  split_ifs with h
  · exact Finset.sum_congr rfl fun u _ => by rw [probs_at s m1 R hm]
  · refine Finset.sum_congr rfl fun u _ => ?_
    rw [show (⟨512 + (R.val - 512), by omega⟩ : Fin 1024) = R from Fin.ext (by simp only []; omega), probs_at s m1 R hm]
  · rename_i h'; exact absurd rfl h'

/-! The chunk on the diagonal: the first 256 rows of each head against 256 keys, the others against all 512. -/

/-- The first query rows of both heads. -/
def qLo (qq : FVec Ideal S1024x256 .bf16) : FVec Ideal S512x256 .bf16 :=
  concatenate S512x256 0 [⟨S256x256, extractStridedSlice S256x256 ![0, 0] qq slices_S1024x256_o0_0_S256x256⟩,
    ⟨S256x256, extractStridedSlice S256x256 ![512, 0] qq slices_S1024x256_o512_0_S256x256⟩] concatenates_S256x256_S256x256_S512x256_d0
/-- The last query rows of both heads. -/
def qHi (qq : FVec Ideal S1024x256 .bf16) : FVec Ideal S512x256 .bf16 :=
  concatenate S512x256 0 [⟨S256x256, extractStridedSlice S256x256 ![256, 0] qq slices_S1024x256_o256_0_S256x256⟩,
    ⟨S256x256, extractStridedSlice S256x256 ![768, 0] qq slices_S1024x256_o768_0_S256x256⟩] concatenates_S256x256_S256x256_S512x256_d0

/-- The scores of the first rows. -/
def loS (qq : FVec Ideal S1024x256 .bf16) (kk : FVec Ideal S512x256 .bf16) (b0 b1 : FVec Ideal S256x256 .f32) : FVec Ideal S512x256 .f32 :=
  addf (matmul dot_S512x256_S256x256_S512x256_1_1_0_0_n_n none (qLo qq) (extractStridedSlice S256x256 ![0, 0] kk slices_S512x256_o0_0_S256x256)
    (constant S512x256 .f32 0x00000000#32)) (concatenate S512x256 0 [⟨S256x256, b0⟩, ⟨S256x256, b1⟩] concatenates_S256x256_S256x256_S512x256_d0)
/-- The scores of the last rows. -/
def hiS (qq : FVec Ideal S1024x256 .bf16) (kk : FVec Ideal S512x256 .bf16) (b01 b00 b11 b10 : FVec Ideal S256x256 .f32) : FVec Ideal S512x512 .f32 :=
  addf (matmul dot_S512x256_S512x256_S512x512_1_1_0_0_n_n none (qHi qq) kk (constant S512x512 .f32 0x00000000#32))
    (concatenate S512x512 0 [⟨S256x512, concatenate S256x512 1 [⟨S256x256, b01⟩, ⟨S256x256, b00⟩] concatenates_S256x256_S256x256_S256x512_d1⟩,
      ⟨S256x512, concatenate S256x512 1 [⟨S256x256, b11⟩, ⟨S256x256, b10⟩] concatenates_S256x256_S256x256_S256x512_d1⟩]
      concatenates_S256x512_S256x512_S512x512_d0)

/-- The lane blocks of the first rows' scores. -/
def loL0 (s : FVec Ideal S512x256 .f32) : FVec Ideal S512x128 .f32 := extractStridedSlice S512x128 ![0, 0] s slices_S512x256_o0_0_S512x128
@[inherit_doc loL0]
def loL1 (s : FVec Ideal S512x256 .f32) : FVec Ideal S512x128 .f32 := extractStridedSlice S512x128 ![0, 128] s slices_S512x256_o0_128_S512x128
/-- The lane blocks of the last rows' scores. -/
def hiL0 (s : FVec Ideal S512x512 .f32) : FVec Ideal S512x128 .f32 := extractStridedSlice S512x128 ![0, 0] s slices_S512x512_o0_0_S512x128
@[inherit_doc hiL0]
def hiL1 (s : FVec Ideal S512x512 .f32) : FVec Ideal S512x128 .f32 := extractStridedSlice S512x128 ![0, 128] s slices_S512x512_o0_128_S512x128
@[inherit_doc hiL0]
def hiL2 (s : FVec Ideal S512x512 .f32) : FVec Ideal S512x128 .f32 := extractStridedSlice S512x128 ![0, 256] s slices_S512x512_o0_256_S512x128
@[inherit_doc hiL0]
def hiL3 (s : FVec Ideal S512x512 .f32) : FVec Ideal S512x128 .f32 := extractStridedSlice S512x128 ![0, 384] s slices_S512x512_o0_384_S512x128

/-- A row's largest entry on every lane. -/
def rowMax (x : FVec Ideal S512x128 .f32) : FVec Ideal S512x128 .f32 :=
  broadcastTo S512x128 (shapeCast S512x1 (shapeCast S512x1 (multiReduction .maximumf [1] S512 x 0xFF800000#32 reduces_S512x128_S512 (.inl rfl) rfl)
    shapeCasts_S512_S512x1) shapeCasts_S512x1_S512x1) broadcasts_S512x1_S512x128
/-- The first rows' maximum. -/
def loM (s : FVec Ideal S512x256 .f32) : FVec Ideal S512x128 .f32 := rowMax (maximumf (loL0 s) (loL1 s))
/-- The last rows' maximum. -/
def hiM (s : FVec Ideal S512x512 .f32) : FVec Ideal S512x128 .f32 := rowMax (maximumf (maximumf (maximumf (hiL0 s) (hiL1 s)) (hiL2 s)) (hiL3 s))

/-- The first rows' weights. -/
def loP (s : FVec Ideal S512x256 .f32) : FVec Ideal S512x256 .bf16 :=
  truncf .bf16 (concatenate S512x256 1 [⟨S512x128, exp2 (subf (loL0 s) (loM s))⟩, ⟨S512x128, exp2 (subf (loL1 s) (loM s))⟩]
    concatenates_S512x128_S512x128_S512x256_d1) bitsLt_bf16_f32
/-- The last rows' weights. -/
def hiP (s : FVec Ideal S512x512 .f32) : FVec Ideal S512x512 .bf16 :=
  truncf .bf16 (concatenate S512x512 1 [⟨S512x128, exp2 (subf (hiL0 s) (hiM s))⟩, ⟨S512x128, exp2 (subf (hiL1 s) (hiM s))⟩,
    ⟨S512x128, exp2 (subf (hiL2 s) (hiM s))⟩, ⟨S512x128, exp2 (subf (hiL3 s) (hiM s))⟩]
    concatenates_S512x128_S512x128_S512x128_S512x128_S512x512_d1) bitsLt_bf16_f32

/-- The first rows' weighted sums. -/
def loA (s : FVec Ideal S512x256 .f32) (ve vo : FVec Ideal S512x128 .bf16) : FVec Ideal S512x128 .f32 :=
  concatenate S512x128 0
    [⟨S256x128, matmul dot_S256x256_S256x128_S256x128_1_0_0_1_n_n none (extractStridedSlice S256x256 ![0, 0] (loP s) slices_S512x256_o0_0_S256x256)
      (extractStridedSlice S256x128 ![0, 0] ve slices_S512x128_o0_0_S256x128) (constant S256x128 .f32 0x00000000#32)⟩,
     ⟨S256x128, matmul dot_S256x256_S256x128_S256x128_1_0_0_1_n_n none (extractStridedSlice S256x256 ![256, 0] (loP s) slices_S512x256_o256_0_S256x256)
      (extractStridedSlice S256x128 ![0, 0] vo slices_S512x128_o0_0_S256x128) (constant S256x128 .f32 0x00000000#32)⟩]
    concatenates_S256x128_S256x128_S512x128_d0
/-- The last rows' weighted sums. -/
def hiA (s : FVec Ideal S512x512 .f32) (ve vo : FVec Ideal S512x128 .bf16) : FVec Ideal S512x128 .f32 :=
  concatenate S512x128 0
    [⟨S256x128, matmul dot_S256x512_S512x128_S256x128_1_0_0_1_n_n none (extractStridedSlice S256x512 ![0, 0] (hiP s) slices_S512x512_o0_0_S256x512)
      ve (constant S256x128 .f32 0x00000000#32)⟩,
     ⟨S256x128, matmul dot_S256x512_S512x128_S256x128_1_0_0_1_n_n none (extractStridedSlice S256x512 ![256, 0] (hiP s) slices_S512x512_o256_0_S256x512)
      vo (constant S256x128 .f32 0x00000000#32)⟩]
    concatenates_S256x128_S256x128_S512x128_d0

/-- The part of a result that belongs to the first head, as it is stored. -/
def even (x : FVec Ideal S512x128 .f32) : FVec Ideal S256x128 .f32 :=
  shapeCast S256x128 (extractStridedSlice S256x128 ![0, 0] x slices_S512x128_o0_0_S256x128) shapeCasts_S256x128_S256x128
/-- The part of a result that belongs to the second head, as it is stored. -/
def odd (x : FVec Ideal S512x128 .f32) : FVec Ideal S256x128 .f32 :=
  shapeCast S256x128 (extractStridedSlice S256x128 ![256, 0] x slices_S512x128_o256_0_S256x128) shapeCasts_S256x128_S256x128

theorem even_at (x) (r : Fin 256) (l : Fin 128) : even x (ix2 r l) = x (ix2 ⟨r.val, by omega⟩ l) := by unfold even; pointwise
theorem odd_at (x) (r : Fin 256) (l : Fin 128) : odd x (ix2 r l) = x (ix2 ⟨256 + r.val, by omega⟩ l) := by unfold odd; pointwise

theorem loS_even (qq kk b0 b1) (r u : Fin 256) : loS qq kk b0 b1 (ix2 ⟨r.val, by omega⟩ u)
    = ∑ x, qq (ix2 ⟨r.val, by omega⟩ x) * kk (ix2 ⟨u.val, by omega⟩ x) + b0 (ix2 r u) := by
  unfold loS qLo; pointwise
theorem loS_odd (qq kk b0 b1) (r u : Fin 256) : loS qq kk b0 b1 (ix2 ⟨256 + r.val, by omega⟩ u)
    = ∑ x, qq (ix2 ⟨512 + r.val, by omega⟩ x) * kk (ix2 ⟨u.val, by omega⟩ x) + b1 (ix2 r u) := by
  unfold loS qLo; pointwise
theorem hiS_even (qq kk b01 b00 b11 b10) (r : Fin 256) (u : Fin 512) : hiS qq kk b01 b00 b11 b10 (ix2 ⟨r.val, by omega⟩ u)
    = ∑ x, qq (ix2 ⟨256 + r.val, by omega⟩ x) * kk (ix2 u x)
      + (if h : u.val < 256 then b01 (ix2 r ⟨u.val, h⟩) else b00 (ix2 r ⟨u.val - 256, by omega⟩)) := by
  unfold hiS qHi; pointwise
theorem hiS_odd (qq kk b01 b00 b11 b10) (r : Fin 256) (u : Fin 512) : hiS qq kk b01 b00 b11 b10 (ix2 ⟨256 + r.val, by omega⟩ u)
    = ∑ x, qq (ix2 ⟨768 + r.val, by omega⟩ x) * kk (ix2 u x)
      + (if h : u.val < 256 then b11 (ix2 r ⟨u.val, h⟩) else b10 (ix2 r ⟨u.val - 256, by omega⟩)) := by
  unfold hiS qHi; pointwise

theorem loM_at (s) (r : Fin 512) (l : Fin 128) : loM s (ix2 r l) = Finset.univ.sup fun u => s (ix2 r u) := by
  unfold loM rowMax loL0 loL1
  pointwise
  rw [Cert.Moba.ofBits_neg_inf, Cert.Moba.fold_max_bot]
  exact sup_lanes2 fun u => s (ix2 r u)
theorem hiM_at (s) (r : Fin 512) (l : Fin 128) : hiM s (ix2 r l) = Finset.univ.sup fun u => s (ix2 r u) := by
  unfold hiM rowMax hiL0 hiL1 hiL2 hiL3
  pointwise
  rw [Cert.Moba.ofBits_neg_inf, Cert.Moba.fold_max_bot]
  exact sup_lanes4 fun u => s (ix2 r u)

theorem loP_at (s) (r : Fin 512) (u : Fin 256) : loP s (ix2 r u) = Ideal.exp2 (s (ix2 r u) - Finset.univ.sup fun u => s (ix2 r u)) := by
  unfold loP loL0 loL1
  pointwise
  simp only [loM_at]
  split_ifs <;> refine congrArg Ideal.exp2 (congrArg (· - _) (congrArg s (congrArg (ix2 r) (Fin.ext ?_)))) <;> simp only [] <;> omega
theorem hiP_at (s) (r : Fin 512) (u : Fin 512) : hiP s (ix2 r u) = Ideal.exp2 (s (ix2 r u) - Finset.univ.sup fun u => s (ix2 r u)) := by
  unfold hiP hiL0 hiL1 hiL2 hiL3
  pointwise
  simp only [hiM_at]
  split_ifs <;> refine congrArg Ideal.exp2 (congrArg (· - _) (congrArg s (congrArg (ix2 r) (Fin.ext ?_)))) <;> simp only [] <;> omega

theorem loA_at (s ve vo) (r : Fin 512) (l : Fin 128) : loA s ve vo (ix2 r l)
    = ∑ u : Fin 256, Ideal.exp2 (s (ix2 r u) - Finset.univ.sup fun u => s (ix2 r u))
      * (if r.val < 256 then ve (ix2 ⟨u.val, by omega⟩ l) else vo (ix2 ⟨u.val, by omega⟩ l)) := by
  unfold loA
  pointwise
  split_ifs with h
  · exact Finset.sum_congr rfl fun u _ => by rw [loP_at]
  · refine Finset.sum_congr rfl fun u _ => ?_
    rw [show (⟨256 + (r.val - 256), by omega⟩ : Fin 512) = r from Fin.ext (by simp only []; omega), loP_at]
  · rename_i h'; exact absurd rfl h'
theorem hiA_at (s ve vo) (r : Fin 512) (l : Fin 128) : hiA s ve vo (ix2 r l)
    = ∑ u : Fin 512, Ideal.exp2 (s (ix2 r u) - Finset.univ.sup fun u => s (ix2 r u)) * (if r.val < 256 then ve (ix2 u l) else vo (ix2 u l)) := by
  unfold hiA
  pointwise
  split_ifs with h
  · exact Finset.sum_congr rfl fun u _ => by rw [hiP_at]
  · refine Finset.sum_congr rfl fun u _ => ?_
    rw [show (⟨256 + (r.val - 256), by omega⟩ : Fin 512) = r from Fin.ext (by simp only []; omega), hiP_at]
  · rename_i h'; exact absurd rfl h'

end Cert.KernelIdeal.Step
-- ==== Proof.MobaGate.lean ====
/- The gate of the block attention, entry by entry: a head's scores of the key blocks, the flags left after three rounds of taking the best
   block, and the queries with the flags of their row beside them. -/
module

public import proofs.«01_k».proof.Proof.MobaStep
public import proofs.«01_k».proof.Proof.MobaSelect

@[expose] public section

set_option maxRecDepth 16384

noncomputable section

open Idealize.ShloMosaic Idealize.ShloMosaic.TcCoe Idealize.SL.Sem

namespace Cert.KernelIdeal.Gate

open Cert.KernelIdeal Cert.KernelIdeal.Gen Cert.Moba

variable [Facts]

/-- A lane number, at every entry. -/
def lane : IVec S16x128 32 := iota .tc S16x128 32 [1] iota_S16x128_d1_w32
/-- A block number, at every entry. -/
def blk : IVec S16x4096 32 := iota .tc S16x4096 32 [0] iota_S16x4096_d0_w32

/-- The product of a block mean and a query tile, the mean taken apart into a rounded part and its remainder. -/
def dotSplit (x : FVec Ideal S16x128 .f32) (q : FVec Ideal S512x128 .bf16) : FVec Ideal S16x512 .f32 :=
  addf (matmul dot_S16x128_S512x128_S16x512_1_1_0_0_n_n none (truncf .bf16 x bitsLt_bf16_f32) q (constant S16x512 .f32 0x00000000#32))
    (matmul dot_S16x128_S512x128_S16x512_1_1_0_0_n_n none (truncf .bf16 (subf x (extf .f32 (truncf .bf16 x bitsLt_bf16_f32) bitsLt_bf16_f32)) bitsLt_bf16_f32)
      q (constant S16x512 .f32 0x00000000#32))

/-- The first head's gate scores. -/
def even (km : FVec Ideal S16x128 .f32) (q : FVec Ideal S512x128 .bf16) : FVec Ideal S16x512 .f32 :=
  dotSplit (select (cmpi .slt lane (broadcast S16x128 64#32)) km (broadcast S16x128 (Scalar.ofBits .f32 0x00000000#32))) q
/-- The second head's gate scores. -/
def odd (km : FVec Ideal S16x128 .f32) (q : FVec Ideal S512x128 .bf16) : FVec Ideal S16x512 .f32 :=
  dotSplit (select (cmpi .sge lane (broadcast S16x128 64#32)) km (broadcast S16x128 (Scalar.ofBits .f32 0x00000000#32))) q

/-- The best block of a column, the first of several. -/
def hit (sc : FVec Ideal S16x4096 .f32) : IVec S16x4096 1 :=
  cmpi .eq blk (broadcastTo S16x4096 (shapeCast S1x4096 (multiReductionI .minsi [0] S4096
    (select (cmpf .oeq sc (broadcastTo S16x4096 (shapeCast S1x4096 (multiReduction .maximumf [0] S4096 sc 0xFF800000#32 reduces_S16x4096_S4096 (.inl rfl) rfl)
      shapeCasts_S4096_S1x4096) broadcasts_S1x4096_S16x4096)) blk (broadcast S16x4096 16#32)) 2147483647#32 reduces_S16x4096_S4096 rfl)
      shapeCasts_S4096_S1x4096) broadcasts_S1x4096_S16x4096)
/-- The scores without the best block. -/
def drop (sc : FVec Ideal S16x4096 .f32) : FVec Ideal S16x4096 .f32 := select (hit sc) (broadcast S16x4096 (Scalar.ofBits .f32 0xFF800000#32)) sc
/-- The flags with the best block's cleared. -/
def clear (sc fl : FVec Ideal S16x4096 .f32) : FVec Ideal S16x4096 .f32 := select (hit sc) (broadcast S16x4096 (Scalar.ofBits .f32 0x00000000#32)) fl
/-- The flags before the first round: all blocks but the query's own. -/
def flag0 (own : IVec S16x4096 32) : FVec Ideal S16x4096 .f32 :=
  select (cmpi .eq blk own) (broadcast S16x4096 (Scalar.ofBits .f32 0x00000000#32)) (broadcast S16x4096 (Scalar.ofBits .f32 0x3F800000#32))
/-- The scores before the first round: the past blocks'. -/
def past (own : IVec S16x4096 32) (g0 g1 g2 g3 g4 g5 g6 g7 : FVec Ideal S16x512 .f32) : FVec Ideal S16x4096 .f32 :=
  select (cmpi .slt blk own) (concatenate S16x4096 1 [⟨S16x512, g0⟩, ⟨S16x512, g1⟩, ⟨S16x512, g2⟩, ⟨S16x512, g3⟩, ⟨S16x512, g4⟩, ⟨S16x512, g5⟩,
    ⟨S16x512, g6⟩, ⟨S16x512, g7⟩] concatenates_S16x512_S16x512_S16x512_S16x512_S16x512_S16x512_S16x512_S16x512_S16x4096_d1)
    (broadcast S16x4096 (Scalar.ofBits .f32 0xFF800000#32))
/-- The flags after three rounds. -/
def flags (own : IVec S16x4096 32) (sc : FVec Ideal S16x4096 .f32) : FVec Ideal S16x4096 .f32 :=
  clear (drop (drop sc)) (clear (drop sc) (clear sc (flag0 own)))

/-- The lanes of the first half. -/
def lo : IVec S512x128 1 := k0_pay136

/-- The two heads' flags, transposed beside the lanes of the other head and multiplied by the mask. -/
def maskpart (fe fo : FVec Ideal S16x512 .f32) (e0 e1 : FVec Ideal S256x256 .bf16) : FVec Ideal S512x128 .f32 :=
  mulf (concatenate S512x128 0
    [⟨S256x128, matmul dot_S256x256_S128x256_S256x128_1_1_0_0_n_n none e0 (extractStridedSlice S128x256 ![0, 0] (truncf .bf16 (concatenate S128x512 0
        [⟨S16x512, fo⟩, ⟨S48x512, k0_pay138⟩, ⟨S16x512, fe⟩, ⟨S48x512, k0_pay138⟩] concatenates_S16x512_S48x512_S16x512_S48x512_S128x512_d0) bitsLt_bf16_f32)
        slices_S128x512_o0_0_S128x256) (constant S256x128 .f32 0x00000000#32)⟩,
     ⟨S256x128, matmul dot_S256x256_S128x256_S256x128_1_1_0_0_n_n none e1 (extractStridedSlice S128x256 ![0, 256] (truncf .bf16 (concatenate S128x512 0
        [⟨S16x512, fo⟩, ⟨S48x512, k0_pay138⟩, ⟨S16x512, fe⟩, ⟨S48x512, k0_pay138⟩] concatenates_S16x512_S48x512_S16x512_S48x512_S128x512_d0) bitsLt_bf16_f32)
        slices_S128x512_o0_256_S128x256) (constant S256x128 .f32 0x00000000#32)⟩] concatenates_S256x128_S256x128_S512x128_d0)
    (broadcast S512x128 (Named.named κ "mask" 0xF149F2CA#32))

/-- The stacked queries of the two heads of a pair, each with its flags in the other head's lanes. -/
def augmented (q : FVec Ideal S512x128 .bf16) (mp : FVec Ideal S512x128 .f32) : FVec Ideal S1024x256 .bf16 :=
  concatenate S1024x256 0
    [⟨S512x256, concatenate S512x256 1 [⟨S512x128, truncf .bf16 (select lo (extf .f32 q bitsLt_bf16_f32) mp) bitsLt_bf16_f32⟩, ⟨S512x128, k0_pay139⟩]
        concatenates_S512x128_S512x128_S512x256_d1⟩,
     ⟨S512x256, concatenate S512x256 1 [⟨S512x128, k0_pay139⟩, ⟨S512x128, truncf .bf16 (select lo mp (extf .f32 q bitsLt_bf16_f32)) bitsLt_bf16_f32⟩]
        concatenates_S512x128_S512x128_S512x256_d1⟩] concatenates_S512x256_S512x256_S1024x256_d0

/-- The two heads' keys side by side. -/
def keys (ke ko : FVec Ideal S512x128 .bf16) : FVec Ideal S512x256 .bf16 :=
  concatenate S512x256 1 [⟨S512x128, ke⟩, ⟨S512x128, ko⟩] concatenates_S512x128_S512x128_S512x256_d1

theorem slt_64 : ∀ x : Fin 128, IntOp.cmpi .slt (BitVec.ofNat 32 x.val) 64#32 = if x.val < 64 then 1#1 else 0#1 := by decide
theorem sge_64 : ∀ x : Fin 128, IntOp.cmpi .sge (BitVec.ofNat 32 x.val) 64#32 = if x.val < 64 then 0#1 else 1#1 := by decide

theorem sum_halves (f : Fin 128 → EReal) : (∑ x, f x) = (∑ d : Fin 64, f ⟨d.val, by omega⟩) + ∑ d : Fin 64, f ⟨64 + d.val, by omega⟩ :=
  Fin.sum_univ_add (a := 64) (b := 64) f

theorem sum_halves' (f : Fin 256 → EReal) : (∑ x, f x) = (∑ d : Fin 128, f ⟨d.val, by omega⟩) + ∑ d : Fin 128, f ⟨128 + d.val, by omega⟩ :=
  Fin.sum_univ_add (a := 128) (b := 128) f

theorem select_lt {α : Type} (x : Fin 128) (a b : α) : Scalar.select (IntOp.cmpi .slt (BitVec.ofNat 32 x.val) 64#32) a b = if x.val < 64 then a else b := by
  rw [slt_64, Scalar.select]; split_ifs <;> simp_all

theorem select_ge {α : Type} (x : Fin 128) (a b : α) : Scalar.select (IntOp.cmpi .sge (BitVec.ofNat 32 x.val) 64#32) a b = if x.val < 64 then b else a := by
  rw [sge_64, Scalar.select]; split_ifs <;> simp_all

theorem even_at (km q) (KM : Fin 16 → Fin 128 → ℝ) (Q : Fin 512 → Fin 128 → ℝ) (hk : ∀ j l, km (ix2 j l) = (KM j l : EReal))
    (hq : ∀ r l, q (ix2 r l) = (Q r l : EReal)) (j : Fin 16) (r : Fin 512) :
    even km q (ix2 j r) = ((∑ d : Fin 64, KM j ⟨d.val, by omega⟩ * Q r ⟨d.val, by omega⟩ : ℝ) : EReal) := by
  unfold even dotSplit lane
  pointwise
  have h64 : ∀ d : Fin 64, ¬ (64 + d.val < 64) := fun d => by omega
  simp only [select_lt]
  rw [sum_halves, sum_halves]
  simp only [h64, Fin.is_lt, if_true, if_false, hk, hq, ← EReal.coe_sub, sub_self, EReal.coe_zero, zero_mul, Finset.sum_const_zero, add_zero, zero_add,
    ← EReal.coe_mul, coe_sum]
  simp

theorem odd_at (km q) (KM : Fin 16 → Fin 128 → ℝ) (Q : Fin 512 → Fin 128 → ℝ) (hk : ∀ j l, km (ix2 j l) = (KM j l : EReal))
    (hq : ∀ r l, q (ix2 r l) = (Q r l : EReal)) (j : Fin 16) (r : Fin 512) :
    odd km q (ix2 j r) = ((∑ d : Fin 64, KM j ⟨64 + d.val, by omega⟩ * Q r ⟨64 + d.val, by omega⟩ : ℝ) : EReal) := by
  unfold odd dotSplit lane
  pointwise
  have h64 : ∀ d : Fin 64, ¬ (64 + d.val < 64) := fun d => by omega
  simp only [select_ge]
  rw [sum_halves, sum_halves]
  simp only [h64, Fin.is_lt, if_true, if_false, hk, hq, ← EReal.coe_sub, sub_self, EReal.coe_zero, zero_mul, Finset.sum_const_zero, add_zero, zero_add,
    ← EReal.coe_mul, coe_sum]
  simp

theorem minsi_16 : ∀ a b : Fin 17, IntOp.minsi (BitVec.ofNat 32 a.val) (BitVec.ofNat 32 b.val) = BitVec.ofNat 32 (min a.val b.val) := by decide
theorem minsi_top : ∀ a : Fin 17, IntOp.minsi (BitVec.ofNat 32 a.val) 2147483647#32 = BitVec.ofNat 32 a.val := by decide

/-- The smallest of words up to 16 is the word of the smallest number. -/
theorem fold_minsi (f : Fin 16 → ℕ) (hf : ∀ k, f k ≤ 16) (T : Finset (Fin 16)) :
    T.fold IntOp.minsi 2147483647#32 (fun k => BitVec.ofNat 32 (f k))
      = (if T = ∅ then 2147483647#32 else BitVec.ofNat 32 (T.fold min 16 f)) ∧ T.fold min 16 f ≤ 16 := by
  induction T using Finset.induction_on with
  | empty => simp
  | insert a T ha ih =>
    obtain ⟨h1, h2⟩ := ih
    rw [Finset.fold_insert ha, Finset.fold_insert ha, h1, if_neg (Finset.insert_ne_empty a T)]
    refine ⟨?_, le_trans (min_le_left _ _) (hf a)⟩
    split_ifs with h
    · subst h
      rw [Finset.fold_empty, min_eq_left (hf a)]
      exact minsi_top ⟨f a, Nat.lt_succ_of_le (hf a)⟩
    · exact minsi_16 ⟨f a, Nat.lt_succ_of_le (hf a)⟩ ⟨_, Nat.lt_succ_of_le h2⟩

theorem cmp_16 : ∀ (a : Fin 16) (b : Fin 17), IntOp.cmpi .eq (BitVec.ofNat 32 a.val) (BitVec.ofNat 32 b.val) = if a.val = b.val then 1#1 else 0#1 := by decide

theorem hit_at (sc) (j : Fin 16) (x : Fin 4096) : hit sc (ix2 j x) = if j.val = first (fun k => sc (ix2 k x)) then 1#1 else 0#1 := by
  unfold hit blk
  pointwise
  have h : ∀ k : Fin 16, (if sc (ix2 k x) = Finset.fold max (Ideal.ofBits FTy.f32 4286578688#32) (fun k => sc (ix2 k x)) Finset.univ
      then BitVec.ofNat 32 k.val else 16#32) = BitVec.ofNat 32 (if sc (ix2 k x) = Finset.univ.sup fun k => sc (ix2 k x) then k.val else 16) := by
    intro k
    rw [ofBits_neg_inf, fold_max_bot]
    split_ifs <;> rfl
  simp only [h]
  obtain ⟨h1, h2⟩ := fold_minsi (fun k : Fin 16 => if sc (ix2 k x) = Finset.univ.sup (fun k : Fin 16 => sc (ix2 k x)) then k.val else 16)
    (fun k => by split_ifs <;> omega) Finset.univ
  rw [h1, if_neg (Finset.univ_nonempty.ne_empty)]
  exact cmp_16 j ⟨_, Nat.lt_succ_of_le h2⟩

theorem drop_at (sc) (j : Fin 16) (x : Fin 4096) :
    drop sc (ix2 j x) = if j.val = first (fun k => sc (ix2 k x)) then ⊥ else sc (ix2 j x) := by
  unfold drop
  pointwise
  rw [hit_at, ofBits_neg_inf]
  split_ifs <;> simp [Scalar.select]

theorem clear_at (sc fl) (j : Fin 16) (x : Fin 4096) :
    clear sc fl (ix2 j x) = if j.val = first (fun k => sc (ix2 k x)) then 0 else fl (ix2 j x) := by
  unfold clear
  pointwise
  rw [hit_at]
  split_ifs <;> simp [Scalar.select]

/-- A row's own block: two blocks a tile, the row's in it by its place. -/
theorem own_word (c : Fin 8) (x : Fin 4096) : IntOp.addi (Scalar.muli 2#32 (BitVec.ofNat 32 c.val)) (IntOp.andi (IntOp.shrui ArithUnit.vector (BitVec.ofNat 32 x.val) 8#32) 1#32)
    = BitVec.ofNat 32 (2 * c.val + x.val / 256 % 2) := by
  have h : IntOp.shrui ArithUnit.vector (BitVec.ofNat 32 x.val) 8#32 = BitVec.ofNat 32 (x.val / 256) := by
    apply BitVec.eq_of_toNat_eq
    have := x.isLt
    simp [IntOp.shrui, Nat.shiftRight_eq_div_pow, Nat.mod_eq_of_lt (show x.val < 4294967296 by omega), Nat.mod_eq_of_lt (show x.val / 256 < 4294967296 by omega)]
  rw [h]
  have key : ∀ (c : Fin 8) (b : Fin 16), IntOp.addi (Scalar.muli 2#32 (BitVec.ofNat 32 c.val)) (IntOp.andi (BitVec.ofNat 32 b.val) 1#32)
      = BitVec.ofNat 32 (2 * c.val + b.val % 2) := by decide
  exact key c ⟨x.val / 256, by omega⟩

theorem slt_16 : ∀ a b : Fin 16, IntOp.cmpi .slt (BitVec.ofNat 32 a.val) (BitVec.ofNat 32 b.val) = if a < b then 1#1 else 0#1 := by decide
theorem eq_16 : ∀ a b : Fin 16, IntOp.cmpi .eq (BitVec.ofNat 32 a.val) (BitVec.ofNat 32 b.val) = if a = b then 1#1 else 0#1 := by decide

/-- The own block of row `x` of the stacked rows at a tile. -/
def ownOf (i : grid0.Coords) (x : Fin 4096) : Fin 16 := ⟨2 * (i 2).val + x.val / 256 % 2, by have : (i 2).val < 8 := (i 2).isLt; omega⟩

theorem past_at (i : grid0.Coords) (g : Fin 8 → FVec Ideal S16x512 .f32) (j : Fin 16) (n : Fin 8) (r : Fin 512) :
    past (k0_pay137 i) (g 0) (g 1) (g 2) (g 3) (g 4) (g 5) (g 6) (g 7) (ix2 j ⟨n.val * 512 + r.val, by omega⟩)
      = if j < ownOf i ⟨n.val * 512 + r.val, by omega⟩ then g n (ix2 j r) else ⊥ := by
  unfold past blk
  pointwise [k0_pay137]
  have h1 := own_word (i 2) ⟨n.val * 512 + r.val, by omega⟩
  have h2 := slt_16 j (ownOf i ⟨n.val * 512 + r.val, by omega⟩)
  rw [h1]
  refine (congrArg (fun w => Scalar.select w _ _) h2).trans ?_
  rw [ofBits_neg_inf]
  by_cases hj : j < ownOf i ⟨n.val * 512 + r.val, by omega⟩
  · rw [if_pos hj, if_pos hj, Scalar.select]
    rw [if_pos (by rfl)]
    obtain ⟨n, hn⟩ := n
    interval_cases n
    all_goals simp only [] at *
    all_goals repeat rw [dif_neg (by omega)]
    all_goals try rw [dif_pos (by omega)]
    all_goals exact congrArg (fun y => g _ (ix2 j y)) (Fin.ext (by simp only []; omega))
  · rw [if_neg hj, if_neg hj]; rfl

theorem flag0_at (i : grid0.Coords) (j : Fin 16) (x : Fin 4096) : flag0 (k0_pay137 i) (ix2 j x) = if j = ownOf i x then 0 else 1 := by
  unfold flag0 blk
  pointwise [k0_pay137]
  have h2 := eq_16 j (ownOf i x)
  rw [own_word (i 2) x]
  refine (congrArg (fun w => Scalar.select w _ _) h2).trans ?_
  split_ifs <;> rfl

/-- After the three rounds a block up to the row's own has flag 0 where it is chosen and 1 where it is not. -/
theorem flags_at (i : grid0.Coords) (g : Fin 8 → FVec Ideal S16x512 .f32) (X : Fin 16 → ℝ) (n : Fin 8) (r : Fin 512) (hX : ∀ j, g n (ix2 j r) = (X j : EReal))
    (j : Fin 16) (hj : j ≤ ownOf i ⟨n.val * 512 + r.val, by omega⟩) :
    let f := flags (k0_pay137 i) (past (k0_pay137 i) (g 0) (g 1) (g 2) (g 3) (g 4) (g 5) (g 6) (g 7)) (ix2 j ⟨n.val * 512 + r.val, by omega⟩)
    (Sel (fun j => (X j : EReal)) (ownOf i ⟨n.val * 512 + r.val, by omega⟩) j → f = 0) ∧
      (¬ Sel (fun j => (X j : EReal)) (ownOf i ⟨n.val * 512 + r.val, by omega⟩) j → f = 1) := by
  intro f
  let x : Fin 4096 := ⟨n.val * 512 + r.val, by omega⟩
  let sc := past (k0_pay137 i) (g 0) (g 1) (g 2) (g 3) (g 4) (g 5) (g 6) (g 7)
  have h0 : ∀ j, sc (ix2 j x) = if j < ownOf i x then (X j : EReal) else ⊥ := fun j => (past_at i g j n r).trans (by rw [hX])
  exact three_rounds (fun j => (X j : EReal)) (fun j => EReal.coe_ne_bot _) (ownOf i x) (fun j => sc (ix2 j x)) (fun j => drop sc (ix2 j x))
    (fun j => drop (drop sc) (ix2 j x)) (fun j => flag0 (k0_pay137 i) (ix2 j x)) (fun j => clear sc (flag0 (k0_pay137 i)) (ix2 j x))
    (fun j => clear (drop sc) (clear sc (flag0 (k0_pay137 i))) (ix2 j x)) (fun j => flags (k0_pay137 i) sc (ix2 j x))
    h0 (fun j => drop_at _ j _) (fun j => drop_at _ j _) (fun j => flag0_at i j _)
    (fun j => clear_at _ _ j _) (fun j => clear_at _ _ j _) (fun j => clear_at _ _ j _) j hj

theorem named_mask : (Named.named κ "mask" 4048155338#32 : Ideal .f32) = ⊥ := IdealRules.named_const.ideal_named_scalar κ "mask" _ _ rfl

/-- The masked flags: in the upper lanes the first head's, in the lower lanes the second head's, each times minus infinity. -/
theorem maskpart_at (fe fo e0 e1) (he0 : ∀ a b, e0 (ix2 a b) = if a = b then (1 : EReal) else 0) (he1 : ∀ a b, e1 (ix2 a b) = if a = b then (1 : EReal) else 0)
    (r : Fin 512) (l : Fin 128) : maskpart fe fo e0 e1 (ix2 r l)
      = (if h : l.val < 16 then fo (ix2 ⟨l.val, h⟩ r) else if h : 64 ≤ l.val ∧ l.val < 80 then fe (ix2 ⟨l.val - 64, by omega⟩ r) else 0) * ⊥ := by
  unfold maskpart
  pointwise [k0_pay138]
  rw [named_mask]
  congr 1
  simp only [he0, he1, ite_mul, one_mul, zero_mul, Finset.sum_ite_eq, Finset.mem_univ, if_true]
  by_cases h1 : l.val < 16
  · simp only [h1, dite_true]
    split_ifs
    · rfl
    all_goals exact congrArg (fun y => fo (ix2 _ y)) (Fin.ext (by simp only []; try omega))
  · have e1 : (l.val - 16 < 48) = ¬ (64 ≤ l.val) := by apply propext; omega
    have e2 : (l.val - 16 - 48 < 16) = (l.val < 80) := by apply propext; omega
    simp only [h1, dite_false, e1, e2]
    by_cases h2 : 64 ≤ l.val
    · by_cases h3 : l.val < 80
      · simp only [h2, h3, not_true, and_self, dite_true, dite_false]
        have e3 : (⟨l.val - 16 - 48, by omega⟩ : Fin 16) = ⟨l.val - 64, by omega⟩ := Fin.ext (by simp only []; omega)
        split_ifs
        · exact congrArg (fun y => fe (ix2 y r)) e3
        all_goals exact (congrArg (fun y => fe (ix2 y _)) e3).trans (congrArg (fun y => fe (ix2 _ y)) (Fin.ext (by simp only []; try omega)))
      · simp [h2, h3]
    · simp [h2]

theorem aug_even (q mp) (r : Fin 512) (l : Fin 256) : augmented q mp (ix2 ⟨r.val, by omega⟩ l)
    = if h : l.val < 128 then (if l.val < 64 then q (ix2 r ⟨l.val, h⟩) else mp (ix2 r ⟨l.val, h⟩)) else 0 := by
  unfold augmented lo
  pointwise [k0_pay139, k0_pay136]
  by_cases h1 : l.val < 128
  · simp only [h1, dite_true]
    exact select_lt ⟨l.val, h1⟩ _ _
  · simp only [h1, dite_false]

theorem aug_odd (q mp) (r : Fin 512) (l : Fin 256) : augmented q mp (ix2 ⟨512 + r.val, by omega⟩ l)
    = if h : l.val < 128 then 0 else (if l.val - 128 < 64 then mp (ix2 r ⟨l.val - 128, by omega⟩) else q (ix2 r ⟨l.val - 128, by omega⟩)) := by
  unfold augmented lo
  pointwise [k0_pay139, k0_pay136]
  by_cases h1 : l.val < 128
  · simp [h1]
  · simp only [h1, dite_false]
    exact select_lt ⟨l.val - 128, by omega⟩ _ _

theorem keys_lo (ke ko) (u : Fin 512) (l : Fin 128) : keys ke ko (ix2 u ⟨l.val, by omega⟩) = ke (ix2 u l) := by
  unfold keys
  pointwise

theorem keys_hi (ke ko) (u : Fin 512) (l : Fin 128) : keys ke ko (ix2 u ⟨128 + l.val, by omega⟩) = ko (ix2 u l) := by
  unfold keys
  pointwise

/-- A row of a key slab of the even heads: the head's key, then the one-hot of the key's block. -/
def KeyEven (ke : FVec Ideal S512x128 .bf16) (K : Fin 512 → Fin 128 → ℝ) (B : Fin 512 → Fin 16) : Prop :=
  ∀ u l, ke (ix2 u l) = if l.val < 64 then (K u l : EReal) else if l.val = 64 + (B u).val then 1 else 0
/-- The same of the odd heads: the one-hot first. -/
def KeyOdd (ko : FVec Ideal S512x128 .bf16) (K : Fin 512 → Fin 128 → ℝ) (B : Fin 512 → Fin 16) : Prop :=
  ∀ u l, ko (ix2 u l) = if l.val < 64 then (if l.val = (B u).val then 1 else 0) else (K u l : EReal)

/-- The product of augmented query and key of an even head: the scaled product, and minus infinity where the key's block is not chosen. -/
theorem product_even {q ke ko mp} {fe : FVec Ideal S16x512 .f32} {Q K : Fin 512 → Fin 128 → ℝ} {B : Fin 512 → Fin 16}
    (hq : ∀ r l, q (ix2 r l) = (Q r l : EReal)) (hke : KeyEven ke K B) (hko : KeyOdd ko K B)
    (hmp : ∀ r (d : Fin 64), mp (ix2 r ⟨64 + d.val, by omega⟩) = (if h : d.val < 16 then fe (ix2 ⟨d.val, h⟩ r) else 0) * ⊥) (r u : Fin 512) :
    (∑ x, augmented q mp (ix2 ⟨r.val, by omega⟩ x) * keys ke ko (ix2 u x))
      = ((∑ d : Fin 64, Q r ⟨d.val, by omega⟩ * K u ⟨d.val, by omega⟩ : ℝ) : EReal) + fe (ix2 (B u) r) * ⊥ := by
  rw [sum_halves']
  have h2 : (∑ d : Fin 128, augmented q mp (ix2 ⟨r.val, by omega⟩ ⟨128 + d.val, by omega⟩) * keys ke ko (ix2 u ⟨128 + d.val, by omega⟩)) = 0 := by
    refine Finset.sum_eq_zero fun d _ => ?_
    rw [aug_even, dif_neg (by simp only []; omega), zero_mul]
  rw [h2, add_zero, sum_halves]
  refine congrArg₂ (· + ·) ?_ ?_
  · rw [← coe_sum]
    refine Finset.sum_congr rfl fun d _ => ?_
    have := keys_lo ke ko u ⟨d.val, by omega⟩
    rw [aug_even, dif_pos (by simp only []; omega), if_pos d.isLt, hq, this, hke, if_pos d.isLt, EReal.coe_mul]
  · have hB := (B u).isLt
    rw [Finset.sum_eq_single (⟨(B u).val, by omega⟩ : Fin 64)]
    · have := keys_lo ke ko u ⟨64 + (B u).val, by omega⟩
      rw [aug_even, dif_pos (by simp only []; omega), if_neg (by simp only []; omega)]
      refine (congrArg₂ (· * ·) (hmp r ⟨(B u).val, by omega⟩) (this.trans (hke u _))).trans ?_
      rw [dif_pos hB, if_neg (by simp only []; omega), if_pos rfl, mul_one]
    · intro d _ hd
      have := keys_lo ke ko u ⟨64 + d.val, by omega⟩
      refine (congrArg₂ (· * ·) rfl (this.trans (hke u _))).trans ?_
      rw [if_neg (by simp only []; omega), if_neg (fun e => hd (Fin.ext (by simp only [] at e ⊢; omega))), mul_zero]
    · intro h; exact absurd (Finset.mem_univ _) h

/-- The same of an odd head. -/
theorem product_odd {q ke ko mp} {fo : FVec Ideal S16x512 .f32} {Q K : Fin 512 → Fin 128 → ℝ} {B : Fin 512 → Fin 16}
    (hq : ∀ r l, q (ix2 r l) = (Q r l : EReal)) (hke : KeyEven ke K B) (hko : KeyOdd ko K B)
    (hmp : ∀ r (d : Fin 64), mp (ix2 r ⟨d.val, by omega⟩) = (if h : d.val < 16 then fo (ix2 ⟨d.val, h⟩ r) else 0) * ⊥) (r u : Fin 512) :
    (∑ x, augmented q mp (ix2 ⟨512 + r.val, by omega⟩ x) * keys ke ko (ix2 u x))
      = ((∑ d : Fin 64, Q r ⟨64 + d.val, by omega⟩ * K u ⟨64 + d.val, by omega⟩ : ℝ) : EReal) + fo (ix2 (B u) r) * ⊥ := by
  rw [sum_halves']
  have h1 : (∑ d : Fin 128, augmented q mp (ix2 ⟨512 + r.val, by omega⟩ ⟨d.val, by omega⟩) * keys ke ko (ix2 u ⟨d.val, by omega⟩)) = 0 := by
    refine Finset.sum_eq_zero fun d _ => ?_
    rw [aug_odd, dif_pos (by simp only []; omega), zero_mul]
  have e : ∀ d : Fin 128, augmented q mp (ix2 ⟨512 + r.val, by omega⟩ ⟨128 + d.val, by omega⟩) * keys ke ko (ix2 u ⟨128 + d.val, by omega⟩)
      = (if d.val < 64 then mp (ix2 r d) else q (ix2 r d)) * ko (ix2 u d) := by
    intro d
    rw [keys_hi, aug_odd, dif_neg (by simp only []; omega)]
    simp only [Nat.add_sub_cancel_left]
  rw [h1, zero_add, Finset.sum_congr rfl fun d _ => e d, sum_halves, add_comm]
  refine congrArg₂ (· + ·) ?_ ?_
  · rw [← coe_sum]
    refine Finset.sum_congr rfl fun d _ => ?_
    rw [if_neg (by simp only []; omega), hq, hko, if_neg (by simp only []; omega), EReal.coe_mul]
  · have hB := (B u).isLt
    rw [Finset.sum_eq_single (⟨(B u).val, by omega⟩ : Fin 64)]
    · rw [if_pos (by simp only []; omega), hmp r ⟨(B u).val, by omega⟩, hko, if_pos (by simp only []; omega), if_pos rfl, dif_pos hB, mul_one]
    · intro d _ hd
      rw [if_pos d.isLt, hko, if_pos d.isLt, if_neg (fun e => hd (Fin.ext (by simp only [] at e ⊢; omega))), mul_zero]
    · intro h; exact absurd (Finset.mem_univ _) h

end Cert.KernelIdeal.Gate
-- ==== Proof.MobaTrip.lean ====
/- One trip of the loop over the earlier key slabs: each pair's running maximum and weighted sum take up the slab. -/
module

public import proofs.«01_k».proof.Proof.MobaGate
public import proofs.«01_k».proof.Proof.Gen.KernelIdeal.Value

@[expose] public section

set_option maxRecDepth 16384

noncomputable section

open Idealize.ShloMosaic Idealize.ShloMosaic.TcCoe Idealize.SL.Sem

namespace Cert.KernelIdeal.Trip

open Cert.KernelIdeal Cert.KernelIdeal.Gen Cert.Moba

variable [Facts]

/-- The slab of 512 rows from `o` on, and the lanes of pair `p`, of an array of one batch. -/
def slab (x : Vec Ideal S1x4096x512 .bf16) (p : Fin 4) (n : Fin 8) : FVec Ideal S512x128 .bf16 :=
  fun y => x (ix3 0 ⟨512 * n.val + (y 0).val, by have : (y 0).val < 512 := (y 0).isLt; omega⟩ ⟨128 * p.val + (y 1).val, by have : (y 1).val < 128 := (y 1).isLt; omega⟩)

/-- A bias tile of a head. -/
def tile (x : Vec Ideal S8x10x256x256 .f32) (h : Fin 8) (k : Fin 10) : FVec Ideal S256x256 .f32 := fun y => x (ix4 h k (y 0) (y 1))

/-- A pair's part of a running state. -/
def part (f : Vec Ideal S4x1024x128 .f32) (p : Fin 4) : FVec Ideal S1024x128 .f32 := fun y => f (ix3 p (y 0) (y 1))

theorem ext2 {n0 n1 : ℕ} {α : Type} {f g : (⟨2, ![n0, n1]⟩ : Shape).Idx → α} (h : ∀ a b, f (ix2 a b) = g (ix2 a b)) : f = g :=
  funext fun y => by rw [eq_ix2 y]; exact h _ _

theorem unlead (X : FVec Ideal S1x512x128 .bf16) (hs) (r : Fin 512) (l : Fin 128) : shapeCast S512x128 X hs (ix2 r l) = X (ix3 0 r l) := by pointwise
theorem unlead' (X : FVec Ideal S1x1024x128 .f32) (hs) (r : Fin 1024) (l : Fin 128) : shapeCast S1024x128 X hs (ix2 r l) = X (ix3 0 r l) := by pointwise
theorem unlead'' (X : FVec Ideal S1x1x256x256 .f32) (hs) (r : Fin 256) (l : Fin 256) : shapeCast S256x256 X hs (ix2 r l) = X (ix4 0 0 r l) := by pointwise

theorem slab_read (arg : Memref sig .tc .vmem S1x4096x512 .bf16) (h : arg.IsWhole) (x : Vec Ideal S1x4096x512 .bf16) (off : Fin 3 → ℕ)
    (hin : ∀ a, off a + S1x512x128.size a ≤ S1x4096x512.size a) (hs) (p : Fin 4) (n : Fin 8) (ho : off = ![0, 512 * n.val, 128 * p.val]) :
    shapeCast S512x128 (View.readAt (Elt Ideal) arg.view (Rect.unit (s := S1x4096x512) off S1x512x128.size hin).toLoadRect (h.unread x)) hs = slab x p n := by
  subst ho
  refine ext2 fun r l => (unlead _ hs r l).trans ?_
  refine (congrFun (congrArg (fun X => View.ld X (Rect.unit (s := S1x4096x512) _ S1x512x128.size hin)) (h.read_unread x)) _).trans ?_
  refine View.ld_unit_apply_of _ _ _ _ _ _ fun a => ?_
  fin_cases a <;> rfl

theorem tile_read (arg : Memref sig .tc .vmem S8x10x256x256 .f32) (h : arg.IsWhole) (x : Vec Ideal S8x10x256x256 .f32) (off : Fin 4 → ℕ)
    (hin : ∀ a, off a + S1x1x256x256.size a ≤ S8x10x256x256.size a) (hs) (hd : Fin 8) (k : Fin 10) (ho : off = ![hd.val, k.val, 0, 0]) :
    shapeCast S256x256 (View.readAt (Elt Ideal) arg.view (Rect.unit (s := S8x10x256x256) off S1x1x256x256.size hin).toLoadRect (h.unread x)) hs = tile x hd k := by
  subst ho
  refine ext2 fun r l => (unlead'' _ hs r l).trans ?_
  refine (congrFun (congrArg (fun X => View.ld X (Rect.unit (s := S8x10x256x256) _ S1x1x256x256.size hin)) (h.read_unread x)) _).trans ?_
  refine View.ld_unit_apply_of _ _ _ _ _ _ fun a => ?_
  fin_cases a <;> simp [ix4]

theorem part_read (arg : Memref sig .tc .vmem S4x1024x128 .f32) (f : BufTy.Contents (Elt Ideal) arg.view.ty) (off : Fin 3 → ℕ)
    (hin : ∀ a, off a + S1x1024x128.size a ≤ S4x1024x128.size a) (hs) (p : Fin 4) (ho : off = ![p.val, 0, 0]) :
    shapeCast S1024x128 (View.readAt (Elt Ideal) arg.view (Rect.unit (s := S4x1024x128) off S1x1024x128.size hin).toLoadRect f) hs
      = part (View.read (Elt Ideal) arg.view f) p := by
  subst ho
  refine ext2 fun r l => (unlead' _ hs r l).trans ?_
  refine View.ld_unit_apply_of (arg.view.read (Elt Ideal) f) _ _ _ _ _ fun a => ?_
  fin_cases a <;> simp [ix3]

/-- The kind of bias tile between a query's half tile and a key's, `d` slabs apart. -/
def kindOf (d a t : ℕ) : ℕ := min (2 * d + a - t) 5

theorem kindOf_lt (d a t : ℕ) : kindOf d a t < 10 := by unfold kindOf; omega

/-- The bias of a slab `d` slabs before the query's: for each head of the pair, 2 by 2 tiles. -/
def biasOf (x : Vec Ideal S8x10x256x256 .f32) (p : Fin 4) (d : ℕ) : FVec Ideal S1024x512 .f32 :=
  let two (h : Fin 8) (a : ℕ) : FVec Ideal S256x512 .f32 :=
    concatenate S256x512 1 [⟨S256x256, tile x h ⟨kindOf d a 0, kindOf_lt d a 0⟩⟩, ⟨S256x256, tile x h ⟨kindOf d a 1, kindOf_lt d a 1⟩⟩]
      concatenates_S256x256_S256x256_S256x512_d1
  concatenate S1024x512 0 [⟨S256x512, two ⟨2 * p.val, by omega⟩ 0⟩, ⟨S256x512, two ⟨2 * p.val, by omega⟩ 1⟩,
    ⟨S256x512, two ⟨2 * p.val + 1, by omega⟩ 0⟩, ⟨S256x512, two ⟨2 * p.val + 1, by omega⟩ 1⟩] concatenates_S256x512_S256x512_S256x512_S256x512_S1024x512_d0

theorem biasOf_at (x p d) (R : Fin 1024) (u : Fin 512) : biasOf x p d (ix2 R u)
    = x (ix4 ⟨2 * p.val + R.val / 512, by omega⟩ ⟨kindOf d (R.val / 256 % 2) (u.val / 256), kindOf_lt _ _ _⟩ ⟨R.val % 256, by omega⟩ ⟨u.val % 256, by omega⟩) := by
  unfold biasOf tile
  pointwise
  have hR := R.isLt
  have hu := u.isLt
  split_ifs
  all_goals
    congr 2
    all_goals first
      | (apply Fin.ext; simp only []; omega)
      | (apply Fin.ext; simp only [kindOf]; omega)

/-- A pair's slab as the body reads it. -/
def slabW (arg : Memref sig .tc .vmem S1x4096x512 .bf16) (off : Fin 3 → ℕ) (hin : ∀ a, off a + S1x512x128.size a ≤ S1x4096x512.size a)
    (X : BufTy.Contents (Elt Ideal) arg.view.ty) : FVec Ideal S512x128 .bf16 :=
  shapeCast S512x128 (View.readAt (Elt Ideal) arg.view (Rect.unit (s := S1x4096x512) off S1x512x128.size hin).toLoadRect X) shapeCasts_S1x512x128_S512x128

/-- A bias tile as the body reads it. -/
def tileW (arg : Memref sig .tc .vmem S8x10x256x256 .f32) (off : Fin 4 → ℕ) (hin : ∀ a, off a + S1x1x256x256.size a ≤ S8x10x256x256.size a)
    (X : BufTy.Contents (Elt Ideal) arg.view.ty) : FVec Ideal S256x256 .f32 :=
  shapeCast S256x256 (View.readAt (Elt Ideal) arg.view (Rect.unit (s := S8x10x256x256) off S1x1x256x256.size hin).toLoadRect X) shapeCasts_S1x1x256x256_S256x256

/-- A pair's running state as the body reads it. -/
def stateW (arg : Memref sig .tc .vmem S4x1024x128 .f32) (off : Fin 3 → ℕ) (hin : ∀ a, off a + S1x1024x128.size a ≤ S4x1024x128.size a)
    (X : BufTy.Contents (Elt Ideal) arg.view.ty) : FVec Ideal S1024x128 .f32 :=
  shapeCast S1024x128 (View.readAt (Elt Ideal) arg.view (Rect.unit (s := S4x1024x128) off S1x1024x128.size hin).toLoadRect X) shapeCasts_S1x1024x128_S1024x128

/-- The offsets of a head's four bias tiles. -/
abbrev Offs := BitVec 32 → BitVec 32 → Fin 4 → ℕ

/-- They stay within the array. -/
abbrev Within (o : Offs) : Prop :=
  ∀ (r₁ : Fin 2) (r₂ : Fin 2), ∀ a, (o (BitVec.ofNat 32 r₁.val) (BitVec.ofNat 32 r₂.val)) a + S1x1x256x256.size a ≤ S8x10x256x256.size a

/-- A pair's bias as the body reads it. -/
def biasW (arg : Memref sig .tc .vmem S8x10x256x256 .f32) (oe oo : Offs) (he : Within oe) (ho : Within oo)
    (X : BufTy.Contents (Elt Ideal) arg.view.ty) : FVec Ideal S1024x512 .f32 :=
  concatenate S1024x512 0 [
    ⟨S256x512, concatenate S256x512 1 [⟨S256x256, tileW arg (oe 0#32 0#32) (he 0 0) X⟩, ⟨S256x256, tileW arg (oe 0#32 1#32) (he 0 1) X⟩] concatenates_S256x256_S256x256_S256x512_d1⟩,
    ⟨S256x512, concatenate S256x512 1 [⟨S256x256, tileW arg (oe 1#32 0#32) (he 1 0) X⟩, ⟨S256x256, tileW arg (oe 1#32 1#32) (he 1 1) X⟩] concatenates_S256x256_S256x256_S256x512_d1⟩,
    ⟨S256x512, concatenate S256x512 1 [⟨S256x256, tileW arg (oo 0#32 0#32) (ho 0 0) X⟩, ⟨S256x256, tileW arg (oo 0#32 1#32) (ho 0 1) X⟩] concatenates_S256x256_S256x256_S256x512_d1⟩,
    ⟨S256x512, concatenate S256x512 1 [⟨S256x256, tileW arg (oo 1#32 0#32) (ho 1 0) X⟩, ⟨S256x256, tileW arg (oo 1#32 1#32) (ho 1 1) X⟩] concatenates_S256x256_S256x256_S256x512_d1⟩]
    concatenates_S256x512_S256x512_S256x512_S256x512_S1024x512_d0

theorem slabW_eq (arg : Memref sig .tc .vmem S1x4096x512 .bf16) (h : arg.IsWhole) (x : Vec Ideal S1x4096x512 .bf16) (off hin) (p : Fin 4) (n : Fin 8)
    (ho : off = ![0, 512 * n.val, 128 * p.val]) : slabW arg off hin (h.unread x) = slab x p n := slab_read arg h x off hin _ p n ho

theorem stateW_eq (arg : Memref sig .tc .vmem S4x1024x128 .f32) (f : BufTy.Contents (Elt Ideal) arg.view.ty) (off hin) (p : Fin 4)
    (ho : off = ![p.val, 0, 0]) : stateW arg off hin f = part (View.read (Elt Ideal) arg.view f) p := part_read arg f off hin _ p ho

section
variable (𝒱 : Variants) (c : Dev nD) (bd : Option 𝒱.V) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (arg2 : BitVec 32) (v2 : IVec S512x128 1) (v191 : FVec Ideal S1024x256 .bf16) (v216 : FVec Ideal S1024x256 .bf16) (v241 : FVec Ideal S1024x256 .bf16) (v266 : FVec Ideal S1024x256 .bf16) (v771 : FVec Ideal S512x128 .f32) (v786 : FVec Ideal S512x128 .f32) (v793 : FVec Ideal S256x128 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (k : Fin (k0_t1_loop i).trips) (f_arg12 : BufTy.Contents (Elt Ideal) arg12.view.ty) (f_arg13 : BufTy.Contents (Elt Ideal) arg13.view.ty)

/-- The scores of a pair in trip `k`, as the body writes them. -/
def scoreW (qq : FVec Ideal S1024x256 .bf16) (off : Fin 3 → ℕ) (hin : ∀ a, off a + S1x512x128.size a ≤ S1x4096x512.size a)
    (oe oo : Offs) (he : Within oe) (ho : Within oo) : FVec Ideal S1024x512 .f32 :=
  Step.score qq (Gate.keys (slabW arg4 off hin X_arg4) (slabW arg5 off hin X_arg5)) (biasW arg10 oe oo he ho X_arg10)

/-- The first list of a trip: the four pairs' running maxima. -/
theorem trip_fst : (tripL_k0_t1 𝒱 c bd i arg3 harg3 arg4 harg4 arg5 harg5 arg6 harg6 arg7 harg7 arg8 harg8 arg9 harg9 arg10 harg10 arg11 harg11 arg12 harg12 arg13 harg13 arg2 v2 v191 v216 v241 v266 v771 v786 v793 X_arg4 X_arg5 X_arg6 X_arg7 X_arg10 k f_arg12 f_arg13).1 = [
    ⟨Rect.unit ![3, 0, 0] S1x1024x128.size inb_S4x1024x128_S1x1024x128_3_0_0, shapeCast S1x1024x128 (Step.newM (scoreW arg4 arg5 arg10 X_arg4 X_arg5 X_arg10 v266
      (k0_off14 i k) (k0_off14_inb i k) (k0_off15 i k) (k0_off16 i k) (k0_off15_inb i k) (k0_off16_inb i k)) (stateW arg12 _ inb_S4x1024x128_S1x1024x128_3_0_0 f_arg12)) shapeCasts_S1024x128_S1x1024x128⟩,
    ⟨Rect.unit ![2, 0, 0] S1x1024x128.size inb_S4x1024x128_S1x1024x128_2_0_0, shapeCast S1x1024x128 (Step.newM (scoreW arg4 arg5 arg10 X_arg4 X_arg5 X_arg10 v241
      (k0_off11 i k) (k0_off11_inb i k) (k0_off12 i k) (k0_off13 i k) (k0_off12_inb i k) (k0_off13_inb i k)) (stateW arg12 _ inb_S4x1024x128_S1x1024x128_2_0_0 f_arg12)) shapeCasts_S1024x128_S1x1024x128⟩,
    ⟨Rect.unit ![1, 0, 0] S1x1024x128.size inb_S4x1024x128_S1x1024x128_1_0_0, shapeCast S1x1024x128 (Step.newM (scoreW arg4 arg5 arg10 X_arg4 X_arg5 X_arg10 v216
      (k0_off8 i k) (k0_off8_inb i k) (k0_off9 i k) (k0_off10 i k) (k0_off9_inb i k) (k0_off10_inb i k)) (stateW arg12 _ inb_S4x1024x128_S1x1024x128_1_0_0 f_arg12)) shapeCasts_S1024x128_S1x1024x128⟩,
    ⟨Rect.unit ![0, 0, 0] S1x1024x128.size inb_S4x1024x128_S1x1024x128_0_0_0, shapeCast S1x1024x128 (Step.newM (scoreW arg4 arg5 arg10 X_arg4 X_arg5 X_arg10 v191
      (k0_off5 i k) (k0_off5_inb i k) (k0_off6 i k) (k0_off7 i k) (k0_off6_inb i k) (k0_off7_inb i k)) (stateW arg12 _ inb_S4x1024x128_S1x1024x128_0_0_0 f_arg12)) shapeCasts_S1024x128_S1x1024x128⟩] := by
  unfold tripL_k0_t1 trip_k0_t1
  dsimp only
  rfl

/-- The second list of a trip: the four pairs' running weighted sums. -/
theorem trip_snd : (tripL_k0_t1 𝒱 c bd i arg3 harg3 arg4 harg4 arg5 harg5 arg6 harg6 arg7 harg7 arg8 harg8 arg9 harg9 arg10 harg10 arg11 harg11 arg12 harg12 arg13 harg13 arg2 v2 v191 v216 v241 v266 v771 v786 v793 X_arg4 X_arg5 X_arg6 X_arg7 X_arg10 k f_arg12 f_arg13).2 = [
    ⟨Rect.unit ![3, 0, 0] S1x1024x128.size inb_S4x1024x128_S1x1024x128_3_0_0, shapeCast S1x1024x128 (Step.newA (scoreW arg4 arg5 arg10 X_arg4 X_arg5 X_arg10 v266
      (k0_off14 i k) (k0_off14_inb i k) (k0_off15 i k) (k0_off16 i k) (k0_off15_inb i k) (k0_off16_inb i k)) (stateW arg12 _ inb_S4x1024x128_S1x1024x128_3_0_0 f_arg12)
      (Step.newM (scoreW arg4 arg5 arg10 X_arg4 X_arg5 X_arg10 v266
      (k0_off14 i k) (k0_off14_inb i k) (k0_off15 i k) (k0_off16 i k) (k0_off15_inb i k) (k0_off16_inb i k)) (stateW arg12 _ inb_S4x1024x128_S1x1024x128_3_0_0 f_arg12))
      (stateW arg13 _ inb_S4x1024x128_S1x1024x128_3_0_0 f_arg13) (slabW arg6 (k0_off14 i k) (k0_off14_inb i k) X_arg6) (slabW arg7 (k0_off14 i k) (k0_off14_inb i k) X_arg7))
      shapeCasts_S1024x128_S1x1024x128⟩,
    ⟨Rect.unit ![2, 0, 0] S1x1024x128.size inb_S4x1024x128_S1x1024x128_2_0_0, shapeCast S1x1024x128 (Step.newA (scoreW arg4 arg5 arg10 X_arg4 X_arg5 X_arg10 v241
      (k0_off11 i k) (k0_off11_inb i k) (k0_off12 i k) (k0_off13 i k) (k0_off12_inb i k) (k0_off13_inb i k)) (stateW arg12 _ inb_S4x1024x128_S1x1024x128_2_0_0 f_arg12)
      (Step.newM (scoreW arg4 arg5 arg10 X_arg4 X_arg5 X_arg10 v241
      (k0_off11 i k) (k0_off11_inb i k) (k0_off12 i k) (k0_off13 i k) (k0_off12_inb i k) (k0_off13_inb i k)) (stateW arg12 _ inb_S4x1024x128_S1x1024x128_2_0_0 f_arg12))
      (stateW arg13 _ inb_S4x1024x128_S1x1024x128_2_0_0 f_arg13) (slabW arg6 (k0_off11 i k) (k0_off11_inb i k) X_arg6) (slabW arg7 (k0_off11 i k) (k0_off11_inb i k) X_arg7))
      shapeCasts_S1024x128_S1x1024x128⟩,
    ⟨Rect.unit ![1, 0, 0] S1x1024x128.size inb_S4x1024x128_S1x1024x128_1_0_0, shapeCast S1x1024x128 (Step.newA (scoreW arg4 arg5 arg10 X_arg4 X_arg5 X_arg10 v216
      (k0_off8 i k) (k0_off8_inb i k) (k0_off9 i k) (k0_off10 i k) (k0_off9_inb i k) (k0_off10_inb i k)) (stateW arg12 _ inb_S4x1024x128_S1x1024x128_1_0_0 f_arg12)
      (Step.newM (scoreW arg4 arg5 arg10 X_arg4 X_arg5 X_arg10 v216
      (k0_off8 i k) (k0_off8_inb i k) (k0_off9 i k) (k0_off10 i k) (k0_off9_inb i k) (k0_off10_inb i k)) (stateW arg12 _ inb_S4x1024x128_S1x1024x128_1_0_0 f_arg12))
      (stateW arg13 _ inb_S4x1024x128_S1x1024x128_1_0_0 f_arg13) (slabW arg6 (k0_off8 i k) (k0_off8_inb i k) X_arg6) (slabW arg7 (k0_off8 i k) (k0_off8_inb i k) X_arg7))
      shapeCasts_S1024x128_S1x1024x128⟩,
    ⟨Rect.unit ![0, 0, 0] S1x1024x128.size inb_S4x1024x128_S1x1024x128_0_0_0, shapeCast S1x1024x128 (Step.newA (scoreW arg4 arg5 arg10 X_arg4 X_arg5 X_arg10 v191
      (k0_off5 i k) (k0_off5_inb i k) (k0_off6 i k) (k0_off7 i k) (k0_off6_inb i k) (k0_off7_inb i k)) (stateW arg12 _ inb_S4x1024x128_S1x1024x128_0_0_0 f_arg12)
      (Step.newM (scoreW arg4 arg5 arg10 X_arg4 X_arg5 X_arg10 v191
      (k0_off5 i k) (k0_off5_inb i k) (k0_off6 i k) (k0_off7 i k) (k0_off6_inb i k) (k0_off7_inb i k)) (stateW arg12 _ inb_S4x1024x128_S1x1024x128_0_0_0 f_arg12))
      (stateW arg13 _ inb_S4x1024x128_S1x1024x128_0_0_0 f_arg13) (slabW arg6 (k0_off5 i k) (k0_off5_inb i k) X_arg6) (slabW arg7 (k0_off5 i k) (k0_off5_inb i k) X_arg7))
      shapeCasts_S1024x128_S1x1024x128⟩] := by
  unfold tripL_k0_t1 trip_k0_t1
  dsimp only
  rfl

end

/-! The offsets. -/

/-- The kind of tile as the body computes it. -/
def kindWord (I K : ℕ) (a t : BitVec 32) : BitVec 32 :=
  let v := Scalar.subi (Scalar.addi (Scalar.muli (2#32) (Scalar.subi (BitVec.ofNat 32 I) (Scf.iv 0#32 1#32 K))) a) t
  Scalar.select (Scalar.cmpi .sge v 0#32) (Scalar.minsi v 5#32) 9#32

theorem kindWord_toNat : ∀ I K : Fin 8, K < I → ∀ a t : Fin 2,
    (kindWord I.val K.val (BitVec.ofNat 32 a.val) (BitVec.ofNat 32 t.val)).toNat = kindOf (I.val - K.val) a.val t.val := by decide

theorem row_word : ∀ K : Fin 8, (Scalar.muli (Scf.iv 0#32 1#32 K.val) 512#32).toNat = 512 * K.val := by decide

theorem trips_eq : ∀ I : Fin 8, (⟨0#32, Scalar.addi 0#32 (Scalar.muli (Scalar.divsi (Scalar.subi (BitVec.ofNat 32 I.val) 0#32) 1#32) 1#32), 1#32⟩ : Scf.Loop 32).trips = I.val := by
  decide

/-- The loop has as many trips as there are slabs before the query's. -/
theorem trips (i : grid0.Coords) : (k0_t1_loop i).trips = (i 2).val := trips_eq (i 2)

theorem trip_lt (i : grid0.Coords) (k : Fin (k0_t1_loop i).trips) : k.val < (i 2).val := lt_of_lt_of_eq k.isLt (trips i)

/-- A trip's slab. -/
def at8 (i : grid0.Coords) (k : Fin (k0_t1_loop i).trips) : Fin 8 := ⟨k.val, (trip_lt i k).trans (i 2).isLt⟩

/-! The reads at the arguments' values. -/

theorem bias_read (arg : Memref sig .tc .vmem S8x10x256x256 .f32) (h : arg.IsWhole) (x : Vec Ideal S8x10x256x256 .f32) (oe oo : Offs) (he ho)
    (p : Fin 4) (d : ℕ)
    (hoe : ∀ a t : Fin 2, oe (BitVec.ofNat 32 a.val) (BitVec.ofNat 32 t.val) = ![2 * p.val, kindOf d a.val t.val, 0, 0])
    (hoo : ∀ a t : Fin 2, oo (BitVec.ofNat 32 a.val) (BitVec.ofNat 32 t.val) = ![2 * p.val + 1, kindOf d a.val t.val, 0, 0]) :
    biasW arg oe oo he ho (h.unread x) = biasOf x p d := by
  unfold biasW tileW
  rw [tile_read arg h x (oe 0#32 0#32) _ _ ⟨2 * p.val, by omega⟩ ⟨kindOf d 0 0, kindOf_lt _ _ _⟩ (hoe 0 0),
    tile_read arg h x (oe 0#32 1#32) _ _ ⟨2 * p.val, by omega⟩ ⟨kindOf d 0 1, kindOf_lt _ _ _⟩ (hoe 0 1),
    tile_read arg h x (oe 1#32 0#32) _ _ ⟨2 * p.val, by omega⟩ ⟨kindOf d 1 0, kindOf_lt _ _ _⟩ (hoe 1 0),
    tile_read arg h x (oe 1#32 1#32) _ _ ⟨2 * p.val, by omega⟩ ⟨kindOf d 1 1, kindOf_lt _ _ _⟩ (hoe 1 1),
    tile_read arg h x (oo 0#32 0#32) _ _ ⟨2 * p.val + 1, by omega⟩ ⟨kindOf d 0 0, kindOf_lt _ _ _⟩ (hoo 0 0),
    tile_read arg h x (oo 0#32 1#32) _ _ ⟨2 * p.val + 1, by omega⟩ ⟨kindOf d 0 1, kindOf_lt _ _ _⟩ (hoo 0 1),
    tile_read arg h x (oo 1#32 0#32) _ _ ⟨2 * p.val + 1, by omega⟩ ⟨kindOf d 1 0, kindOf_lt _ _ _⟩ (hoo 1 0),
    tile_read arg h x (oo 1#32 1#32) _ _ ⟨2 * p.val + 1, by omega⟩ ⟨kindOf d 1 1, kindOf_lt _ _ _⟩ (hoo 1 1)]
  rfl

/-- A pair's scores against slab `n`, `d` slabs before the query's. -/
def scores (x1 x2 : Vec Ideal S1x4096x512 .bf16) (x7 : Vec Ideal S8x10x256x256 .f32) (qq : FVec Ideal S1024x256 .bf16) (n : Fin 8) (d : ℕ) (p : Fin 4) :
    FVec Ideal S1024x512 .f32 := Step.score qq (Gate.keys (slab x1 p n) (slab x2 p n)) (biasOf x7 p d)

theorem scoreW_eq (arg4 : Memref sig .tc .vmem S1x4096x512 .bf16) (harg4 : arg4.IsWhole) (arg5 : Memref sig .tc .vmem S1x4096x512 .bf16) (harg5 : arg5.IsWhole)
    (arg10 : Memref sig .tc .vmem S8x10x256x256 .f32) (harg10 : arg10.IsWhole) (x1 x2 : Vec Ideal S1x4096x512 .bf16) (x7 : Vec Ideal S8x10x256x256 .f32)
    (qq : FVec Ideal S1024x256 .bf16) (off hin oe oo he ho) (p : Fin 4) (n : Fin 8) (d : ℕ) (hoff : off = ![0, 512 * n.val, 128 * p.val])
    (hoe : ∀ a t : Fin 2, oe (BitVec.ofNat 32 a.val) (BitVec.ofNat 32 t.val) = ![2 * p.val, kindOf d a.val t.val, 0, 0])
    (hoo : ∀ a t : Fin 2, oo (BitVec.ofNat 32 a.val) (BitVec.ofNat 32 t.val) = ![2 * p.val + 1, kindOf d a.val t.val, 0, 0]) :
    scoreW arg4 arg5 arg10 (harg4.unread x1) (harg5.unread x2) (harg10.unread x7) qq off hin oe oo he ho = scores x1 x2 x7 qq n d p := by
  unfold scoreW scores
  rw [bias_read arg10 harg10 x7 oe oo he ho p d hoe hoo, slabW, slabW, slab_read arg4 harg4 x1 off hin _ p n hoff, slab_read arg5 harg5 x2 off hin _ p n hoff]

/-- The whole state from the four pairs' parts. -/
def join (W : Fin 4 → FVec Ideal S1024x128 .f32) : Vec Ideal S4x1024x128 .f32 := fun z => W (z 0) (ix2 (z 1) (z 2))

theorem part_join (W) (p : Fin 4) : part (join W) p = W p := ext2 fun _ _ => rfl

theorem relead (X : FVec Ideal S1024x128 .f32) (hs) (r : Fin 1024) (l : Fin 128) : shapeCast S1x1024x128 X hs (ix3 0 r l) = X (ix2 r l) := by pointwise

theorem emb_part (p : Fin 4) (off : Fin 3 → ℕ) (hin : ∀ a, off a + S1x1024x128.size a ≤ S4x1024x128.size a) (ho : off = ![p.val, 0, 0]) (r : Fin 1024) (l : Fin 128) :
    (Rect.unit (s := S4x1024x128) off S1x1024x128.size hin).emb (ix3 0 r l) = ix3 p r l := by
  subst ho
  funext a
  apply Fin.ext
  fin_cases a <;> simp [Rect.emb_apply, Rect.idx_unit_val, ix3]

theorem idx1 (x : S1x1024x128.Idx) : ∃ (r : Fin 1024) (l : Fin 128), x = ix3 0 r l := by
  refine ⟨x 1, x 2, ?_⟩
  funext a
  fin_cases a
  · exact Subsingleton.elim (α := Fin 1) _ _
  · rfl
  · rfl

/-- Four writes, of a pair each, are the whole state. -/
theorem state_of_pieces (v : Memref sig .tc .vmem S4x1024x128 .f32) (f : BufTy.Contents (Elt Ideal) v.view.ty) (W : Fin 4 → FVec Ideal S1024x128 .f32) :
    View.read (Elt Ideal) v.view (v.view.writes (Elt Ideal) f [
      ⟨Rect.unit ![3, 0, 0] S1x1024x128.size inb_S4x1024x128_S1x1024x128_3_0_0, shapeCast S1x1024x128 (W 3) shapeCasts_S1024x128_S1x1024x128⟩,
      ⟨Rect.unit ![2, 0, 0] S1x1024x128.size inb_S4x1024x128_S1x1024x128_2_0_0, shapeCast S1x1024x128 (W 2) shapeCasts_S1024x128_S1x1024x128⟩,
      ⟨Rect.unit ![1, 0, 0] S1x1024x128.size inb_S4x1024x128_S1x1024x128_1_0_0, shapeCast S1x1024x128 (W 1) shapeCasts_S1024x128_S1x1024x128⟩,
      ⟨Rect.unit ![0, 0, 0] S1x1024x128.size inb_S4x1024x128_S1x1024x128_0_0_0, shapeCast S1x1024x128 (W 0) shapeCasts_S1024x128_S1x1024x128⟩]) = join W := by
  have key (p : Fin 4) (off) (hin) (ho : off = ![p.val, 0, 0]) (x : S1x1024x128.Idx) :
      shapeCast S1x1024x128 (W p) shapeCasts_S1024x128_S1x1024x128 x = join W ((Rect.unit (s := S4x1024x128) off S1x1024x128.size hin).emb x) := by
    obtain ⟨r, l, rfl⟩ := idx1 x
    rw [relead]
    exact (congrArg (join W) (emb_part p off hin ho r l)).symm
  have mem (p : Fin 4) (off) (hin) (ho : off = ![p.val, 0, 0]) (y : S4x1024x128.Idx) (hy : (y 0).val = p.val) :
      y ∈ (Rect.unit (s := S4x1024x128) off S1x1024x128.size hin).set := by
    subst ho
    refine Rect.mem_set_unit.mpr fun a => ?_
    have h1 : (y 1).val < 1024 := (y 1).isLt
    have h2 : (y 2).val < 128 := (y 2).isLt
    fin_cases a
    · exact ⟨hy.ge, by show (y 0).val < p.val + 1; omega⟩
    · exact ⟨Nat.zero_le _, by show (y 1).val < 0 + 1024; omega⟩
    · exact ⟨Nat.zero_le _, by show (y 2).val < 0 + 128; omega⟩
  have cover (y : S4x1024x128.Idx) : ∃ p ∈ ([
      ⟨Rect.unit ![3, 0, 0] S1x1024x128.size inb_S4x1024x128_S1x1024x128_3_0_0, shapeCast S1x1024x128 (W 3) shapeCasts_S1024x128_S1x1024x128⟩,
      ⟨Rect.unit ![2, 0, 0] S1x1024x128.size inb_S4x1024x128_S1x1024x128_2_0_0, shapeCast S1x1024x128 (W 2) shapeCasts_S1024x128_S1x1024x128⟩,
      ⟨Rect.unit ![1, 0, 0] S1x1024x128.size inb_S4x1024x128_S1x1024x128_1_0_0, shapeCast S1x1024x128 (W 1) shapeCasts_S1024x128_S1x1024x128⟩,
      ⟨Rect.unit ![0, 0, 0] S1x1024x128.size inb_S4x1024x128_S1x1024x128_0_0_0, shapeCast S1x1024x128 (W 0) shapeCasts_S1024x128_S1x1024x128⟩] : List (View.Piece (Elt Ideal) S4x1024x128 .f32)),
      y ∈ p.1.set := by
    have h0 : (y 0).val < 4 := (y 0).isLt
    rcases (by omega : (y 0).val = 3 ∨ (y 0).val = 2 ∨ (y 0).val = 1 ∨ (y 0).val = 0) with h | h | h | h
    · exact ⟨_, List.mem_cons_self, mem 3 ![3, 0, 0] inb_S4x1024x128_S1x1024x128_3_0_0 rfl y h⟩
    · exact ⟨_, List.mem_cons_of_mem _ List.mem_cons_self, mem 2 ![2, 0, 0] inb_S4x1024x128_S1x1024x128_2_0_0 rfl y h⟩
    · exact ⟨_, List.mem_cons_of_mem _ (List.mem_cons_of_mem _ List.mem_cons_self), mem 1 ![1, 0, 0] inb_S4x1024x128_S1x1024x128_1_0_0 rfl y h⟩
    · exact ⟨_, List.mem_cons_of_mem _ (List.mem_cons_of_mem _ (List.mem_cons_of_mem _ List.mem_cons_self)), mem 0 ![0, 0, 0] inb_S4x1024x128_S1x1024x128_0_0_0 rfl y h⟩
  refine (View.read_writes_eq_canon _ _ _ cover).trans (funext fun y => View.canon_apply_of_pieces (join W) _ ?_ y (cover y))
  intro p hp
  simp only [List.mem_cons, List.not_mem_nil, or_false] at hp
  rcases hp with rfl | rfl | rfl | rfl
  · exact key 3 ![3, 0, 0] inb_S4x1024x128_S1x1024x128_3_0_0 rfl
  · exact key 2 ![2, 0, 0] inb_S4x1024x128_S1x1024x128_2_0_0 rfl
  · exact key 1 ![1, 0, 0] inb_S4x1024x128_S1x1024x128_1_0_0 rfl
  · exact key 0 ![0, 0, 0] inb_S4x1024x128_S1x1024x128_0_0_0 rfl

section
variable (𝒱 : Variants) (c : Dev nD) (bd : Option 𝒱.V) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (arg2 : BitVec 32) (v2 : IVec S512x128 1) (v191 : FVec Ideal S1024x256 .bf16) (v216 : FVec Ideal S1024x256 .bf16) (v241 : FVec Ideal S1024x256 .bf16) (v266 : FVec Ideal S1024x256 .bf16) (v771 : FVec Ideal S512x128 .f32) (v786 : FVec Ideal S512x128 .f32) (v793 : FVec Ideal S256x128 .f32) (x1 x2 x3 x4 : Vec Ideal S1x4096x512 .bf16) (x7 : Vec Ideal S8x10x256x256 .f32) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg10 : BufTy.Contents (Elt Ideal) arg10.view.ty) (k : Fin (k0_t1_loop i).trips) (f_arg12 : BufTy.Contents (Elt Ideal) arg12.view.ty) (f_arg13 : BufTy.Contents (Elt Ideal) arg13.view.ty)

/-- The running maxima after a trip from running maxima `M`. -/
def stepM (x1 x2 : Vec Ideal S1x4096x512 .bf16) (x7 : Vec Ideal S8x10x256x256 .f32) (qq : Fin 4 → FVec Ideal S1024x256 .bf16) (n : Fin 8) (d : ℕ)
    (M : Vec Ideal S4x1024x128 .f32) : Vec Ideal S4x1024x128 .f32 :=
  join fun p => Step.newM (scores x1 x2 x7 (qq p) n d p) (part M p)

/-- The running weighted sums after a trip. -/
def stepA (x1 x2 x3 x4 : Vec Ideal S1x4096x512 .bf16) (x7 : Vec Ideal S8x10x256x256 .f32) (qq : Fin 4 → FVec Ideal S1024x256 .bf16) (n : Fin 8) (d : ℕ)
    (M A : Vec Ideal S4x1024x128 .f32) : Vec Ideal S4x1024x128 .f32 :=
  join fun p => Step.newA (scores x1 x2 x7 (qq p) n d p) (part M p) (Step.newM (scores x1 x2 x7 (qq p) n d p) (part M p)) (part A p) (slab x3 p n) (slab x4 p n)

theorem row_off (k : Fin (k0_t1_loop i).trips) : (Scalar.muli (Scf.iv 0#32 1#32 k.val) 512#32).toNat = 512 * k.val := row_word (at8 i k)

theorem kind_off (k : Fin (k0_t1_loop i).trips) (a t : Fin 2) :
    (kindWord (i 2).val k.val (BitVec.ofNat 32 a.val) (BitVec.ofNat 32 t.val)).toNat = kindOf ((i 2).val - k.val) a.val t.val :=
  kindWord_toNat (i 2) (at8 i k) (trip_lt i k) a t

theorem off5 (k : Fin (k0_t1_loop i).trips) : k0_off5 i k = ![0, 512 * (at8 i k).val, 128 * (0 : Fin 4).val] := by
  rw [show k0_off5 i k = ![0, (Scalar.muli (Scf.iv 0#32 1#32 k.val) 512#32).toNat, 0] from rfl, row_off]; rfl
theorem off8 (k : Fin (k0_t1_loop i).trips) : k0_off8 i k = ![0, 512 * (at8 i k).val, 128 * (1 : Fin 4).val] := by
  rw [show k0_off8 i k = ![0, (Scalar.muli (Scf.iv 0#32 1#32 k.val) 512#32).toNat, 128] from rfl, row_off]; rfl
theorem off11 (k : Fin (k0_t1_loop i).trips) : k0_off11 i k = ![0, 512 * (at8 i k).val, 128 * (2 : Fin 4).val] := by
  rw [show k0_off11 i k = ![0, (Scalar.muli (Scf.iv 0#32 1#32 k.val) 512#32).toNat, 256] from rfl, row_off]; rfl
theorem off14 (k : Fin (k0_t1_loop i).trips) : k0_off14 i k = ![0, 512 * (at8 i k).val, 128 * (3 : Fin 4).val] := by
  rw [show k0_off14 i k = ![0, (Scalar.muli (Scf.iv 0#32 1#32 k.val) 512#32).toNat, 384] from rfl, row_off]; rfl
theorem off6 (k : Fin (k0_t1_loop i).trips) (a t : Fin 2) : k0_off6 i k (BitVec.ofNat 32 a.val) (BitVec.ofNat 32 t.val)
    = ![2 * (0 : Fin 4).val, kindOf ((i 2).val - k.val) a.val t.val, 0, 0] := by
  rw [show k0_off6 i k (BitVec.ofNat 32 a.val) (BitVec.ofNat 32 t.val) = ![0, (kindWord (i 2).val k.val (BitVec.ofNat 32 a.val) (BitVec.ofNat 32 t.val)).toNat, 0, 0] from rfl,
    kind_off]; rfl
theorem off7 (k : Fin (k0_t1_loop i).trips) (a t : Fin 2) : k0_off7 i k (BitVec.ofNat 32 a.val) (BitVec.ofNat 32 t.val)
    = ![2 * (0 : Fin 4).val + 1, kindOf ((i 2).val - k.val) a.val t.val, 0, 0] := by
  rw [show k0_off7 i k (BitVec.ofNat 32 a.val) (BitVec.ofNat 32 t.val) = ![1, (kindWord (i 2).val k.val (BitVec.ofNat 32 a.val) (BitVec.ofNat 32 t.val)).toNat, 0, 0] from rfl,
    kind_off]; rfl
theorem off9 (k : Fin (k0_t1_loop i).trips) (a t : Fin 2) : k0_off9 i k (BitVec.ofNat 32 a.val) (BitVec.ofNat 32 t.val)
    = ![2 * (1 : Fin 4).val, kindOf ((i 2).val - k.val) a.val t.val, 0, 0] := by
  rw [show k0_off9 i k (BitVec.ofNat 32 a.val) (BitVec.ofNat 32 t.val) = ![2, (kindWord (i 2).val k.val (BitVec.ofNat 32 a.val) (BitVec.ofNat 32 t.val)).toNat, 0, 0] from rfl,
    kind_off]; rfl
theorem off10 (k : Fin (k0_t1_loop i).trips) (a t : Fin 2) : k0_off10 i k (BitVec.ofNat 32 a.val) (BitVec.ofNat 32 t.val)
    = ![2 * (1 : Fin 4).val + 1, kindOf ((i 2).val - k.val) a.val t.val, 0, 0] := by
  rw [show k0_off10 i k (BitVec.ofNat 32 a.val) (BitVec.ofNat 32 t.val) = ![3, (kindWord (i 2).val k.val (BitVec.ofNat 32 a.val) (BitVec.ofNat 32 t.val)).toNat, 0, 0] from rfl,
    kind_off]; rfl
theorem off12 (k : Fin (k0_t1_loop i).trips) (a t : Fin 2) : k0_off12 i k (BitVec.ofNat 32 a.val) (BitVec.ofNat 32 t.val)
    = ![2 * (2 : Fin 4).val, kindOf ((i 2).val - k.val) a.val t.val, 0, 0] := by
  rw [show k0_off12 i k (BitVec.ofNat 32 a.val) (BitVec.ofNat 32 t.val) = ![4, (kindWord (i 2).val k.val (BitVec.ofNat 32 a.val) (BitVec.ofNat 32 t.val)).toNat, 0, 0] from rfl,
    kind_off]; rfl
theorem off13 (k : Fin (k0_t1_loop i).trips) (a t : Fin 2) : k0_off13 i k (BitVec.ofNat 32 a.val) (BitVec.ofNat 32 t.val)
    = ![2 * (2 : Fin 4).val + 1, kindOf ((i 2).val - k.val) a.val t.val, 0, 0] := by
  rw [show k0_off13 i k (BitVec.ofNat 32 a.val) (BitVec.ofNat 32 t.val) = ![5, (kindWord (i 2).val k.val (BitVec.ofNat 32 a.val) (BitVec.ofNat 32 t.val)).toNat, 0, 0] from rfl,
    kind_off]; rfl
theorem off15 (k : Fin (k0_t1_loop i).trips) (a t : Fin 2) : k0_off15 i k (BitVec.ofNat 32 a.val) (BitVec.ofNat 32 t.val)
    = ![2 * (3 : Fin 4).val, kindOf ((i 2).val - k.val) a.val t.val, 0, 0] := by
  rw [show k0_off15 i k (BitVec.ofNat 32 a.val) (BitVec.ofNat 32 t.val) = ![6, (kindWord (i 2).val k.val (BitVec.ofNat 32 a.val) (BitVec.ofNat 32 t.val)).toNat, 0, 0] from rfl,
    kind_off]; rfl
theorem off16 (k : Fin (k0_t1_loop i).trips) (a t : Fin 2) : k0_off16 i k (BitVec.ofNat 32 a.val) (BitVec.ofNat 32 t.val)
    = ![2 * (3 : Fin 4).val + 1, kindOf ((i 2).val - k.val) a.val t.val, 0, 0] := by
  rw [show k0_off16 i k (BitVec.ofNat 32 a.val) (BitVec.ofNat 32 t.val) = ![7, (kindWord (i 2).val k.val (BitVec.ofNat 32 a.val) (BitVec.ofNat 32 t.val)).toNat, 0, 0] from rfl,
    kind_off]; rfl

/-- A trip's writes, read back: the maxima. -/
theorem trip_M (f : BufTy.Contents (Elt Ideal) arg12.view.ty) :
    View.read (Elt Ideal) arg12.view (arg12.view.writes (Elt Ideal) f (tripL_k0_t1 𝒱 c bd i arg3 harg3 arg4 harg4 arg5 harg5 arg6 harg6 arg7 harg7 arg8 harg8 arg9 harg9 arg10 harg10 arg11 harg11 arg12 harg12 arg13 harg13 arg2 v2 v191 v216 v241 v266 v771 v786 v793 (harg4.unread x1) (harg5.unread x2) (harg6.unread x3) (harg7.unread x4) (harg10.unread x7) k f_arg12 f_arg13).1)
      = stepM x1 x2 x7 ![v191, v216, v241, v266] (at8 i k) ((i 2).val - k.val) (View.read (Elt Ideal) arg12.view f_arg12) := by
  rw [trip_fst,
    scoreW_eq arg4 harg4 arg5 harg5 arg10 harg10 x1 x2 x7 v191 _ _ _ _ _ _ 0 (at8 i k) ((i 2).val - k.val) (off5 i k) (off6 i k) (off7 i k),
    scoreW_eq arg4 harg4 arg5 harg5 arg10 harg10 x1 x2 x7 v216 _ _ _ _ _ _ 1 (at8 i k) ((i 2).val - k.val) (off8 i k) (off9 i k) (off10 i k),
    scoreW_eq arg4 harg4 arg5 harg5 arg10 harg10 x1 x2 x7 v241 _ _ _ _ _ _ 2 (at8 i k) ((i 2).val - k.val) (off11 i k) (off12 i k) (off13 i k),
    scoreW_eq arg4 harg4 arg5 harg5 arg10 harg10 x1 x2 x7 v266 _ _ _ _ _ _ 3 (at8 i k) ((i 2).val - k.val) (off14 i k) (off15 i k) (off16 i k),
    stateW_eq arg12 f_arg12 ![0, 0, 0] inb_S4x1024x128_S1x1024x128_0_0_0 0 rfl, stateW_eq arg12 f_arg12 ![1, 0, 0] inb_S4x1024x128_S1x1024x128_1_0_0 1 rfl, stateW_eq arg12 f_arg12 ![2, 0, 0] inb_S4x1024x128_S1x1024x128_2_0_0 2 rfl, stateW_eq arg12 f_arg12 ![3, 0, 0] inb_S4x1024x128_S1x1024x128_3_0_0 3 rfl]
  exact state_of_pieces arg12 f fun p => Step.newM (scores x1 x2 x7 (![v191, v216, v241, v266] p) (at8 i k) ((i 2).val - k.val) p) (part (View.read (Elt Ideal) arg12.view f_arg12) p)

/-- A trip's writes, read back: the weighted sums. -/
theorem trip_A (f : BufTy.Contents (Elt Ideal) arg13.view.ty) :
    View.read (Elt Ideal) arg13.view (arg13.view.writes (Elt Ideal) f (tripL_k0_t1 𝒱 c bd i arg3 harg3 arg4 harg4 arg5 harg5 arg6 harg6 arg7 harg7 arg8 harg8 arg9 harg9 arg10 harg10 arg11 harg11 arg12 harg12 arg13 harg13 arg2 v2 v191 v216 v241 v266 v771 v786 v793 (harg4.unread x1) (harg5.unread x2) (harg6.unread x3) (harg7.unread x4) (harg10.unread x7) k f_arg12 f_arg13).2)
      = stepA x1 x2 x3 x4 x7 ![v191, v216, v241, v266] (at8 i k) ((i 2).val - k.val) (View.read (Elt Ideal) arg12.view f_arg12) (View.read (Elt Ideal) arg13.view f_arg13) := by
  rw [trip_snd,
    scoreW_eq arg4 harg4 arg5 harg5 arg10 harg10 x1 x2 x7 v191 _ _ _ _ _ _ 0 (at8 i k) ((i 2).val - k.val) (off5 i k) (off6 i k) (off7 i k),
    scoreW_eq arg4 harg4 arg5 harg5 arg10 harg10 x1 x2 x7 v216 _ _ _ _ _ _ 1 (at8 i k) ((i 2).val - k.val) (off8 i k) (off9 i k) (off10 i k),
    scoreW_eq arg4 harg4 arg5 harg5 arg10 harg10 x1 x2 x7 v241 _ _ _ _ _ _ 2 (at8 i k) ((i 2).val - k.val) (off11 i k) (off12 i k) (off13 i k),
    scoreW_eq arg4 harg4 arg5 harg5 arg10 harg10 x1 x2 x7 v266 _ _ _ _ _ _ 3 (at8 i k) ((i 2).val - k.val) (off14 i k) (off15 i k) (off16 i k),
    stateW_eq arg12 f_arg12 ![0, 0, 0] inb_S4x1024x128_S1x1024x128_0_0_0 0 rfl, stateW_eq arg12 f_arg12 ![1, 0, 0] inb_S4x1024x128_S1x1024x128_1_0_0 1 rfl, stateW_eq arg12 f_arg12 ![2, 0, 0] inb_S4x1024x128_S1x1024x128_2_0_0 2 rfl, stateW_eq arg12 f_arg12 ![3, 0, 0] inb_S4x1024x128_S1x1024x128_3_0_0 3 rfl,
    stateW_eq arg13 f_arg13 ![0, 0, 0] inb_S4x1024x128_S1x1024x128_0_0_0 0 rfl, stateW_eq arg13 f_arg13 ![1, 0, 0] inb_S4x1024x128_S1x1024x128_1_0_0 1 rfl, stateW_eq arg13 f_arg13 ![2, 0, 0] inb_S4x1024x128_S1x1024x128_2_0_0 2 rfl, stateW_eq arg13 f_arg13 ![3, 0, 0] inb_S4x1024x128_S1x1024x128_3_0_0 3 rfl,
    slabW_eq arg6 harg6 x3 _ _ 0 (at8 i k) (off5 i k), slabW_eq arg6 harg6 x3 _ _ 1 (at8 i k) (off8 i k), slabW_eq arg6 harg6 x3 _ _ 2 (at8 i k) (off11 i k), slabW_eq arg6 harg6 x3 _ _ 3 (at8 i k) (off14 i k),
    slabW_eq arg7 harg7 x4 _ _ 0 (at8 i k) (off5 i k), slabW_eq arg7 harg7 x4 _ _ 1 (at8 i k) (off8 i k), slabW_eq arg7 harg7 x4 _ _ 2 (at8 i k) (off11 i k), slabW_eq arg7 harg7 x4 _ _ 3 (at8 i k) (off14 i k)]
  exact state_of_pieces arg13 f fun p => Step.newA (scores x1 x2 x7 (![v191, v216, v241, v266] p) (at8 i k) ((i 2).val - k.val) p) (part (View.read (Elt Ideal) arg12.view f_arg12) p)
    (Step.newM (scores x1 x2 x7 (![v191, v216, v241, v266] p) (at8 i k) ((i 2).val - k.val) p) (part (View.read (Elt Ideal) arg12.view f_arg12) p))
    (part (View.read (Elt Ideal) arg13.view f_arg13) p) (slab x3 p (at8 i k)) (slab x4 p (at8 i k))

end

end Cert.KernelIdeal.Trip
-- ==== Proof.MobaDiag.lean ====
/- The first trip, over the query's own slab: the pieces that it stores, and what they say together. -/
module

public import proofs.«01_k».proof.Proof.MobaTrip

@[expose] public section

set_option maxRecDepth 16384

noncomputable section

open Idealize.ShloMosaic Idealize.ShloMosaic.TcCoe Idealize.SL.Sem

namespace Cert.KernelIdeal.Diag

open Cert.KernelIdeal Cert.KernelIdeal.Gen Cert.Moba Cert.KernelIdeal.Trip

variable [Facts]

/-- The 256 rows from `offr` of a pair. -/
def dRect (offp : Fin 3 → ℕ) (hp : ∀ a, offp a + S1x1024x128.size a ≤ S4x1024x128.size a) (offr : Fin 2 → ℕ)
    (hr : ∀ a, offr a + S256x128.size a ≤ S1024x128.size a) : Rect S4x1024x128 :=
  (Rect.unit (s := S4x1024x128) offp S1x1024x128.size hp).within
    ((Rect.unit (s := S1024x128) offr S256x128.size hr).consLift ![1, 1024, 128] rfl (fun _ => rfl)) (fun _ => rfl)

/-- A store of 256 rows of a pair. -/
def dPiece (offp : Fin 3 → ℕ) (hp : ∀ a, offp a + S1x1024x128.size a ≤ S4x1024x128.size a) (offr : Fin 2 → ℕ)
    (hr : ∀ a, offr a + S256x128.size a ≤ S1024x128.size a) (W : FVec Ideal S256x128 .f32) : View.Piece (Elt Ideal) S4x1024x128 .f32 :=
  ⟨dRect offp hp offr hr, Rect.payAlong ((Rect.unit (s := S1024x128) offr S256x128.size hr).numel_consLift ![1, 1024, 128] rfl (fun _ => rfl)) W⟩

/-- The stores of the query's own slab. -/
def diagList (l0 l1 l2 l3 h0 h1 h2 h3 : FVec Ideal S512x128 .f32) : List (View.Piece (Elt Ideal) S4x1024x128 .f32) := [
  dPiece ![3, 0, 0] inb_S4x1024x128_S1x1024x128_3_0_0 ![768, 0] inb_S1024x128_S256x128_768_0 (Step.odd h3),
  dPiece ![3, 0, 0] inb_S4x1024x128_S1x1024x128_3_0_0 ![256, 0] inb_S1024x128_S256x128_256_0 (Step.even h3),
  dPiece ![3, 0, 0] inb_S4x1024x128_S1x1024x128_3_0_0 ![512, 0] inb_S1024x128_S256x128_512_0 (Step.odd l3),
  dPiece ![3, 0, 0] inb_S4x1024x128_S1x1024x128_3_0_0 ![0, 0] inb_S1024x128_S256x128_0_0 (Step.even l3),
  dPiece ![2, 0, 0] inb_S4x1024x128_S1x1024x128_2_0_0 ![768, 0] inb_S1024x128_S256x128_768_0 (Step.odd h2),
  dPiece ![2, 0, 0] inb_S4x1024x128_S1x1024x128_2_0_0 ![256, 0] inb_S1024x128_S256x128_256_0 (Step.even h2),
  dPiece ![2, 0, 0] inb_S4x1024x128_S1x1024x128_2_0_0 ![512, 0] inb_S1024x128_S256x128_512_0 (Step.odd l2),
  dPiece ![2, 0, 0] inb_S4x1024x128_S1x1024x128_2_0_0 ![0, 0] inb_S1024x128_S256x128_0_0 (Step.even l2),
  dPiece ![1, 0, 0] inb_S4x1024x128_S1x1024x128_1_0_0 ![768, 0] inb_S1024x128_S256x128_768_0 (Step.odd h1),
  dPiece ![1, 0, 0] inb_S4x1024x128_S1x1024x128_1_0_0 ![256, 0] inb_S1024x128_S256x128_256_0 (Step.even h1),
  dPiece ![1, 0, 0] inb_S4x1024x128_S1x1024x128_1_0_0 ![512, 0] inb_S1024x128_S256x128_512_0 (Step.odd l1),
  dPiece ![1, 0, 0] inb_S4x1024x128_S1x1024x128_1_0_0 ![0, 0] inb_S1024x128_S256x128_0_0 (Step.even l1),
  dPiece ![0, 0, 0] inb_S4x1024x128_S1x1024x128_0_0_0 ![768, 0] inb_S1024x128_S256x128_768_0 (Step.odd h0),
  dPiece ![0, 0, 0] inb_S4x1024x128_S1x1024x128_0_0_0 ![256, 0] inb_S1024x128_S256x128_256_0 (Step.even h0),
  dPiece ![0, 0, 0] inb_S4x1024x128_S1x1024x128_0_0_0 ![512, 0] inb_S1024x128_S256x128_512_0 (Step.odd l0),
  dPiece ![0, 0, 0] inb_S4x1024x128_S1x1024x128_0_0_0 ![0, 0] inb_S1024x128_S256x128_0_0 (Step.even l0)]

section
variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (x0 : Vec Ideal S1x512x512 .bf16) (x1 x2 x3 x4 : Vec Ideal S1x4096x512 .bf16) (x5 : Vec Ideal S1x16x512 .f32) (x6 : Vec Ideal S256x256 .bf16) (x7 : Vec Ideal S8x10x256x256 .f32)

theorem HS0_eq : kernelRun0_A.sl.HS0_16 c i arg3 harg3 arg4 harg4 arg5 harg5 arg8 harg8 arg9 harg9 arg10 harg10 x0 x1 x2 x5 x6 x7 = diagList
        (Step.loM (Step.loS (kernelRun0_A.sl.r_19 c i arg3 harg3 arg8 harg8 arg9 harg9 x0 x5 x6) (Gate.keys (slabW arg4 (k0_off1 i) (k0_off1_inb i) (harg4.unread x1)) (slabW arg5 (k0_off1 i) (k0_off1_inb i) (harg5.unread x2))) (tileW arg10 ![0, 0, 0, 0] inb_S8x10x256x256_S1x1x256x256_0_0_0_0 (harg10.unread x7)) (tileW arg10 ![1, 0, 0, 0] inb_S8x10x256x256_S1x1x256x256_1_0_0_0 (harg10.unread x7))))
    (Step.loM (Step.loS (kernelRun0_A.sl.r_23 c i arg3 harg3 arg8 harg8 arg9 harg9 x0 x5 x6) (Gate.keys (slabW arg4 (k0_off2 i) (k0_off2_inb i) (harg4.unread x1)) (slabW arg5 (k0_off2 i) (k0_off2_inb i) (harg5.unread x2))) (tileW arg10 ![2, 0, 0, 0] inb_S8x10x256x256_S1x1x256x256_2_0_0_0 (harg10.unread x7)) (tileW arg10 ![3, 0, 0, 0] inb_S8x10x256x256_S1x1x256x256_3_0_0_0 (harg10.unread x7))))
    (Step.loM (Step.loS (kernelRun0_A.sl.r_24 c i arg3 harg3 arg8 harg8 arg9 harg9 x0 x5 x6) (Gate.keys (slabW arg4 (k0_off3 i) (k0_off3_inb i) (harg4.unread x1)) (slabW arg5 (k0_off3 i) (k0_off3_inb i) (harg5.unread x2))) (tileW arg10 ![4, 0, 0, 0] inb_S8x10x256x256_S1x1x256x256_4_0_0_0 (harg10.unread x7)) (tileW arg10 ![5, 0, 0, 0] inb_S8x10x256x256_S1x1x256x256_5_0_0_0 (harg10.unread x7))))
    (Step.loM (Step.loS (kernelRun0_A.sl.r_27 c i arg3 harg3 arg8 harg8 arg9 harg9 x0 x5 x6) (Gate.keys (slabW arg4 (k0_off4 i) (k0_off4_inb i) (harg4.unread x1)) (slabW arg5 (k0_off4 i) (k0_off4_inb i) (harg5.unread x2))) (tileW arg10 ![6, 0, 0, 0] inb_S8x10x256x256_S1x1x256x256_6_0_0_0 (harg10.unread x7)) (tileW arg10 ![7, 0, 0, 0] inb_S8x10x256x256_S1x1x256x256_7_0_0_0 (harg10.unread x7))))
        (Step.hiM (Step.hiS (kernelRun0_A.sl.r_19 c i arg3 harg3 arg8 harg8 arg9 harg9 x0 x5 x6) (Gate.keys (slabW arg4 (k0_off1 i) (k0_off1_inb i) (harg4.unread x1)) (slabW arg5 (k0_off1 i) (k0_off1_inb i) (harg5.unread x2))) (tileW arg10 ![0, 1, 0, 0] inb_S8x10x256x256_S1x1x256x256_0_1_0_0 (harg10.unread x7)) (tileW arg10 ![0, 0, 0, 0] inb_S8x10x256x256_S1x1x256x256_0_0_0_0 (harg10.unread x7)) (tileW arg10 ![1, 1, 0, 0] inb_S8x10x256x256_S1x1x256x256_1_1_0_0 (harg10.unread x7)) (tileW arg10 ![1, 0, 0, 0] inb_S8x10x256x256_S1x1x256x256_1_0_0_0 (harg10.unread x7))))
    (Step.hiM (Step.hiS (kernelRun0_A.sl.r_23 c i arg3 harg3 arg8 harg8 arg9 harg9 x0 x5 x6) (Gate.keys (slabW arg4 (k0_off2 i) (k0_off2_inb i) (harg4.unread x1)) (slabW arg5 (k0_off2 i) (k0_off2_inb i) (harg5.unread x2))) (tileW arg10 ![2, 1, 0, 0] inb_S8x10x256x256_S1x1x256x256_2_1_0_0 (harg10.unread x7)) (tileW arg10 ![2, 0, 0, 0] inb_S8x10x256x256_S1x1x256x256_2_0_0_0 (harg10.unread x7)) (tileW arg10 ![3, 1, 0, 0] inb_S8x10x256x256_S1x1x256x256_3_1_0_0 (harg10.unread x7)) (tileW arg10 ![3, 0, 0, 0] inb_S8x10x256x256_S1x1x256x256_3_0_0_0 (harg10.unread x7))))
    (Step.hiM (Step.hiS (kernelRun0_A.sl.r_24 c i arg3 harg3 arg8 harg8 arg9 harg9 x0 x5 x6) (Gate.keys (slabW arg4 (k0_off3 i) (k0_off3_inb i) (harg4.unread x1)) (slabW arg5 (k0_off3 i) (k0_off3_inb i) (harg5.unread x2))) (tileW arg10 ![4, 1, 0, 0] inb_S8x10x256x256_S1x1x256x256_4_1_0_0 (harg10.unread x7)) (tileW arg10 ![4, 0, 0, 0] inb_S8x10x256x256_S1x1x256x256_4_0_0_0 (harg10.unread x7)) (tileW arg10 ![5, 1, 0, 0] inb_S8x10x256x256_S1x1x256x256_5_1_0_0 (harg10.unread x7)) (tileW arg10 ![5, 0, 0, 0] inb_S8x10x256x256_S1x1x256x256_5_0_0_0 (harg10.unread x7))))
    (Step.hiM (Step.hiS (kernelRun0_A.sl.r_27 c i arg3 harg3 arg8 harg8 arg9 harg9 x0 x5 x6) (Gate.keys (slabW arg4 (k0_off4 i) (k0_off4_inb i) (harg4.unread x1)) (slabW arg5 (k0_off4 i) (k0_off4_inb i) (harg5.unread x2))) (tileW arg10 ![6, 1, 0, 0] inb_S8x10x256x256_S1x1x256x256_6_1_0_0 (harg10.unread x7)) (tileW arg10 ![6, 0, 0, 0] inb_S8x10x256x256_S1x1x256x256_6_0_0_0 (harg10.unread x7)) (tileW arg10 ![7, 1, 0, 0] inb_S8x10x256x256_S1x1x256x256_7_1_0_0 (harg10.unread x7)) (tileW arg10 ![7, 0, 0, 0] inb_S8x10x256x256_S1x1x256x256_7_0_0_0 (harg10.unread x7)))) := by
  rfl

theorem HS1_eq : kernelRun0_A.sl.HS1_16 c i arg3 harg3 arg4 harg4 arg5 harg5 arg6 harg6 arg7 harg7 arg8 harg8 arg9 harg9 arg10 harg10 x0 x1 x2 x3 x4 x5 x6 x7 = diagList
        (Step.loA (Step.loS (kernelRun0_A.sl.r_19 c i arg3 harg3 arg8 harg8 arg9 harg9 x0 x5 x6) (Gate.keys (slabW arg4 (k0_off1 i) (k0_off1_inb i) (harg4.unread x1)) (slabW arg5 (k0_off1 i) (k0_off1_inb i) (harg5.unread x2))) (tileW arg10 ![0, 0, 0, 0] inb_S8x10x256x256_S1x1x256x256_0_0_0_0 (harg10.unread x7)) (tileW arg10 ![1, 0, 0, 0] inb_S8x10x256x256_S1x1x256x256_1_0_0_0 (harg10.unread x7))) (slabW arg6 (k0_off1 i) (k0_off1_inb i) (harg6.unread x3)) (slabW arg7 (k0_off1 i) (k0_off1_inb i) (harg7.unread x4)))
    (Step.loA (Step.loS (kernelRun0_A.sl.r_23 c i arg3 harg3 arg8 harg8 arg9 harg9 x0 x5 x6) (Gate.keys (slabW arg4 (k0_off2 i) (k0_off2_inb i) (harg4.unread x1)) (slabW arg5 (k0_off2 i) (k0_off2_inb i) (harg5.unread x2))) (tileW arg10 ![2, 0, 0, 0] inb_S8x10x256x256_S1x1x256x256_2_0_0_0 (harg10.unread x7)) (tileW arg10 ![3, 0, 0, 0] inb_S8x10x256x256_S1x1x256x256_3_0_0_0 (harg10.unread x7))) (slabW arg6 (k0_off2 i) (k0_off2_inb i) (harg6.unread x3)) (slabW arg7 (k0_off2 i) (k0_off2_inb i) (harg7.unread x4)))
    (Step.loA (Step.loS (kernelRun0_A.sl.r_24 c i arg3 harg3 arg8 harg8 arg9 harg9 x0 x5 x6) (Gate.keys (slabW arg4 (k0_off3 i) (k0_off3_inb i) (harg4.unread x1)) (slabW arg5 (k0_off3 i) (k0_off3_inb i) (harg5.unread x2))) (tileW arg10 ![4, 0, 0, 0] inb_S8x10x256x256_S1x1x256x256_4_0_0_0 (harg10.unread x7)) (tileW arg10 ![5, 0, 0, 0] inb_S8x10x256x256_S1x1x256x256_5_0_0_0 (harg10.unread x7))) (slabW arg6 (k0_off3 i) (k0_off3_inb i) (harg6.unread x3)) (slabW arg7 (k0_off3 i) (k0_off3_inb i) (harg7.unread x4)))
    (Step.loA (Step.loS (kernelRun0_A.sl.r_27 c i arg3 harg3 arg8 harg8 arg9 harg9 x0 x5 x6) (Gate.keys (slabW arg4 (k0_off4 i) (k0_off4_inb i) (harg4.unread x1)) (slabW arg5 (k0_off4 i) (k0_off4_inb i) (harg5.unread x2))) (tileW arg10 ![6, 0, 0, 0] inb_S8x10x256x256_S1x1x256x256_6_0_0_0 (harg10.unread x7)) (tileW arg10 ![7, 0, 0, 0] inb_S8x10x256x256_S1x1x256x256_7_0_0_0 (harg10.unread x7))) (slabW arg6 (k0_off4 i) (k0_off4_inb i) (harg6.unread x3)) (slabW arg7 (k0_off4 i) (k0_off4_inb i) (harg7.unread x4)))
        (Step.hiA (Step.hiS (kernelRun0_A.sl.r_19 c i arg3 harg3 arg8 harg8 arg9 harg9 x0 x5 x6) (Gate.keys (slabW arg4 (k0_off1 i) (k0_off1_inb i) (harg4.unread x1)) (slabW arg5 (k0_off1 i) (k0_off1_inb i) (harg5.unread x2))) (tileW arg10 ![0, 1, 0, 0] inb_S8x10x256x256_S1x1x256x256_0_1_0_0 (harg10.unread x7)) (tileW arg10 ![0, 0, 0, 0] inb_S8x10x256x256_S1x1x256x256_0_0_0_0 (harg10.unread x7)) (tileW arg10 ![1, 1, 0, 0] inb_S8x10x256x256_S1x1x256x256_1_1_0_0 (harg10.unread x7)) (tileW arg10 ![1, 0, 0, 0] inb_S8x10x256x256_S1x1x256x256_1_0_0_0 (harg10.unread x7))) (slabW arg6 (k0_off1 i) (k0_off1_inb i) (harg6.unread x3)) (slabW arg7 (k0_off1 i) (k0_off1_inb i) (harg7.unread x4)))
    (Step.hiA (Step.hiS (kernelRun0_A.sl.r_23 c i arg3 harg3 arg8 harg8 arg9 harg9 x0 x5 x6) (Gate.keys (slabW arg4 (k0_off2 i) (k0_off2_inb i) (harg4.unread x1)) (slabW arg5 (k0_off2 i) (k0_off2_inb i) (harg5.unread x2))) (tileW arg10 ![2, 1, 0, 0] inb_S8x10x256x256_S1x1x256x256_2_1_0_0 (harg10.unread x7)) (tileW arg10 ![2, 0, 0, 0] inb_S8x10x256x256_S1x1x256x256_2_0_0_0 (harg10.unread x7)) (tileW arg10 ![3, 1, 0, 0] inb_S8x10x256x256_S1x1x256x256_3_1_0_0 (harg10.unread x7)) (tileW arg10 ![3, 0, 0, 0] inb_S8x10x256x256_S1x1x256x256_3_0_0_0 (harg10.unread x7))) (slabW arg6 (k0_off2 i) (k0_off2_inb i) (harg6.unread x3)) (slabW arg7 (k0_off2 i) (k0_off2_inb i) (harg7.unread x4)))
    (Step.hiA (Step.hiS (kernelRun0_A.sl.r_24 c i arg3 harg3 arg8 harg8 arg9 harg9 x0 x5 x6) (Gate.keys (slabW arg4 (k0_off3 i) (k0_off3_inb i) (harg4.unread x1)) (slabW arg5 (k0_off3 i) (k0_off3_inb i) (harg5.unread x2))) (tileW arg10 ![4, 1, 0, 0] inb_S8x10x256x256_S1x1x256x256_4_1_0_0 (harg10.unread x7)) (tileW arg10 ![4, 0, 0, 0] inb_S8x10x256x256_S1x1x256x256_4_0_0_0 (harg10.unread x7)) (tileW arg10 ![5, 1, 0, 0] inb_S8x10x256x256_S1x1x256x256_5_1_0_0 (harg10.unread x7)) (tileW arg10 ![5, 0, 0, 0] inb_S8x10x256x256_S1x1x256x256_5_0_0_0 (harg10.unread x7))) (slabW arg6 (k0_off3 i) (k0_off3_inb i) (harg6.unread x3)) (slabW arg7 (k0_off3 i) (k0_off3_inb i) (harg7.unread x4)))
    (Step.hiA (Step.hiS (kernelRun0_A.sl.r_27 c i arg3 harg3 arg8 harg8 arg9 harg9 x0 x5 x6) (Gate.keys (slabW arg4 (k0_off4 i) (k0_off4_inb i) (harg4.unread x1)) (slabW arg5 (k0_off4 i) (k0_off4_inb i) (harg5.unread x2))) (tileW arg10 ![6, 1, 0, 0] inb_S8x10x256x256_S1x1x256x256_6_1_0_0 (harg10.unread x7)) (tileW arg10 ![6, 0, 0, 0] inb_S8x10x256x256_S1x1x256x256_6_0_0_0 (harg10.unread x7)) (tileW arg10 ![7, 1, 0, 0] inb_S8x10x256x256_S1x1x256x256_7_1_0_0 (harg10.unread x7)) (tileW arg10 ![7, 0, 0, 0] inb_S8x10x256x256_S1x1x256x256_7_0_0_0 (harg10.unread x7))) (slabW arg6 (k0_off4 i) (k0_off4_inb i) (harg6.unread x3)) (slabW arg7 (k0_off4 i) (k0_off4_inb i) (harg7.unread x4))) := by
  rfl

end

/-! What the stores say together. -/

/-- The first trip's state of a pair from its first and its last query rows. -/
def assemble (l h : FVec Ideal S512x128 .f32) : FVec Ideal S1024x128 .f32 := fun y =>
  if h1 : (y 0).val < 256 then l (ix2 ⟨(y 0).val, by omega⟩ (y 1))
  else if h2 : (y 0).val < 512 then h (ix2 ⟨(y 0).val - 256, by omega⟩ (y 1))
  else if h3 : (y 0).val < 768 then l (ix2 ⟨(y 0).val - 256, by omega⟩ (y 1))
  else h (ix2 ⟨(y 0).val - 512, by have : (y 0).val < 1024 := (y 0).isLt; omega⟩ (y 1))

theorem dRect_emb (offp hp offr hr) (p : Fin 4) (o : ℕ) (ho : o + 256 ≤ 1024) (hop : offp = ![p.val, 0, 0]) (hor : offr = ![o, 0])
    (x : (dRect offp hp offr hr).shape.Idx) (r : Fin 256) (l : Fin 128) (hr' : r.val = (x 1).val) (hl : l.val = (x 2).val) :
    (dRect offp hp offr hr).emb x = ix3 p ⟨o + r.val, by omega⟩ l := by
  subst hop hor
  have h0 : (x 0).val < 1 := (x 0).isLt
  funext a
  apply Fin.ext
  rw [Rect.emb_apply]
  fin_cases a
  · show p.val + 0 + 1 * (x 0).val = p.val; omega
  · show 0 + o + 1 * (x 1).val = o + r.val; omega
  · show 0 + 0 + 1 * (x 2).val = l.val; omega

theorem dPiece_at (offp hp offr hr) (W : FVec Ideal S256x128 .f32) (p : Fin 4) (o : ℕ) (ho : o + 256 ≤ 1024) (hop : offp = ![p.val, 0, 0]) (hor : offr = ![o, 0])
    (G : Vec Ideal S4x1024x128 .f32) (hG : ∀ (r : Fin 256) (l : Fin 128), W (ix2 r l) = G (ix3 p ⟨o + r.val, by omega⟩ l)) :
    ∀ x : (dPiece offp hp offr hr W).1.shape.Idx, (dPiece offp hp offr hr W).2 x = G ((dPiece offp hp offr hr W).1.emb x) := by
  intro x
  have h1 : (x 1).val < 256 := (x 1).isLt
  have h2 : (x 2).val < 128 := (x 2).isLt
  refine (Rect.payAlong_consLift (Rect.unit (s := S1024x128) offr S256x128.size hr) ![1, 1024, 128] rfl (fun _ => rfl) W _ x
    (ix2 ⟨(x 1).val, h1⟩ ⟨(x 2).val, h2⟩) ?_).trans ?_
  · intro a; fin_cases a <;> rfl
  · rw [hG]
    exact congrArg G (dRect_emb offp hp offr hr p o ho hop hor x ⟨(x 1).val, h1⟩ ⟨(x 2).val, h2⟩ rfl rfl).symm

theorem dPiece_mem (offp hp offr hr) (W : FVec Ideal S256x128 .f32) (p : Fin 4) (o : ℕ) (hop : offp = ![p.val, 0, 0]) (hor : offr = ![o, 0])
    (y : S4x1024x128.Idx) (h0 : (y 0).val = p.val) (h1 : o ≤ (y 1).val ∧ (y 1).val < o + 256) : y ∈ (dPiece offp hp offr hr W).1.set := by
  subst hop hor
  have h2 : (y 2).val < 128 := (y 2).isLt
  refine (LoadRect.mem_set _).mpr fun a => ?_
  fin_cases a
  · exact ⟨0, Nat.one_pos, by show (y 0).val = p.val + 0 + 1 * 0; omega⟩
  · exact ⟨(y 1).val - o, by show (y 1).val - o < 256; omega, by show (y 1).val = 0 + o + 1 * ((y 1).val - o); omega⟩
  · exact ⟨(y 2).val, h2, by show (y 2).val = 0 + 0 + 1 * (y 2).val; omega⟩

theorem assemble_0 (l) (p : Fin 4) (L : Fin 4 → FVec Ideal S512x128 .f32) (H : Fin 4 → FVec Ideal S512x128 .f32) (hl : l = L p) (r : Fin 256) (c : Fin 128) :
    Step.even l (ix2 r c) = join (fun p => assemble (L p) (H p)) (ix3 p ⟨0 + r.val, by omega⟩ c) := by
  subst hl
  have hr := r.isLt
  rw [Step.even_at]
  show _ = assemble (L p) (H p) (ix2 ⟨0 + r.val, _⟩ c)
  unfold assemble
  rw [dif_pos (by show 0 + r.val < 256; omega)]
  exact congrArg (L p) (congrArg (ix2 · c) (Fin.ext (Nat.zero_add _).symm))

theorem assemble_256 (h) (p : Fin 4) (L : Fin 4 → FVec Ideal S512x128 .f32) (H : Fin 4 → FVec Ideal S512x128 .f32) (hh : h = H p) (r : Fin 256) (c : Fin 128) :
    Step.even h (ix2 r c) = join (fun p => assemble (L p) (H p)) (ix3 p ⟨256 + r.val, by omega⟩ c) := by
  subst hh
  have hr := r.isLt
  rw [Step.even_at]
  show _ = assemble (L p) (H p) (ix2 ⟨256 + r.val, _⟩ c)
  unfold assemble
  rw [dif_neg (by show ¬ 256 + r.val < 256; omega), dif_pos (by show 256 + r.val < 512; omega)]
  exact congrArg (H p) (congrArg (ix2 · c) (Fin.ext (by show r.val = 256 + r.val - 256; omega)))

theorem assemble_512 (l) (p : Fin 4) (L : Fin 4 → FVec Ideal S512x128 .f32) (H : Fin 4 → FVec Ideal S512x128 .f32) (hl : l = L p) (r : Fin 256) (c : Fin 128) :
    Step.odd l (ix2 r c) = join (fun p => assemble (L p) (H p)) (ix3 p ⟨512 + r.val, by omega⟩ c) := by
  subst hl
  have hr := r.isLt
  rw [Step.odd_at]
  show _ = assemble (L p) (H p) (ix2 ⟨512 + r.val, _⟩ c)
  unfold assemble
  rw [dif_neg (by show ¬ 512 + r.val < 256; omega), dif_neg (by show ¬ 512 + r.val < 512; omega), dif_pos (by show 512 + r.val < 768; omega)]
  exact congrArg (L p) (congrArg (ix2 · c) (Fin.ext (by show 256 + r.val = 512 + r.val - 256; omega)))

theorem assemble_768 (h) (p : Fin 4) (L : Fin 4 → FVec Ideal S512x128 .f32) (H : Fin 4 → FVec Ideal S512x128 .f32) (hh : h = H p) (r : Fin 256) (c : Fin 128) :
    Step.odd h (ix2 r c) = join (fun p => assemble (L p) (H p)) (ix3 p ⟨768 + r.val, by omega⟩ c) := by
  subst hh
  have hr := r.isLt
  rw [Step.odd_at]
  show _ = assemble (L p) (H p) (ix2 ⟨768 + r.val, _⟩ c)
  unfold assemble
  rw [dif_neg (by show ¬ 768 + r.val < 256; omega), dif_neg (by show ¬ 768 + r.val < 512; omega), dif_neg (by show ¬ 768 + r.val < 768; omega)]
  exact congrArg (H p) (congrArg (ix2 · c) (Fin.ext (by show 256 + r.val = 768 + r.val - 512; omega)))

theorem diag_state (v : Memref sig .tc .vmem S4x1024x128 .f32) (f : BufTy.Contents (Elt Ideal) v.view.ty) (L H : Fin 4 → FVec Ideal S512x128 .f32) :
    View.read (Elt Ideal) v.view (v.view.writes (Elt Ideal) f (diagList (L 0) (L 1) (L 2) (L 3) (H 0) (H 1) (H 2) (H 3))) = join fun p => assemble (L p) (H p) := by
  have cover (y : S4x1024x128.Idx) : ∃ p ∈ diagList (L 0) (L 1) (L 2) (L 3) (H 0) (H 1) (H 2) (H 3), y ∈ p.1.set := by
    have h0 : (y 0).val < 4 := (y 0).isLt
    have h1 : (y 1).val < 1024 := (y 1).isLt
    unfold diagList
    simp only [List.mem_cons, List.not_mem_nil, or_false, exists_eq_or_imp, exists_eq_left]
    rcases (by omega : (y 0).val = 3 ∨ (y 0).val = 2 ∨ (y 0).val = 1 ∨ (y 0).val = 0) with h | h | h | h <;>
    rcases (by omega : (768 ≤ (y 1).val ∧ (y 1).val < 768 + 256) ∨ (256 ≤ (y 1).val ∧ (y 1).val < 256 + 256)
      ∨ (512 ≤ (y 1).val ∧ (y 1).val < 512 + 256) ∨ (0 ≤ (y 1).val ∧ (y 1).val < 0 + 256)) with g | g | g | g
    · exact Or.inl (dPiece_mem _ _ _ _ _ 3 768 rfl rfl y h g)
    · exact Or.inr (Or.inl (dPiece_mem _ _ _ _ _ 3 256 rfl rfl y h g))
    · exact Or.inr (Or.inr (Or.inl (dPiece_mem _ _ _ _ _ 3 512 rfl rfl y h g)))
    · exact Or.inr (Or.inr (Or.inr (Or.inl (dPiece_mem _ _ _ _ _ 3 0 rfl rfl y h g))))
    · exact Or.inr (Or.inr (Or.inr (Or.inr (Or.inl (dPiece_mem _ _ _ _ _ 2 768 rfl rfl y h g)))))
    · exact Or.inr (Or.inr (Or.inr (Or.inr (Or.inr (Or.inl (dPiece_mem _ _ _ _ _ 2 256 rfl rfl y h g))))))
    · exact Or.inr (Or.inr (Or.inr (Or.inr (Or.inr (Or.inr (Or.inl (dPiece_mem _ _ _ _ _ 2 512 rfl rfl y h g)))))))
    · exact Or.inr (Or.inr (Or.inr (Or.inr (Or.inr (Or.inr (Or.inr (Or.inl (dPiece_mem _ _ _ _ _ 2 0 rfl rfl y h g))))))))
    · exact Or.inr (Or.inr (Or.inr (Or.inr (Or.inr (Or.inr (Or.inr (Or.inr (Or.inl (dPiece_mem _ _ _ _ _ 1 768 rfl rfl y h g)))))))))
    · exact Or.inr (Or.inr (Or.inr (Or.inr (Or.inr (Or.inr (Or.inr (Or.inr (Or.inr (Or.inl (dPiece_mem _ _ _ _ _ 1 256 rfl rfl y h g))))))))))
    · exact Or.inr (Or.inr (Or.inr (Or.inr (Or.inr (Or.inr (Or.inr (Or.inr (Or.inr (Or.inr (Or.inl (dPiece_mem _ _ _ _ _ 1 512 rfl rfl y h g)))))))))))
    · exact Or.inr (Or.inr (Or.inr (Or.inr (Or.inr (Or.inr (Or.inr (Or.inr (Or.inr (Or.inr (Or.inr (Or.inl (dPiece_mem _ _ _ _ _ 1 0 rfl rfl y h g))))))))))))
    · exact Or.inr (Or.inr (Or.inr (Or.inr (Or.inr (Or.inr (Or.inr (Or.inr (Or.inr (Or.inr (Or.inr (Or.inr (Or.inl (dPiece_mem _ _ _ _ _ 0 768 rfl rfl y h g)))))))))))))
    · exact Or.inr (Or.inr (Or.inr (Or.inr (Or.inr (Or.inr (Or.inr (Or.inr (Or.inr (Or.inr (Or.inr (Or.inr (Or.inr (Or.inl (dPiece_mem _ _ _ _ _ 0 256 rfl rfl y h g))))))))))))))
    · exact Or.inr (Or.inr (Or.inr (Or.inr (Or.inr (Or.inr (Or.inr (Or.inr (Or.inr (Or.inr (Or.inr (Or.inr (Or.inr (Or.inr (Or.inl (dPiece_mem _ _ _ _ _ 0 512 rfl rfl y h g)))))))))))))))
    · exact Or.inr (Or.inr (Or.inr (Or.inr (Or.inr (Or.inr (Or.inr (Or.inr (Or.inr (Or.inr (Or.inr (Or.inr (Or.inr (Or.inr (Or.inr (dPiece_mem _ _ _ _ _ 0 0 rfl rfl y h g)))))))))))))))
  refine (View.read_writes_eq_canon _ _ _ cover).trans (funext fun y => View.canon_apply_of_pieces (join fun p => assemble (L p) (H p)) _ ?_ y (cover y))
  intro q hq
  unfold diagList at hq
  simp only [List.mem_cons, List.not_mem_nil, or_false] at hq
  rcases hq with rfl | rfl | rfl | rfl | rfl | rfl | rfl | rfl | rfl | rfl | rfl | rfl | rfl | rfl | rfl | rfl
  · exact dPiece_at _ _ _ _ _ 3 768 (by omega) rfl rfl _ (assemble_768 _ 3 L H rfl)
  · exact dPiece_at _ _ _ _ _ 3 256 (by omega) rfl rfl _ (assemble_256 _ 3 L H rfl)
  · exact dPiece_at _ _ _ _ _ 3 512 (by omega) rfl rfl _ (assemble_512 _ 3 L H rfl)
  · exact dPiece_at _ _ _ _ _ 3 0 (by omega) rfl rfl _ (assemble_0 _ 3 L H rfl)
  · exact dPiece_at _ _ _ _ _ 2 768 (by omega) rfl rfl _ (assemble_768 _ 2 L H rfl)
  · exact dPiece_at _ _ _ _ _ 2 256 (by omega) rfl rfl _ (assemble_256 _ 2 L H rfl)
  · exact dPiece_at _ _ _ _ _ 2 512 (by omega) rfl rfl _ (assemble_512 _ 2 L H rfl)
  · exact dPiece_at _ _ _ _ _ 2 0 (by omega) rfl rfl _ (assemble_0 _ 2 L H rfl)
  · exact dPiece_at _ _ _ _ _ 1 768 (by omega) rfl rfl _ (assemble_768 _ 1 L H rfl)
  · exact dPiece_at _ _ _ _ _ 1 256 (by omega) rfl rfl _ (assemble_256 _ 1 L H rfl)
  · exact dPiece_at _ _ _ _ _ 1 512 (by omega) rfl rfl _ (assemble_512 _ 1 L H rfl)
  · exact dPiece_at _ _ _ _ _ 1 0 (by omega) rfl rfl _ (assemble_0 _ 1 L H rfl)
  · exact dPiece_at _ _ _ _ _ 0 768 (by omega) rfl rfl _ (assemble_768 _ 0 L H rfl)
  · exact dPiece_at _ _ _ _ _ 0 256 (by omega) rfl rfl _ (assemble_256 _ 0 L H rfl)
  · exact dPiece_at _ _ _ _ _ 0 512 (by omega) rfl rfl _ (assemble_512 _ 0 L H rfl)
  · exact dPiece_at _ _ _ _ _ 0 0 (by omega) rfl rfl _ (assemble_0 _ 0 L H rfl)

/-! The offsets, and the first state at the arguments' values. -/

theorem row_diag : ∀ K : Fin 8, (Scalar.muli (BitVec.ofNat 32 K.val) 512#32).toNat = 512 * K.val := by decide

theorem off1 (i : grid0.Coords) : k0_off1 i = ![0, 512 * (i 2).val, 128 * (0 : Fin 4).val] := by
  rw [show k0_off1 i = ![0, (Scalar.muli (BitVec.ofNat 32 (i 2).val) 512#32).toNat, 0] from rfl, row_diag (i 2)]; rfl
theorem off2 (i : grid0.Coords) : k0_off2 i = ![0, 512 * (i 2).val, 128 * (1 : Fin 4).val] := by
  rw [show k0_off2 i = ![0, (Scalar.muli (BitVec.ofNat 32 (i 2).val) 512#32).toNat, 128] from rfl, row_diag (i 2)]; rfl
theorem off3 (i : grid0.Coords) : k0_off3 i = ![0, 512 * (i 2).val, 128 * (2 : Fin 4).val] := by
  rw [show k0_off3 i = ![0, (Scalar.muli (BitVec.ofNat 32 (i 2).val) 512#32).toNat, 256] from rfl, row_diag (i 2)]; rfl
theorem off4 (i : grid0.Coords) : k0_off4 i = ![0, 512 * (i 2).val, 128 * (3 : Fin 4).val] := by
  rw [show k0_off4 i = ![0, (Scalar.muli (BitVec.ofNat 32 (i 2).val) 512#32).toNat, 384] from rfl, row_diag (i 2)]; rfl

/-- The query's own slab, first rows. -/
def loV (x1 x2 : Vec Ideal S1x4096x512 .bf16) (x7 : Vec Ideal S8x10x256x256 .f32) (qq : Fin 4 → FVec Ideal S1024x256 .bf16) (n : Fin 8) (p : Fin 4) : FVec Ideal S512x256 .f32 :=
  Step.loS (qq p) (Gate.keys (slab x1 p n) (slab x2 p n)) (tile x7 ⟨2 * p.val, by omega⟩ 0) (tile x7 ⟨2 * p.val + 1, by omega⟩ 0)
/-- The query's own slab, last rows. -/
def hiV (x1 x2 : Vec Ideal S1x4096x512 .bf16) (x7 : Vec Ideal S8x10x256x256 .f32) (qq : Fin 4 → FVec Ideal S1024x256 .bf16) (n : Fin 8) (p : Fin 4) : FVec Ideal S512x512 .f32 :=
  Step.hiS (qq p) (Gate.keys (slab x1 p n) (slab x2 p n)) (tile x7 ⟨2 * p.val, by omega⟩ 1) (tile x7 ⟨2 * p.val, by omega⟩ 0)
    (tile x7 ⟨2 * p.val + 1, by omega⟩ 1) (tile x7 ⟨2 * p.val + 1, by omega⟩ 0)

/-- The running maxima after the query's own slab. -/
def firstM (x1 x2 : Vec Ideal S1x4096x512 .bf16) (x7 : Vec Ideal S8x10x256x256 .f32) (qq : Fin 4 → FVec Ideal S1024x256 .bf16) (n : Fin 8) : Vec Ideal S4x1024x128 .f32 :=
  join fun p => assemble (Step.loM (loV x1 x2 x7 qq n p)) (Step.hiM (hiV x1 x2 x7 qq n p))
/-- The running weighted sums after the query's own slab. -/
def firstA (x1 x2 x3 x4 : Vec Ideal S1x4096x512 .bf16) (x7 : Vec Ideal S8x10x256x256 .f32) (qq : Fin 4 → FVec Ideal S1024x256 .bf16) (n : Fin 8) : Vec Ideal S4x1024x128 .f32 :=
  join fun p => assemble (Step.loA (loV x1 x2 x7 qq n p) (slab x3 p n) (slab x4 p n)) (Step.hiA (hiV x1 x2 x7 qq n p) (slab x3 p n) (slab x4 p n))

theorem tileW_eq (arg : Memref sig .tc .vmem S8x10x256x256 .f32) (h : arg.IsWhole) (x : Vec Ideal S8x10x256x256 .f32) (off hin) (hd : Fin 8) (k : Fin 10)
    (ho : off = ![hd.val, k.val, 0, 0]) : tileW arg off hin (h.unread x) = tile x hd k := tile_read arg h x off hin _ hd k ho

section
variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (x0 : Vec Ideal S1x512x512 .bf16) (x1 x2 x3 x4 : Vec Ideal S1x4096x512 .bf16) (x5 : Vec Ideal S1x16x512 .f32) (x6 : Vec Ideal S256x256 .bf16) (x7 : Vec Ideal S8x10x256x256 .f32)

/-- The pairs' queries, as the body holds them. -/
def qqs : Fin 4 → FVec Ideal S1024x256 .bf16 := ![kernelRun0_A.sl.r_19 c i arg3 harg3 arg8 harg8 arg9 harg9 x0 x5 x6, kernelRun0_A.sl.r_23 c i arg3 harg3 arg8 harg8 arg9 harg9 x0 x5 x6, kernelRun0_A.sl.r_24 c i arg3 harg3 arg8 harg8 arg9 harg9 x0 x5 x6, kernelRun0_A.sl.r_27 c i arg3 harg3 arg8 harg8 arg9 harg9 x0 x5 x6]

theorem first_M (f : BufTy.Contents (Elt Ideal) arg12.view.ty) :
    View.read (Elt Ideal) arg12.view (arg12.view.writes (Elt Ideal) f (kernelRun0_A.sl.HS0_16 c i arg3 harg3 arg4 harg4 arg5 harg5 arg8 harg8 arg9 harg9 arg10 harg10 x0 x1 x2 x5 x6 x7)) = firstM x1 x2 x7 (qqs c i arg3 harg3 arg8 harg8 arg9 harg9 x0 x5 x6) (i 2) := by
  rw [HS0_eq,
    tileW_eq arg10 harg10 x7 ![0, 0, 0, 0] inb_S8x10x256x256_S1x1x256x256_0_0_0_0 0 0 rfl,
    tileW_eq arg10 harg10 x7 ![0, 1, 0, 0] inb_S8x10x256x256_S1x1x256x256_0_1_0_0 0 1 rfl,
    tileW_eq arg10 harg10 x7 ![1, 0, 0, 0] inb_S8x10x256x256_S1x1x256x256_1_0_0_0 1 0 rfl,
    tileW_eq arg10 harg10 x7 ![1, 1, 0, 0] inb_S8x10x256x256_S1x1x256x256_1_1_0_0 1 1 rfl,
    tileW_eq arg10 harg10 x7 ![2, 0, 0, 0] inb_S8x10x256x256_S1x1x256x256_2_0_0_0 2 0 rfl,
    tileW_eq arg10 harg10 x7 ![2, 1, 0, 0] inb_S8x10x256x256_S1x1x256x256_2_1_0_0 2 1 rfl,
    tileW_eq arg10 harg10 x7 ![3, 0, 0, 0] inb_S8x10x256x256_S1x1x256x256_3_0_0_0 3 0 rfl,
    tileW_eq arg10 harg10 x7 ![3, 1, 0, 0] inb_S8x10x256x256_S1x1x256x256_3_1_0_0 3 1 rfl,
    tileW_eq arg10 harg10 x7 ![4, 0, 0, 0] inb_S8x10x256x256_S1x1x256x256_4_0_0_0 4 0 rfl,
    tileW_eq arg10 harg10 x7 ![4, 1, 0, 0] inb_S8x10x256x256_S1x1x256x256_4_1_0_0 4 1 rfl,
    tileW_eq arg10 harg10 x7 ![5, 0, 0, 0] inb_S8x10x256x256_S1x1x256x256_5_0_0_0 5 0 rfl,
    tileW_eq arg10 harg10 x7 ![5, 1, 0, 0] inb_S8x10x256x256_S1x1x256x256_5_1_0_0 5 1 rfl,
    tileW_eq arg10 harg10 x7 ![6, 0, 0, 0] inb_S8x10x256x256_S1x1x256x256_6_0_0_0 6 0 rfl,
    tileW_eq arg10 harg10 x7 ![6, 1, 0, 0] inb_S8x10x256x256_S1x1x256x256_6_1_0_0 6 1 rfl,
    tileW_eq arg10 harg10 x7 ![7, 0, 0, 0] inb_S8x10x256x256_S1x1x256x256_7_0_0_0 7 0 rfl,
    tileW_eq arg10 harg10 x7 ![7, 1, 0, 0] inb_S8x10x256x256_S1x1x256x256_7_1_0_0 7 1 rfl,
    slabW_eq arg4 harg4 x1 _ _ 0 (i 2) (off1 i),
    slabW_eq arg4 harg4 x1 _ _ 1 (i 2) (off2 i),
    slabW_eq arg4 harg4 x1 _ _ 2 (i 2) (off3 i),
    slabW_eq arg4 harg4 x1 _ _ 3 (i 2) (off4 i),
    slabW_eq arg5 harg5 x2 _ _ 0 (i 2) (off1 i),
    slabW_eq arg5 harg5 x2 _ _ 1 (i 2) (off2 i),
    slabW_eq arg5 harg5 x2 _ _ 2 (i 2) (off3 i),
    slabW_eq arg5 harg5 x2 _ _ 3 (i 2) (off4 i)]
  exact diag_state arg12 f (fun p => Step.loM (loV x1 x2 x7 (qqs c i arg3 harg3 arg8 harg8 arg9 harg9 x0 x5 x6) (i 2) p)) (fun p => Step.hiM (hiV x1 x2 x7 (qqs c i arg3 harg3 arg8 harg8 arg9 harg9 x0 x5 x6) (i 2) p))

theorem first_A (f : BufTy.Contents (Elt Ideal) arg13.view.ty) :
    View.read (Elt Ideal) arg13.view (arg13.view.writes (Elt Ideal) f (kernelRun0_A.sl.HS1_16 c i arg3 harg3 arg4 harg4 arg5 harg5 arg6 harg6 arg7 harg7 arg8 harg8 arg9 harg9 arg10 harg10 x0 x1 x2 x3 x4 x5 x6 x7)) = firstA x1 x2 x3 x4 x7 (qqs c i arg3 harg3 arg8 harg8 arg9 harg9 x0 x5 x6) (i 2) := by
  rw [HS1_eq,
    tileW_eq arg10 harg10 x7 ![0, 0, 0, 0] inb_S8x10x256x256_S1x1x256x256_0_0_0_0 0 0 rfl,
    tileW_eq arg10 harg10 x7 ![0, 1, 0, 0] inb_S8x10x256x256_S1x1x256x256_0_1_0_0 0 1 rfl,
    tileW_eq arg10 harg10 x7 ![1, 0, 0, 0] inb_S8x10x256x256_S1x1x256x256_1_0_0_0 1 0 rfl,
    tileW_eq arg10 harg10 x7 ![1, 1, 0, 0] inb_S8x10x256x256_S1x1x256x256_1_1_0_0 1 1 rfl,
    tileW_eq arg10 harg10 x7 ![2, 0, 0, 0] inb_S8x10x256x256_S1x1x256x256_2_0_0_0 2 0 rfl,
    tileW_eq arg10 harg10 x7 ![2, 1, 0, 0] inb_S8x10x256x256_S1x1x256x256_2_1_0_0 2 1 rfl,
    tileW_eq arg10 harg10 x7 ![3, 0, 0, 0] inb_S8x10x256x256_S1x1x256x256_3_0_0_0 3 0 rfl,
    tileW_eq arg10 harg10 x7 ![3, 1, 0, 0] inb_S8x10x256x256_S1x1x256x256_3_1_0_0 3 1 rfl,
    tileW_eq arg10 harg10 x7 ![4, 0, 0, 0] inb_S8x10x256x256_S1x1x256x256_4_0_0_0 4 0 rfl,
    tileW_eq arg10 harg10 x7 ![4, 1, 0, 0] inb_S8x10x256x256_S1x1x256x256_4_1_0_0 4 1 rfl,
    tileW_eq arg10 harg10 x7 ![5, 0, 0, 0] inb_S8x10x256x256_S1x1x256x256_5_0_0_0 5 0 rfl,
    tileW_eq arg10 harg10 x7 ![5, 1, 0, 0] inb_S8x10x256x256_S1x1x256x256_5_1_0_0 5 1 rfl,
    tileW_eq arg10 harg10 x7 ![6, 0, 0, 0] inb_S8x10x256x256_S1x1x256x256_6_0_0_0 6 0 rfl,
    tileW_eq arg10 harg10 x7 ![6, 1, 0, 0] inb_S8x10x256x256_S1x1x256x256_6_1_0_0 6 1 rfl,
    tileW_eq arg10 harg10 x7 ![7, 0, 0, 0] inb_S8x10x256x256_S1x1x256x256_7_0_0_0 7 0 rfl,
    tileW_eq arg10 harg10 x7 ![7, 1, 0, 0] inb_S8x10x256x256_S1x1x256x256_7_1_0_0 7 1 rfl,
    slabW_eq arg4 harg4 x1 _ _ 0 (i 2) (off1 i),
    slabW_eq arg4 harg4 x1 _ _ 1 (i 2) (off2 i),
    slabW_eq arg4 harg4 x1 _ _ 2 (i 2) (off3 i),
    slabW_eq arg4 harg4 x1 _ _ 3 (i 2) (off4 i),
    slabW_eq arg5 harg5 x2 _ _ 0 (i 2) (off1 i),
    slabW_eq arg5 harg5 x2 _ _ 1 (i 2) (off2 i),
    slabW_eq arg5 harg5 x2 _ _ 2 (i 2) (off3 i),
    slabW_eq arg5 harg5 x2 _ _ 3 (i 2) (off4 i),
    slabW_eq arg6 harg6 x3 _ _ 0 (i 2) (off1 i),
    slabW_eq arg6 harg6 x3 _ _ 1 (i 2) (off2 i),
    slabW_eq arg6 harg6 x3 _ _ 2 (i 2) (off3 i),
    slabW_eq arg6 harg6 x3 _ _ 3 (i 2) (off4 i),
    slabW_eq arg7 harg7 x4 _ _ 0 (i 2) (off1 i),
    slabW_eq arg7 harg7 x4 _ _ 1 (i 2) (off2 i),
    slabW_eq arg7 harg7 x4 _ _ 2 (i 2) (off3 i),
    slabW_eq arg7 harg7 x4 _ _ 3 (i 2) (off4 i)]
  exact diag_state arg13 f (fun p => Step.loA (loV x1 x2 x7 (qqs c i arg3 harg3 arg8 harg8 arg9 harg9 x0 x5 x6) (i 2) p) (slab x3 p (i 2)) (slab x4 p (i 2)))
    (fun p => Step.hiA (hiV x1 x2 x7 (qqs c i arg3 harg3 arg8 harg8 arg9 harg9 x0 x5 x6) (i 2) p) (slab x3 p (i 2)) (slab x4 p (i 2)))

end

end Cert.KernelIdeal.Diag
-- ==== Proof.MobaLoop.lean ====
/- All trips of the block attention's loop, and the block that a grid point writes. -/
module

public import proofs.«01_k».proof.Proof.MobaDiag

@[expose] public section

set_option maxRecDepth 16384

noncomputable section

open Idealize.ShloMosaic Idealize.ShloMosaic.TcCoe Idealize.SL.Sem

namespace Cert.KernelIdeal.Loop

open Cert.KernelIdeal Cert.KernelIdeal.Gen Cert.Moba Cert.KernelIdeal.Trip

variable [Facts]

/-- The running maxima after `n` trips, the query's slab being `I`. -/
def stM (x1 x2 : Vec Ideal S1x4096x512 .bf16) (x7 : Vec Ideal S8x10x256x256 .f32) (qq : Fin 4 → FVec Ideal S1024x256 .bf16) (I : ℕ)
    (M : Vec Ideal S4x1024x128 .f32) : ℕ → Vec Ideal S4x1024x128 .f32
  | 0 => M
  | n + 1 => if h : n < 8 then stepM x1 x2 x7 qq ⟨n, h⟩ (I - n) (stM x1 x2 x7 qq I M n) else stM x1 x2 x7 qq I M n

/-- The running weighted sums after `n` trips. -/
def stA (x1 x2 x3 x4 : Vec Ideal S1x4096x512 .bf16) (x7 : Vec Ideal S8x10x256x256 .f32) (qq : Fin 4 → FVec Ideal S1024x256 .bf16) (I : ℕ)
    (M A : Vec Ideal S4x1024x128 .f32) : ℕ → Vec Ideal S4x1024x128 .f32
  | 0 => A
  | n + 1 => if h : n < 8 then stepA x1 x2 x3 x4 x7 qq ⟨n, h⟩ (I - n) (stM x1 x2 x7 qq I M n) (stA x1 x2 x3 x4 x7 qq I M A n)
      else stA x1 x2 x3 x4 x7 qq I M A n

section
variable (𝒱 : Variants) (c : Dev nD) (bd : Option 𝒱.V) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (arg2 : BitVec 32) (v2 : IVec S512x128 1) (v191 : FVec Ideal S1024x256 .bf16) (v216 : FVec Ideal S1024x256 .bf16) (v241 : FVec Ideal S1024x256 .bf16) (v266 : FVec Ideal S1024x256 .bf16) (v771 : FVec Ideal S512x128 .f32) (v786 : FVec Ideal S512x128 .f32) (v793 : FVec Ideal S256x128 .f32) (x1 x2 x3 x4 : Vec Ideal S1x4096x512 .bf16) (x7 : Vec Ideal S8x10x256x256 .f32)  (G_arg12 : BufTy.Contents (Elt Ideal) arg12.view.ty) (G_arg13 : BufTy.Contents (Elt Ideal) arg13.view.ty)

theorem loop_state (n : ℕ) (hn : n ≤ (k0_t1_loop i).trips) :
    View.read (Elt Ideal) arg12.view (arg12.view.writes (Elt Ideal) G_arg12 (pb_k0_t1 𝒱 c bd i arg3 harg3 arg4 harg4 arg5 harg5 arg6 harg6 arg7 harg7 arg8 harg8 arg9 harg9 arg10 harg10 arg11 harg11 arg12 harg12 arg13 harg13 arg2 v2 v191 v216 v241 v266 v771 v786 v793 (harg4.unread x1) (harg5.unread x2) (harg6.unread x3) (harg7.unread x4) (harg10.unread x7) G_arg12 G_arg13 n).1)
      = stM x1 x2 x7 ![v191, v216, v241, v266] (i 2).val (View.read (Elt Ideal) arg12.view G_arg12) n
    ∧ View.read (Elt Ideal) arg13.view (arg13.view.writes (Elt Ideal) G_arg13 (pb_k0_t1 𝒱 c bd i arg3 harg3 arg4 harg4 arg5 harg5 arg6 harg6 arg7 harg7 arg8 harg8 arg9 harg9 arg10 harg10 arg11 harg11 arg12 harg12 arg13 harg13 arg2 v2 v191 v216 v241 v266 v771 v786 v793 (harg4.unread x1) (harg5.unread x2) (harg6.unread x3) (harg7.unread x4) (harg10.unread x7) G_arg12 G_arg13 n).2)
      = stA x1 x2 x3 x4 x7 ![v191, v216, v241, v266] (i 2).val (View.read (Elt Ideal) arg12.view G_arg12) (View.read (Elt Ideal) arg13.view G_arg13) n := by
  induction n with
  | zero => exact ⟨rfl, rfl⟩
  | succ n ih =>
    obtain ⟨ih1, ih2⟩ := ih (by omega)
    have hlt : n < (k0_t1_loop i).trips := by omega
    have h8 : n < 8 := (at8 i ⟨n, hlt⟩).isLt
    rw [pb_k0_t1_succ 𝒱 c bd i arg3 harg3 arg4 harg4 arg5 harg5 arg6 harg6 arg7 harg7 arg8 harg8 arg9 harg9 arg10 harg10 arg11 harg11 arg12 harg12 arg13 harg13 arg2 v2 v191 v216 v241 v266 v771 v786 v793 (harg4.unread x1) (harg5.unread x2) (harg6.unread x3) (harg7.unread x4) (harg10.unread x7) G_arg12 G_arg13 ⟨n, hlt⟩]
    refine ⟨?_, ?_⟩
    · show View.read _ _ (arg12.view.writes _ _ (_ ++ _)) = _
      rw [View.writes_append, trip_M, ih1, stM, dif_pos h8]
      rfl
    · show View.read _ _ (arg13.view.writes _ _ (_ ++ _)) = _
      rw [View.writes_append, trip_A, ih1, ih2, stA, dif_pos h8]
      rfl

end

/-! The block that a grid point writes. -/

/-- 512 rows of a pair's weighted sums, as the body reads them. -/
def halfW (arg : Memref sig .tc .vmem S4x1024x128 .f32) (off : Fin 3 → ℕ) (hin : ∀ a, off a + S1x512x128.size a ≤ S4x1024x128.size a)
    (X : BufTy.Contents (Elt Ideal) arg.view.ty) : FVec Ideal S512x128 .f32 :=
  shapeCast S512x128 (View.readAt (Elt Ideal) arg.view (Rect.unit (s := S4x1024x128) off S1x512x128.size hin).toLoadRect X) shapeCasts_S1x512x128_S512x128

/-- 512 rows of a pair's weighted sums. -/
def half (A : Vec Ideal S4x1024x128 .f32) (p : Fin 4) (o : Fin 2) : FVec Ideal S512x128 .f32 :=
  fun y => A (ix3 p ⟨512 * o.val + (y 0).val, by have : (y 0).val < 512 := (y 0).isLt; omega⟩ (y 1))

theorem unlead3 (X : FVec Ideal S1x512x128 .f32) (hs) (r : Fin 512) (l : Fin 128) : shapeCast S512x128 X hs (ix2 r l) = X (ix3 0 r l) := by pointwise

theorem halfW_eq (arg : Memref sig .tc .vmem S4x1024x128 .f32) (f : BufTy.Contents (Elt Ideal) arg.view.ty) (off hin) (p : Fin 4) (o : Fin 2)
    (ho : off = ![p.val, 512 * o.val, 0]) : halfW arg off hin f = half (View.read (Elt Ideal) arg.view f) p o := by
  subst ho
  refine ext2 fun r l => (unlead3 _ _ r l).trans ?_
  refine View.ld_unit_apply_of (arg.view.read (Elt Ideal) f) _ _ _ _ _ fun a => ?_
  fin_cases a <;> simp [ix3]

/-- The weighted sums over the sums of the weights, which stand 64 lanes away. -/
def finish (e o : FVec Ideal S512x128 .f32) : FVec Ideal S512x128 .f32 :=
  divf (select k0_pay136 e o) (dynamicRotate 1 64#32 none (select k0_pay136 o e) rotates_S512x128_d1)

/-- A pair's columns of the output block. -/
def lead (X : FVec Ideal S512x128 .f32) : FVec Ideal S1x512x128 .f32 := shapeCast S1x512x128 X shapeCasts_S512x128_S1x512x128

section
variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (x0 : Vec Ideal S1x512x512 .bf16) (x1 x2 x3 x4 : Vec Ideal S1x4096x512 .bf16) (x5 : Vec Ideal S1x16x512 .f32) (x6 : Vec Ideal S256x256 .bf16) (x7 : Vec Ideal S8x10x256x256 .f32)

/-- The weighted sums' memory after both loops. -/
def endC : BufTy.Contents (Elt Ideal) arg13.view.ty := (arg13.view.writes (Elt Ideal) arg13.view.junk ((pb_k0_t2 Variants.none c none i arg3 harg3 arg4 harg4 arg5 harg5 arg6 harg6 arg7 harg7 arg8 harg8 arg9 harg9 arg10 harg10 arg11 harg11 arg12 harg12 arg13 harg13 (BitVec.ofNat 32 (i 2).val) k0_pay136 (kernelRun0_A.sl.r_19 c i arg3 harg3 arg8 harg8 arg9 harg9 x0 x5 x6) (kernelRun0_A.sl.r_23 c i arg3 harg3 arg8 harg8 arg9 harg9 x0 x5 x6) (kernelRun0_A.sl.r_24 c i arg3 harg3 arg8 harg8 arg9 harg9 x0 x5 x6) (kernelRun0_A.sl.r_27 c i arg3 harg3 arg8 harg8 arg9 harg9 x0 x5 x6) (kernelRun0_A.sl.r_82 c i arg3 harg3 arg4 harg4 arg5 harg5 arg8 harg8 arg9 harg9 arg10 harg10 x0 x1 x2 x5 x6 x7) (kernelRun0_A.sl.r_83 c i arg3 harg3 arg4 harg4 arg5 harg5 arg6 harg6 arg7 harg7 arg8 harg8 arg9 harg9 arg10 harg10 x0 x1 x2 x3 x4 x5 x6 x7) (kernelRun0_A.sl.r_84 c i arg3 harg3 arg4 harg4 arg5 harg5 arg6 harg6 arg7 harg7 arg8 harg8 arg9 harg9 arg10 harg10 x0 x1 x2 x3 x4 x5 x6 x7) (kernelRun0_A.sl.v815 i) (harg4.unread x1) (harg5.unread x2) (harg6.unread x3) (harg7.unread x4) (harg10.unread x7) (arg12.view.writes (Elt Ideal) arg12.view.junk ((pb_k0_t1 Variants.none c none i arg3 harg3 arg4 harg4 arg5 harg5 arg6 harg6 arg7 harg7 arg8 harg8 arg9 harg9 arg10 harg10 arg11 harg11 arg12 harg12 arg13 harg13 (BitVec.ofNat 32 (i 2).val) k0_pay136 (kernelRun0_A.sl.r_19 c i arg3 harg3 arg8 harg8 arg9 harg9 x0 x5 x6) (kernelRun0_A.sl.r_23 c i arg3 harg3 arg8 harg8 arg9 harg9 x0 x5 x6) (kernelRun0_A.sl.r_24 c i arg3 harg3 arg8 harg8 arg9 harg9 x0 x5 x6) (kernelRun0_A.sl.r_27 c i arg3 harg3 arg8 harg8 arg9 harg9 x0 x5 x6) (kernelRun0_A.sl.r_82 c i arg3 harg3 arg4 harg4 arg5 harg5 arg8 harg8 arg9 harg9 arg10 harg10 x0 x1 x2 x5 x6 x7) (kernelRun0_A.sl.r_83 c i arg3 harg3 arg4 harg4 arg5 harg5 arg6 harg6 arg7 harg7 arg8 harg8 arg9 harg9 arg10 harg10 x0 x1 x2 x3 x4 x5 x6 x7) (kernelRun0_A.sl.r_84 c i arg3 harg3 arg4 harg4 arg5 harg5 arg6 harg6 arg7 harg7 arg8 harg8 arg9 harg9 arg10 harg10 x0 x1 x2 x3 x4 x5 x6 x7) (harg4.unread x1) (harg5.unread x2) (harg6.unread x3) (harg7.unread x4) (harg10.unread x7) (arg12.view.writes (Elt Ideal) arg12.view.junk (kernelRun0_A.sl.HS0_16 c i arg3 harg3 arg4 harg4 arg5 harg5 arg8 harg8 arg9 harg9 arg10 harg10 x0 x1 x2 x5 x6 x7)) (arg13.view.writes (Elt Ideal) arg13.view.junk (kernelRun0_A.sl.HS1_16 c i arg3 harg3 arg4 harg4 arg5 harg5 arg6 harg6 arg7 harg7 arg8 harg8 arg9 harg9 arg10 harg10 x0 x1 x2 x3 x4 x5 x6 x7)) (Scf.trips (k0_t1_loop i).lb (k0_t1_loop i).ub (k0_t1_loop i).st)).1 ++ kernelRun0_A.sl.HS0_16 c i arg3 harg3 arg4 harg4 arg5 harg5 arg8 harg8 arg9 harg9 arg10 harg10 x0 x1 x2 x5 x6 x7)) (arg13.view.writes (Elt Ideal) arg13.view.junk ((pb_k0_t1 Variants.none c none i arg3 harg3 arg4 harg4 arg5 harg5 arg6 harg6 arg7 harg7 arg8 harg8 arg9 harg9 arg10 harg10 arg11 harg11 arg12 harg12 arg13 harg13 (BitVec.ofNat 32 (i 2).val) k0_pay136 (kernelRun0_A.sl.r_19 c i arg3 harg3 arg8 harg8 arg9 harg9 x0 x5 x6) (kernelRun0_A.sl.r_23 c i arg3 harg3 arg8 harg8 arg9 harg9 x0 x5 x6) (kernelRun0_A.sl.r_24 c i arg3 harg3 arg8 harg8 arg9 harg9 x0 x5 x6) (kernelRun0_A.sl.r_27 c i arg3 harg3 arg8 harg8 arg9 harg9 x0 x5 x6) (kernelRun0_A.sl.r_82 c i arg3 harg3 arg4 harg4 arg5 harg5 arg8 harg8 arg9 harg9 arg10 harg10 x0 x1 x2 x5 x6 x7) (kernelRun0_A.sl.r_83 c i arg3 harg3 arg4 harg4 arg5 harg5 arg6 harg6 arg7 harg7 arg8 harg8 arg9 harg9 arg10 harg10 x0 x1 x2 x3 x4 x5 x6 x7) (kernelRun0_A.sl.r_84 c i arg3 harg3 arg4 harg4 arg5 harg5 arg6 harg6 arg7 harg7 arg8 harg8 arg9 harg9 arg10 harg10 x0 x1 x2 x3 x4 x5 x6 x7) (harg4.unread x1) (harg5.unread x2) (harg6.unread x3) (harg7.unread x4) (harg10.unread x7) (arg12.view.writes (Elt Ideal) arg12.view.junk (kernelRun0_A.sl.HS0_16 c i arg3 harg3 arg4 harg4 arg5 harg5 arg8 harg8 arg9 harg9 arg10 harg10 x0 x1 x2 x5 x6 x7)) (arg13.view.writes (Elt Ideal) arg13.view.junk (kernelRun0_A.sl.HS1_16 c i arg3 harg3 arg4 harg4 arg5 harg5 arg6 harg6 arg7 harg7 arg8 harg8 arg9 harg9 arg10 harg10 x0 x1 x2 x3 x4 x5 x6 x7)) (Scf.trips (k0_t1_loop i).lb (k0_t1_loop i).ub (k0_t1_loop i).st)).2 ++ kernelRun0_A.sl.HS1_16 c i arg3 harg3 arg4 harg4 arg5 harg5 arg6 harg6 arg7 harg7 arg8 harg8 arg9 harg9 arg10 harg10 x0 x1 x2 x3 x4 x5 x6 x7)) (Scf.trips (k0_t2_loop i).lb (k0_t2_loop i).ub (k0_t2_loop i).st)).2 ++ ((pb_k0_t1 Variants.none c none i arg3 harg3 arg4 harg4 arg5 harg5 arg6 harg6 arg7 harg7 arg8 harg8 arg9 harg9 arg10 harg10 arg11 harg11 arg12 harg12 arg13 harg13 (BitVec.ofNat 32 (i 2).val) k0_pay136 (kernelRun0_A.sl.r_19 c i arg3 harg3 arg8 harg8 arg9 harg9 x0 x5 x6) (kernelRun0_A.sl.r_23 c i arg3 harg3 arg8 harg8 arg9 harg9 x0 x5 x6) (kernelRun0_A.sl.r_24 c i arg3 harg3 arg8 harg8 arg9 harg9 x0 x5 x6) (kernelRun0_A.sl.r_27 c i arg3 harg3 arg8 harg8 arg9 harg9 x0 x5 x6) (kernelRun0_A.sl.r_82 c i arg3 harg3 arg4 harg4 arg5 harg5 arg8 harg8 arg9 harg9 arg10 harg10 x0 x1 x2 x5 x6 x7) (kernelRun0_A.sl.r_83 c i arg3 harg3 arg4 harg4 arg5 harg5 arg6 harg6 arg7 harg7 arg8 harg8 arg9 harg9 arg10 harg10 x0 x1 x2 x3 x4 x5 x6 x7) (kernelRun0_A.sl.r_84 c i arg3 harg3 arg4 harg4 arg5 harg5 arg6 harg6 arg7 harg7 arg8 harg8 arg9 harg9 arg10 harg10 x0 x1 x2 x3 x4 x5 x6 x7) (harg4.unread x1) (harg5.unread x2) (harg6.unread x3) (harg7.unread x4) (harg10.unread x7) (arg12.view.writes (Elt Ideal) arg12.view.junk (kernelRun0_A.sl.HS0_16 c i arg3 harg3 arg4 harg4 arg5 harg5 arg8 harg8 arg9 harg9 arg10 harg10 x0 x1 x2 x5 x6 x7)) (arg13.view.writes (Elt Ideal) arg13.view.junk (kernelRun0_A.sl.HS1_16 c i arg3 harg3 arg4 harg4 arg5 harg5 arg6 harg6 arg7 harg7 arg8 harg8 arg9 harg9 arg10 harg10 x0 x1 x2 x3 x4 x5 x6 x7)) (Scf.trips (k0_t1_loop i).lb (k0_t1_loop i).ub (k0_t1_loop i).st)).2 ++ kernelRun0_A.sl.HS1_16 c i arg3 harg3 arg4 harg4 arg5 harg5 arg6 harg6 arg7 harg7 arg8 harg8 arg9 harg9 arg10 harg10 x0 x1 x2 x3 x4 x5 x6 x7)))

theorem out_words : out0_A_8 c i arg3 harg3 arg4 harg4 arg5 harg5 arg6 harg6 arg7 harg7 arg8 harg8 arg9 harg9 arg10 harg10 arg11 harg11 arg12 harg12 arg13 harg13 x0 x1 x2 x3 x4 x5 x6 x7 = View.read (Elt Ideal) VO0_8 (VO0_8.writes (Elt Ideal) VO0_8.junk [
    ⟨Rect.unit ![0, 0, 384] S1x512x128.size inb_S1x512x512_S1x512x128_0_0_384, lead (finish (halfW arg13 ![3, 0, 0] inb_S4x1024x128_S1x512x128_3_0_0 (endC c i arg3 harg3 arg4 harg4 arg5 harg5 arg6 harg6 arg7 harg7 arg8 harg8 arg9 harg9 arg10 harg10 arg11 harg11 arg12 harg12 arg13 harg13 x0 x1 x2 x3 x4 x5 x6 x7)) (halfW arg13 ![3, 512, 0] inb_S4x1024x128_S1x512x128_3_512_0 (endC c i arg3 harg3 arg4 harg4 arg5 harg5 arg6 harg6 arg7 harg7 arg8 harg8 arg9 harg9 arg10 harg10 arg11 harg11 arg12 harg12 arg13 harg13 x0 x1 x2 x3 x4 x5 x6 x7)))⟩,
    ⟨Rect.unit ![0, 0, 256] S1x512x128.size inb_S1x512x512_S1x512x128_0_0_256, lead (finish (halfW arg13 ![2, 0, 0] inb_S4x1024x128_S1x512x128_2_0_0 (endC c i arg3 harg3 arg4 harg4 arg5 harg5 arg6 harg6 arg7 harg7 arg8 harg8 arg9 harg9 arg10 harg10 arg11 harg11 arg12 harg12 arg13 harg13 x0 x1 x2 x3 x4 x5 x6 x7)) (halfW arg13 ![2, 512, 0] inb_S4x1024x128_S1x512x128_2_512_0 (endC c i arg3 harg3 arg4 harg4 arg5 harg5 arg6 harg6 arg7 harg7 arg8 harg8 arg9 harg9 arg10 harg10 arg11 harg11 arg12 harg12 arg13 harg13 x0 x1 x2 x3 x4 x5 x6 x7)))⟩,
    ⟨Rect.unit ![0, 0, 128] S1x512x128.size inb_S1x512x512_S1x512x128_0_0_128, lead (finish (halfW arg13 ![1, 0, 0] inb_S4x1024x128_S1x512x128_1_0_0 (endC c i arg3 harg3 arg4 harg4 arg5 harg5 arg6 harg6 arg7 harg7 arg8 harg8 arg9 harg9 arg10 harg10 arg11 harg11 arg12 harg12 arg13 harg13 x0 x1 x2 x3 x4 x5 x6 x7)) (halfW arg13 ![1, 512, 0] inb_S4x1024x128_S1x512x128_1_512_0 (endC c i arg3 harg3 arg4 harg4 arg5 harg5 arg6 harg6 arg7 harg7 arg8 harg8 arg9 harg9 arg10 harg10 arg11 harg11 arg12 harg12 arg13 harg13 x0 x1 x2 x3 x4 x5 x6 x7)))⟩,
    ⟨Rect.unit ![0, 0, 0] S1x512x128.size inb_S1x512x512_S1x512x128_0_0_0, lead (finish (halfW arg13 ![0, 0, 0] inb_S4x1024x128_S1x512x128_0_0_0 (endC c i arg3 harg3 arg4 harg4 arg5 harg5 arg6 harg6 arg7 harg7 arg8 harg8 arg9 harg9 arg10 harg10 arg11 harg11 arg12 harg12 arg13 harg13 x0 x1 x2 x3 x4 x5 x6 x7)) (halfW arg13 ![0, 512, 0] inb_S4x1024x128_S1x512x128_0_512_0 (endC c i arg3 harg3 arg4 harg4 arg5 harg5 arg6 harg6 arg7 harg7 arg8 harg8 arg9 harg9 arg10 harg10 arg11 harg11 arg12 harg12 arg13 harg13 x0 x1 x2 x3 x4 x5 x6 x7)))⟩]) := by
  unfold out0_A_8
  unfold kernelRun0_A
  dsimp only
  rfl

theorem trips2_eq : ∀ I : Fin 8, Scf.trips (Scalar.addi 0#32 (Scalar.muli (Scalar.divsi (Scalar.subi (BitVec.ofNat 32 I.val) 0#32) 1#32) 1#32))
    (Scalar.addi 0#32 (Scalar.subi (BitVec.ofNat 32 I.val) 0#32)) 1#32 = 0 := by decide

/-- The weighted sums of the whole block. -/
def endA (qq : Fin 4 → FVec Ideal S1024x256 .bf16) (I : Fin 8) (x1 x2 x3 x4 : Vec Ideal S1x4096x512 .bf16) (x7 : Vec Ideal S8x10x256x256 .f32) : Vec Ideal S4x1024x128 .f32 :=
  stA x1 x2 x3 x4 x7 qq I.val (Diag.firstM x1 x2 x7 qq I) (Diag.firstA x1 x2 x3 x4 x7 qq I) I.val

theorem endC_read : View.read (Elt Ideal) arg13.view (endC c i arg3 harg3 arg4 harg4 arg5 harg5 arg6 harg6 arg7 harg7 arg8 harg8 arg9 harg9 arg10 harg10 arg11 harg11 arg12 harg12 arg13 harg13 x0 x1 x2 x3 x4 x5 x6 x7) = endA (Diag.qqs c i arg3 harg3 arg8 harg8 arg9 harg9 x0 x5 x6) (i 2) x1 x2 x3 x4 x7 := by
  unfold endC
  rw [show Scf.trips (k0_t2_loop i).lb (k0_t2_loop i).ub (k0_t2_loop i).st = 0 from trips2_eq (i 2), pb_k0_t2.eq_1]
  show View.read _ _ (arg13.view.writes _ _ ((pb_k0_t1 Variants.none c none i arg3 harg3 arg4 harg4 arg5 harg5 arg6 harg6 arg7 harg7 arg8 harg8 arg9 harg9 arg10 harg10 arg11 harg11 arg12 harg12 arg13 harg13 (BitVec.ofNat 32 (i 2).val) k0_pay136 (kernelRun0_A.sl.r_19 c i arg3 harg3 arg8 harg8 arg9 harg9 x0 x5 x6) (kernelRun0_A.sl.r_23 c i arg3 harg3 arg8 harg8 arg9 harg9 x0 x5 x6) (kernelRun0_A.sl.r_24 c i arg3 harg3 arg8 harg8 arg9 harg9 x0 x5 x6) (kernelRun0_A.sl.r_27 c i arg3 harg3 arg8 harg8 arg9 harg9 x0 x5 x6) (kernelRun0_A.sl.r_82 c i arg3 harg3 arg4 harg4 arg5 harg5 arg8 harg8 arg9 harg9 arg10 harg10 x0 x1 x2 x5 x6 x7) (kernelRun0_A.sl.r_83 c i arg3 harg3 arg4 harg4 arg5 harg5 arg6 harg6 arg7 harg7 arg8 harg8 arg9 harg9 arg10 harg10 x0 x1 x2 x3 x4 x5 x6 x7) (kernelRun0_A.sl.r_84 c i arg3 harg3 arg4 harg4 arg5 harg5 arg6 harg6 arg7 harg7 arg8 harg8 arg9 harg9 arg10 harg10 x0 x1 x2 x3 x4 x5 x6 x7) (harg4.unread x1) (harg5.unread x2) (harg6.unread x3) (harg7.unread x4) (harg10.unread x7) (arg12.view.writes (Elt Ideal) arg12.view.junk (kernelRun0_A.sl.HS0_16 c i arg3 harg3 arg4 harg4 arg5 harg5 arg8 harg8 arg9 harg9 arg10 harg10 x0 x1 x2 x5 x6 x7)) (arg13.view.writes (Elt Ideal) arg13.view.junk (kernelRun0_A.sl.HS1_16 c i arg3 harg3 arg4 harg4 arg5 harg5 arg6 harg6 arg7 harg7 arg8 harg8 arg9 harg9 arg10 harg10 x0 x1 x2 x3 x4 x5 x6 x7)) (Scf.trips (k0_t1_loop i).lb (k0_t1_loop i).ub (k0_t1_loop i).st)).2 ++ kernelRun0_A.sl.HS1_16 c i arg3 harg3 arg4 harg4 arg5 harg5 arg6 harg6 arg7 harg7 arg8 harg8 arg9 harg9 arg10 harg10 x0 x1 x2 x3 x4 x5 x6 x7)) = _
  rw [View.writes_append]
  refine ((loop_state _ _ _ _ arg3 harg3 arg4 harg4 arg5 harg5 arg6 harg6 arg7 harg7 arg8 harg8 arg9 harg9 arg10 harg10 arg11 harg11 arg12 harg12 arg13 harg13 _ _ _ _ _ _ _ _ _ x1 x2 x3 x4 x7 _ _ _ le_rfl).2).trans ?_
  rw [Diag.first_A, Diag.first_M, trips i]
  rfl

end

end Cert.KernelIdeal.Loop
-- ==== Proof.MobaQuery.lean ====
/- The queries of a block with their masked flags, at the values of the block's inputs. -/
module

public import proofs.«01_k».proof.Proof.MobaLoop

@[expose] public section

set_option maxRecDepth 16384

noncomputable section

open Idealize.ShloMosaic Idealize.ShloMosaic.TcCoe Idealize.SL.Sem

namespace Cert.KernelIdeal.Query

open Cert.KernelIdeal Cert.KernelIdeal.Gen Cert.Moba Cert.KernelIdeal.Trip

variable [Facts]

/-- A pair's queries, as the body reads them. -/
def queryW (arg : Memref sig .tc .vmem S1x512x512 .bf16) (off : Fin 3 → ℕ) (hin : ∀ a, off a + S1x512x128.size a ≤ S1x512x512.size a)
    (X : BufTy.Contents (Elt Ideal) arg.view.ty) : FVec Ideal S512x128 .bf16 :=
  shapeCast S512x128 (View.readAt (Elt Ideal) arg.view (Rect.unit (s := S1x512x512) off S1x512x128.size hin).toLoadRect X) shapeCasts_S1x512x128_S512x128
/-- A pair's block means, as the body reads them. -/
def meanW (arg : Memref sig .tc .vmem S1x16x512 .f32) (off : Fin 3 → ℕ) (hin : ∀ a, off a + S1x16x128.size a ≤ S1x16x512.size a)
    (X : BufTy.Contents (Elt Ideal) arg.view.ty) : FVec Ideal S16x128 .f32 :=
  shapeCast S16x128 (View.readAt (Elt Ideal) arg.view (Rect.unit (s := S1x16x512) off S1x16x128.size hin).toLoadRect X) shapeCasts_S1x16x128_S16x128
/-- The identity matrix, as the body reads it. -/
def identW (arg : Memref sig .tc .vmem S256x256 .bf16) (off : Fin 2 → ℕ) (hin : ∀ a, off a + S256x256.size a ≤ S256x256.size a)
    (X : BufTy.Contents (Elt Ideal) arg.view.ty) : FVec Ideal S256x256 .bf16 :=
  shapeCast S256x256 (View.readAt (Elt Ideal) arg.view (Rect.unit (s := S256x256) off S256x256.size hin).toLoadRect X) shapeCasts_S256x256_S256x256

/-- A pair's queries. -/
def query (x : Vec Ideal S1x512x512 .bf16) (p : Fin 4) : FVec Ideal S512x128 .bf16 :=
  fun y => x (ix3 0 (y 0) ⟨128 * p.val + (y 1).val, by have : (y 1).val < 128 := (y 1).isLt; omega⟩)
/-- A pair's block means. -/
def mean (x : Vec Ideal S1x16x512 .f32) (p : Fin 4) : FVec Ideal S16x128 .f32 :=
  fun y => x (ix3 0 (y 0) ⟨128 * p.val + (y 1).val, by have : (y 1).val < 128 := (y 1).isLt; omega⟩)

theorem unleadQ (X : FVec Ideal S1x512x128 .bf16) (hs) (r : Fin 512) (l : Fin 128) : shapeCast S512x128 X hs (ix2 r l) = X (ix3 0 r l) := by pointwise
theorem unleadM (X : FVec Ideal S1x16x128 .f32) (hs) (r : Fin 16) (l : Fin 128) : shapeCast S16x128 X hs (ix2 r l) = X (ix3 0 r l) := by pointwise

theorem unleadI (X : FVec Ideal S256x256 .bf16) (hs) (r : Fin 256) (l : Fin 256) : shapeCast S256x256 X hs (ix2 r l) = X (ix2 r l) := by pointwise

theorem queryW_eq (arg : Memref sig .tc .vmem S1x512x512 .bf16) (h : arg.IsWhole) (x : Vec Ideal S1x512x512 .bf16) (off hin) (p : Fin 4)
    (ho : off = ![0, 0, 128 * p.val]) : queryW arg off hin (h.unread x) = query x p := by
  subst ho
  refine ext2 fun r l => (unleadQ _ _ r l).trans ?_
  refine (congrFun (congrArg (fun X => View.ld X (Rect.unit (s := S1x512x512) _ S1x512x128.size hin)) (h.read_unread x)) _).trans ?_
  refine View.ld_unit_apply_of _ _ _ _ _ _ fun a => ?_
  fin_cases a <;> simp [ix3]
theorem meanW_eq (arg : Memref sig .tc .vmem S1x16x512 .f32) (h : arg.IsWhole) (x : Vec Ideal S1x16x512 .f32) (off hin) (p : Fin 4)
    (ho : off = ![0, 0, 128 * p.val]) : meanW arg off hin (h.unread x) = mean x p := by
  subst ho
  refine ext2 fun r l => (unleadM _ _ r l).trans ?_
  refine (congrFun (congrArg (fun X => View.ld X (Rect.unit (s := S1x16x512) _ S1x16x128.size hin)) (h.read_unread x)) _).trans ?_
  refine View.ld_unit_apply_of _ _ _ _ _ _ fun a => ?_
  fin_cases a <;> simp [ix3]
theorem identW_eq (arg : Memref sig .tc .vmem S256x256 .bf16) (h : arg.IsWhole) (x : Vec Ideal S256x256 .bf16) (off hin)
    (ho : off = ![0, 0]) : identW arg off hin (h.unread x) = x := by
  subst ho
  refine ext2 fun r l => (unleadI _ _ r l).trans ?_
  refine (congrFun (congrArg (fun X => View.ld X (Rect.unit (s := S256x256) _ S256x256.size hin)) (h.read_unread x)) _).trans ?_
  refine View.ld_unit_apply_of _ _ _ _ _ _ fun a => ?_
  fin_cases a <;> simp [ix2]

/-- The flags of all heads of a block. -/
def flagV (i : grid0.Coords) (x0 : Vec Ideal S1x512x512 .bf16) (x5 : Vec Ideal S1x16x512 .f32) : FVec Ideal S16x4096 .f32 :=
  Gate.flags (k0_pay137 i) (Gate.past (k0_pay137 i) (Gate.even (mean x5 0) (query x0 0)) (Gate.odd (mean x5 0) (query x0 0)) (Gate.even (mean x5 1) (query x0 1)) (Gate.odd (mean x5 1) (query x0 1)) (Gate.even (mean x5 2) (query x0 2)) (Gate.odd (mean x5 2) (query x0 2)) (Gate.even (mean x5 3) (query x0 3)) (Gate.odd (mean x5 3) (query x0 3)))

/-- A head's flags. -/
def flagH (i : grid0.Coords) (x0 : Vec Ideal S1x512x512 .bf16) (x5 : Vec Ideal S1x16x512 .f32) (h : Fin 8) : FVec Ideal S16x512 .f32 :=
  fun y => flagV i x0 x5 (ix2 (y 0) ⟨h.val * 512 + (y 1).val, by have : (y 1).val < 512 := (y 1).isLt; omega⟩)

/-- A pair's queries with the masked flags beside them. -/
def qqV (i : grid0.Coords) (x0 : Vec Ideal S1x512x512 .bf16) (x5 : Vec Ideal S1x16x512 .f32) (x6 : Vec Ideal S256x256 .bf16) (p : Fin 4) : FVec Ideal S1024x256 .bf16 :=
  Gate.augmented (query x0 p) (Gate.maskpart (flagH i x0 x5 ⟨2 * p.val, by omega⟩) (flagH i x0 x5 ⟨2 * p.val + 1, by omega⟩) x6 x6)

section
variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (x0 : Vec Ideal S1x512x512 .bf16) (x1 x2 x3 x4 : Vec Ideal S1x4096x512 .bf16) (x5 : Vec Ideal S1x16x512 .f32) (x6 : Vec Ideal S256x256 .bf16) (x7 : Vec Ideal S8x10x256x256 .f32)

/-- The flags' words over the gate scores. -/
theorem flags_generic (own : IVec S16x4096 32) (g0 g1 g2 g3 g4 g5 g6 : FVec Ideal S16x512 .f32) (q : FVec Ideal S512x128 .bf16) (a b : FVec Ideal S16x128 .bf16) (z : FVec Ideal S16x512 .f32) :
    k0_pay169 Gate.blk (k0_pay166 Gate.blk own g0 g1 g2 g3 g4 g5 q g6 a b z) (k0_pay167 Gate.blk own g0 g1 g2 g3 g4 g5 q g6 a b z) k0_pay168 =
      Gate.flags own (Gate.past own g0 g1 g2 g3 g4 g5 g6 (addf (matmul dot_S16x128_S512x128_S16x512_1_1_0_0_n_n none a q z) (matmul dot_S16x128_S512x128_S16x512_1_1_0_0_n_n none b q (constant S16x512 .f32 0x00000000#32)))) := rfl
theorem flags_congr (own : IVec S16x4096 32) {g0 g1 g2 g3 g4 g5 g6 g7 k0 k1 k2 k3 k4 k5 k6 k7 : FVec Ideal S16x512 .f32} (h0 : g0 = k0) (h1 : g1 = k1) (h2 : g2 = k2) (h3 : g3 = k3)
    (h4 : g4 = k4) (h5 : g5 = k5) (h6 : g6 = k6) (h7 : g7 = k7) : Gate.flags own (Gate.past own g0 g1 g2 g3 g4 g5 g6 g7) = Gate.flags own (Gate.past own k0 k1 k2 k3 k4 k5 k6 k7) := by
  subst h0 h1 h2 h3 h4 h5 h6 h7; rfl

theorem flags_word : kernelRun0_A.sl.r_18 c i arg3 harg3 arg8 harg8 x0 x5 = (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) := by
  refine (flags_generic _ _ _ _ _ _ _ _ _ _ _ _).trans ?_
  exact flags_congr _ rfl rfl rfl rfl rfl rfl rfl rfl

theorem pay170_eq (v4 f w x) (q : Vec Ideal S1x512x128 .bf16) (e0 e1 : Vec Ideal S256x256 .bf16) : k0_pay170 k0_pay136 v4 k0_pay138 k0_pay139 f w x q e0 e1 =
    Gate.augmented (shapeCast S512x128 q shapeCasts_S1x512x128_S512x128) (Gate.maskpart (extractStridedSlice S16x512 ![0, 0] (k0_pay169 v4 f w x) slices_S16x4096_o0_0_S16x512)
      (extractStridedSlice S16x512 ![0, 512] (k0_pay169 v4 f w x) slices_S16x4096_o0_512_S16x512) (shapeCast S256x256 e0 shapeCasts_S256x256_S256x256) (shapeCast S256x256 e1 shapeCasts_S256x256_S256x256)) := rfl
theorem pay174_eq (v4 f w x) (q : Vec Ideal S1x512x128 .bf16) (e0 e1 : Vec Ideal S256x256 .bf16) : k0_pay174 k0_pay136 k0_pay139 (k0_pay171 q) (k0_pay172 v4 k0_pay138 f w x) (k0_pay173 v4 k0_pay138 f w x e0) e1 =
    Gate.augmented (shapeCast S512x128 q shapeCasts_S1x512x128_S512x128) (Gate.maskpart (extractStridedSlice S16x512 ![0, 1024] (k0_pay169 v4 f w x) slices_S16x4096_o0_1024_S16x512)
      (extractStridedSlice S16x512 ![0, 1536] (k0_pay169 v4 f w x) slices_S16x4096_o0_1536_S16x512) (shapeCast S256x256 e0 shapeCasts_S256x256_S256x256) (shapeCast S256x256 e1 shapeCasts_S256x256_S256x256)) := rfl
theorem pay175_eq (f) (q : Vec Ideal S1x512x128 .bf16) (e0 e1 : Vec Ideal S256x256 .bf16) : k0_pay175 k0_pay136 k0_pay138 k0_pay139 f q e0 e1 =
    Gate.augmented (shapeCast S512x128 q shapeCasts_S1x512x128_S512x128) (Gate.maskpart (extractStridedSlice S16x512 ![0, 2048] f slices_S16x4096_o0_2048_S16x512)
      (extractStridedSlice S16x512 ![0, 2560] f slices_S16x4096_o0_2560_S16x512) (shapeCast S256x256 e0 shapeCasts_S256x256_S256x256) (shapeCast S256x256 e1 shapeCasts_S256x256_S256x256)) := rfl
theorem pay178_eq (f) (q : Vec Ideal S1x512x128 .bf16) (e0 e1 : Vec Ideal S256x256 .bf16) : k0_pay178 k0_pay136 k0_pay138 k0_pay139 f (k0_pay176 q) (k0_pay177 f) e0 e1 =
    Gate.augmented (shapeCast S512x128 q shapeCasts_S1x512x128_S512x128) (Gate.maskpart (extractStridedSlice S16x512 ![0, 3072] f slices_S16x4096_o0_3072_S16x512)
      (extractStridedSlice S16x512 ![0, 3584] f slices_S16x4096_o0_3584_S16x512) (shapeCast S256x256 e0 shapeCasts_S256x256_S256x256) (shapeCast S256x256 e1 shapeCasts_S256x256_S256x256)) := rfl

theorem qqs_words : Diag.qqs c i arg3 harg3 arg8 harg8 arg9 harg9 x0 x5 x6 = ![
    Gate.augmented (queryW arg3 ![0, 0, 0] inb_S1x512x512_S1x512x128_0_0_0 (harg3.unread x0)) (Gate.maskpart (extractStridedSlice S16x512 ![0, 0] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_0_S16x512) (extractStridedSlice S16x512 ![0, 512] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_512_S16x512) (identW arg9 ![0, 0] inb_S256x256_S256x256_0_0 (harg9.unread x6)) (identW arg9 ![0, 0] inb_S256x256_S256x256_0_0 (harg9.unread x6))),
    Gate.augmented (queryW arg3 ![0, 0, 128] inb_S1x512x512_S1x512x128_0_0_128 (harg3.unread x0)) (Gate.maskpart (extractStridedSlice S16x512 ![0, 1024] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_1024_S16x512) (extractStridedSlice S16x512 ![0, 1536] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_1536_S16x512) (identW arg9 ![0, 0] inb_S256x256_S256x256_0_0 (harg9.unread x6)) (identW arg9 ![0, 0] inb_S256x256_S256x256_0_0 (harg9.unread x6))),
    Gate.augmented (queryW arg3 ![0, 0, 256] inb_S1x512x512_S1x512x128_0_0_256 (harg3.unread x0)) (Gate.maskpart (extractStridedSlice S16x512 ![0, 2048] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_2048_S16x512) (extractStridedSlice S16x512 ![0, 2560] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_2560_S16x512) (identW arg9 ![0, 0] inb_S256x256_S256x256_0_0 (harg9.unread x6)) (identW arg9 ![0, 0] inb_S256x256_S256x256_0_0 (harg9.unread x6))),
    Gate.augmented (queryW arg3 ![0, 0, 384] inb_S1x512x512_S1x512x128_0_0_384 (harg3.unread x0)) (Gate.maskpart (extractStridedSlice S16x512 ![0, 3072] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_3072_S16x512) (extractStridedSlice S16x512 ![0, 3584] (Gate.flags (k0_pay137 i) (Gate.past (k0_pay137 i) (Gate.even (meanW arg8 ![0, 0, 0] inb_S1x16x512_S1x16x128_0_0_0 (harg8.unread x5)) (queryW arg3 ![0, 0, 0] inb_S1x512x512_S1x512x128_0_0_0 (harg3.unread x0))) (Gate.odd (meanW arg8 ![0, 0, 0] inb_S1x16x512_S1x16x128_0_0_0 (harg8.unread x5)) (queryW arg3 ![0, 0, 0] inb_S1x512x512_S1x512x128_0_0_0 (harg3.unread x0))) (Gate.even (meanW arg8 ![0, 0, 128] inb_S1x16x512_S1x16x128_0_0_128 (harg8.unread x5)) (queryW arg3 ![0, 0, 128] inb_S1x512x512_S1x512x128_0_0_128 (harg3.unread x0))) (Gate.odd (meanW arg8 ![0, 0, 128] inb_S1x16x512_S1x16x128_0_0_128 (harg8.unread x5)) (queryW arg3 ![0, 0, 128] inb_S1x512x512_S1x512x128_0_0_128 (harg3.unread x0))) (Gate.even (meanW arg8 ![0, 0, 256] inb_S1x16x512_S1x16x128_0_0_256 (harg8.unread x5)) (queryW arg3 ![0, 0, 256] inb_S1x512x512_S1x512x128_0_0_256 (harg3.unread x0))) (Gate.odd (meanW arg8 ![0, 0, 256] inb_S1x16x512_S1x16x128_0_0_256 (harg8.unread x5)) (queryW arg3 ![0, 0, 256] inb_S1x512x512_S1x512x128_0_0_256 (harg3.unread x0))) (Gate.even (meanW arg8 ![0, 0, 384] inb_S1x16x512_S1x16x128_0_0_384 (harg8.unread x5)) (queryW arg3 ![0, 0, 384] inb_S1x512x512_S1x512x128_0_0_384 (harg3.unread x0))) (Gate.odd (meanW arg8 ![0, 0, 384] inb_S1x16x512_S1x16x128_0_0_384 (harg8.unread x5)) (queryW arg3 ![0, 0, 384] inb_S1x512x512_S1x512x128_0_0_384 (harg3.unread x0))))) slices_S16x4096_o0_3584_S16x512) (identW arg9 ![0, 0] inb_S256x256_S256x256_0_0 (harg9.unread x6)) (identW arg9 ![0, 0] inb_S256x256_S256x256_0_0 (harg9.unread x6)))] := by
  rw [← flags_word c]
  unfold Diag.qqs
  exact congrArg₂ Matrix.vecCons (pay170_eq _ _ _ _ _ _ _) (congrArg₂ Matrix.vecCons (pay174_eq _ _ _ _ _ _ _) (congrArg₂ Matrix.vecCons (pay175_eq _ _ _ _)
    (congrArg₂ Matrix.vecCons (pay178_eq _ _ _ _) rfl)))

theorem slice_0 (x : FVec Ideal S16x4096 .f32) : extractStridedSlice S16x512 ![0, 0] x slices_S16x4096_o0_0_S16x512
    = fun y => x (ix2 (y 0) ⟨(0 : Fin 8).val * 512 + (y 1).val, by have : (y 1).val < 512 := (y 1).isLt; show 0 * 512 + _ < 4096; omega⟩) := by
  refine ext2 fun r l => ?_
  pointwise
  try exact congrArg x (congrArg (ix2 r) (Fin.ext (by simp)))

theorem slice_1 (x : FVec Ideal S16x4096 .f32) : extractStridedSlice S16x512 ![0, 512] x slices_S16x4096_o0_512_S16x512
    = fun y => x (ix2 (y 0) ⟨(1 : Fin 8).val * 512 + (y 1).val, by have : (y 1).val < 512 := (y 1).isLt; show 1 * 512 + _ < 4096; omega⟩) := by
  refine ext2 fun r l => ?_
  pointwise
  try exact congrArg x (congrArg (ix2 r) (Fin.ext (by simp)))

theorem slice_2 (x : FVec Ideal S16x4096 .f32) : extractStridedSlice S16x512 ![0, 1024] x slices_S16x4096_o0_1024_S16x512
    = fun y => x (ix2 (y 0) ⟨(2 : Fin 8).val * 512 + (y 1).val, by have : (y 1).val < 512 := (y 1).isLt; show 2 * 512 + _ < 4096; omega⟩) := by
  refine ext2 fun r l => ?_
  pointwise
  try exact congrArg x (congrArg (ix2 r) (Fin.ext (by simp)))

theorem slice_3 (x : FVec Ideal S16x4096 .f32) : extractStridedSlice S16x512 ![0, 1536] x slices_S16x4096_o0_1536_S16x512
    = fun y => x (ix2 (y 0) ⟨(3 : Fin 8).val * 512 + (y 1).val, by have : (y 1).val < 512 := (y 1).isLt; show 3 * 512 + _ < 4096; omega⟩) := by
  refine ext2 fun r l => ?_
  pointwise
  try exact congrArg x (congrArg (ix2 r) (Fin.ext (by simp)))

theorem slice_4 (x : FVec Ideal S16x4096 .f32) : extractStridedSlice S16x512 ![0, 2048] x slices_S16x4096_o0_2048_S16x512
    = fun y => x (ix2 (y 0) ⟨(4 : Fin 8).val * 512 + (y 1).val, by have : (y 1).val < 512 := (y 1).isLt; show 4 * 512 + _ < 4096; omega⟩) := by
  refine ext2 fun r l => ?_
  pointwise
  try exact congrArg x (congrArg (ix2 r) (Fin.ext (by simp)))

theorem slice_5 (x : FVec Ideal S16x4096 .f32) : extractStridedSlice S16x512 ![0, 2560] x slices_S16x4096_o0_2560_S16x512
    = fun y => x (ix2 (y 0) ⟨(5 : Fin 8).val * 512 + (y 1).val, by have : (y 1).val < 512 := (y 1).isLt; show 5 * 512 + _ < 4096; omega⟩) := by
  refine ext2 fun r l => ?_
  pointwise
  try exact congrArg x (congrArg (ix2 r) (Fin.ext (by simp)))

theorem slice_6 (x : FVec Ideal S16x4096 .f32) : extractStridedSlice S16x512 ![0, 3072] x slices_S16x4096_o0_3072_S16x512
    = fun y => x (ix2 (y 0) ⟨(6 : Fin 8).val * 512 + (y 1).val, by have : (y 1).val < 512 := (y 1).isLt; show 6 * 512 + _ < 4096; omega⟩) := by
  refine ext2 fun r l => ?_
  pointwise
  try exact congrArg x (congrArg (ix2 r) (Fin.ext (by simp)))

theorem slice_7 (x : FVec Ideal S16x4096 .f32) : extractStridedSlice S16x512 ![0, 3584] x slices_S16x4096_o0_3584_S16x512
    = fun y => x (ix2 (y 0) ⟨(7 : Fin 8).val * 512 + (y 1).val, by have : (y 1).val < 512 := (y 1).isLt; show 7 * 512 + _ < 4096; omega⟩) := by
  refine ext2 fun r l => ?_
  pointwise
  try exact congrArg x (congrArg (ix2 r) (Fin.ext (by simp)))

theorem qqs_eq : Diag.qqs c i arg3 harg3 arg8 harg8 arg9 harg9 x0 x5 x6 = qqV i x0 x5 x6 := by
  rw [qqs_words,
    queryW_eq arg3 harg3 x0 ![0, 0, 0] inb_S1x512x512_S1x512x128_0_0_0 0 rfl,
    queryW_eq arg3 harg3 x0 ![0, 0, 128] inb_S1x512x512_S1x512x128_0_0_128 1 rfl,
    queryW_eq arg3 harg3 x0 ![0, 0, 256] inb_S1x512x512_S1x512x128_0_0_256 2 rfl,
    queryW_eq arg3 harg3 x0 ![0, 0, 384] inb_S1x512x512_S1x512x128_0_0_384 3 rfl,
    meanW_eq arg8 harg8 x5 ![0, 0, 0] inb_S1x16x512_S1x16x128_0_0_0 0 rfl,
    meanW_eq arg8 harg8 x5 ![0, 0, 128] inb_S1x16x512_S1x16x128_0_0_128 1 rfl,
    meanW_eq arg8 harg8 x5 ![0, 0, 256] inb_S1x16x512_S1x16x128_0_0_256 2 rfl,
    meanW_eq arg8 harg8 x5 ![0, 0, 384] inb_S1x16x512_S1x16x128_0_0_384 3 rfl,
    identW_eq arg9 harg9 x6 _ _ rfl,
    slice_0, slice_1, slice_2, slice_3, slice_4, slice_5, slice_6, slice_7]
  funext p
  fin_cases p <;> rfl

end

end Cert.KernelIdeal.Query
-- ==== Proof.MobaFinish.lean ====
/- The block that a grid point leaves in the output window. -/
module

public import proofs.«01_k».proof.Proof.MobaQuery

@[expose] public section

set_option maxRecDepth 16384

noncomputable section

open Idealize.ShloMosaic Idealize.ShloMosaic.TcCoe Idealize.SL.Sem

namespace Cert.KernelIdeal.Finish

open Cert.KernelIdeal Cert.KernelIdeal.Gen Cert.Moba Cert.KernelIdeal.Trip Cert.KernelIdeal.Loop

variable [Facts]

theorem relead (X : FVec Ideal S512x128 .f32) (r : Fin 512) (l : Fin 128) : lead X (ix3 0 r l) = X (ix2 r l) := by
  unfold lead; pointwise

theorem low_lane : ∀ n : Fin 128, IntOp.cmpi CmpIPredicate.slt (BitVec.ofNat 32 n.val) 64#32 = if n.val < 64 then 1#1 else 0#1 := by decide

/-- The first head's columns are the first 64: its sums over the sums of its weights, 64 lanes on. -/
theorem finish_lo (e o : FVec Ideal S512x128 .f32) (r : Fin 512) (l : Fin 64) :
    finish e o (ix2 r ⟨l.val, by omega⟩) = Ideal.div (e (ix2 r ⟨l.val, by omega⟩)) (e (ix2 r ⟨64 + l.val, by omega⟩)) := by
  have h1 := low_lane ⟨l.val, by omega⟩
  have h2 := low_lane ⟨(l.val + 128 - 64) % 128, by omega⟩
  have hi : (⟨(l.val + 128 - 64) % 128, by omega⟩ : Fin 128) = ⟨64 + l.val, by omega⟩ := Fin.ext (by show _ % 128 = 64 + l.val; omega)
  rw [if_pos (by show l.val < 64; omega)] at h1
  rw [if_neg (by show ¬ (l.val + 128 - 64) % 128 < 64; omega)] at h2
  unfold finish
  pointwise [k0_pay136]
  rw [h1, h2, hi]
  rfl
/-- The second head's columns are the other 64. -/
theorem finish_hi (e o : FVec Ideal S512x128 .f32) (r : Fin 512) (l : Fin 64) :
    finish e o (ix2 r ⟨64 + l.val, by omega⟩) = Ideal.div (o (ix2 r ⟨64 + l.val, by omega⟩)) (o (ix2 r ⟨l.val, by omega⟩)) := by
  have h1 := low_lane ⟨64 + l.val, by omega⟩
  have h2 := low_lane ⟨(64 + l.val + 128 - 64) % 128, by omega⟩
  have hi : (⟨(64 + l.val + 128 - 64) % 128, by omega⟩ : Fin 128) = ⟨l.val, by omega⟩ := Fin.ext (by show _ % 128 = l.val; omega)
  rw [if_neg (by show ¬ 64 + l.val < 64; omega)] at h1
  rw [if_pos (by show (64 + l.val + 128 - 64) % 128 < 64; omega)] at h2
  unfold finish
  pointwise [k0_pay136]
  rw [h1, h2, hi]
  rfl

/-- The output block of four pairs' columns. -/
def block (W : Fin 4 → FVec Ideal S512x128 .f32) : Vec Ideal S1x512x512 .f32 :=
  fun y => W ⟨(y 2).val / 128, by have : (y 2).val < 512 := (y 2).isLt; omega⟩ (ix2 (y 1) ⟨(y 2).val % 128, Nat.mod_lt _ (by norm_num)⟩)

theorem emb_col (W : Fin 4 → FVec Ideal S512x128 .f32) (p : Fin 4) (off) (hin) (ho : off = ![0, 0, 128 * p.val]) (r : Fin 512) (l : Fin 128) :
    block W ((Rect.unit (s := S1x512x512) off S1x512x128.size hin).emb (ix3 0 r l)) = W p (ix2 r l) := by
  subst ho
  have hl := l.isLt
  have e : (Rect.unit (s := S1x512x512) ![0, 0, 128 * p.val] S1x512x128.size hin).emb (ix3 0 r l) = ix3 0 r ⟨128 * p.val + l.val, by omega⟩ := by
    funext a
    apply Fin.ext
    fin_cases a <;> simp [Rect.emb_apply, Rect.idx_unit_val, ix3]
  rw [e]
  have hp : (⟨(128 * p.val + l.val) / 128, by omega⟩ : Fin 4) = p := Fin.ext (by show _ / 128 = p.val; omega)
  have hc : (⟨(128 * p.val + l.val) % 128, Nat.mod_lt _ (by norm_num)⟩ : Fin 128) = l := Fin.ext (by show _ % 128 = l.val; omega)
  show W ⟨(128 * p.val + l.val) / 128, by omega⟩ (ix2 r ⟨(128 * p.val + l.val) % 128, _⟩) = _
  rw [hp, hc]

theorem block_of_pieces (W : Fin 4 → FVec Ideal S512x128 .f32) :
    View.read (Elt Ideal) VO0_8 (VO0_8.writes (Elt Ideal) VO0_8.junk [
      ⟨Rect.unit ![0, 0, 384] S1x512x128.size inb_S1x512x512_S1x512x128_0_0_384, lead (W 3)⟩,
      ⟨Rect.unit ![0, 0, 256] S1x512x128.size inb_S1x512x512_S1x512x128_0_0_256, lead (W 2)⟩,
      ⟨Rect.unit ![0, 0, 128] S1x512x128.size inb_S1x512x512_S1x512x128_0_0_128, lead (W 1)⟩,
      ⟨Rect.unit ![0, 0, 0] S1x512x128.size inb_S1x512x512_S1x512x128_0_0_0, lead (W 0)⟩]) = block W := by
  have key (p : Fin 4) (off) (hin) (ho : off = ![0, 0, 128 * p.val]) (x : S1x512x128.Idx) :
      lead (W p) x = block W ((Rect.unit (s := S1x512x512) off S1x512x128.size hin).emb x) := by
    obtain ⟨r, l, rfl⟩ : ∃ (r : Fin 512) (l : Fin 128), x = ix3 0 r l :=
      ⟨x 1, x 2, by funext a; fin_cases a; · exact Fin.ext (by have : (x 0).val < 1 := (x 0).isLt; show (x 0).val = 0; omega)
                    · rfl
                    · rfl⟩
    rw [relead]
    exact (emb_col W p off hin ho r l).symm
  have mem (p : Fin 4) (off) (hin) (ho : off = ![0, 0, 128 * p.val]) (y : S1x512x512.Idx) (hy : (y 2).val / 128 = p.val) :
      y ∈ (Rect.unit (s := S1x512x512) off S1x512x128.size hin).set := by
    subst ho
    refine Rect.mem_set_unit.mpr fun a => ?_
    have h0 : (y 0).val < 1 := (y 0).isLt
    have h1 : (y 1).val < 512 := (y 1).isLt
    fin_cases a
    · exact ⟨Nat.zero_le _, by show (y 0).val < 0 + 1; omega⟩
    · exact ⟨Nat.zero_le _, by show (y 1).val < 0 + 512; omega⟩
    · exact ⟨by show 128 * p.val ≤ (y 2).val; omega, by show (y 2).val < 128 * p.val + 128; omega⟩
  have cover (y : S1x512x512.Idx) : ∃ p ∈ ([
      ⟨Rect.unit ![0, 0, 384] S1x512x128.size inb_S1x512x512_S1x512x128_0_0_384, lead (W 3)⟩,
      ⟨Rect.unit ![0, 0, 256] S1x512x128.size inb_S1x512x512_S1x512x128_0_0_256, lead (W 2)⟩,
      ⟨Rect.unit ![0, 0, 128] S1x512x128.size inb_S1x512x512_S1x512x128_0_0_128, lead (W 1)⟩,
      ⟨Rect.unit ![0, 0, 0] S1x512x128.size inb_S1x512x512_S1x512x128_0_0_0, lead (W 0)⟩] : List (View.Piece (Elt Ideal) S1x512x512 .f32)),
      y ∈ p.1.set := by
    have h2 : (y 2).val < 512 := (y 2).isLt
    rcases (by omega : (y 2).val / 128 = 3 ∨ (y 2).val / 128 = 2 ∨ (y 2).val / 128 = 1 ∨ (y 2).val / 128 = 0) with h | h | h | h
    · exact ⟨_, List.mem_cons_self, mem 3 ![0, 0, 384] inb_S1x512x512_S1x512x128_0_0_384 rfl y h⟩
    · exact ⟨_, List.mem_cons_of_mem _ List.mem_cons_self, mem 2 ![0, 0, 256] inb_S1x512x512_S1x512x128_0_0_256 rfl y h⟩
    · exact ⟨_, List.mem_cons_of_mem _ (List.mem_cons_of_mem _ List.mem_cons_self), mem 1 ![0, 0, 128] inb_S1x512x512_S1x512x128_0_0_128 rfl y h⟩
    · exact ⟨_, List.mem_cons_of_mem _ (List.mem_cons_of_mem _ (List.mem_cons_of_mem _ List.mem_cons_self)), mem 0 ![0, 0, 0] inb_S1x512x512_S1x512x128_0_0_0 rfl y h⟩
  refine (View.read_writes_eq_canon _ _ _ cover).trans (funext fun y => View.canon_apply_of_pieces (block W) _ ?_ y (cover y))
  intro p hp
  simp only [List.mem_cons, List.not_mem_nil, or_false] at hp
  rcases hp with rfl | rfl | rfl | rfl
  · exact key 3 ![0, 0, 384] inb_S1x512x512_S1x512x128_0_0_384 rfl
  · exact key 2 ![0, 0, 256] inb_S1x512x512_S1x512x128_0_0_256 rfl
  · exact key 1 ![0, 0, 128] inb_S1x512x512_S1x512x128_0_0_128 rfl
  · exact key 0 ![0, 0, 0] inb_S1x512x512_S1x512x128_0_0_0 rfl

section
variable (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S1x4096x512 .bf16) (harg6 : arg6.IsWhole) (arg7 : Memref sig .tc .vmem S1x4096x512 .bf16) (harg7 : arg7.IsWhole) (arg8 : Memref sig .tc .vmem S1x16x512 .f32) (harg8 : arg8.IsWhole) (arg9 : Memref sig .tc .vmem S256x256 .bf16) (harg9 : arg9.IsWhole) (arg10 : Memref sig .tc .vmem S8x10x256x256 .f32) (harg10 : arg10.IsWhole) (arg11 : Memref sig .tc .vmem S1x512x512 .f32) (harg11 : arg11.IsWhole) (arg12 : Memref sig .tc .vmem S4x1024x128 .f32) (harg12 : arg12.IsWhole) (arg13 : Memref sig .tc .vmem S4x1024x128 .f32) (harg13 : arg13.IsWhole) (x0 : Vec Ideal S1x512x512 .bf16) (x1 x2 x3 x4 : Vec Ideal S1x4096x512 .bf16) (x5 : Vec Ideal S1x16x512 .f32) (x6 : Vec Ideal S256x256 .bf16) (x7 : Vec Ideal S8x10x256x256 .f32)

/-- What a grid point leaves in the output window. -/
theorem out_value : out0_A_8 c i arg3 harg3 arg4 harg4 arg5 harg5 arg6 harg6 arg7 harg7 arg8 harg8 arg9 harg9 arg10 harg10 arg11 harg11 arg12 harg12 arg13 harg13 x0 x1 x2 x3 x4 x5 x6 x7 =
    block fun p => finish (half (endA (Query.qqV i x0 x5 x6) (i 2) x1 x2 x3 x4 x7) p 0) (half (endA (Query.qqV i x0 x5 x6) (i 2) x1 x2 x3 x4 x7) p 1) := by
  rw [out_words,
    halfW_eq arg13 _ ![0, 0, 0] inb_S4x1024x128_S1x512x128_0_0_0 0 0 rfl,
    halfW_eq arg13 _ ![0, 512, 0] inb_S4x1024x128_S1x512x128_0_512_0 0 1 rfl,
    halfW_eq arg13 _ ![1, 0, 0] inb_S4x1024x128_S1x512x128_1_0_0 1 0 rfl,
    halfW_eq arg13 _ ![1, 512, 0] inb_S4x1024x128_S1x512x128_1_512_0 1 1 rfl,
    halfW_eq arg13 _ ![2, 0, 0] inb_S4x1024x128_S1x512x128_2_0_0 2 0 rfl,
    halfW_eq arg13 _ ![2, 512, 0] inb_S4x1024x128_S1x512x128_2_512_0 2 1 rfl,
    halfW_eq arg13 _ ![3, 0, 0] inb_S4x1024x128_S1x512x128_3_0_0 3 0 rfl,
    halfW_eq arg13 _ ![3, 512, 0] inb_S4x1024x128_S1x512x128_3_512_0 3 1 rfl,
    endC_read, Query.qqs_eq]
  exact block_of_pieces (fun p => finish (half (endA (Query.qqV i x0 x5 x6) (i 2) x1 x2 x3 x4 x7) p 0) (half (endA (Query.qqV i x0 x5 x6) (i 2) x1 x2 x3 x4 x7) p 1))

end

end Cert.KernelIdeal.Finish
-- ==== Proof.MobaRow.lean ====
/- The scores of a block of queries, row by row: what each slab of keys contributes. -/
module

public import proofs.«01_k».proof.Proof.MobaFinish

@[expose] public section

set_option maxRecDepth 16384

noncomputable section

open Idealize.ShloMosaic Idealize.ShloMosaic.TcCoe Idealize.SL.Sem

namespace Cert.KernelIdeal.Row

open Cert.KernelIdeal Cert.KernelIdeal.Gen Cert.Moba Cert.KernelIdeal.Trip

variable [Facts]

/-- The real numbers behind a block's inputs: 512 queries, a batch's keys and values and block means, and the bias tiles. -/
structure Nums where
  /-- queries -/
  Q : Fin 512 → Fin 512 → ℝ
  /-- keys -/
  K : Fin 4096 → Fin 512 → ℝ
  /-- values -/
  V : Fin 4096 → Fin 512 → ℝ
  /-- block means -/
  MB : Fin 16 → Fin 512 → ℝ
  /-- bias tiles -/
  BT : Fin 8 → Fin 10 → Fin 256 → Fin 256 → ℝ

/-- The inputs of a grid point hold these numbers: queries, keys and values in every other head's lanes beside a one-hot block number or ones,
block means, the identity, and the bias tiles, of which the first has minus infinity above its diagonal. -/
structure Holds (N : Nums) (x0 : Vec Ideal S1x512x512 .bf16) (x1 x2 x3 x4 : Vec Ideal S1x4096x512 .bf16) (x5 : Vec Ideal S1x16x512 .f32)
    (x6 : Vec Ideal S256x256 .bf16) (x7 : Vec Ideal S8x10x256x256 .f32) : Prop where
  q : ∀ r c, x0 (ix3 0 r c) = (N.Q r c : EReal)
  ke : ∀ t c, x1 (ix3 0 t c) = if c.val % 128 < 64 then (N.K t c : EReal) else if c.val % 128 = 64 + t.val / 256 then 1 else 0
  ko : ∀ t c, x2 (ix3 0 t c) = if c.val % 128 < 64 then (if c.val % 128 = t.val / 256 then 1 else 0) else (N.K t c : EReal)
  ve : ∀ t c, x3 (ix3 0 t c) = if c.val % 128 < 64 then (N.V t c : EReal) else 1
  vo : ∀ t c, x4 (ix3 0 t c) = if c.val % 128 < 64 then 1 else (N.V t c : EReal)
  mean : ∀ j c, x5 (ix3 0 j c) = (N.MB j c : EReal)
  eye : ∀ a b, x6 (ix2 a b) = if a = b then (1 : EReal) else 0
  bias : ∀ h k a b, x7 (ix4 h k a b) = if k.val = 0 ∧ a.val < b.val then ⊥ else (N.BT h k a b : EReal)

/-- A head's column. -/
def col (h : Fin 8) (d : Fin 64) : Fin 512 := ⟨64 * h.val + d.val, by omega⟩
/-- The block of a query of tile `I`. -/
def own (I : Fin 8) (r : Fin 512) : Fin 16 := ⟨2 * I.val + r.val / 256, by omega⟩
/-- The block of a key. -/
def kblk (t : Fin 4096) : Fin 16 := ⟨t.val / 256, by omega⟩
/-- The gate score of a query and a block. -/
def gate (N : Nums) (h : Fin 8) (r : Fin 512) (j : Fin 16) : ℝ := ∑ d : Fin 64, N.MB j (col h d) * N.Q r (col h d)

open Classical in
/-- The score of a query and a key: minus infinity unless the key's block is chosen and the key is not after the query. -/
def lg (N : Nums) (I : Fin 8) (h : Fin 8) (r : Fin 512) (t : Fin 4096) : EReal :=
  if Sel (fun j => (gate N h r j : EReal)) (own I r) (kblk t) ∧ t.val ≤ 512 * I.val + r.val then
    ((∑ d : Fin 64, N.Q r (col h d) * N.K t (col h d)
      + N.BT h ⟨min ((own I r).val - (kblk t).val) 5, by omega⟩ ⟨r.val % 256, by omega⟩ ⟨t.val % 256, by omega⟩ : ℝ) : EReal)
  else ⊥

theorem lg_ne_top (N : Nums) (I h r t) : lg N I h r t ≠ ⊤ := by
  unfold lg
  split_ifs
  · exact EReal.coe_ne_top _
  · exact bot_ne_top

theorem lg_own (N : Nums) (I : Fin 8) (h : Fin 8) (r : Fin 512) : lg N I h r ⟨512 * I.val + r.val, by omega⟩ ≠ ⊥ := by
  unfold lg
  rw [if_pos ⟨.inl (Fin.ext (by show (512 * I.val + r.val) / 256 = 2 * I.val + r.val / 256; omega)), le_refl _⟩]
  exact EReal.coe_ne_bot _

theorem lg_late (N : Nums) (I h r) (t : Fin 4096) (ht : 512 * I.val + r.val < t.val) : lg N I h r t = ⊥ := by
  unfold lg
  rw [if_neg (fun h => by omega)]

/-- Scores assembled from a product, a flag and a bias. -/
theorem lg_of_parts (N : Nums) (I : Fin 8) (h : Fin 8) (r : Fin 512) (t : Fin 4096) (f b : EReal)
    (hf : (Sel (fun j => (gate N h r j : EReal)) (own I r) (kblk t) → f = 0) ∧ (¬ Sel (fun j => (gate N h r j : EReal)) (own I r) (kblk t) → f = 1))
    (hb : b = if t.val ≤ 512 * I.val + r.val then
      (N.BT h ⟨min ((own I r).val - (kblk t).val) 5, by omega⟩ ⟨r.val % 256, by omega⟩ ⟨t.val % 256, by omega⟩ : EReal) else ⊥) :
    ((∑ d : Fin 64, N.Q r (col h d) * N.K t (col h d) : ℝ) : EReal) + f * ⊥ + b = lg N I h r t := by
  unfold lg
  by_cases hs : Sel (fun j => (gate N h r j : EReal)) (own I r) (kblk t)
  · rw [hf.1 hs, zero_mul, add_zero, hb]
    by_cases hc : t.val ≤ 512 * I.val + r.val
    · rw [if_pos hc, if_pos ⟨hs, hc⟩, EReal.coe_add]
    · rw [if_neg hc, if_neg (fun h => hc h.2), EReal.add_bot]
  · rw [hf.2 hs, one_mul, EReal.add_bot, EReal.bot_add, if_neg (fun h => hs h.1)]

section
variable {N : Nums} {x0 : Vec Ideal S1x512x512 .bf16} {x1 x2 x3 x4 : Vec Ideal S1x4096x512 .bf16} {x5 : Vec Ideal S1x16x512 .f32}
  {x6 : Vec Ideal S256x256 .bf16} {x7 : Vec Ideal S8x10x256x256 .f32}

/-- The gate scores of the heads. -/
def gates (x0 : Vec Ideal S1x512x512 .bf16) (x5 : Vec Ideal S1x16x512 .f32) (n : Fin 8) : FVec Ideal S16x512 .f32 :=
  if n.val % 2 = 0 then Gate.even (Query.mean x5 ⟨n.val / 2, by omega⟩) (Query.query x0 ⟨n.val / 2, by omega⟩)
  else Gate.odd (Query.mean x5 ⟨n.val / 2, by omega⟩) (Query.query x0 ⟨n.val / 2, by omega⟩)

theorem gates_at (H : Holds N x0 x1 x2 x3 x4 x5 x6 x7) (n : Fin 8) (j : Fin 16) (r : Fin 512) : gates x0 x5 n (ix2 j r) = (gate N n r j : EReal) := by
  unfold gates gate
  have hk : ∀ j l, Query.mean x5 ⟨n.val / 2, by omega⟩ (ix2 j l) = ((N.MB j ⟨128 * (n.val / 2) + l.val, by omega⟩ : ℝ) : EReal) := fun j l => H.mean _ _
  have hq : ∀ r l, Query.query x0 ⟨n.val / 2, by omega⟩ (ix2 r l) = ((N.Q r ⟨128 * (n.val / 2) + l.val, by omega⟩ : ℝ) : EReal) := fun j l => H.q _ _
  split_ifs with hn
  · rw [Gate.even_at _ _ _ _ hk hq]
    refine congrArg _ (Finset.sum_congr rfl fun d _ => ?_)
    rw [show (⟨128 * (n.val / 2) + d.val, by omega⟩ : Fin 512) = col n d from Fin.ext (by show _ = 64 * n.val + d.val; simp only []; omega)]
  · rw [Gate.odd_at _ _ _ _ hk hq]
    refine congrArg _ (Finset.sum_congr rfl fun d _ => ?_)
    rw [show (⟨128 * (n.val / 2) + (64 + d.val), by omega⟩ : Fin 512) = col n d from Fin.ext (by show _ = 64 * n.val + d.val; simp only []; omega)]

theorem flagV_eq (i : grid0.Coords) : Query.flagV i x0 x5 = Gate.flags (k0_pay137 i) (Gate.past (k0_pay137 i) (gates x0 x5 0) (gates x0 x5 1) (gates x0 x5 2)
    (gates x0 x5 3) (gates x0 x5 4) (gates x0 x5 5) (gates x0 x5 6) (gates x0 x5 7)) := rfl

/-- A flag is zero for the chosen blocks and one for the others. -/
theorem flagH_at (H : Holds N x0 x1 x2 x3 x4 x5 x6 x7) (i : grid0.Coords) (h : Fin 8) (r : Fin 512) (j : Fin 16) (hj : j ≤ own (i 2) r) :
    (Sel (fun j => (gate N h r j : EReal)) (own (i 2) r) j → Query.flagH i x0 x5 h (ix2 j r) = 0) ∧
      (¬ Sel (fun j => (gate N h r j : EReal)) (own (i 2) r) j → Query.flagH i x0 x5 h (ix2 j r) = 1) := by
  have ho : Gate.ownOf i ⟨h.val * 512 + r.val, by omega⟩ = own (i 2) r :=
    Fin.ext (by show 2 * (i 2).val + (h.val * 512 + r.val) / 256 % 2 = 2 * (i 2).val + r.val / 256; omega)
  have := Gate.flags_at i (gates x0 x5) (gate N h r) h r (fun j => gates_at H h j r) j (ho ▸ hj)
  rw [ho] at this
  show (_ → Query.flagV i x0 x5 _ = 0) ∧ (_ → Query.flagV i x0 x5 _ = 1)
  rw [flagV_eq]
  exact this

/-- Row `u` of slab `n`. -/
def key (n : Fin 8) (u : Fin 512) : Fin 4096 := ⟨512 * n.val + u.val, by omega⟩
/-- Lane `l` of pair `p`. -/
def lane (p : Fin 4) (l : Fin 128) : Fin 512 := ⟨128 * p.val + l.val, by omega⟩
theorem lane_mod (p : Fin 4) (l : Fin 128) : (lane p l).val % 128 = l.val := by show (128 * p.val + l.val) % 128 = _; omega
theorem key_div (n : Fin 8) (u : Fin 512) : (key n u).val / 256 = 2 * n.val + u.val / 256 := by show (512 * n.val + u.val) / 256 = _; omega

theorem slab_keyEven (H : Holds N x0 x1 x2 x3 x4 x5 x6 x7) (p : Fin 4) (n : Fin 8) : Gate.KeyEven (slab x1 p n)
    (fun u l => N.K (key n u) (lane p l)) (fun u => kblk (key n u)) := fun u l => by
  have h := H.ke (key n u) (lane p l)
  rw [lane_mod] at h
  exact h
theorem slab_keyOdd (H : Holds N x0 x1 x2 x3 x4 x5 x6 x7) (p : Fin 4) (n : Fin 8) : Gate.KeyOdd (slab x2 p n)
    (fun u l => N.K (key n u) (lane p l)) (fun u => kblk (key n u)) := fun u l => by
  have h := H.ko (key n u) (lane p l)
  rw [lane_mod] at h
  exact h

/-- The head of a pair. -/
def head (p : Fin 4) (o : Fin 2) : Fin 8 := ⟨2 * p.val + o.val, by omega⟩
/-- The row of a pair's stacked queries. -/
def stacked (o : Fin 2) (r : Fin 512) : Fin 1024 := ⟨512 * o.val + r.val, by omega⟩

/-- The product of augmented queries and keys: the scaled product plus minus infinity times the flag. -/
theorem row_product (H : Holds N x0 x1 x2 x3 x4 x5 x6 x7) (i : grid0.Coords) (p : Fin 4) (o : Fin 2) (n : Fin 8) (r u : Fin 512) :
    ∑ x, Query.qqV i x0 x5 x6 p (ix2 (stacked o r) x) * Gate.keys (slab x1 p n) (slab x2 p n) (ix2 u x)
      = ((∑ d : Fin 64, N.Q r (col (head p o) d) * N.K (key n u) (col (head p o) d) : ℝ) : EReal)
        + Query.flagH i x0 x5 (head p o) (ix2 (kblk (key n u)) r) * ⊥ := by
  have hq : ∀ r l, Query.query x0 p (ix2 r l) = ((N.Q r (lane p l) : ℝ) : EReal) := fun r l => H.q r (lane p l)
  have hmp := Gate.maskpart_at (Query.flagH i x0 x5 ⟨2 * p.val, by omega⟩) (Query.flagH i x0 x5 ⟨2 * p.val + 1, by omega⟩) x6 x6 H.eye H.eye
  obtain ⟨o, ho⟩ := o
  rcases (by omega : o = 0 ∨ o = 1) with rfl | rfl
  · rw [show stacked ⟨0, ho⟩ r = (⟨r.val, by omega⟩ : Fin 1024) from Fin.ext (by show 512 * 0 + r.val = r.val; omega)]
    refine (Gate.product_even (fe := Query.flagH i x0 x5 ⟨2 * p.val, by omega⟩) hq (slab_keyEven H p n) (slab_keyOdd H p n) (fun r d => ?_) r u).trans ?_
    · rw [hmp]
      congr 1
      by_cases hd : d.val < 16
      · rw [dif_neg (by show ¬ 64 + d.val < 16; omega), dif_pos (by show 64 ≤ 64 + d.val ∧ 64 + d.val < 80; omega), dif_pos hd]
        exact congrArg (fun a => Query.flagH i x0 x5 _ (ix2 a r)) (Fin.ext (by show 64 + d.val - 64 = d.val; omega))
      · rw [dif_neg (by show ¬ 64 + d.val < 16; omega), dif_neg (by show ¬ (64 ≤ 64 + d.val ∧ 64 + d.val < 80); omega), dif_neg hd]
    · refine congrArg₂ (· + ·) (congrArg _ (Finset.sum_congr rfl fun d _ => ?_)) rfl
      rw [show lane p ⟨d.val, by omega⟩ = col (head p ⟨0, ho⟩) d from Fin.ext (by show 128 * p.val + d.val = 64 * (2 * p.val + 0) + d.val; omega)]
  · rw [show stacked ⟨1, ho⟩ r = (⟨512 + r.val, by omega⟩ : Fin 1024) from Fin.ext (by show 512 * 1 + r.val = 512 + r.val; omega)]
    refine (Gate.product_odd (fo := Query.flagH i x0 x5 ⟨2 * p.val + 1, by omega⟩) hq (slab_keyEven H p n) (slab_keyOdd H p n) (fun r d => ?_) r u).trans ?_
    · rw [hmp]
      congr 1
      by_cases hd : d.val < 16
      · rw [dif_pos (by show d.val < 16; omega), dif_pos hd]
      · rw [dif_neg (by show ¬ d.val < 16; omega), dif_neg (by show ¬ (64 ≤ d.val ∧ d.val < 80); omega), dif_neg hd]
    · refine congrArg₂ (· + ·) (congrArg _ (Finset.sum_congr rfl fun d _ => ?_)) rfl
      rw [show lane p ⟨64 + d.val, by omega⟩ = col (head p ⟨1, ho⟩) d from Fin.ext (by show 128 * p.val + (64 + d.val) = 64 * (2 * p.val + 1) + d.val; omega)]

/-- A product with its bias is the score, up to the query's own block. -/
theorem row_score (H : Holds N x0 x1 x2 x3 x4 x5 x6 x7) (i : grid0.Coords) (p : Fin 4) (o : Fin 2) (n : Fin 8) (r u : Fin 512) (b : EReal)
    (hn : kblk (key n u) ≤ own (i 2) r)
    (hb : b = if (key n u).val ≤ 512 * (i 2).val + r.val then
      (N.BT (head p o) ⟨min ((own (i 2) r).val - (kblk (key n u)).val) 5, by omega⟩ ⟨r.val % 256, by omega⟩ ⟨(key n u).val % 256, by omega⟩ : EReal) else ⊥) :
    ∑ x, Query.qqV i x0 x5 x6 p (ix2 (stacked o r) x) * Gate.keys (slab x1 p n) (slab x2 p n) (ix2 u x) + b = lg N (i 2) (head p o) r (key n u) := by
  rw [row_product H]
  exact lg_of_parts N (i 2) (head p o) r (key n u) _ b (flagH_at H i (head p o) r _ hn) hb

/-- A bias tile of another kind than the first holds real numbers. -/
theorem bias_real (H : Holds N x0 x1 x2 x3 x4 x5 x6 x7) (h : Fin 8) (k : Fin 10) (a b : Fin 256) (hk : k.val ≠ 0) : x7 (ix4 h k a b) = (N.BT h k a b : EReal) := by
  rw [H.bias, if_neg (fun h => hk h.1)]

/-- An earlier slab's scores. -/
theorem scores_at (H : Holds N x0 x1 x2 x3 x4 x5 x6 x7) (i : grid0.Coords) (p : Fin 4) (o : Fin 2) (n : Fin 8) (hn : n.val < (i 2).val) (r u : Fin 512) :
    scores x1 x2 x7 (Query.qqV i x0 x5 x6 p) n ((i 2).val - n.val) p (ix2 (stacked o r) u) = lg N (i 2) (head p o) r (key n u) := by
  have hi : (i 2).val < 8 := (i 2).isLt
  unfold scores
  rw [Step.score_at, biasOf_at]
  refine row_score H i p o n r u _ (by show (key n u).val / 256 ≤ 2 * (i 2).val + r.val / 256; rw [key_div]; omega) ?_
  rw [if_pos (by show 512 * n.val + u.val ≤ _; omega), bias_real H _ _ _ _ (by
    show min (2 * ((i 2).val - n.val) + (512 * o.val + r.val) / 256 % 2 - u.val / 256) 5 ≠ 0; omega)]
  refine congrArg _ (congr (congr (congr (congrArg N.BT (Fin.ext ?_)) (Fin.ext ?_)) (Fin.ext ?_)) (Fin.ext ?_))
  · show 2 * p.val + (512 * o.val + r.val) / 512 = 2 * p.val + o.val; omega
  · show min (2 * ((i 2).val - n.val) + (512 * o.val + r.val) / 256 % 2 - u.val / 256) 5 = min (2 * (i 2).val + r.val / 256 - (key n u).val / 256) 5
    rw [key_div]; omega
  · show (512 * o.val + r.val) % 256 = r.val % 256; omega
  · show u.val % 256 = (512 * n.val + u.val) % 256; omega

/-- The first rows' scores of the query's own slab. -/
theorem loV_at (H : Holds N x0 x1 x2 x3 x4 x5 x6 x7) (i : grid0.Coords) (p : Fin 4) (o : Fin 2) (r u : Fin 256) :
    Diag.loV x1 x2 x7 (Query.qqV i x0 x5 x6) (i 2) p (ix2 ⟨256 * o.val + r.val, by omega⟩ u)
      = lg N (i 2) (head p o) ⟨r.val, by omega⟩ (key (i 2) ⟨u.val, by omega⟩) := by
  have hi : (i 2).val < 8 := (i 2).isLt
  have hn : kblk (key (i 2) ⟨u.val, by omega⟩) ≤ own (i 2) ⟨r.val, by omega⟩ := by
    show (512 * (i 2).val + u.val) / 256 ≤ 2 * (i 2).val + r.val / 256; omega
  have hb : tile x7 (head p o) 0 (ix2 r u) = if (key (i 2) ⟨u.val, by omega⟩).val ≤ 512 * (i 2).val + r.val then
      (N.BT (head p o) ⟨min ((own (i 2) ⟨r.val, by omega⟩).val - (kblk (key (i 2) ⟨u.val, by omega⟩)).val) 5, by omega⟩ ⟨r.val % 256, by omega⟩
        ⟨(key (i 2) ⟨u.val, by omega⟩).val % 256, by omega⟩ : EReal) else ⊥ := by
    refine (H.bias (head p o) 0 r u).trans ?_
    have ek : (⟨min ((own (i 2) ⟨r.val, by omega⟩).val - (kblk (key (i 2) ⟨u.val, by omega⟩)).val) 5, by omega⟩ : Fin 10) = 0 := Fin.ext (by
      show min (2 * (i 2).val + r.val / 256 - (512 * (i 2).val + u.val) / 256) 5 = 0; omega)
    have er : (⟨r.val % 256, by omega⟩ : Fin 256) = r := Fin.ext (by show r.val % 256 = r.val; omega)
    have eu : (⟨(key (i 2) ⟨u.val, by omega⟩).val % 256, by omega⟩ : Fin 256) = u := Fin.ext (by show (512 * (i 2).val + u.val) % 256 = u.val; omega)
    rw [ek, er, eu]
    by_cases h : r.val < u.val
    · rw [if_pos ⟨rfl, h⟩, if_neg (by show ¬ 512 * (i 2).val + u.val ≤ _; omega)]
    · rw [if_neg (fun h' => h h'.2), if_pos (by show 512 * (i 2).val + u.val ≤ _; omega)]
  have main := row_score H i p o (i 2) ⟨r.val, by omega⟩ ⟨u.val, by omega⟩ _ hn hb
  obtain ⟨o, ho⟩ := o
  rcases (by omega : o = 0 ∨ o = 1) with rfl | rfl
  · refine Eq.trans ?_ main
    rw [show (⟨256 * 0 + r.val, by omega⟩ : Fin 512) = ⟨r.val, by omega⟩ from Fin.ext (by show 256 * 0 + r.val = r.val; omega),
      show stacked ⟨0, ho⟩ ⟨r.val, by omega⟩ = (⟨r.val, by omega⟩ : Fin 1024) from Fin.ext (by show 512 * 0 + r.val = r.val; omega)]
    exact Step.loS_even _ _ _ _ r u
  · refine Eq.trans ?_ main
    rw [show (⟨256 * 1 + r.val, by omega⟩ : Fin 512) = ⟨256 + r.val, by omega⟩ from Fin.ext (by show 256 * 1 + r.val = 256 + r.val; omega),
      show stacked ⟨1, ho⟩ ⟨r.val, by omega⟩ = (⟨512 + r.val, by omega⟩ : Fin 1024) from Fin.ext (by show 512 * 1 + r.val = 512 + r.val; omega)]
    exact Step.loS_odd _ _ _ _ r u

/-- The last rows' scores of the query's own slab. -/
theorem hiV_at (H : Holds N x0 x1 x2 x3 x4 x5 x6 x7) (i : grid0.Coords) (p : Fin 4) (o : Fin 2) (r : Fin 256) (u : Fin 512) :
    Diag.hiV x1 x2 x7 (Query.qqV i x0 x5 x6) (i 2) p (ix2 ⟨256 * o.val + r.val, by omega⟩ u)
      = lg N (i 2) (head p o) ⟨256 + r.val, by omega⟩ (key (i 2) u) := by
  have hi : (i 2).val < 8 := (i 2).isLt
  have hn : kblk (key (i 2) u) ≤ own (i 2) ⟨256 + r.val, by omega⟩ := by
    show (512 * (i 2).val + u.val) / 256 ≤ 2 * (i 2).val + (256 + r.val) / 256; omega
  have hb : (if h : u.val < 256 then tile x7 (head p o) 1 (ix2 r ⟨u.val, h⟩) else tile x7 (head p o) 0 (ix2 r ⟨u.val - 256, by omega⟩))
      = if (key (i 2) u).val ≤ 512 * (i 2).val + (256 + r.val) then
      (N.BT (head p o) ⟨min ((own (i 2) ⟨256 + r.val, by omega⟩).val - (kblk (key (i 2) u)).val) 5, by omega⟩ ⟨(256 + r.val) % 256, by omega⟩
        ⟨(key (i 2) u).val % 256, by omega⟩ : EReal) else ⊥ := by
    have er : (⟨(256 + r.val) % 256, by omega⟩ : Fin 256) = r := Fin.ext (by show (256 + r.val) % 256 = r.val; omega)
    rw [er]
    by_cases hu : u.val < 256
    · rw [dif_pos hu, if_pos (by show 512 * (i 2).val + u.val ≤ _; omega)]
      refine (H.bias (head p o) 1 r ⟨u.val, hu⟩).trans ?_
      rw [if_neg (fun h => by have := h.1; simp at this)]
      have ek : (⟨min ((own (i 2) ⟨256 + r.val, by omega⟩).val - (kblk (key (i 2) u)).val) 5, by omega⟩ : Fin 10) = 1 := Fin.ext (by
        show min (2 * (i 2).val + (256 + r.val) / 256 - (512 * (i 2).val + u.val) / 256) 5 = 1; omega)
      have eu : (⟨(key (i 2) u).val % 256, by omega⟩ : Fin 256) = ⟨u.val, hu⟩ := Fin.ext (by show (512 * (i 2).val + u.val) % 256 = u.val; omega)
      rw [ek, eu]
    · rw [dif_neg hu]
      refine (H.bias (head p o) 0 r ⟨u.val - 256, by omega⟩).trans ?_
      have ek : (⟨min ((own (i 2) ⟨256 + r.val, by omega⟩).val - (kblk (key (i 2) u)).val) 5, by omega⟩ : Fin 10) = 0 := Fin.ext (by
        show min (2 * (i 2).val + (256 + r.val) / 256 - (512 * (i 2).val + u.val) / 256) 5 = 0; omega)
      have eu : (⟨(key (i 2) u).val % 256, by omega⟩ : Fin 256) = ⟨u.val - 256, by omega⟩ := Fin.ext (by show (512 * (i 2).val + u.val) % 256 = u.val - 256; omega)
      rw [ek, eu]
      by_cases h : r.val < u.val - 256
      · rw [if_pos ⟨rfl, h⟩, if_neg (by show ¬ 512 * (i 2).val + u.val ≤ _; omega)]
      · rw [if_neg (fun h' => h h'.2), if_pos (by show 512 * (i 2).val + u.val ≤ _; omega)]
  have main := row_score H i p o (i 2) ⟨256 + r.val, by omega⟩ u _ hn hb
  obtain ⟨o, ho⟩ := o
  rcases (by omega : o = 0 ∨ o = 1) with rfl | rfl
  · refine Eq.trans ?_ main
    rw [show (⟨256 * 0 + r.val, by omega⟩ : Fin 512) = ⟨r.val, by omega⟩ from Fin.ext (by show 256 * 0 + r.val = r.val; omega),
      show stacked ⟨0, ho⟩ ⟨256 + r.val, by omega⟩ = (⟨256 + r.val, by omega⟩ : Fin 1024) from Fin.ext (by show 512 * 0 + (256 + r.val) = 256 + r.val; omega)]
    exact Step.hiS_even _ _ _ _ _ _ r u
  · refine Eq.trans ?_ main
    rw [show (⟨256 * 1 + r.val, by omega⟩ : Fin 512) = ⟨256 + r.val, by omega⟩ from Fin.ext (by show 256 * 1 + r.val = 256 + r.val; omega),
      show stacked ⟨1, ho⟩ ⟨256 + r.val, by omega⟩ = (⟨768 + r.val, by omega⟩ : Fin 1024) from Fin.ext (by show 512 * 1 + (256 + r.val) = 768 + r.val; omega)]
    exact Step.hiS_odd _ _ _ _ _ _ r u

/-- The values of a head's lanes: the pair's values in its own lanes, ones in the other head's. -/
def vv (N : Nums) (p : Fin 4) (o : Fin 2) (l : Fin 128) (t : Fin 4096) : ℝ := if (l.val < 64 ↔ o.val = 0) then N.V t (lane p l) else 1

theorem slab_values (H : Holds N x0 x1 x2 x3 x4 x5 x6 x7) (p : Fin 4) (o : Fin 2) (n : Fin 8) (u : Fin 512) (l : Fin 128) :
    (if o.val = 0 then slab x3 p n (ix2 u l) else slab x4 p n (ix2 u l)) = (vv N p o l (key n u) : EReal) := by
  have h3 := H.ve (key n u) (lane p l)
  have h4 := H.vo (key n u) (lane p l)
  rw [lane_mod] at h3 h4
  unfold vv
  have e3 : slab x3 p n (ix2 u l) = x3 (ix3 0 (key n u) (lane p l)) := rfl
  have e4 : slab x4 p n (ix2 u l) = x4 (ix3 0 (key n u) (lane p l)) := rfl
  rw [e3, e4, h3, h4]
  by_cases ho : o.val = 0 <;> by_cases hl : l.val < 64 <;> simp [ho, hl]

end

end Cert.KernelIdeal.Row
-- ==== Proof.MobaTile.lean ====
/- The loops' invariant: the running maximum and sums are those of the keys seen so far; and the block that results. -/
module

public import proofs.«01_k».proof.Proof.MobaRow

@[expose] public section

set_option maxRecDepth 16384

noncomputable section

open Idealize.ShloMosaic Idealize.ShloMosaic.TcCoe Idealize.SL.Sem

namespace Cert.KernelIdeal.Row

open Cert.KernelIdeal Cert.KernelIdeal.Gen Cert.Moba Cert.KernelIdeal.Trip Cert.KernelIdeal.Loop

variable [Facts]

/-- Weighted values of the keys that a map lists. -/
theorem num_image {ι κ : Type*} [DecidableEq ι] [Fintype κ] (e : κ → ι) (he : Function.Injective e) (s v : ι → EReal) :
    ∑ u, Ideal.exp2 (s (e u) - Finset.univ.sup fun u => s (e u)) * v (e u) = num (Finset.univ.image e) s v := by
  unfold num
  rw [Finset.sum_image fun a _ b _ h => he h, Finset.sup_image]
  rfl

/-- The keys seen after the query's own slab and the first `n` slabs. -/
def seen (I : Fin 8) (n : ℕ) : Finset (Fin 4096) := Finset.univ.filter fun t => t.val / 512 < n ∨ t.val / 512 = I.val

theorem key_inj (n : Fin 8) : Function.Injective (key n) := fun a b h => Fin.ext (by
  have : 512 * n.val + a.val = 512 * n.val + b.val := congrArg Fin.val h
  omega)

theorem seen_succ (I : Fin 8) (n : Fin 8) : seen I (n.val + 1) = seen I n.val ∪ Finset.univ.image (key n) := by
  ext t
  simp only [seen, Finset.mem_filter, Finset.mem_univ, true_and, Finset.mem_union, Finset.mem_image]
  constructor
  · intro h
    by_cases ht : t.val / 512 = n.val
    · exact .inr ⟨⟨t.val % 512, Nat.mod_lt _ (by norm_num)⟩, Fin.ext (by show 512 * n.val + t.val % 512 = t.val; omega)⟩
    · exact .inl (by omega)
  · rintro (h | ⟨u, rfl⟩)
    · omega
    · exact .inl (by show (512 * n.val + u.val) / 512 < _; omega)

theorem key_not_seen (I : Fin 8) (n : Fin 8) (hn : n.val < I.val) (u : Fin 512) : key n u ∉ seen I n.val := by
  simp only [seen, Finset.mem_filter, Finset.mem_univ, true_and]
  show ¬ ((512 * n.val + u.val) / 512 < n.val ∨ (512 * n.val + u.val) / 512 = I.val)
  omega

/-- A query's own key. -/
def self (I : Fin 8) (r : Fin 512) : Fin 4096 := ⟨512 * I.val + r.val, by omega⟩

theorem self_seen (I : Fin 8) (n : ℕ) (r : Fin 512) : self I r ∈ seen I n := by
  simp only [seen, Finset.mem_filter, Finset.mem_univ, true_and]
  exact .inr (by show (512 * I.val + r.val) / 512 = _; omega)

section
variable {N : Nums} {x0 : Vec Ideal S1x512x512 .bf16} {x1 x2 x3 x4 : Vec Ideal S1x4096x512 .bf16} {x5 : Vec Ideal S1x16x512 .f32}
  {x6 : Vec Ideal S256x256 .bf16} {x7 : Vec Ideal S8x10x256x256 .f32}

/-- What the memories hold of a row when the keys in `T` have been seen. -/
def State (N : Nums) (I : Fin 8) (T : Finset (Fin 4096)) (M A : Vec Ideal S4x1024x128 .f32) : Prop :=
  ∀ p o r l, M (ix3 p (stacked o r) l) = T.sup (lg N I (head p o) r) ∧
    A (ix3 p (stacked o r) l) = num T (lg N I (head p o) r) fun t => (vv N p o l t : EReal)

/-- The keys that a map lists stand for all keys seen if the others are after the query. -/
theorem seen_of_image {κ : Type*} [Fintype κ] (e : κ → Fin 4096) (he : Function.Injective e) (I h r) (n : ℕ) (h1 : ∀ u, e u ∈ seen I n) (u0 : κ) (h0 : e u0 = self I r)
    (h2 : ∀ t ∈ seen I n, (∀ u, e u ≠ t) → 512 * I.val + r.val < t.val) (v : Fin 4096 → EReal) :
    (Finset.univ.sup fun u => lg N I h r (e u)) = (seen I n).sup (lg N I h r) ∧
    ∑ u, Ideal.exp2 (lg N I h r (e u) - Finset.univ.sup fun u => lg N I h r (e u)) * v (e u) = num (seen I n) (lg N I h r) v := by
  have hT : Finset.univ.image e ⊆ seen I n := fun t ht => by
    obtain ⟨u, _, rfl⟩ := Finset.mem_image.mp ht
    exact h1 u
  have hb : ∀ t ∈ seen I n, t ∉ Finset.univ.image e → lg N I h r t = ⊥ := fun t ht hn =>
    lg_late N I h r t (h2 t ht fun u hu => hn (Finset.mem_image.mpr ⟨u, Finset.mem_univ _, hu⟩))
  obtain ⟨M, hM⟩ := sup_real (T := Finset.univ.image e) (lg_ne_top N I h r) (t₀ := self I r)
    (Finset.mem_image.mpr ⟨u0, Finset.mem_univ _, h0⟩) (lg_own N I h r)
  refine ⟨?_, ?_⟩
  · rw [sup_of_bot hT hb, Finset.sup_image]; rfl
  · rw [num_image e he, num_of_bot hT hb v hM]

/-- After the query's own slab. -/
theorem first_state (H : Holds N x0 x1 x2 x3 x4 x5 x6 x7) (i : grid0.Coords) : State N (i 2) (seen (i 2) 0)
    (Diag.firstM x1 x2 x7 (Query.qqV i x0 x5 x6) (i 2)) (Diag.firstA x1 x2 x3 x4 x7 (Query.qqV i x0 x5 x6) (i 2)) := fun p o r l => by
  have hi : (i 2).val < 8 := (i 2).isLt
  have hv := fun u => slab_values H p o (i 2) u l
  by_cases hr : r.val < 256
  · have main := seen_of_image (N := N) (fun u : Fin 256 => key (i 2) ⟨u.val, by omega⟩) (fun a b h => Fin.ext (Fin.mk.inj (key_inj _ h))) (i 2) (head p o) r 0
      (fun u => by simp only [seen, Finset.mem_filter, Finset.mem_univ, true_and]; exact .inr (by show (512 * (i 2).val + u.val) / 512 = _; omega))
      ⟨r.val, hr⟩ rfl (fun t ht hu => by
        simp only [seen, Finset.mem_filter, Finset.mem_univ, true_and] at ht
        by_contra hc
        exact hu ⟨t.val - 512 * (i 2).val, by omega⟩ (Fin.ext (by show 512 * (i 2).val + (t.val - 512 * (i 2).val) = t.val; omega))) (fun t => (vv N p o l t : EReal))
    have hrow : ∀ u : Fin 256, Diag.loV x1 x2 x7 (Query.qqV i x0 x5 x6) (i 2) p (ix2 ⟨256 * o.val + r.val, by omega⟩ u) = lg N (i 2) (head p o) r (key (i 2) ⟨u.val, by omega⟩) :=
      fun u => loV_at H i p o ⟨r.val, hr⟩ u
    have hasm (L Hh : FVec Ideal S512x128 .f32) : Diag.assemble L Hh (ix2 (stacked o r) l) = L (ix2 ⟨256 * o.val + r.val, by omega⟩ l) := by
      obtain ⟨o, ho⟩ := o
      unfold Diag.assemble
      rcases (by omega : o = 0 ∨ o = 1) with rfl | rfl
      · rw [dif_pos (by show 512 * 0 + r.val < 256; omega)]
        exact congrArg (fun a => L (ix2 a l)) (Fin.ext (by show 512 * 0 + r.val = 256 * 0 + r.val; omega))
      · rw [dif_neg (by show ¬ 512 * 1 + r.val < 256; omega), dif_neg (by show ¬ 512 * 1 + r.val < 512; omega), dif_pos (by show 512 * 1 + r.val < 768; omega)]
        exact congrArg (fun a => L (ix2 a l)) (Fin.ext (by show 512 * 1 + r.val - 256 = 256 * 1 + r.val; omega))
    refine ⟨?_, ?_⟩
    · refine (hasm _ _).trans ((Step.loM_at _ _ _).trans ?_)
      rw [← main.1]
      exact congrArg _ (funext fun u => hrow u)
    · refine (hasm _ _).trans ((Step.loA_at _ _ _ _ _).trans ?_)
      rw [← main.2]
      refine Finset.sum_congr rfl fun u _ => congrArg₂ (· * ·) (congrArg Ideal.exp2 (congrArg₂ (· - ·) (hrow u) (congrArg _ (funext fun u => hrow u)))) ?_
      rw [← hv]
      exact if_congr (by show 256 * o.val + r.val < 256 ↔ o.val = 0; omega) rfl rfl
  · have main := seen_of_image (N := N) (key (i 2)) (key_inj _) (i 2) (head p o) r 0
      (fun u => by simp only [seen, Finset.mem_filter, Finset.mem_univ, true_and]; exact .inr (by show (512 * (i 2).val + u.val) / 512 = _; omega))
      r rfl (fun t ht hu => by
        simp only [seen, Finset.mem_filter, Finset.mem_univ, true_and] at ht
        by_contra hc
        exact hu ⟨t.val - 512 * (i 2).val, by omega⟩ (Fin.ext (by show 512 * (i 2).val + (t.val - 512 * (i 2).val) = t.val; omega))) (fun t => (vv N p o l t : EReal))
    have hrow : ∀ u : Fin 512, Diag.hiV x1 x2 x7 (Query.qqV i x0 x5 x6) (i 2) p (ix2 ⟨256 * o.val + (r.val - 256), by omega⟩ u) = lg N (i 2) (head p o) r (key (i 2) u) :=
      fun u => (hiV_at H i p o ⟨r.val - 256, by omega⟩ u).trans (congrArg (fun r => lg N (i 2) (head p o) r (key (i 2) u)) (Fin.ext (by show 256 + (r.val - 256) = r.val; omega)))
    have hasm (L Hh : FVec Ideal S512x128 .f32) : Diag.assemble L Hh (ix2 (stacked o r) l) = Hh (ix2 ⟨256 * o.val + (r.val - 256), by omega⟩ l) := by
      obtain ⟨o, ho⟩ := o
      unfold Diag.assemble
      rcases (by omega : o = 0 ∨ o = 1) with rfl | rfl
      · rw [dif_neg (by show ¬ 512 * 0 + r.val < 256; omega), dif_pos (by show 512 * 0 + r.val < 512; omega)]
        exact congrArg (fun a => Hh (ix2 a l)) (Fin.ext (by show 512 * 0 + r.val - 256 = 256 * 0 + (r.val - 256); omega))
      · rw [dif_neg (by show ¬ 512 * 1 + r.val < 256; omega), dif_neg (by show ¬ 512 * 1 + r.val < 512; omega), dif_neg (by show ¬ 512 * 1 + r.val < 768; omega)]
        exact congrArg (fun a => Hh (ix2 a l)) (Fin.ext (by show 512 * 1 + r.val - 512 = 256 * 1 + (r.val - 256); omega))
    refine ⟨?_, ?_⟩
    · refine (hasm _ _).trans ((Step.hiM_at _ _ _).trans ?_)
      rw [← main.1]
      exact congrArg _ (funext fun u => hrow u)
    · refine (hasm _ _).trans ((Step.hiA_at _ _ _ _ _).trans ?_)
      rw [← main.2]
      refine Finset.sum_congr rfl fun u _ => congrArg₂ (· * ·) (congrArg Ideal.exp2 (congrArg₂ (· - ·) (hrow u) (congrArg _ (funext fun u => hrow u)))) ?_
      rw [← hv]
      exact if_congr (by show 256 * o.val + (r.val - 256) < 256 ↔ o.val = 0; omega) rfl rfl

/-- One earlier slab more. -/
theorem step_state (H : Holds N x0 x1 x2 x3 x4 x5 x6 x7) (i : grid0.Coords) (n : Fin 8) (hn : n.val < (i 2).val) (M A : Vec Ideal S4x1024x128 .f32)
    (hS : State N (i 2) (seen (i 2) n.val) M A) : State N (i 2) (seen (i 2) (n.val + 1))
      (stepM x1 x2 x7 (Query.qqV i x0 x5 x6) n ((i 2).val - n.val) M) (stepA x1 x2 x3 x4 x7 (Query.qqV i x0 x5 x6) n ((i 2).val - n.val) M A) := fun p o r l => by
  have hrow := fun u => scores_at H i p o n hn r u
  have hM : ∀ l, Step.newM (scores x1 x2 x7 (Query.qqV i x0 x5 x6 p) n ((i 2).val - n.val) p) (part M p) (ix2 (stacked o r) l)
      = (seen (i 2) n.val ∪ Finset.univ.image (key n)).sup (lg N (i 2) (head p o) r) := fun l =>
    (Step.newM_at _ _ _ _).trans ((congrArg₂ max (hS p o r l).1 (congrArg _ (funext fun u => hrow u))).trans (sup_chunk _ _ _).symm)
  refine ⟨(hM l).trans (congrArg (fun T => Finset.sup T (lg N (i 2) (head p o) r)) (seen_succ (i 2) n).symm), ?_⟩
  refine (Step.newA_at _ _ _ _ _ _ _ hM l).trans (Eq.trans ?_ ((num_chunk (lg_ne_top N (i 2) (head p o) r) (vv N p o l) (self_seen (i 2) n.val r)
    (lg_own N (i 2) (head p o) r) (key n) (key_inj n) (key_not_seen (i 2) n hn)).trans
      (congrArg (fun T => num T (lg N (i 2) (head p o) r) fun t => (vv N p o l t : EReal)) (seen_succ (i 2) n).symm)))
  refine congrArg₂ (· + ·) (congrArg₂ (· * ·) (congrArg Ideal.exp2 (congrArg₂ (· - ·) (hS p o r l).1 rfl)) (hS p o r l).2) ?_
  refine Finset.sum_congr rfl fun u _ => congrArg₂ (· * ·) (congrArg Ideal.exp2 (congrArg₂ (· - ·) (hrow u) rfl)) ?_
  rw [← slab_values H]
  exact if_congr (by show 512 * o.val + r.val < 512 ↔ o.val = 0; omega) rfl rfl

theorem loop_inv (H : Holds N x0 x1 x2 x3 x4 x5 x6 x7) (i : grid0.Coords) (n : ℕ) (hn : n ≤ (i 2).val) : State N (i 2) (seen (i 2) n)
    (stM x1 x2 x7 (Query.qqV i x0 x5 x6) (i 2).val (Diag.firstM x1 x2 x7 (Query.qqV i x0 x5 x6) (i 2)) n)
    (stA x1 x2 x3 x4 x7 (Query.qqV i x0 x5 x6) (i 2).val (Diag.firstM x1 x2 x7 (Query.qqV i x0 x5 x6) (i 2)) (Diag.firstA x1 x2 x3 x4 x7 (Query.qqV i x0 x5 x6) (i 2)) n) := by
  have hi : (i 2).val < 8 := (i 2).isLt
  induction n with
  | zero => exact first_state H i
  | succ n ih =>
    have h8 : n < 8 := by omega
    rw [Loop.stM, Loop.stA, dif_pos h8, dif_pos h8]
    exact step_state H i ⟨n, h8⟩ (by show n < _; omega) _ _ (ih (by omega))

/-- The weighted sums after the loops are those of all keys. -/
theorem endA_at (H : Holds N x0 x1 x2 x3 x4 x5 x6 x7) (i : grid0.Coords) (p : Fin 4) (o : Fin 2) (r : Fin 512) (l : Fin 128) :
    endA (Query.qqV i x0 x5 x6) (i 2) x1 x2 x3 x4 x7 (ix3 p (stacked o r) l) = num Finset.univ (lg N (i 2) (head p o) r) fun t => (vv N p o l t : EReal) := by
  refine (loop_inv H i (i 2).val le_rfl p o r l).2.trans ?_
  obtain ⟨M, hM⟩ := sup_real (T := seen (i 2) (i 2).val) (lg_ne_top N (i 2) (head p o) r) (self_seen (i 2) _ r) (lg_own N (i 2) (head p o) r)
  refine (num_of_bot (Finset.subset_univ _) (fun t _ ht => lg_late N _ _ r t ?_) _ hM).symm
  simp only [seen, Finset.mem_filter, Finset.mem_univ, true_and] at ht
  omega

/-- The softmax of a row's scores over a column of values. -/
def soft (N : Nums) (I h : Fin 8) (r : Fin 512) (c : Fin 512) : EReal :=
  ∑ t, Ideal.div (Ideal.exp2 (lg N I h r t - Finset.univ.sup (lg N I h r))) (∑ t', Ideal.exp2 (lg N I h r t' - Finset.univ.sup (lg N I h r))) * (N.V t c : EReal)

theorem half_at (A : Vec Ideal S4x1024x128 .f32) (p : Fin 4) (o : Fin 2) (r : Fin 512) (l : Fin 128) : half A p o (ix2 r l) = A (ix3 p (stacked o r) l) := rfl

/-- The output block: each head's softmax over its columns of values. -/
theorem block_at (H : Holds N x0 x1 x2 x3 x4 x5 x6 x7) (i : grid0.Coords) (r : Fin 512) (h : Fin 8) (d : Fin 64) :
    Finish.block (fun p => finish (half (endA (Query.qqV i x0 x5 x6) (i 2) x1 x2 x3 x4 x7) p 0) (half (endA (Query.qqV i x0 x5 x6) (i 2) x1 x2 x3 x4 x7) p 1))
      (ix3 0 r (col h d)) = soft N (i 2) h r (col h d) := by
  obtain ⟨p, o, rfl⟩ : ∃ (p : Fin 4) (o : Fin 2), h = head p o :=
    ⟨⟨h.val / 2, by omega⟩, ⟨h.val % 2, by omega⟩, Fin.ext (by show h.val = 2 * (h.val / 2) + h.val % 2; omega)⟩
  have hp : (⟨(64 * (2 * p.val + o.val) + d.val) / 128, by omega⟩ : Fin 4) = p := Fin.ext (by show _ / 128 = p.val; omega)
  show finish (half _ ⟨(64 * (2 * p.val + o.val) + d.val) / 128, by omega⟩ 0) (half _ ⟨(64 * (2 * p.val + o.val) + d.val) / 128, by omega⟩ 1)
    (ix2 r ⟨(64 * (2 * p.val + o.val) + d.val) % 128, _⟩) = _
  rw [hp]
  have key := fun c => div_num (lg_ne_top N (i 2) (head p o) r) (fun t => N.V t c) (lg_own N (i 2) (head p o) r)
  obtain ⟨o, ho⟩ := o
  rcases (by omega : o = 0 ∨ o = 1) with rfl | rfl
  · have hc : (⟨(64 * (2 * p.val + 0) + d.val) % 128, Nat.mod_lt _ (by norm_num)⟩ : Fin 128) = ⟨d.val, by omega⟩ := Fin.ext (by show _ % 128 = d.val; omega)
    refine (congrArg _ (congrArg (ix2 r) hc)).trans ((Finish.finish_lo _ _ r d).trans ?_)
    rw [half_at, half_at]
    refine (congrArg₂ Ideal.div (endA_at H i p 0 r _) (endA_at H i p 0 r _)).trans (Eq.trans ?_ (key (col (head p ⟨0, ho⟩) d)))
    refine congrArg₂ Ideal.div (congrArg (num _ _) (funext fun t => ?_)) (congrArg (num _ _) (funext fun t => ?_))
    · unfold vv
      rw [if_pos (by show d.val < 64 ↔ 0 = 0; simp [d.isLt])]
      exact congrArg (fun c => ((N.V t c : ℝ) : EReal)) (Fin.ext (by show 128 * p.val + d.val = 64 * (2 * p.val + 0) + d.val; omega))
    · unfold vv
      rw [if_neg (by show ¬ (64 + d.val < 64 ↔ 0 = 0); simp)]
  · have hc : (⟨(64 * (2 * p.val + 1) + d.val) % 128, Nat.mod_lt _ (by norm_num)⟩ : Fin 128) = ⟨64 + d.val, by omega⟩ := Fin.ext (by show _ % 128 = 64 + d.val; omega)
    refine (congrArg _ (congrArg (ix2 r) hc)).trans ((Finish.finish_hi _ _ r d).trans ?_)
    rw [half_at, half_at]
    refine (congrArg₂ Ideal.div (endA_at H i p 1 r _) (endA_at H i p 1 r _)).trans (Eq.trans ?_ (key (col (head p ⟨1, ho⟩) d)))
    refine congrArg₂ Ideal.div (congrArg (num _ _) (funext fun t => ?_)) (congrArg (num _ _) (funext fun t => ?_))
    · unfold vv
      rw [if_pos (by show 64 + d.val < 64 ↔ 1 = 0; simp)]
      exact congrArg (fun c => ((N.V t c : ℝ) : EReal)) (Fin.ext (by show 128 * p.val + (64 + d.val) = 64 * (2 * p.val + 1) + d.val; omega))
    · unfold vv
      rw [if_neg (by show ¬ (d.val < 64 ↔ 1 = 0); simp [d.isLt])]

end

end Cert.KernelIdeal.Row
-- ==== Proof.MobaRefAt.lean ====
/- The reference's stages read at an index, and the softmax that they amount to. -/
module

public import proofs.«01_k».proof.Proof.MobaRef
public import proofs.«01_k».proof.Proof.MobaTile

@[expose] public section

set_option maxRecDepth 16384

noncomputable section

open Idealize.ShloMosaic Idealize.ShloMosaic.TcCoe Idealize.SL.Sem

namespace Cert.MobaRef

open Cert.ReferenceIdeal Cert.ReferenceIdeal.Gen Cert.Moba
open Cert.KernelIdeal.Row (Nums col own kblk gate lg soft lg_ne_top)

theorem ofBool_iff (b : Bool) : BitVec.ofBool b = 1#1 ↔ b = true := by cases b <;> decide

theorem heads_at (x : FVec Ideal S4x4096x512 .f32) (b : Fin 4) (h : Fin 8) (s : Fin 4096) (d : Fin 64) :
    heads x (ix4 b h s d) = x (ix3 b s (col h d)) := by
  pointwise [heads]
  exact congrArg (fun n => x (ix3 b s n)) (Fin.ext (by show _ = 64 * h.val + d.val; simp only []; omega))

theorem blocks_at (x : FVec Ideal S4x4096x512 .f32) (b : Fin 4) (h : Fin 8) (j : Fin 16) (r : Fin 256) (d : Fin 64) :
    blocks x (ix5 b h j r d) = x (ix3 b ⟨256 * j.val + r.val, by omega⟩ (col h d)) := by
  pointwise [blocks, heads]
  exact congrArg₂ (fun m n => x (ix3 b m n)) (Fin.ext (by simp only []; omega)) (Fin.ext (by show _ = 64 * h.val + d.val; simp only []; omega))

theorem qb_at (s : Fin 4096) : qbR (ix2 s 0) = BitVec.ofNat 32 (s.val / 256) := by
  pointwise [qbR]
  revert s
  decide +kernel

theorem bk_at (j : Fin 16) : bkR (ix2 0 j) = BitVec.ofNat 32 j.val := by
  pointwise [bkR]

theorem apart_at (s : Fin 4096) (j : Fin 16) : apartR (ix3 s j 0) = BitVec.ofNat 32 (s.val / 256) - BitVec.ofNat 32 j.val := by
  rw [← qb_at s, ← bk_at j]
  pointwise [apartR]
  rfl

theorem gate_at (q k : FVec Ideal S4x4096x512 .f32) (b : Fin 4) (h : Fin 8) (s : Fin 4096) (j : Fin 16) :
    gateR q k (ix4 b h s j) = ∑ d : Fin 64, heads q (ix4 b h s d) *
      Ideal.div (∑ r : Fin 256, blocks k (ix5 b h j r d)) (Ideal.ofBits .f32 0x43800000#32) := by
  pointwise [gateR]

theorem eq_words : ∀ (a j : Fin 16), (IntOp.cmpi CmpIPredicate.eq (BitVec.ofNat 32 j.val) (BitVec.ofNat 32 a.val) = 1#1 ↔ j = a)
    ∧ (IntOp.cmpi CmpIPredicate.slt (BitVec.ofNat 32 j.val) (BitVec.ofNat 32 a.val) = 1#1 ↔ j < a) := by
  decide +kernel

theorem select_iff {α : Type} {c : BitVec 1} {p : Prop} [Decidable p] (h : c = 1#1 ↔ p) (x y : α) : Scalar.select c x y = if p then x else y := by
  by_cases hp : p
  · rw [if_pos hp]
    exact if_pos (h.mpr hp)
  · rw [if_neg hp]
    exact if_neg (fun e => hp (h.mp e))

theorem score_at (q k : FVec Ideal S4x4096x512 .f32) (b : Fin 4) (h : Fin 8) (s : Fin 4096) (j : Fin 16) :
    scoreR q k (ix4 b h s j) = if j = kblk s then ⊤ else if j < kblk s then gateR q k (ix4 b h s j) else ⊥ := by
  pointwise [scoreR]
  rw [bk_at, qb_at, show s.val / 256 = (kblk s).val from rfl, select_iff (eq_words (kblk s) j).1, select_iff (eq_words (kblk s) j).2]
  have ht : (id (constant (F := Ideal) S_ FTy.f32 2139095040#32) ix0 : EReal) = ⊤ := by
    show Ideal.ofBits .f32 2139095040#32 = ⊤
    simp [Ideal.ofBits, Ideal.ieee]
  have hb : (id (constant (F := Ideal) S_ FTy.f32 4286578688#32) ix0 : EReal) = ⊥ := ofBits_neg_inf
  rw [ht, hb]

theorem sub_toInt (a c : ℕ) (ha : a < 65536) (hc : c < 65536) : (BitVec.ofNat 32 a - BitVec.ofNat 32 c).toInt = (a : ℤ) - c := by
  have h : ∀ n : ℕ, n < 65536 → (BitVec.ofNat 32 n).toInt = (n : ℤ) := fun n hn => by
    have e : (BitVec.ofNat 32 n).toNat = n := by rw [BitVec.toNat_ofNat]; exact Nat.mod_eq_of_lt (by omega)
    rw [BitVec.toInt_eq_toNat_of_lt (by rw [e]; omega), e]
  rw [BitVec.toInt_sub, h a ha, h c hc]
  exact Int.bmod_eq_of_le (by omega) (by omega)

theorem past_at (s : Fin 4096) (j : Fin 16) (r : Fin 256) :
    pastR (ix3 s j r) = 1#1 ↔ 256 * j.val + r.val ≤ s.val := by
  pointwise [pastR]
  rw [bk_at]
  have hw : IntOp.subi (BitVec.ofNat 32 s.val) (IntOp.addi (IntOp.muli (BitVec.ofNat 32 j.val) 256#32) (BitVec.ofNat 32 r.val))
      = BitVec.ofNat 32 s.val - BitVec.ofNat 32 (256 * j.val + r.val) := by
    show BitVec.ofNat 32 s.val - (BitVec.ofNat 32 j.val * BitVec.ofNat 32 256 + BitVec.ofNat 32 r.val) = _
    rw [← BitVec.ofNat_mul, ← BitVec.ofNat_add, mul_comm]
  rw [hw]
  have hi := sub_toInt s.val (256 * j.val + r.val) (by omega) (by omega)
  show BitVec.ofBool (BitVec.sle 0#32 _) = 1#1 ↔ _
  rw [ofBool_iff, BitVec.sle, hi, decide_eq_true_iff]
  rw [show (0#32 : BitVec 32).toInt = 0 from rfl]
  omega

theorem tile_at (x : FVec Ideal S8x1x256x256 .f32) (h : Fin 8) (s : Fin 4096) (j : Fin 16) (r : Fin 256) :
    tileR x (ix4 h s j r) = x (ix4 h 0 ⟨s.val % 256, by omega⟩ r) := by
  pointwise [tileR]

theorem any_iff {α : Type} (f : α → BitVec 32) (w : BitVec 32) (T : Finset α) :
    Finset.fold IntOp.ori (0#1) (fun x => IntOp.cmpi CmpIPredicate.eq (f x) w) T = 1#1 ↔ ∃ x ∈ T, f x = w := by
  classical
  induction T using Finset.induction_on with
  | empty => simp
  | insert a T ha ih =>
    rw [Finset.fold_insert ha]
    have hor : ∀ u v : BitVec 1, IntOp.ori u v = 1#1 ↔ u = 1#1 ∨ v = 1#1 := by decide
    have heq : IntOp.cmpi CmpIPredicate.eq (f a) w = 1#1 ↔ f a = w := by
      show BitVec.ofBool (f a == w) = 1#1 ↔ _
      rw [ofBool_iff, beq_iff_eq]
    rw [hor, ih, heq, Finset.exists_mem_insert]

theorem chosen_at (s : IVec S4x8x4096x4 32) (b : Fin 4) (h : Fin 8) (t : Fin 4096) (j : Fin 16) :
    chosenR s (ix4 b h t j) = 1#1 ↔ ∃ k : Fin 4, s (ix4 b h t k) = BitVec.ofNat 32 j.val := by
  pointwise [chosenR]
  rw [any_iff]
  simp only [Finset.mem_univ, true_and]

theorem topK_idx {s t : Shape} (d : ℕ) (hd : d < s.rank) (gt : EReal → EReal → BitVec 1) (x : s.Idx → EReal) (h : s.Slices (fun _ => 0) t)
    (J : t.Idx) (J' : s.Idx) (hJ : ∀ y : s.Idx → BitVec 32, extractStridedSlice t (fun _ => 0) y h J = y J') :
    (Host.topK t d gt x h).2 J
      = BitVec.ofNat 32 (sortedFrom (fun k k' => gt (x (J'.along ⟨d, hd⟩ k)) (x (J'.along ⟨d, hd⟩ k')) == 1#1) (J' ⟨d, hd⟩)).val := by
  unfold Host.topK Host.sort2
  simp only [dif_pos hd]
  rw [hJ]
  unfold iotaInDim Shape.Idx.along
  rw [Function.update_self]

theorem sel_at (x : FVec Ideal S4x8x4096x16 .f32) (b : Fin 4) (h : Fin 8) (s : Fin 4096) (k : Fin 4) :
    selR x (ix4 b h s k) = BitVec.ofNat 32 (sortedFrom (fun a c : Fin 16 => decide (x (ix4 b h s c) < x (ix4 b h s a))) (Fin.castLE (by decide) k)).val := by
  have hal : ∀ a : Fin 16, (Shape.Idx.along (s := S4x8x4096x16) (ix4 b h s (Fin.castLE (by decide) k)) 3 a) = ix4 b h s a := by
    intro a
    funext e
    fin_cases e <;> rfl
  have hp : (fun a c : Fin 16 => FloatOps.cmpfTotal (F := Ideal) (φ := .f32) .gt (x (Shape.Idx.along (s := S4x8x4096x16) (ix4 b h s (Fin.castLE (by decide) k)) 3 a))
          (x (Shape.Idx.along (s := S4x8x4096x16) (ix4 b h s (Fin.castLE (by decide) k)) 3 c)) == 1#1)
      = fun a c : Fin 16 => decide (x (ix4 b h s c) < x (ix4 b h s a)) := by
    funext a c
    rw [hal a, hal c]
    show (BitVec.ofBool (decide (x (ix4 b h s c) < x (ix4 b h s a))) == 1#1) = _
    cases decide (x (ix4 b h s c) < x (ix4 b h s a)) <;> rfl
  have hJ : ∀ y : S4x8x4096x16.Idx → BitVec 32, extractStridedSlice S4x8x4096x4 (fun _ => 0) y sliceFits_S4x8x4096x16_S4x8x4096x4 (ix4 b h s k)
      = y (ix4 b h s (Fin.castLE (by decide) k)) := by
    intro y
    pointwise
    rfl
  have e := topK_idx (t := S4x8x4096x4) 3 (show 3 < S4x8x4096x16.rank by decide) (FloatOps.cmpfTotal (F := Ideal) (φ := .f32) .gt) x
    sliceFits_S4x8x4096x16_S4x8x4096x4 (ix4 b h s k) _ hJ
  refine Eq.trans e ?_
  have hR := congrFun (congrArg (sortedFrom (n := 16)) hp) (Fin.castLE (by decide) k)
  exact congrArg (fun n : Fin 16 => BitVec.ofNat 32 n.val) hR

theorem sub_ne_top {x : EReal} (hx : x ≠ ⊤) (M : ℝ) : x - (M : EReal) ≠ ⊤ := by
  induction x with
  | bot => simp
  | top => exact absurd rfl hx
  | coe r => exact EReal.coe_ne_top (r - M)

theorem exp_at (l : FVec Ideal S4x8x4096x4096 .f32) (b : Fin 4) (h : Fin 8) (s t : Fin 4096) (hl : ∀ t, l (ix4 b h s t) ≠ ⊤)
    (h0 : ∃ t, l (ix4 b h s t) ≠ ⊥) :
    expR l (ix4 b h s t) = Ideal.exp2 (l (ix4 b h s t) - Finset.univ.sup fun t => l (ix4 b h s t)) := by
  pointwise [expR]
  have h2 : (id (Host.log (constant (F := Ideal) S_ FTy.f32 1073741824#32)) ix0 : EReal) = ((Real.log 2 : ℝ) : EReal) := by
    show Ideal.log (Ideal.ofBits .f32 1073741824#32) = _
    have : Ideal.ofBits .f32 1073741824#32 = ((2 : ℝ) : EReal) := by
      simp [Ideal.ofBits, Ideal.ieee]
      rw [← EReal.coe_mul]
      norm_num
    rw [this]
    show (if (2 : ℝ) ≤ 0 then ⊥ else ((Real.log 2 : ℝ) : EReal)) = _
    rw [if_neg (by norm_num)]
  have hb : Ideal.ofBits FTy.f32 4286578688#32 = ⊥ := ofBits_neg_inf
  obtain ⟨t₀, ht₀⟩ := h0
  obtain ⟨M, hM⟩ := sup_real (T := Finset.univ) hl (Finset.mem_univ t₀) ht₀
  have hx : l (ix4 b h s t) - Finset.univ.sup (fun t => l (ix4 b h s t)) ≠ ⊤ := by
    rw [hM]
    exact sub_ne_top (hl t) M
  rw [h2, hb, fold_max_bot, exp_ln2 hx]

theorem out_at (e : FVec Ideal S4x8x4096x4096 .f32) (v : FVec Ideal S4x4096x512 .f32) (b : Fin 4) (s : Fin 4096) (h : Fin 8) (d : Fin 64) :
    outR e v (ix3 b s (col h d)) = ∑ t : Fin 4096, Ideal.div (e (ix4 b h s t)) (∑ t : Fin 4096, e (ix4 b h s t)) * v (ix3 b t (col h d)) := by
  have : outR e v (ix3 b s ⟨64 * h.val + d.val, by omega⟩) = ∑ t : Fin 4096, Ideal.div (e (ix4 b h s t)) (∑ t : Fin 4096, e (ix4 b h s t)) * heads v (ix4 b h t d) := by
    pointwise [outR]
  exact this.trans (Finset.sum_congr rfl fun t _ => by rw [heads_at])

theorem apart_words : ∀ a j : Fin 16, j ≤ a → ∀ n : Fin 5,
    (IntOp.cmpi CmpIPredicate.eq (BitVec.ofNat 32 a.val - BitVec.ofNat 32 j.val) (BitVec.ofNat 32 n.val) = 1#1 ↔ a.val - j.val = n.val) := by
  decide +kernel

theorem rel_at (x : FVec Ideal S16x10x256x256 .f32) (h : Fin 8) (s : Fin 4096) (j : Fin 16) (r : Fin 256) (hj : j ≤ kblk s) :
    relR x (ix4 h s j r) = x (ix4 ⟨h.val, by omega⟩ ⟨min ((kblk s).val - j.val) 5, by omega⟩ ⟨s.val % 256, by omega⟩ r) := by
  have hw := apart_words (kblk s) j hj
  have h4 : IntOp.cmpi CmpIPredicate.eq (BitVec.ofNat 32 (kblk s).val - BitVec.ofNat 32 j.val) 4#32 = 1#1 ↔ (kblk s).val - j.val = 4 := hw 4
  have h3 : IntOp.cmpi CmpIPredicate.eq (BitVec.ofNat 32 (kblk s).val - BitVec.ofNat 32 j.val) 3#32 = 1#1 ↔ (kblk s).val - j.val = 3 := hw 3
  have h2 : IntOp.cmpi CmpIPredicate.eq (BitVec.ofNat 32 (kblk s).val - BitVec.ofNat 32 j.val) 2#32 = 1#1 ↔ (kblk s).val - j.val = 2 := hw 2
  have h1 : IntOp.cmpi CmpIPredicate.eq (BitVec.ofNat 32 (kblk s).val - BitVec.ofNat 32 j.val) 1#32 = 1#1 ↔ (kblk s).val - j.val = 1 := hw 1
  have h0 : IntOp.cmpi CmpIPredicate.eq (BitVec.ofNat 32 (kblk s).val - BitVec.ofNat 32 j.val) 0#32 = 1#1 ↔ (kblk s).val - j.val = 0 := hw 0
  clear hw
  pointwise [relR]
  rw [apart_at, show s.val / 256 = (kblk s).val from rfl, select_iff h4, select_iff h3, select_iff h2, select_iff h1, select_iff h0]
  clear h4 h3 h2 h1 h0
  simp only [tile_at]
  split_ifs with h4 h3 h2 h1 h0
  all_goals
    pointwise
    refine congrArg (fun n => x (ix4 ⟨h.val, by omega⟩ n ⟨s.val % 256, by omega⟩ r)) (Fin.ext ?_)
  · show 4 = min _ 5
    omega
  · show 3 = min _ 5
    omega
  · show 2 = min _ 5
    omega
  · show 1 = min _ 5
    omega
  · show 0 = min _ 5
    omega
  · show 5 = min _ 5
    omega

/-- The real numbers that the arguments hold. -/
structure Data where
  /-- queries -/
  Q : Fin 4 → Fin 4096 → Fin 512 → ℝ
  /-- keys -/
  K : Fin 4 → Fin 4096 → Fin 512 → ℝ
  /-- values -/
  V : Fin 4 → Fin 4096 → Fin 512 → ℝ
  /-- bias tiles -/
  B : Fin 16 → Fin 10 → Fin 256 → Fin 256 → ℝ

/-- The numbers that a grid point of the kernel sees. -/
def Data.nums (D : Data) (b : Fin 4) (I : Fin 8) : Nums where
  Q r c := D.Q b ⟨512 * I.val + r.val, by omega⟩ c
  K := D.K b
  V := D.V b
  MB j c := (∑ r : Fin 256, D.K b ⟨256 * j.val + r.val, by omega⟩ c) / 256
  BT h := D.B ⟨h.val, by omega⟩

theorem ofBits_256 : Ideal.ofBits .f32 0x43800000#32 = ((256 : ℝ) : EReal) := by
  simp [Ideal.ofBits, Ideal.ieee]
  rw [← EReal.coe_mul]
  norm_num

theorem mean_real (f : Fin 256 → ℝ) : Ideal.div (∑ r : Fin 256, (f r : EReal)) (Ideal.ofBits .f32 0x43800000#32) = (((∑ r, f r) / 256 : ℝ) : EReal) := by
  rw [coe_sum, ofBits_256, Ideal.div_coe (by norm_num), ← EReal.coe_mul, mul_one_div]

section

variable (D : Data) (q k v : FVec Ideal S4x4096x512 .f32) (x : FVec Ideal S16x10x256x256 .f32)
  (hq : ∀ b s c, q (ix3 b s c) = (D.Q b s c : EReal)) (hk : ∀ b s c, k (ix3 b s c) = (D.K b s c : EReal))
  (hv : ∀ b s c, v (ix3 b s c) = (D.V b s c : EReal)) (hx : ∀ h n r c, x (ix4 h n r c) = (D.B h n r c : EReal))

include hq hk in
theorem gate_real (b : Fin 4) (I : Fin 8) (r : Fin 512) (h : Fin 8) (j : Fin 16) :
    gateR q k (ix4 b h ⟨512 * I.val + r.val, by omega⟩ j) = (gate (D.nums b I) h r j : EReal) := by
  rw [gate_at]
  unfold gate
  rw [← coe_sum]
  refine Finset.sum_congr rfl fun d _ => ?_
  simp only [heads_at, blocks_at, hq, hk]
  rw [mean_real, ← EReal.coe_mul, mul_comm]
  rfl

include hq hk in
theorem chosen_real (b : Fin 4) (I : Fin 8) (r : Fin 512) (h : Fin 8) (j : Fin 16) (hj : j ≤ own I r) :
    chosenR (selR (scoreR q k)) (ix4 b h ⟨512 * I.val + r.val, by omega⟩ j) = 1#1 ↔ Sel (fun j => (gate (D.nums b I) h r j : EReal)) (own I r) j := by
  have ho : kblk ⟨512 * I.val + r.val, by omega⟩ = own I r := Fin.ext (by show (512 * I.val + r.val) / 256 = 2 * I.val + r.val / 256; omega)
  rw [← sorted_iff (fun j => (gate (D.nums b I) h r j : EReal)) (fun j => EReal.coe_ne_bot _) (fun j => EReal.coe_ne_top _) (own I r)
    (fun j => scoreR q k (ix4 b h ⟨512 * I.val + r.val, by omega⟩ j))
    (fun j => by rw [score_at, ho, gate_real D q k hq hk]) j hj, chosen_at]
  refine exists_congr fun n => ?_
  rw [sel_at]
  constructor
  · intro e
    refine Fin.ext ?_
    have := congrArg BitVec.toNat e
    rw [BitVec.toNat_ofNat, BitVec.toNat_ofNat, Nat.mod_eq_of_lt (by omega), Nat.mod_eq_of_lt (by omega)] at this
    exact this
  · intro e
    rw [e]

include hq hk hx in
theorem logits_at (b : Fin 4) (I : Fin 8) (r : Fin 512) (h : Fin 8) (t : Fin 4096) :
    logitsR q k x (ix4 b h ⟨512 * I.val + r.val, by omega⟩ t) = lg (D.nums b I) I h r t := by
  pointwise [logitsR]
  have hb : (id (constant (F := Ideal) S_ FTy.f32 4286578688#32) ix0 : EReal) = ⊥ := ofBits_neg_inf
  have hand : ∀ u v : BitVec 1, IntOp.andi u v = 1#1 ↔ u = 1#1 ∧ v = 1#1 := by decide
  have ho : kblk ⟨512 * I.val + r.val, by omega⟩ = own I r := Fin.ext (by show (512 * I.val + r.val) / 256 = 2 * I.val + r.val / 256; omega)
  unfold lg
  classical
  have hc : (IntOp.andi (chosenR (selR (scoreR q k)) (ix4 b h ⟨512 * I.val + r.val, by omega⟩ (kblk t)))
      (pastR (ix3 ⟨512 * I.val + r.val, by omega⟩ (kblk t) ⟨t.val % 256, by omega⟩)) = 1#1)
      ↔ (Sel (fun j => (gate (D.nums b I) h r j : EReal)) (own I r) (kblk t) ∧ t.val ≤ 512 * I.val + r.val) := by
    have hp := past_at ⟨512 * I.val + r.val, by omega⟩ (kblk t) ⟨t.val % 256, by omega⟩
    rw [show 256 * (kblk t).val + t.val % 256 = t.val from by show 256 * (t.val / 256) + _ = _; omega] at hp
    rw [hand, hp]
    refine and_congr_left fun hle => ?_
    exact chosen_real D q k hq hk b I r h (kblk t) (Fin.le_def.mpr (by show t.val / 256 ≤ 2 * I.val + r.val / 256; have : t.val ≤ 512 * I.val + r.val := hle; omega))
  refine (select_iff hc _ _).trans ?_
  split_ifs with hs
  · have hle : kblk t ≤ kblk ⟨512 * I.val + r.val, by omega⟩ := Fin.le_def.mpr (by show t.val / 256 ≤ (512 * I.val + r.val) / 256; have := hs.2; omega)
    have hr := rel_at x h ⟨512 * I.val + r.val, by omega⟩ (kblk t) ⟨t.val % 256, by omega⟩ hle
    rw [EReal.coe_add, ← coe_sum]
    refine congrArg₂ (· + ·) (Finset.sum_congr rfl fun d _ => ?_) (hr.trans ((hx _ _ _ _).trans (congrArg _ ?_)))
    · rw [heads_at, blocks_at, hq, hk, ← EReal.coe_mul]
      have ht : (⟨256 * (t.val / 256) + t.val % 256, by omega⟩ : Fin 4096) = t := Fin.ext (by simp only []; omega)
      show ((_ * D.K b ⟨256 * (t.val / 256) + t.val % 256, _⟩ _ : ℝ) : EReal) = _
      rw [ht]
      rfl
    · show D.B _ _ _ _ = D.B _ _ _ _
      exact congrFun (congr (congrArg (D.B _) (Fin.ext (congrArg (fun o : Fin 16 => min (o.val - (kblk t).val) 5) ho)))
        (Fin.ext (by show (512 * I.val + r.val) % 256 = r.val % 256; omega))) _
  · exact hb

include hq hk hv hx in
/-- The reference at a batch, a query, a head and a column is the softmax that a grid point of the kernel computes. -/
theorem out_real (b : Fin 4) (I : Fin 8) (r : Fin 512) (h : Fin 8) (d : Fin 64) :
    outR (expR (logitsR q k x)) v (ix3 b ⟨512 * I.val + r.val, by omega⟩ (col h d)) = soft (D.nums b I) I h r (col h d) := by
  have hl : ∀ t, logitsR q k x (ix4 b h ⟨512 * I.val + r.val, by omega⟩ t) = lg (D.nums b I) I h r t := fun t => logits_at D q k x hq hk hx b I r h t
  have he : ∀ t, expR (logitsR q k x) (ix4 b h ⟨512 * I.val + r.val, by omega⟩ t)
      = Ideal.exp2 (lg (D.nums b I) I h r t - Finset.univ.sup (lg (D.nums b I) I h r)) := fun t => by
    rw [exp_at _ b h _ t (fun t => by rw [hl]; exact lg_ne_top _ _ _ _ _) ⟨_, by rw [hl]; exact Cert.KernelIdeal.Row.lg_own _ _ _ _⟩, hl,
      show (fun t => logitsR q k x (ix4 b h ⟨512 * I.val + r.val, by omega⟩ t)) = lg (D.nums b I) I h r from funext hl]
  rw [out_at]
  unfold soft
  simp only [he, hv]
  rfl

end

end Cert.MobaRef
-- ==== Proof.MobaHost.lean ====
/- The arrays that the host hands to the attention call, read at an index, and what the blocks of a grid point hold. -/
module

public import proofs.«01_k».proof.Proof.MobaRefAt
public import Idealize.ShloMosaic.Lib.StableHlo.ReadAt

@[expose] public section

set_option maxRecDepth 16384

noncomputable section

open Idealize.ShloMosaic Idealize.ShloMosaic.TcCoe Idealize.SL.Sem

namespace Cert.KernelIdeal.Blocks

open Cert.KernelIdeal Cert.KernelIdeal.Gen Cert.Moba Cert.MobaRef Cert.KernelIdeal.Row

/-- A column's lane: the remainder by 128, with the sign of the divisor. -/
def laneW (w : BitVec 32) : BitVec 32 :=
  Scalar.select (IntOp.andi (IntOp.cmpi CmpIPredicate.ne (IntOp.cmpi CmpIPredicate.slt (IntOp.remsi ArithUnit.host w (Scalar.select (IntOp.cmpi CmpIPredicate.eq 128#32 0#32) 1#32 128#32)) 0#32) (IntOp.cmpi CmpIPredicate.slt (Scalar.select (IntOp.cmpi CmpIPredicate.eq 128#32 0#32) 1#32 128#32) 0#32))
    (IntOp.cmpi CmpIPredicate.ne (IntOp.remsi ArithUnit.host w (Scalar.select (IntOp.cmpi CmpIPredicate.eq 128#32 0#32) 1#32 128#32)) 0#32)) (IntOp.addi (IntOp.remsi ArithUnit.host w (Scalar.select (IntOp.cmpi CmpIPredicate.eq 128#32 0#32) 1#32 128#32)) (Scalar.select (IntOp.cmpi CmpIPredicate.eq 128#32 0#32) 1#32 128#32)) (IntOp.remsi ArithUnit.host w (Scalar.select (IntOp.cmpi CmpIPredicate.eq 128#32 0#32) 1#32 128#32))

/-- A token's block: the quotient by 256, rounded down. -/
def blkW (w : BitVec 32) : BitVec 32 :=
  Scalar.select (IntOp.andi (IntOp.cmpi CmpIPredicate.ne (if w = 0 then (0 : BitVec 32) else if w.msb = true then -1 else 1)
      (if 256#32 = 0 then (0 : BitVec 32) else if (256#32).msb = true then -1 else 1))
    (IntOp.cmpi CmpIPredicate.ne (IntOp.remsi ArithUnit.host w 256#32) 0#32))
    (IntOp.subi (IntOp.divsi ArithUnit.host w 256#32) 1#32) (IntOp.divsi ArithUnit.host w 256#32)

theorem lane_eq : ∀ l : Fin 512, laneW (BitVec.ofNat 32 l.val) = BitVec.ofNat 32 (l.val % 128) := by
  decide +kernel

theorem blk_eq : ∀ s : Fin 4096, blkW (BitVec.ofNat 32 s.val) = BitVec.ofNat 32 (s.val / 256) := by
  decide +kernel

theorem toInt_small (n : ℕ) (hn : n < 65536) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem slt_iff (a b : ℕ) (ha : a < 65536) (hb : b < 65536) : IntOp.cmpi CmpIPredicate.slt (BitVec.ofNat 32 a) (BitVec.ofNat 32 b) = 1#1 ↔ a < b := by
  show BitVec.ofBool (BitVec.slt _ _) = 1#1 ↔ _
  rw [ofBool_iff, BitVec.slt, toInt_small a ha, toInt_small b hb, decide_eq_true_iff]
  omega

theorem eq_iff (a b : ℕ) (ha : a < 65536) (hb : b < 65536) : IntOp.cmpi CmpIPredicate.eq (BitVec.ofNat 32 a) (BitVec.ofNat 32 b) = 1#1 ↔ a = b := by
  show BitVec.ofBool (_ == _) = 1#1 ↔ _
  rw [ofBool_iff, beq_iff_eq]
  constructor
  · intro e
    have := congrArg BitVec.toInt e
    rw [toInt_small a ha, toInt_small b hb] at this
    omega
  · intro e
    rw [e]

theorem lo_iff (l : Fin 512) : IntOp.cmpi CmpIPredicate.slt (laneW (BitVec.ofNat 32 l.val)) 64#32 = 1#1 ↔ l.val % 128 < 64 := by
  rw [lane_eq]
  exact slt_iff _ 64 (by omega) (by omega)

theorem hot_iff (l : Fin 512) (s : Fin 4096) :
    IntOp.cmpi CmpIPredicate.eq (laneW (BitVec.ofNat 32 l.val)) (blkW (BitVec.ofNat 32 s.val)) = 1#1 ↔ l.val % 128 = s.val / 256 := by
  rw [lane_eq, blk_eq]
  exact eq_iff _ _ (by omega) (by omega)

theorem hot64_iff (l : Fin 512) (s : Fin 4096) :
    IntOp.cmpi CmpIPredicate.eq (laneW (BitVec.ofNat 32 l.val)) (IntOp.addi 64#32 (blkW (BitVec.ofNat 32 s.val))) = 1#1 ↔ l.val % 128 = 64 + s.val / 256 := by
  rw [lane_eq, blk_eq, show IntOp.addi 64#32 (BitVec.ofNat 32 (s.val / 256)) = BitVec.ofNat 32 (64 + s.val / 256) from (BitVec.ofNat_add 64 _).symm]
  exact eq_iff _ _ (by omega) (by omega)

theorem one_word : Ideal.ofBits .f32 0x3F800000#32 = 1 := by
  simp [Ideal.ofBits, Ideal.ieee]
  rw [← EReal.coe_mul]
  norm_num

variable (m : (ℓ : Loc nD τ sig) → Buf (Elt Ideal) ℓ) (c : Dev nD)

/-- The arguments' arrays. -/
abbrev A0 : S4x4096x512.Idx → EReal := m ((c : Thread nD τ).loc main_arg0)
abbrev A1 : S4x4096x512.Idx → EReal := m ((c : Thread nD τ).loc main_arg1)
abbrev A2 : S4x4096x512.Idx → EReal := m ((c : Thread nD τ).loc main_arg2)
abbrev A3 : S16x10x256x256.Idx → EReal := m ((c : Thread nD τ).loc main_arg3)

/-- The keys beside the one-hot of their block. -/
theorem v11_at (b : Fin 4) (s : Fin 4096) (l : Fin 512) : (show EReal from V m c main_v11 (ix3 b s l))
    = if l.val % 128 < 64 then A1 m c (ix3 b s l) else if l.val % 128 = 64 + s.val / 256 then 1 else 0 := by
  unfold V
  after_reads_at
  simp only [id_eq]
  pointwise
  exact (select_iff (lo_iff l) _ _).trans (congrArg (fun z : EReal => if l.val % 128 < 64 then A1 m c (ix3 b s l) else z) (select_iff (hot64_iff l s) _ _))

/-- The one-hot of the block beside the keys. -/
theorem v15_at (b : Fin 4) (s : Fin 4096) (l : Fin 512) : (show EReal from V m c main_v15 (ix3 b s l))
    = if l.val % 128 < 64 then (if l.val % 128 = s.val / 256 then (1 : EReal) else 0) else A1 m c (ix3 b s l) := by
  unfold V
  after_reads_at
  simp only [id_eq]
  pointwise
  exact (select_iff (lo_iff l) _ _).trans (congrArg (fun z : EReal => if l.val % 128 < 64 then z else A1 m c (ix3 b s l)) (select_iff (hot_iff l s) _ _))

/-- The values beside ones. -/
theorem v17_at (b : Fin 4) (s : Fin 4096) (l : Fin 512) : (show EReal from V m c main_v17 (ix3 b s l))
    = if l.val % 128 < 64 then A2 m c (ix3 b s l) else 1 := by
  unfold V
  after_reads_at
  simp only [id_eq]
  pointwise
  exact select_iff (lo_iff l) _ _

/-- Ones beside the values. -/
theorem v19_at (b : Fin 4) (s : Fin 4096) (l : Fin 512) : (show EReal from V m c main_v19 (ix3 b s l))
    = if l.val % 128 < 64 then 1 else A2 m c (ix3 b s l) := by
  unfold V
  after_reads_at
  simp only [id_eq]
  pointwise
  exact select_iff (lo_iff l) _ _

/-- The means of the blocks of keys. -/
theorem v23_at (b : Fin 4) (j : Fin 16) (l : Fin 512) : (show EReal from V m c main_v23 (ix3 b j l))
    = Ideal.div (∑ x : Fin 256, A1 m c (ix3 b ⟨256 * j.val + x.val, by omega⟩ l)) (Ideal.ofBits FTy.f32 0x43800000#32) := by
  unfold V
  after_reads_at
  refine congrArg (fun z : EReal => Ideal.div z (Ideal.ofBits FTy.f32 0x43800000#32)) (Finset.sum_congr rfl fun x _ => ?_)
  exact congrArg (fun n => A1 m c (ix3 b n l)) (Fin.ext (by simp only []; omega))

/-- The bias tiles, the causal mask on the diagonal's. -/
theorem v31_at (h : Fin 16) (k : Fin 10) (r s : Fin 256) : (show EReal from V m c main_v31 (ix4 h k r s))
    = if k.val = 0 ∧ r.val < s.val then ⊥ else A3 m c (ix4 h k r s) := by
  unfold V
  after_reads_at
  simp only [id_eq]
  have hand : ∀ u v : BitVec 1, IntOp.andi u v = 1#1 ↔ u = 1#1 ∧ v = 1#1 := by decide
  refine (select_iff (p := k.val = 0 ∧ r.val < s.val) ?_ _ _).trans ?_
  · rw [hand]
    exact and_congr (eq_iff k.val 0 (by omega) (by omega)) (slt_iff r.val s.val (by omega) (by omega))
  · exact congrArg (fun z : EReal => if k.val = 0 ∧ r.val < s.val then z else _) ofBits_neg_inf

/-- The identity matrix. -/
theorem v36_at (r s : Fin 256) : (show EReal from V m c main_v36 (ix2 r s)) = if r = s then (1 : EReal) else 0 := by
  unfold V
  after_reads_at
  exact select_iff ((eq_iff r.val s.val (by omega) (by omega)).trans Fin.ext_iff.symm) _ _

/-- The block indices of the grid's points. -/
theorem idx : ∀ t : Fin cfg0.N, win0_0.index t = ![t.val / 8, t.val % 8, 0] ∧ win0_1.index t = ![t.val / 8, 0, 0]
    ∧ win0_2.index t = ![t.val / 8, 0, 0] ∧ win0_3.index t = ![t.val / 8, 0, 0] ∧ win0_4.index t = ![t.val / 8, 0, 0]
    ∧ win0_5.index t = ![t.val / 8, 0, 0] ∧ win0_6.index t = ![0, 0] ∧ win0_7.index t = ![0, 0, 0, 0]
    ∧ win0_8.index t = ![t.val / 8, t.val % 8, 0] ∧ t.val / 8 < 4 ∧ ((grid0.coords t) 2).val = t.val % 8 :=
  (by decide +kernel : ∀ t : Fin grid0.N, _)

variable (D : Data)
  (hq : ∀ b s l, A0 m c (ix3 b s l) = (D.Q b s l : EReal))
  (hk : ∀ b s l, A1 m c (ix3 b s l) = (D.K b s l : EReal))
  (hv : ∀ b s l, A2 m c (ix3 b s l) = (D.V b s l : EReal))
  (hb : ∀ h n r s, A3 m c (ix4 h n r s) = (D.B h n r s : EReal))

/-- The batch of a point. -/
abbrev bat (t : Fin cfg0.N) : Fin 4 := ⟨t.val / 8, (idx t).2.2.2.2.2.2.2.2.2.1⟩

theorem w0 (t : Fin cfg0.N) (r l : Fin 512) : iblk m c 0 t (ix3 0 r l) = A0 m c (ix3 (bat t) ⟨512 * (t.val % 8) + r.val, by omega⟩ l) := by
  have : ((cfg0.win 0).blk t).view.emb (ix3 0 r l) = ix3 (bat t) ⟨512 * (t.val % 8) + r.val, by omega⟩ l := by
    blk_ext [idx t] <;> omega
  refine Eq.trans ?_ (congrFun (V_main_arg0 m c) _)
  exact congrArg (V m c main_arg0) this

theorem r1 (t : Fin cfg0.N) (s : Fin 4096) (l : Fin 512) (f : FVec Ideal S4x4096x512 .bf16) :
    ((cfg0.win 1).blk t).view.read (Elt Ideal) f (ix3 0 s l) = f (ix3 (bat t) s l) := by
  refine congrArg f ?_
  blk_ext [idx t] <;> omega

theorem w1 (t : Fin cfg0.N) (s : Fin 4096) (l : Fin 512) : iblk m c 1 t (ix3 0 s l) = V m c main_v11 (ix3 (bat t) s l) := by
  unfold iblk
  exact r1 t s  l  (V m c main_v11)

theorem r2 (t : Fin cfg0.N) (s : Fin 4096) (l : Fin 512) (f : FVec Ideal S4x4096x512 .bf16) :
    ((cfg0.win 2).blk t).view.read (Elt Ideal) f (ix3 0 s l) = f (ix3 (bat t) s l) := by
  refine congrArg f ?_
  blk_ext [idx t] <;> omega

theorem w2 (t : Fin cfg0.N) (s : Fin 4096) (l : Fin 512) : iblk m c 2 t (ix3 0 s l) = V m c main_v15 (ix3 (bat t) s l) := by
  unfold iblk
  exact r2 t s  l  (V m c main_v15)

theorem r3 (t : Fin cfg0.N) (s : Fin 4096) (l : Fin 512) (f : FVec Ideal S4x4096x512 .bf16) :
    ((cfg0.win 3).blk t).view.read (Elt Ideal) f (ix3 0 s l) = f (ix3 (bat t) s l) := by
  refine congrArg f ?_
  blk_ext [idx t] <;> omega

theorem w3 (t : Fin cfg0.N) (s : Fin 4096) (l : Fin 512) : iblk m c 3 t (ix3 0 s l) = V m c main_v17 (ix3 (bat t) s l) := by
  unfold iblk
  exact r3 t s  l  (V m c main_v17)

theorem r4 (t : Fin cfg0.N) (s : Fin 4096) (l : Fin 512) (f : FVec Ideal S4x4096x512 .bf16) :
    ((cfg0.win 4).blk t).view.read (Elt Ideal) f (ix3 0 s l) = f (ix3 (bat t) s l) := by
  refine congrArg f ?_
  blk_ext [idx t] <;> omega

theorem w4 (t : Fin cfg0.N) (s : Fin 4096) (l : Fin 512) : iblk m c 4 t (ix3 0 s l) = V m c main_v19 (ix3 (bat t) s l) := by
  unfold iblk
  exact r4 t s  l  (V m c main_v19)

theorem r5 (t : Fin cfg0.N) (j : Fin 16) (l : Fin 512) (f : FVec Ideal S4x16x512 .f32) :
    ((cfg0.win 5).blk t).view.read (Elt Ideal) f (ix3 0 j l) = f (ix3 (bat t) j l) := by
  refine congrArg f ?_
  blk_ext [idx t] <;> omega

theorem w5 (t : Fin cfg0.N) (j : Fin 16) (l : Fin 512) : iblk m c 5 t (ix3 0 j l) = V m c main_v23 (ix3 (bat t) j l) := by
  unfold iblk
  exact r5 t j  l  (V m c main_v23)

theorem r6 (t : Fin cfg0.N) (r s : Fin 256) (f : FVec Ideal S256x256 .bf16) :
    ((cfg0.win 6).blk t).view.read (Elt Ideal) f (ix2 r s) = f (ix2 r s) := by
  refine congrArg f ?_
  blk_ext [idx t] <;> omega

theorem w6 (t : Fin cfg0.N) (r s : Fin 256) : iblk m c 6 t (ix2 r s) = V m c main_v36 (ix2 r s) := by
  unfold iblk
  exact r6 t r s  (V m c main_v36)

theorem r7 (t : Fin cfg0.N) (h : Fin 8) (k : Fin 10) (r s : Fin 256) (f : FVec Ideal S16x10x256x256 .f32) :
    ((cfg0.win 7).blk t).view.read (Elt Ideal) f (ix4 h k r s) = f (ix4 (⟨h.val, by omega⟩ : Fin 16) k r s) := by
  refine congrArg f ?_
  blk_ext [idx t] <;> omega

theorem w7 (t : Fin cfg0.N) (h : Fin 8) (k : Fin 10) (r s : Fin 256) :
    iblk m c 7 t (ix4 h k r s) = V m c main_v31 (ix4 (⟨h.val, by omega⟩ : Fin 16) k r s) := by
  unfold iblk
  exact r7 t h k r s (V m c main_v31)

/-- The place of the output block's element in the result. -/
theorem emb8 (t : Fin cfg0.N) (r l : Fin 512) :
    ((cfg0.win 8).blk t).view.emb (ix3 0 r l) = ix3 (bat t) ⟨512 * (t.val % 8) + r.val, by omega⟩ l := by
  blk_ext [idx t] <;> omega

/-- The tile of a point. -/
theorem tile_eq (t : Fin cfg0.N) : (show Fin 8 from (grid0.coords t) 2) = ⟨t.val % 8, Nat.mod_lt _ (by decide)⟩ := Fin.ext (idx t).2.2.2.2.2.2.2.2.2.2

include hq hk hv hb in
/-- A point's blocks hold the numbers of its batch and its tile of queries. -/
theorem holds (t : Fin cfg0.N) : Holds (D.nums (bat t) ⟨t.val % 8, by omega⟩) (iblk m c 0 t) (iblk m c 1 t) (iblk m c 2 t) (iblk m c 3 t)
    (iblk m c 4 t) (iblk m c 5 t) (iblk m c 6 t) (iblk m c 7 t) where
  q r l := (w0 m c t r l).trans (hq _ _ _)
  ke s l := (w1 m c t s l).trans ((v11_at m c _ s l).trans (by rw [hk]; rfl))
  ko s l := (w2 m c t s l).trans ((v15_at m c _ s l).trans (by rw [hk]; rfl))
  ve s l := (w3 m c t s l).trans ((v17_at m c _ s l).trans (by rw [hv]; rfl))
  vo s l := (w4 m c t s l).trans ((v19_at m c _ s l).trans (by rw [hv]; rfl))
  mean j l := (w5 m c t j l).trans ((v23_at m c _ j l).trans (by simp only [hk]; exact mean_real _))
  eye r s := (w6 m c t r s).trans (v36_at m c r s)
  bias h k r s := (w7 m c t h k r s).trans ((v31_at m c _ k r s).trans (by rw [hb]; rfl))

include hq hk hv hb in
/-- What a point stores is the reference's term where its block sits. -/
theorem point (t : Fin cfg0.N) (y : S1x512x512.Idx) : outsAt0 m c t y
    = refTerm (m ((c : Thread nD τ).loc main_arg0)) (m ((c : Thread nD τ).loc main_arg1)) (m ((c : Thread nD τ).loc main_arg2))
        (m ((c : Thread nD τ).loc main_arg3)) (((cfg0.win 8).blk t).view.emb y) := by
  obtain ⟨a, r, l, rfl⟩ : ∃ (a : Fin 1) (r l : Fin 512), y = ix3 a r l := ⟨y 0, y 1, y 2, eq_ix3 y⟩
  obtain rfl : a = 0 := Subsingleton.elim _ _
  obtain ⟨h, d, rfl⟩ : ∃ (h : Fin 8) (d : Fin 64), l = col h d :=
    ⟨⟨l.val / 64, by omega⟩, ⟨l.val % 64, by omega⟩, Fin.ext (by show l.val = 64 * (l.val / 64) + l.val % 64; omega)⟩
  have H := block_at (holds m c D hq hk hv hb t) (grid0.coords t) r h d
  rw [emb8]
  have R := out_real D (m ((c : Thread nD τ).loc main_arg0)) (m ((c : Thread nD τ).loc main_arg1)) (m ((c : Thread nD τ).loc main_arg2))
    (m ((c : Thread nD τ).loc main_arg3)) hq hk hv hb (bat t) ⟨t.val % 8, by omega⟩ r h d
  refine Eq.trans ?_ R.symm
  refine Eq.trans ?_ (H.trans (congrArg (fun I : Fin 8 => soft (D.nums (bat t) ⟨t.val % 8, by omega⟩) I h r (col h d)) (tile_eq t)))
  unfold outsAt0
  exact congrFun (Finish.out_value _ _ _ _ _ _ _ _ _ _ _ _ _ _ _ _ _ _ _ _ _ _ _ _ _ _ _ _ _ _ _ _) _

include hq hk hv hb in
/-- The result array after the run is the reference's term of the arguments. -/
theorem final : (dats m 0 c).arrAt 8 (cfgs 0).N
    = refTerm (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]
  exact point m c D hq hk hv hb t y

end Cert.KernelIdeal.Blocks
-- ==== Proof.MobaFinite.lean ====
/- What the precondition says: every element of the attention call's arguments is a real number. -/
module

public import proofs.«01_k».proof.Pre_finite
public import proofs.«01_k».proof.Proof.MobaRefAt
public import Idealize.ShloMosaic.Lib.ReduceAll

@[expose] public section

set_option maxRecDepth 16384

noncomputable section

open Idealize.ShloMosaic Idealize.SL.Sem

namespace Cert.Pre_finite

/-- The shape relations that the precondition takes. -/
instance facts : Facts where
  bitsLt_bf16_f32 := by decide
  bcast_S_S4x4096x512 := by decide
  reducesTo_S4x4096x512_S_d0_1_2 := by decide
  h_S_ := by decide
  bcast_S_S16x10x256x256 := by decide
  reducesTo_S16x10x256x256_S_d0_1_2_3 := by decide

open Facts

/-- A conjunction of bits is one exactly if both are. -/
theorem and_one (a b : BitVec 1) : IntOp.andi a b = 1#1 ↔ a = 1#1 ∧ b = 1#1 := by
  revert a b; decide

instance : Subsingleton S_.Idx := ⟨fun a b => funext fun i => i.elim0⟩

/-- A number strictly between the infinities is real. -/
theorem real_of (x : EReal) (h : IntOp.andi (Ideal.cmp .ogt x (Ideal.ofBits .f32 0xFF800000#32)) (Ideal.cmp .olt x (Ideal.ofBits .f32 0x7F800000#32)) = 1#1) :
    x = (x.toReal : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  rw [and_one, hb, ht] at h
  obtain ⟨h1, h2⟩ := h
  have h1' : ⊥ < x := by simpa [Ideal.cmp, Cert.MobaRef.ofBool_iff] using h1
  have h2' : x < ⊤ := by simpa [Ideal.cmp, Cert.MobaRef.ofBool_iff] using h2
  exact (EReal.coe_toReal h2'.ne h1'.ne').symm

/-- Where the precondition holds, every element of the four arguments is real. -/
theorem reals (x0 : FVec Ideal S4x4096x512 .bf16) (x1 x2 : FVec Ideal S4x4096x512 .f32) (x3 : FVec Ideal S16x10x256x256 .f32)
    (h : fn (F := Ideal) x0 x1 x2 x3 = fun _ => 1#1) :
    (∀ i, (x0 i : EReal) = ((x0 i : EReal).toReal : EReal)) ∧ (∀ i, (x1 i : EReal) = ((x1 i : EReal).toReal : EReal))
    ∧ (∀ i, (x2 i : EReal) = ((x2 i : EReal).toReal : EReal)) ∧ ∀ i, (x3 i : EReal) = ((x3 i : EReal).toReal : EReal) := by
  have e := congrFun h ix0
  simp only [fn, fn_part1] at e
  have e' := (and_one _ _).1 e
  have e'' := (and_one _ _).1 e'.1
  have e''' := (and_one _ _).1 e''.1
  exact ⟨fun i => real_of _ (Host.reduce_andi_all _ _ _ _ _ e'''.1 i), fun i => real_of _ (Host.reduce_andi_all _ _ _ _ _ e'''.2 i),
    fun i => real_of _ (Host.reduce_andi_all _ _ _ _ _ e''.2 i), fun i => real_of _ (Host.reduce_andi_all _ _ _ _ _ e'.2 i)⟩

end Cert.Pre_finite

end
-- ==== Proof.MobaClaims.lean ====
/- The claims about the MoBA attention: the frames, and that kernel and reference compute one function of finite arguments. -/
module

public import proofs.«01_k».proof.Defs
public import proofs.«01_k».proof.Proof.MobaHost
public import proofs.«01_k».proof.Proof.MobaFinite
public import proofs.«01_k».proof.Proof.Gen.Kernel.Frame
public import proofs.«01_k».proof.Proof.Gen.KernelIdeal.Value
public import proofs.«01_k».proof.Proof.Gen.ReferenceIdeal.Run
public import Idealize.ShloMosaic.Lib.Claim

@[expose] public section

noncomputable section

open Idealize.ShloMosaic Idealize.ShloMosaic.TcCoe Idealize.SL.Sem

namespace Cert.Proof.MobaClaims

instance : Cert.Kernel.Facts := Cert.Kernel.Gen.facts
instance : Cert.KernelIdeal.Facts := Cert.KernelIdeal.Gen.facts
instance : Cert.ReferenceIdeal.Facts := Cert.ReferenceIdeal.Gen.facts

/-- The attention's frame, at the machine's floats. -/
theorem frame_p : Cert.quiescent_Kernel := fun m ρ _ => Cert.Kernel.Gen.frame m ρ

/-- The attention's frame, at the extended reals. -/
theorem frame_pi : Cert.quiescent_KernelIdeal := fun m ρ _ => Cert.KernelIdeal.Gen.frame m ρ

/-- The same under the precondition. -/
theorem frame_pi_finite : Cert.quiescent_KernelIdeal_pre_finite := fun m ρ _ => Cert.KernelIdeal.Gen.frame m ρ

/-- The reference's frame, from its run. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition. -/
theorem frame_ri_finite : Cert.quiescent_ReferenceIdeal_pre_finite := fun m ρ _ => frame_ri m ρ trivial

/-- The attention and its reference compute the same function of finite arguments. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := hagree c
  obtain ⟨q, k, v, x⟩ := Cert.Pre_finite.reals _ _ _ _ (hpre c)
  let D : Cert.MobaRef.Data := {
    Q b s l := EReal.toReal (Cert.KernelIdeal.Blocks.A0 m c (ix3 b s l))
    K b s l := EReal.toReal (Cert.KernelIdeal.Blocks.A1 m c (ix3 b s l))
    V b s l := EReal.toReal (Cert.KernelIdeal.Blocks.A2 m c (ix3 b s l))
    B h n r s := EReal.toReal (Cert.KernelIdeal.Blocks.A3 m c (ix4 h n r s)) }
  refine Eq.trans ?_ (Cert.KernelIdeal.Blocks.final m c D (fun b s l => q (ix3 b s l)) (fun b s l => k (ix3 b s l))
    (fun b s l => v (ix3 b s l)) (fun h n r s => x (ix4 h n r s))).symm
  refine (Cert.MobaRef.res_eq m' c).trans ?_
  rw [h0, h1, h2, h3]

end Cert.Proof.MobaClaims

end
-- ==== Proof.InRow.lean ====
/- The input projection of the layer, one token at a time: the functions of a token's activations and of the weights that both the
   tiled kernel and the plain reference compute. -/
module

public import proofs.«01_k».proof.Proof.OutRow
public import proofs.«01_k».proof.Proof.Gen.InProjIdeal.Skeleton
public import Idealize.ShloMosaic.Lib.Pipeline.ValueKit

@[expose] public section

set_option maxRecDepth 16384

noncomputable section

open Idealize.ShloMosaic Idealize.ShloMosaic.TcCoe Idealize.SL.Sem

namespace Cert.InRow

open Cert.OutRow (normed lin)

/-- One head's RMS norm over its 64 features. -/
def headNorm (q g : Fin 64 → EReal) (j : Fin 64) : EReal :=
  q j * Ideal.rsqrt (Ideal.div (∑ l, q l * q l) (Ideal.ofBits FTy.f32 0x42800000#32) + Ideal.ofBits FTy.f32 0x358637BD#32) * g j

/-- Feature `j` of half `e` of the `s`-th pair of heads, in the 512 columns that begin at `off`. -/
def feat {n : ℕ} (p : Fin n → EReal) (off : ℕ) (ho : off + 512 ≤ n) (s : Fin 4) (e : Fin 2) (j : Fin 64) : EReal :=
  p ⟨off + (128 * s.val + (64 * e.val + j.val)), by omega⟩

/-- The softmax's scale in base 2, as the literal of both programs. -/
def scale : EReal := Ideal.ofBits FTy.f32 0x3E38AA3B#32

open Cert.InProjIdeal Cert.InProjIdeal.Gen

/-- The 64-feature norm of the two heads that share 128 lanes. -/
def segK (p : FVec Ideal S512x128 .f32) (g : Vec Ideal S1x128 .f32) : FVec Ideal S512x128 .f32 := k0_pay28 k0_pay4 p (k0_pay27 g)

/-- The four slabs of 128 lanes of 512 columns. -/
def slab (s : Fin 4) (p : FVec Ideal S512x512 .f32) : FVec Ideal S512x128 .f32 :=
  match s with
  | 0 => extractStridedSlice S512x128 ![0, 0] p slices_S512x512_o0_0_S512x128
  | 1 => extractStridedSlice S512x128 ![0, 128] p slices_S512x512_o0_128_S512x128
  | 2 => extractStridedSlice S512x128 ![0, 256] p slices_S512x512_o0_256_S512x128
  | 3 => extractStridedSlice S512x128 ![0, 384] p slices_S512x512_o0_384_S512x128

/-- A slab as it is stored. -/
def put (y : FVec Ideal S512x128 .f32) : Vec Ideal S1x512x128 .bf16 :=
  shapeCast S1x512x128 (truncf .bf16 y bitsLt_bf16_f32) shapeCasts_S512x128_S1x512x128

/-- The softmax's scale on a slab. -/
def scaled (y : FVec Ideal S512x128 .f32) : FVec Ideal S512x128 .f32 := mulf y (broadcast S512x128 (Scalar.ofBits .f32 0x3E38AA3B#32))

theorem slab_at (s : Fin 4) (p : FVec Ideal S512x512 .f32) (r : Fin 512) (l : Fin 128) :
    slab s p (ix2 r l) = p (ix2 r ⟨128 * s.val + l.val, by omega⟩) := by
  fin_cases s
  · unfold slab; pointwise
  · unfold slab; pointwise
  · unfold slab; pointwise
  · unfold slab; pointwise

theorem put_at (y : FVec Ideal S512x128 .f32) (r : Fin 512) (l : Fin 128) : put y (ix3 0 r l) = y (ix2 r l) := by
  unfold put; pointwise

theorem scaled_at (y : FVec Ideal S512x128 .f32) (r : Fin 512) (l : Fin 128) : scaled y (ix2 r l) = y (ix2 r l) * scale := by
  unfold scaled; pointwise
  rfl

theorem proj_at (x : Vec Ideal S1x512x1024 .f32) (nw : Vec Ideal S1x1024 .f32) (w : Vec Ideal S1024x512 .bf16) (r n : Fin 512) :
    k0_pay7 x nw w (ix2 r n) = lin (normed (fun k => x (ix3 0 r k)) (fun k => nw (ix2 0 k))) (fun k l => w (ix2 k l)) n := by
  pointwise [k0_pay7, k0_pay3]
  rfl

theorem low_lane : ∀ n : Fin 128, IntOp.cmpi CmpIPredicate.slt (BitVec.ofNat 32 n.val) 64#32 = if n.val < 64 then 1#1 else 0#1 := by decide

/-- A choice by the half of the lane. -/
theorem select_low {α : Type} (n : Fin 128) (a b : α) :
    Scalar.select (IntOp.cmpi CmpIPredicate.slt (BitVec.ofNat 32 n.val) 64#32) a b = if n.val < 64 then a else b := by
  rw [low_lane]
  split <;> rfl

theorem sum_low (f : Fin 128 → EReal) : (∑ x : Fin 128, if x.val < 64 then f x else 0) = ∑ j : Fin 64, f ⟨j.val, by omega⟩ := by
  refine (Fin.sum_univ_add (a := 64) (b := 64) _).trans ?_
  refine (congrArg₂ (· + ·) (Finset.sum_congr rfl fun j _ => if_pos (by simp)) (Finset.sum_eq_zero fun j _ => if_neg (by simp))).trans ?_
  rw [add_zero]
  rfl

theorem sum_high (f : Fin 128 → EReal) : (∑ x : Fin 128, if x.val < 64 then 0 else f x) = ∑ j : Fin 64, f ⟨64 + j.val, by omega⟩ := by
  refine (Fin.sum_univ_add (a := 64) (b := 64) _).trans ?_
  refine (congrArg₂ (· + ·) (Finset.sum_eq_zero fun j _ => if_pos (by simp)) (Finset.sum_congr rfl fun j _ => if_neg (by simp))).trans ?_
  rw [zero_add]
  rfl

/-- Division by 64 is multiplication by its reciprocal, at every extended real. -/
theorem div_64 (x : EReal) : x * Ideal.ofBits FTy.f32 0x3C800000#32 = Ideal.div x (Ideal.ofBits FTy.f32 0x42800000#32) := by
  have h1 : Ideal.ofBits FTy.f32 0x3C800000#32 = ((1 / 64 : ℝ) : EReal) := by
    simp [Ideal.ofBits, Ideal.ieee]; norm_cast; norm_num
  have h2 : Ideal.ofBits FTy.f32 0x42800000#32 = ((64 : ℝ) : EReal) := by
    simp [Ideal.ofBits, Ideal.ieee]; norm_cast; norm_num
  rw [h1, h2, Ideal.div, if_neg (by norm_num), ← EReal.coe_inv, one_div]

/-- The norm of a slab, read at a lane: the mean is over the lane's own half. -/
theorem seg_lane (p : FVec Ideal S512x128 .f32) (g : Vec Ideal S1x128 .f32) (r : Fin 512) (l : Fin 128) :
    segK p g (ix2 r l) = p (ix2 r l) * Ideal.rsqrt (Ideal.div (if l.val < 64
        then ∑ j : Fin 64, p (ix2 r ⟨j.val, by omega⟩) * p (ix2 r ⟨j.val, by omega⟩)
        else ∑ j : Fin 64, p (ix2 r ⟨64 + j.val, by omega⟩) * p (ix2 r ⟨64 + j.val, by omega⟩))
          (Ideal.ofBits FTy.f32 0x42800000#32) + Ideal.ofBits FTy.f32 0x358637BD#32) * g (ix2 0 l) := by
  pointwise [segK, k0_pay28, k0_pay27, k0_pay4]
  simp only [select_low, sum_low fun x => p (ix2 r x) * p (ix2 r x), sum_high fun x => p (ix2 r x) * p (ix2 r x), div_64]

/-- The two heads of a slab are normed each over its own 64 features. -/
theorem seg_at (p : FVec Ideal S512x128 .f32) (g : Vec Ideal S1x128 .f32) (r : Fin 512) (e : Fin 2) (j : Fin 64) :
    segK p g (ix2 r ⟨64 * e.val + j.val, by omega⟩)
      = headNorm (fun j => p (ix2 r ⟨64 * e.val + j.val, by omega⟩)) (fun j => g (ix2 0 ⟨64 * e.val + j.val, by omega⟩)) j := by
  rw [seg_lane]
  have hs : (if (⟨64 * e.val + j.val, by omega⟩ : Fin 128).val < 64
        then ∑ j : Fin 64, p (ix2 r ⟨j.val, by omega⟩) * p (ix2 r ⟨j.val, by omega⟩)
        else ∑ j : Fin 64, p (ix2 r ⟨64 + j.val, by omega⟩) * p (ix2 r ⟨64 + j.val, by omega⟩))
      = ∑ j : Fin 64, p (ix2 r ⟨64 * e.val + j.val, by omega⟩) * p (ix2 r ⟨64 * e.val + j.val, by omega⟩) := by
    rcases (by omega : e.val = 0 ∨ e.val = 1) with h | h
    · rw [if_pos (by show 64 * e.val + j.val < 64; omega)]
      refine Finset.sum_congr rfl fun x _ => ?_
      rw [show (⟨x.val, by omega⟩ : Fin 128) = ⟨64 * e.val + x.val, by omega⟩ from Fin.ext (by show x.val = 64 * e.val + x.val; omega)]
    · rw [if_neg (by show ¬ 64 * e.val + j.val < 64; omega)]
      refine Finset.sum_congr rfl fun x _ => ?_
      rw [show (⟨64 + x.val, by omega⟩ : Fin 128) = ⟨64 * e.val + x.val, by omega⟩ from Fin.ext (by show 64 + x.val = 64 * e.val + x.val; omega)]
  rw [hs]
  rfl

/-- A stored slab of normed and scaled heads. -/
theorem query_at (s : Fin 4) (p : FVec Ideal S512x512 .f32) (g : Vec Ideal S1x128 .f32) (r : Fin 512) (e : Fin 2) (j : Fin 64) :
    put (scaled (segK (slab s p) g)) (ix3 0 r ⟨64 * e.val + j.val, by omega⟩)
      = headNorm (fun j => p (ix2 r ⟨128 * s.val + (64 * e.val + j.val), by omega⟩)) (fun j => g (ix2 0 ⟨64 * e.val + j.val, by omega⟩)) j * scale := by
  rw [put_at, scaled_at, seg_at]
  simp only [slab_at]

/-- Pairs of heads as they are stored: `y` in the first 64 lanes and `z` in the other 64. -/
def paired (y z : FVec Ideal S512x128 .f32) : Vec Ideal S1x512x128 .bf16 := put (select k0_pay4 y z)

theorem paired_at (y z : FVec Ideal S512x128 .f32) (r : Fin 512) (e : Fin 2) (j : Fin 64) :
    paired y z (ix3 0 r ⟨64 * e.val + j.val, by omega⟩)
      = if e = 0 then y (ix2 r ⟨64 * e.val + j.val, by omega⟩) else z (ix2 r ⟨64 * e.val + j.val, by omega⟩) := by
  have h : select k0_pay4 y z (ix2 r ⟨64 * e.val + j.val, by omega⟩)
      = if (⟨64 * e.val + j.val, by omega⟩ : Fin 128).val < 64 then y (ix2 r ⟨64 * e.val + j.val, by omega⟩)
        else z (ix2 r ⟨64 * e.val + j.val, by omega⟩) := by
    rw [← select_low]
    pointwise [k0_pay4]
  unfold paired
  rw [put_at, h]
  refine if_congr (Iff.trans ?_ (Fin.ext_iff (a := e) (b := 0)).symm) rfl rfl
  show 64 * e.val + j.val < 64 ↔ e.val = 0
  omega

/-- Ones on 128 lanes. -/
def onesK : FVec Ideal S512x128 .f32 := broadcast S512x128 (Scalar.ofBits .f32 0x3F800000#32)

theorem onesK_at (i) : onesK i = 1 := by
  unfold onesK; pointwise

/-- The block of 256 tokens in which row `r` of the `p`-th 512 rows of the tokens lies. -/
def blockK (a : BitVec 32) : IVec S512x128 32 :=
  addi (broadcast S512x128 a) (shrui (iota .tc S512x128 32 [0] iota_S512x128_d0_w32) (broadcast S512x128 8#32))

/-- The lane's number. -/
def lane : IVec S512x128 32 := iota .tc S512x128 32 [1] iota_S512x128_d1_w32

theorem block_word : ∀ (p : Fin 8) (r : Fin 512), IntOp.addi (BitVec.ofNat 32 (2 * p.val)) (IntOp.shrui ArithUnit.vector (BitVec.ofNat 32 r.val) 8#32)
    = BitVec.ofNat 32 ((512 * p.val + r.val) / 256) := by
  decide +kernel

theorem hot_word : ∀ (k : Fin 16) (l : Fin 128), (IntOp.cmpi CmpIPredicate.eq (BitVec.ofNat 32 l.val) (BitVec.ofNat 32 k.val) = if l.val = k.val then 1#1 else 0#1)
    ∧ (IntOp.cmpi CmpIPredicate.eq (BitVec.ofNat 32 l.val) (IntOp.addi 64#32 (BitVec.ofNat 32 k.val)) = if l.val = 64 + k.val then 1#1 else 0#1) := by
  decide +kernel

/-- One or zero, by whether `p`. -/
def flag (p : Prop) [Decidable p] : EReal := if p then 1 else 0

theorem select_flag (p : Prop) [Decidable p] : Scalar.select (if p then 1#1 else 0#1) (1 : EReal) 0 = flag p := by
  unfold flag
  split <;> rfl

theorem hot_low (p : Fin 8) (r : Fin 512) (l : Fin 128) :
    k0_pay34 (F := Ideal) lane (blockK (BitVec.ofNat 32 (2 * p.val))) (ix2 r l) = flag (l.val = (512 * p.val + r.val) / 256) := by
  pointwise [k0_pay34, lane, blockK]
  rw [block_word, (hot_word ⟨(512 * p.val + r.val) / 256, by omega⟩ l).1, select_flag]

theorem hot_high (p : Fin 8) (r : Fin 512) (l : Fin 128) :
    k0_pay33 (F := Ideal) lane (blockK (BitVec.ofNat 32 (2 * p.val))) (ix2 r l) = flag (l.val = 64 + (512 * p.val + r.val) / 256) := by
  pointwise [k0_pay33, lane, blockK]
  rw [block_word, (hot_word ⟨(512 * p.val + r.val) / 256, by omega⟩ l).2, select_flag]

theorem gates_at (x : Vec Ideal S1x512x1024 .f32) (nw : Vec Ideal S1x1024 .f32) (w : Vec Ideal S1024x128 .bf16) (r : Fin 512) (n : Fin 128) :
    k0_pay88 (k0_pay3 x nw) w w (ix3 0 r n) = lin (normed (fun k => x (ix3 0 r k)) (fun k => nw (ix2 0 k))) (fun k l => w (ix2 k l)) n := by
  pointwise [k0_pay88, k0_pay3]
  split
  · rfl
  · rename_i h
    have h' : ¬ r.val < 256 := h
    exact congrArg (fun q => lin (normed (fun k => x (ix3 0 q k)) (fun k => nw (ix2 0 k))) (fun k l => w (ix2 k l)) n)
      (Fin.ext (by show 256 + (r.val - 256) = r.val; omega) : (⟨256 + (r.val - 256), by omega⟩ : Fin 512) = r)

section Token

variable (xs : Vec Ideal S1x512x1024 .f32) (nw : Vec Ideal S1x1024 .f32) (w : Vec Ideal S1024x512 .bf16) (g : Vec Ideal S1x128 .f32)
  (p : Fin 5912 → EReal) (off : ℕ) (ho : off + 512 ≤ 5912) (s : Fin 4) (r : Fin 512) (e : Fin 2) (j : Fin 64)

/-- The projection's block, of a row and weights that are those of a token's columns from `off`. -/
theorem proj_tok (X NW : Fin 1024 → EReal) (W : Fin 1024 → Fin 5912 → EReal) (hx : ∀ k, xs (ix3 0 r k) = X k) (hnw : ∀ k, nw (ix2 0 k) = NW k)
    (hw : ∀ k (n : Fin 512), w (ix2 k n) = W k ⟨off + n.val, by omega⟩) (n : Fin 512) :
    k0_pay7 xs nw w (ix2 r n) = lin (normed X NW) W ⟨off + n.val, by omega⟩ := by
  rw [proj_at, funext hx, funext hnw]
  exact Finset.sum_congr rfl fun k _ => congrArg (normed X NW k * ·) (hw k n)

variable (hp : ∀ n : Fin 512, k0_pay7 xs nw w (ix2 r n) = p ⟨off + n.val, by omega⟩)

include hp in
/-- A stored query. -/
theorem query_tok (qn : Fin 64 → EReal) (hg : ∀ (e : Fin 2) (j : Fin 64), g (ix2 0 ⟨64 * e.val + j.val, by omega⟩) = qn j) :
    put (scaled (segK (slab s (k0_pay7 xs nw w)) g)) (ix3 0 r ⟨64 * e.val + j.val, by omega⟩) = headNorm (feat p off ho s e) qn j * scale := by
  rw [query_at]
  simp only [hp, hg]
  rfl

include hp in
/-- Stored keys before the one-hot, and after it. -/
theorem key_low (qn : Fin 64 → EReal) (hg : ∀ (e : Fin 2) (j : Fin 64), g (ix2 0 ⟨64 * e.val + j.val, by omega⟩) = qn j) (q : Fin 8) :
    paired (segK (slab s (k0_pay7 xs nw w)) g) (k0_pay33 (F := Ideal) lane (blockK (BitVec.ofNat 32 (2 * q.val)))) (ix3 0 r ⟨64 * e.val + j.val, by omega⟩)
      = if e = 0 then headNorm (feat p off ho s 0) qn j else flag (j.val = (512 * q.val + r.val) / 256) := by
  rw [paired_at, seg_at, hot_high]
  simp only [slab_at, hp, hg]
  by_cases he : e = 0
  · subst he
    rfl
  · have h1 : e = 1 := by omega
    subst h1
    rw [if_neg he, if_neg he]
    refine if_congr ?_ rfl rfl
    show 64 * 1 + j.val = 64 + _ ↔ _
    omega

include hp in
theorem key_high (qn : Fin 64 → EReal) (hg : ∀ (e : Fin 2) (j : Fin 64), g (ix2 0 ⟨64 * e.val + j.val, by omega⟩) = qn j) (q : Fin 8) :
    paired (k0_pay34 (F := Ideal) lane (blockK (BitVec.ofNat 32 (2 * q.val)))) (segK (slab s (k0_pay7 xs nw w)) g) (ix3 0 r ⟨64 * e.val + j.val, by omega⟩)
      = if e = 0 then flag (j.val = (512 * q.val + r.val) / 256) else headNorm (feat p off ho s 1) qn j := by
  rw [paired_at, seg_at, hot_low]
  simp only [slab_at, hp, hg]
  by_cases he : e = 0
  · subst he
    rw [if_pos rfl, if_pos rfl]
    refine if_congr ?_ rfl rfl
    show 64 * 0 + j.val = _ ↔ _
    omega
  · have h1 : e = 1 := by omega
    subst h1
    rfl

include hp in
/-- Stored values before the ones, and after them. -/
theorem val_low : paired (slab s (k0_pay7 xs nw w)) onesK (ix3 0 r ⟨64 * e.val + j.val, by omega⟩) = if e = 0 then feat p off ho s 0 j else 1 := by
  rw [paired_at, onesK_at, slab_at, hp]
  by_cases he : e = 0
  · subst he
    rfl
  · rw [if_neg he, if_neg he]

include hp in
theorem val_high : paired onesK (slab s (k0_pay7 xs nw w)) (ix3 0 r ⟨64 * e.val + j.val, by omega⟩) = if e = 0 then 1 else feat p off ho s 1 j := by
  rw [paired_at, onesK_at, slab_at, hp]
  by_cases he : e = 0
  · rw [if_pos he, if_pos he]
  · have h1 : e = 1 := by omega
    subst h1
    rfl

end Token

end Cert.InRow

end
-- ==== Proof.InRef.lean ====
/- The reference of the input projection: its results as terms of the arguments, and those terms read at an index. -/
module

public import proofs.«01_k».proof.Proof.InRow
public import proofs.«01_k».proof.Proof.Gen.InRefIdeal

@[expose] public section

set_option maxRecDepth 16384

noncomputable section

open Idealize.ShloMosaic Idealize.ShloMosaic.TcCoe Idealize.SL.Sem

namespace Cert.InRef

open Cert.InRefIdeal Cert.InRefIdeal.Gen
open Cert.OutRow (normed lin refNormed refProj refNormed_at refProj_at)
open Cert.InRow (headNorm scale feat flag)

/-- A token's projection on all columns. -/
def proj (x : FVec Ideal S4x4096x1024 .f32) (nw : FVec Ideal S1x1024 .f32) (w : FVec Ideal S1x1024x5912 .f32) :
    FVec Ideal S4x4096x5912 .f32 := refProj (refNormed x nw) w

/-- The projection of a token, from its row and the weights. -/
def tok (x : FVec Ideal S4x4096x1024 .f32) (nw : FVec Ideal S1x1024 .f32) (w : FVec Ideal S1x1024x5912 .f32) (b : Fin 4) (t : Fin 4096) :
    Fin 5912 → EReal := lin (normed (fun k => x (ix3 b t k)) (fun k => nw (ix2 0 k))) (fun k l => w (ix3 0 k l))

theorem proj_at (x : FVec Ideal S4x4096x1024 .f32) (nw : FVec Ideal S1x1024 .f32) (w : FVec Ideal S1x1024x5912 .f32)
    (b : Fin 4) (t : Fin 4096) (n : Fin 5912) : proj x nw w (ix3 b t n) = tok x nw w b t n := by
  unfold proj
  simp only [refProj_at, refNormed_at]
  rfl

/-- 512 columns as eight heads of 64 features. -/
def heads (p : FVec Ideal S4x4096x512 .f32) : FVec Ideal S4x4096x8x64 .f32 := shapeCast _ p shapeCasts_S4x4096x512_S4x4096x8x64

/-- The RMS norm of every head. -/
def normR (h : FVec Ideal S4x4096x8x64 .f32) (g : FVec Ideal S1x64 .f32) : FVec Ideal S4x4096x8x64 .f32 :=
  mulf (mulf h (broadcastInDim S4x4096x8x64 ![0, 1, 2, 3] bcast_S4x4096x8x1_S4x4096x8x64_0_1_2_3 (Host.rsqrt (addf (Host.divf (broadcastInDim S4x4096x8x1 ![0, 1, 2] bcast_S4x4096x8_S4x4096x8x1_0_1_2 (Host.reduceAdd (mulf h h) (constant S_ .f32 0x00000000#32) reducesTo_S4x4096x8x64_S4x4096x8_d3 h_S_)) (broadcastInDim S4x4096x8x1 ![] bcast_S_S4x4096x8x1 (constant S_ .f32 0x42800000#32))) (broadcastInDim S4x4096x8x1 ![] bcast_S_S4x4096x8x1 (constant S_ .f32 0x358637BD#32)))))) (broadcastInDim S4x4096x8x64 ![0, 1, 2, 3] bcast_S1x1x1x64_S4x4096x8x64_0_1_2_3 (broadcastInDim S1x1x1x64 ![3] bcast_S64_S1x1x1x64_3 (shapeCast _ g shapeCasts_S1x64_S64)))

/-- The eight heads side by side, scaled. -/
def queryR (h : FVec Ideal S4x4096x8x64 .f32) : FVec Ideal S4x4096x512 .bf16 :=
  truncf .bf16 (shapeCast _ (mulf h (broadcastInDim S4x4096x8x64 ![] bcast_S_S4x4096x8x64 (constant S_ .f32 0x3E38AA3B#32))) shapeCasts_S4x4096x8x64_S4x4096x512) bitsLt_bf16_f32

/-- The block of 256 tokens in which a token lies. -/
def blockR : IVec S4096x1x1 32 :=
  (select (andi (cmpi .ne (signi (broadcastInDim S4096x1x1 ![0] bcast_S4096_S4096x1x1_0 (iotaInDim S4096 32 0))) (broadcastInDim S4096x1x1 ![] bcast_S_S4096x1x1 (signi (id (constantI S_ 32 256#32))))) (cmpi .ne (Host.remsi (broadcastInDim S4096x1x1 ![0] bcast_S4096_S4096x1x1_0 (iotaInDim S4096 32 0)) (broadcastInDim S4096x1x1 ![] bcast_S_S4096x1x1 (id (constantI S_ 32 256#32)))) (broadcastInDim S4096x1x1 ![] bcast_S_S4096x1x1 (constantI S_ 32 0#32)))) (subi (Host.divsi (broadcastInDim S4096x1x1 ![0] bcast_S4096_S4096x1x1_0 (iotaInDim S4096 32 0)) (broadcastInDim S4096x1x1 ![] bcast_S_S4096x1x1 (id (constantI S_ 32 256#32)))) (broadcastInDim S4096x1x1 ![] bcast_S_S4096x1x1 (constantI S_ 32 1#32))) (Host.divsi (broadcastInDim S4096x1x1 ![0] bcast_S4096_S4096x1x1_0 (iotaInDim S4096 32 0)) (broadcastInDim S4096x1x1 ![] bcast_S_S4096x1x1 (id (constantI S_ 32 256#32)))))

/-- The one-hot of a token's block. -/
def hotR : FVec Ideal S4x4096x4x64 .f32 :=
  (id (broadcastInDim S4x4096x4x64 ![1, 2, 3] bcast_S4096x1x64_S4x4096x4x64_1_2_3 (select (cmpi .eq (broadcastInDim S4096x1x64 ![0, 1, 2] bcast_S1x1x64_S4096x1x64_0_1_2 (broadcastInDim S1x1x64 ![2] bcast_S64_S1x1x64_2 (iotaInDim S64 32 0))) (broadcastInDim S4096x1x64 ![0, 1, 2] bcast_S4096x1x1_S4096x1x64_0_1_2 blockR)) (broadcastInDim S4096x1x64 ![] bcast_S_S4096x1x64 (constant S_ .f32 0x3F800000#32)) (broadcastInDim S4096x1x64 ![] bcast_S_S4096x1x64 (constant S_ .f32 0x00000000#32)))))

/-- Every other head from the first, and from the second. -/
def evens (h : FVec Ideal S4x4096x8x64 .f32) : FVec Ideal S4x4096x4x64 .f32 :=
  Host.slice S4x4096x4x64 ![0, 0, 0, 0] ![1, 1, 2, 1] h slicesBy_S4x4096x8x64_S4x4096x4x64_0s1_0s1_0s2_0s1
def odds (h : FVec Ideal S4x4096x8x64 .f32) : FVec Ideal S4x4096x4x64 .f32 :=
  Host.slice S4x4096x4x64 ![0, 0, 1, 0] ![1, 1, 2, 1] h slicesBy_S4x4096x8x64_S4x4096x4x64_0s1_0s1_1s2_0s1

/-- Ones in every feature. -/
def onesR : FVec Ideal S4x4096x4x64 .f32 := broadcastInDim S4x4096x4x64 ![] bcast_S_S4x4096x4x64 (constant S_ .f32 0x3F800000#32)

/-- Two arrays of 64 features side by side in each pair of heads. -/
def pairR (u v : FVec Ideal S4x4096x4x64 .f32) : FVec Ideal S4x4096x512 .bf16 :=
  truncf .bf16 (shapeCast _ (concatenate S4x4096x4x128 3 [⟨S4x4096x4x64, u⟩, ⟨S4x4096x4x64, v⟩] concatenates_S4x4096x4x64_S4x4096x4x64_S4x4096x4x128_d3) shapeCasts_S4x4096x4x128_S4x4096x512) bitsLt_bf16_f32

variable (x : FVec Ideal S4x4096x1024 .f32) (nw : FVec Ideal S1x1024 .f32) (w : FVec Ideal S1x1024x5912 .f32) (g : FVec Ideal S1x64 .f32)

/-- The seven results as terms of the arguments. -/
def qaR : FVec Ideal S4x4096x512 .bf16 :=
  queryR (normR (heads (extractStridedSlice S4x4096x512 ![0, 0, 0] (proj x nw w) slices_S4x4096x5912_S4x4096x512_0_0_0)) g)
def qbR : FVec Ideal S4x4096x512 .bf16 :=
  queryR (normR (heads (extractStridedSlice S4x4096x512 ![0, 0, 2048] (proj x nw w) slices_S4x4096x5912_S4x4096x512_0_0_2048)) g)
def keysR : FVec Ideal S4x4096x8x64 .f32 :=
  normR (heads (extractStridedSlice S4x4096x512 ![0, 0, 512] (proj x nw w) slices_S4x4096x5912_S4x4096x512_0_0_512)) g
def valsR : FVec Ideal S4x4096x8x64 .f32 :=
  heads (extractStridedSlice S4x4096x512 ![0, 0, 1024] (proj x nw w) slices_S4x4096x5912_S4x4096x512_0_0_1024)
def kaeR : FVec Ideal S4x4096x512 .bf16 := pairR (evens (keysR x nw w g)) hotR
def kaoR : FVec Ideal S4x4096x512 .bf16 := pairR hotR (odds (keysR x nw w g))
def vaeR : FVec Ideal S4x4096x512 .bf16 := pairR (evens (valsR x nw w)) onesR
def vaoR : FVec Ideal S4x4096x512 .bf16 := pairR onesR (odds (valsR x nw w))
def gateR : FVec Ideal S4x4096x128 .f32 :=
  pad S4x4096x128 ![0, 0, 0] ![0, 0, 104] ![0, 0, 0] (extractStridedSlice S4x4096x24 ![0, 0, 3328] (proj x nw w) slices_S4x4096x5912_S4x4096x24_0_0_3328) (sitofp .f32 (constantI S_ 32 0#32)) pads_S4x4096x24_S4x4096x128_000_000_01040 h_S_

theorem heads_at (p : FVec Ideal S4x4096x512 .f32) (b : Fin 4) (t : Fin 4096) (h : Fin 8) (j : Fin 64) :
    heads p (ix4 b t h j) = p (ix3 b t ⟨64 * h.val + j.val, by omega⟩) := by
  pointwise [heads]
  exact congrArg (fun n => p (ix3 b t n)) (Fin.ext (by show _ = 64 * h.val + j.val; simp only []; omega))

theorem norm_at (p : FVec Ideal S4x4096x8x64 .f32) (b : Fin 4) (t : Fin 4096) (h : Fin 8) (j : Fin 64) :
    normR p g (ix4 b t h j) = headNorm (fun j => p (ix4 b t h j)) (fun j => g (ix2 0 j)) j := by
  pointwise [normR]
  rfl

theorem query_at (p : FVec Ideal S4x4096x8x64 .f32) (b : Fin 4) (t : Fin 4096) (s : Fin 4) (e : Fin 2) (j : Fin 64) :
    queryR p (ix3 b t ⟨128 * s.val + (64 * e.val + j.val), by omega⟩) = p (ix4 b t ⟨2 * s.val + e.val, by omega⟩ j) * scale := by
  pointwise [queryR]
  refine congrArg (· * scale) (congrArg₂ (fun h j => p (ix4 b t h j)) (Fin.ext ?_) rfl)
  show _ = 2 * s.val + e.val
  simp only []
  omega

theorem pair_at (u v : FVec Ideal S4x4096x4x64 .f32) (b : Fin 4) (t : Fin 4096) (s : Fin 4) (e : Fin 2) (j : Fin 64) :
    pairR u v (ix3 b t ⟨128 * s.val + (64 * e.val + j.val), by omega⟩) = if e = 0 then u (ix4 b t s j) else v (ix4 b t s j) := by
  pointwise [pairR]
  split
  · rename_i h
    have h' : (128 * s.val + (64 * e.val + j.val)) % 128 < 64 := h
    refine Eq.trans ?_ (if_pos (Fin.ext (by show e.val = 0; omega))).symm
    exact congrArg (fun j => u (ix4 b t s j)) (Fin.ext (by show (128 * s.val + (64 * e.val + j.val)) % 128 = j.val; omega))
  · rename_i h
    have h' : ¬ (128 * s.val + (64 * e.val + j.val)) % 128 < 64 := h
    refine Eq.trans ?_ (if_neg fun he => h' (by subst he; show (128 * s.val + (64 * 0 + j.val)) % 128 < 64; omega)).symm
    exact congrArg (fun j => v (ix4 b t s j)) (Fin.ext (by show (128 * s.val + (64 * e.val + j.val)) % 128 - 64 = j.val; omega))

theorem evens_at (p : FVec Ideal S4x4096x8x64 .f32) (b : Fin 4) (t : Fin 4096) (s : Fin 4) (j : Fin 64) :
    evens p (ix4 b t s j) = p (ix4 b t ⟨2 * s.val, by omega⟩ j) := by
  pointwise [evens]

theorem odds_at (p : FVec Ideal S4x4096x8x64 .f32) (b : Fin 4) (t : Fin 4096) (s : Fin 4) (j : Fin 64) :
    odds p (ix4 b t s j) = p (ix4 b t ⟨2 * s.val + 1, by omega⟩ j) := by
  pointwise [odds]
  exact congrArg (fun h => p (ix4 b t h j)) (Fin.ext (Nat.add_comm _ _))

theorem block_at (t : Fin 4096) : blockR (ix3 t 0 0) = BitVec.ofNat 32 (t.val / 256) := by
  pointwise [blockR]
  revert t
  decide +kernel

theorem hot_at (b : Fin 4) (t : Fin 4096) (s : Fin 4) (j : Fin 64) :
    hotR (ix4 b t s j) = flag (j.val = t.val / 256) := by
  unfold hotR
  rw [id_eq]
  pointwise
  rw [block_at, (Cert.InRow.hot_word ⟨t.val / 256, by omega⟩ ⟨j.val, by omega⟩).1, Cert.InRow.select_flag]

theorem ones_at (i) : onesR i = 1 := by
  pointwise [onesR]

theorem gate_at (b : Fin 4) (t : Fin 4096) (n : Fin 128) :
    gateR x nw w (ix3 b t n) = if h : n.val < 24 then tok x nw w b t ⟨3328 + n.val, by omega⟩ else 0 := by
  pointwise [gateR]
  simp only [proj_at]
  refine dite_congr rfl (fun _ => rfl) fun _ => ?_
  show (((0#32 : BitVec 32).toInt : ℝ) : EReal) = 0
  simp

theorem head_eq (p : Fin 5912 → EReal) (off : ℕ) (ho : off + 512 ≤ 5912) (s : Fin 4) (e : Fin 2) (h : Fin 8) (hh : h.val = 2 * s.val + e.val) (j : Fin 64) :
    p ⟨off + (64 * h.val + j.val), by omega⟩ = feat p off ho s e j :=
  congrArg p (Fin.ext (by show off + (64 * h.val + j.val) = off + (128 * s.val + (64 * e.val + j.val)); omega))

theorem part0_at (b : Fin 4) (t : Fin 4096) (n : Fin 512) :
    extractStridedSlice S4x4096x512 ![0, 0, 0] (proj x nw w) slices_S4x4096x5912_S4x4096x512_0_0_0 (ix3 b t n) = tok x nw w b t ⟨0 + n.val, by omega⟩ := by
  rw [← proj_at]
  pointwise

theorem part512_at (b : Fin 4) (t : Fin 4096) (n : Fin 512) :
    extractStridedSlice S4x4096x512 ![0, 0, 512] (proj x nw w) slices_S4x4096x5912_S4x4096x512_0_0_512 (ix3 b t n) = tok x nw w b t ⟨512 + n.val, by omega⟩ := by
  rw [← proj_at]
  pointwise

theorem part1024_at (b : Fin 4) (t : Fin 4096) (n : Fin 512) :
    extractStridedSlice S4x4096x512 ![0, 0, 1024] (proj x nw w) slices_S4x4096x5912_S4x4096x512_0_0_1024 (ix3 b t n) = tok x nw w b t ⟨1024 + n.val, by omega⟩ := by
  rw [← proj_at]
  pointwise

theorem part2048_at (b : Fin 4) (t : Fin 4096) (n : Fin 512) :
    extractStridedSlice S4x4096x512 ![0, 0, 2048] (proj x nw w) slices_S4x4096x5912_S4x4096x512_0_0_2048 (ix3 b t n) = tok x nw w b t ⟨2048 + n.val, by omega⟩ := by
  rw [← proj_at]
  pointwise

/-- The results read at a token and at feature `j` of half `e` of the `s`-th pair of heads. -/
theorem qa_at (b : Fin 4) (t : Fin 4096) (s : Fin 4) (e : Fin 2) (j : Fin 64) :
    qaR x nw w g (ix3 b t ⟨128 * s.val + (64 * e.val + j.val), by omega⟩)
      = headNorm (feat (tok x nw w b t) 0 (by omega) s e) (fun j => g (ix2 0 j)) j * scale := by
  unfold qaR
  rw [query_at, norm_at]
  simp only [heads_at, part0_at]
  exact congrArg (fun f => headNorm f (fun j => g (ix2 0 j)) j * scale) (funext fun j => head_eq (tok x nw w b t) 0 (by omega) s e ⟨2 * s.val + e.val, by omega⟩ rfl j)

theorem qb_at (b : Fin 4) (t : Fin 4096) (s : Fin 4) (e : Fin 2) (j : Fin 64) :
    qbR x nw w g (ix3 b t ⟨128 * s.val + (64 * e.val + j.val), by omega⟩)
      = headNorm (feat (tok x nw w b t) 2048 (by omega) s e) (fun j => g (ix2 0 j)) j * scale := by
  unfold qbR
  rw [query_at, norm_at]
  simp only [heads_at, part2048_at]
  exact congrArg (fun f => headNorm f (fun j => g (ix2 0 j)) j * scale) (funext fun j => head_eq (tok x nw w b t) 2048 (by omega) s e ⟨2 * s.val + e.val, by omega⟩ rfl j)

theorem keys_at (b : Fin 4) (t : Fin 4096) (h : Fin 8) (s : Fin 4) (e : Fin 2) (hh : h.val = 2 * s.val + e.val) (j : Fin 64) :
    keysR x nw w g (ix4 b t h j) = headNorm (feat (tok x nw w b t) 512 (by omega) s e) (fun j => g (ix2 0 j)) j := by
  unfold keysR
  rw [norm_at]
  simp only [heads_at, part512_at]
  exact congrArg (fun f => headNorm f (fun j => g (ix2 0 j)) j) (funext fun j => head_eq _ 512 (by omega) s e _ hh j)

theorem vals_at (b : Fin 4) (t : Fin 4096) (h : Fin 8) (s : Fin 4) (e : Fin 2) (hh : h.val = 2 * s.val + e.val) (j : Fin 64) :
    valsR x nw w (ix4 b t h j) = feat (tok x nw w b t) 1024 (by omega) s e j := by
  unfold valsR
  rw [heads_at, part1024_at]
  exact head_eq _ 1024 (by omega) s e _ hh j

theorem kae_at (b : Fin 4) (t : Fin 4096) (s : Fin 4) (e : Fin 2) (j : Fin 64) :
    kaeR x nw w g (ix3 b t ⟨128 * s.val + (64 * e.val + j.val), by omega⟩)
      = if e = 0 then headNorm (feat (tok x nw w b t) 512 (by omega) s 0) (fun j => g (ix2 0 j)) j else flag (j.val = t.val / 256) := by
  unfold kaeR
  rw [pair_at, evens_at, hot_at, keys_at x nw w g b t _ s 0 rfl]

theorem kao_at (b : Fin 4) (t : Fin 4096) (s : Fin 4) (e : Fin 2) (j : Fin 64) :
    kaoR x nw w g (ix3 b t ⟨128 * s.val + (64 * e.val + j.val), by omega⟩)
      = if e = 0 then flag (j.val = t.val / 256) else headNorm (feat (tok x nw w b t) 512 (by omega) s 1) (fun j => g (ix2 0 j)) j := by
  unfold kaoR
  rw [pair_at, odds_at, hot_at, keys_at x nw w g b t _ s 1 rfl]

theorem vae_at (b : Fin 4) (t : Fin 4096) (s : Fin 4) (e : Fin 2) (j : Fin 64) :
    vaeR x nw w (ix3 b t ⟨128 * s.val + (64 * e.val + j.val), by omega⟩)
      = if e = 0 then feat (tok x nw w b t) 1024 (by omega) s 0 j else 1 := by
  unfold vaeR
  rw [pair_at, evens_at, ones_at, vals_at x nw w b t _ s 0 rfl]

theorem vao_at (b : Fin 4) (t : Fin 4096) (s : Fin 4) (e : Fin 2) (j : Fin 64) :
    vaoR x nw w (ix3 b t ⟨128 * s.val + (64 * e.val + j.val), by omega⟩)
      = if e = 0 then 1 else feat (tok x nw w b t) 1024 (by omega) s 1 j := by
  unfold vaoR
  rw [pair_at, odds_at, ones_at, vals_at x nw w b t _ s 1 rfl]

end Cert.InRef

end
-- ==== Proof.InRefRun.lean ====
/- The generated composed terms of the reference of the input projection are the stages' terms. -/
module

public import proofs.«01_k».proof.Proof.InRef
public import proofs.«01_k».proof.Proof.Gen.InRefIdeal.Run

@[expose] public section

set_option maxRecDepth 16384

noncomputable section

open Idealize.ShloMosaic Idealize.ShloMosaic.TcCoe Idealize.SL.Sem

namespace Cert.InRef

open Cert.InRefIdeal Cert.InRefIdeal.Gen
open Cert.OutRow (refNormed refProj)

section Generated

variable (m : (ℓ : Loc nD τ sig) → Buf (Elt Ideal) ℓ) (c : Dev nD)

theorem qa_eq : Value.res_main_v35 m c = qaR (m ((c.tc : Thread nD τ).loc main_arg0)) (m ((c.tc : Thread nD τ).loc main_arg1))
    (m ((c.tc : Thread nD τ).loc main_arg2)) (m ((c.tc : Thread nD τ).loc main_arg3)) := by
  unfold Value.res_main_v35 qaR queryR normR heads proj refProj refNormed
  rfl

theorem qb_eq : Value.res_main_v55 m c = qbR (m ((c.tc : Thread nD τ).loc main_arg0)) (m ((c.tc : Thread nD τ).loc main_arg1))
    (m ((c.tc : Thread nD τ).loc main_arg2)) (m ((c.tc : Thread nD τ).loc main_arg5)) := by
  unfold Value.res_main_v55 qbR queryR normR heads proj refProj refNormed
  rfl

theorem kae_eq : Value.res_main_v89 m c = kaeR (m ((c.tc : Thread nD τ).loc main_arg0)) (m ((c.tc : Thread nD τ).loc main_arg1))
    (m ((c.tc : Thread nD τ).loc main_arg2)) (m ((c.tc : Thread nD τ).loc main_arg4)) := by
  unfold Value.res_main_v89 kaeR pairR evens hotR blockR keysR normR heads proj refProj refNormed
  rfl

theorem kao_eq : Value.res_main_v94 m c = kaoR (m ((c.tc : Thread nD τ).loc main_arg0)) (m ((c.tc : Thread nD τ).loc main_arg1))
    (m ((c.tc : Thread nD τ).loc main_arg2)) (m ((c.tc : Thread nD τ).loc main_arg4)) := by
  unfold Value.res_main_v94 kaoR pairR odds hotR blockR keysR normR heads proj refProj refNormed
  rfl

end Generated

end Cert.InRef

end
-- ==== Proof.InBlock.lean ====
/- What the input projection's body stores of one block of tokens. -/
module

public import proofs.«01_k».proof.Proof.InRow
public import proofs.«01_k».proof.Proof.InRef
public import proofs.«01_k».proof.Proof.Gen.InProjIdeal.Frame
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.InBlock

open Cert.InProjIdeal Cert.InProjIdeal.Gen
open Cert.InRow
open Cert.InRef (tok)

/-- An index of a piece by its row, half and feature. -/
theorem split_idx (x : S1x512x128.Idx) : ∃ (r : Fin 512) (e : Fin 2) (j : Fin 64), x = ix3 0 r ⟨64 * e.val + j.val, by omega⟩
    ∧ (x 1).val = r.val ∧ (x 2).val = 64 * e.val + j.val := by
  obtain ⟨r, hr⟩ : ∃ r : Fin 512, r = x 1 := ⟨_, rfl⟩
  obtain ⟨l, hl⟩ : ∃ l : Fin 128, l = x 2 := ⟨_, rfl⟩
  have hl2 : (x 2).val = l.val := by rw [hl]
  have hl' : (⟨64 * (l.val / 64) + l.val % 64, by omega⟩ : Fin 128) = l := Fin.ext (by show 64 * (l.val / 64) + l.val % 64 = l.val; omega)
  refine ⟨r, ⟨l.val / 64, by omega⟩, ⟨l.val % 64, by omega⟩, ?_, by rw [hr], ?_⟩
  · refine Eq.trans ?_ (congrArg (fun l => (ix3 0 r l : S1x512x128.Idx)) hl').symm
    subst hr hl
    blk_ext
  · rw [hl2]
    show l.val = 64 * (l.val / 64) + l.val % 64
    omega

/-- An index of a block of tokens in the whole array. -/
def into (b q : Fin 4) (y : S1x1024x512.Idx) : S4x4096x512.Idx :=
  ix3 b (⟨1024 * q.val + (y 1).val, by have := (y 1).isLt; have h : S1x1024x512.size 1 = 1024 := rfl; omega⟩ : Fin 4096) (y 2)

/-- A piece that is right at each row, half and feature is right. -/
theorem piece_of (A : S4x4096x512.Idx → EReal) (f : S1x512x128.Idx → EReal) (b q s : Fin 4) (cho so : ℕ) (hc : cho ≤ 512) (hs : so = 128 * s.val)
    (hf : ∀ (r : Fin 512) (e : Fin 2) (j : Fin 64), f (ix3 0 r ⟨64 * e.val + j.val, by omega⟩)
      = A (ix3 b ⟨1024 * q.val + (cho + r.val), by omega⟩ ⟨128 * s.val + (64 * e.val + j.val), by omega⟩))
    (x : S1x512x128.Idx) (y : S1x1024x512.Idx) (h1 : (y 1).val = cho + (x 1).val) (h2 : (y 2).val = so + (x 2).val) : f x = A (into b q y) := by
  obtain ⟨r, e, j, h, hr, hl⟩ := split_idx x
  rw [h]
  refine (hf r e j).trans (congrArg A ?_)
  unfold into
  refine congrArg₂ (fun t n => (ix3 b t n : S4x4096x512.Idx)) (Fin.ext ?_) (Fin.ext ?_)
  · show 1024 * q.val + (cho + r.val) = 1024 * q.val + (y 1).val
    omega
  · show 128 * s.val + (64 * e.val + j.val) = (y 2).val
    omega

/-- Reads of the weights' columns and of the gain's. -/
theorem ld_w (x2 : Vec Ideal S1024x3328 .bf16) (off : ℕ) (hi) (ho : off + 512 ≤ 3328) (k : Fin 1024) (n : Fin 512) :
    View.ld x2 (Rect.unit ![0, off] ![1024, 512] hi) (ix2 k n) = x2 (ix2 k ⟨off + n.val, by omega⟩) := by
  refine congrArg x2 ?_
  blk_ext
  · show 0 + 1 * k.val = k.val
    omega
  · show off + 1 * n.val = off + n.val
    omega

theorem ld_g (x4 : Vec Ideal S1x3456 .f32) (off : ℕ) (hi) (ho : off + 128 ≤ 3456) (n : Fin 128) :
    View.ld x4 (Rect.unit ![0, off] ![1, 128] hi) (ix2 0 n) = x4 (ix2 0 ⟨off + n.val, by omega⟩) := by
  refine congrArg x4 ?_
  blk_ext
  · show off + 1 * n.val = off + n.val
    omega

/-- The 512 rows of a chain. -/
abbrev lo (arg2 : Memref sig .tc .vmem S1x1024x1024 .f32) (harg2 : arg2.IsWhole) (x0 : Vec Ideal S1x1024x1024 .f32) : Vec Ideal S1x512x1024 .f32 :=
  (View.readAt (Elt Ideal) arg2.view ((Rect.unit (s := S1x1024x1024) ![0, 0, 0] ![1, 512, 1024] inb_S1x1024x1024_S1x512x1024_0_0_0).withinL
    (Rect.unit (s := S1x512x1024) ![0, 0, 0] ![1, 512, 1024] inb_S1x512x1024_S1x512x1024_0_0_0).toLoadRect (fun _ => rfl)) (harg2.unread x0) :)
abbrev hi (arg2 : Memref sig .tc .vmem S1x1024x1024 .f32) (harg2 : arg2.IsWhole) (x0 : Vec Ideal S1x1024x1024 .f32) : Vec Ideal S1x512x1024 .f32 :=
  (View.readAt (Elt Ideal) arg2.view ((Rect.unit (s := S1x1024x1024) ![0, 512, 0] ![1, 512, 1024] inb_S1x1024x1024_S1x512x1024_0_512_0).withinL
    (Rect.unit (s := S1x512x1024) ![0, 0, 0] ![1, 512, 1024] inb_S1x512x1024_S1x512x1024_0_0_0).toLoadRect (fun _ => rfl)) (harg2.unread x0) :)

theorem lo_at (arg2 : Memref sig .tc .vmem S1x1024x1024 .f32) (harg2 : arg2.IsWhole) (x0 : Vec Ideal S1x1024x1024 .f32) (r : Fin 512) (k : Fin 1024) :
    lo arg2 harg2 x0 (ix3 0 r k) = x0 (ix3 0 ⟨0 + r.val, by omega⟩ k) := by
  refine (Memref.IsWhole.readAt_unread _ _ _ _).trans (congrArg x0 ?_)
  blk_ext
  · show 0 + 0 + 1 * r.val = r.val
    omega
  · show 0 + 0 + 1 * k.val = k.val
    omega

theorem hi_at (arg2 : Memref sig .tc .vmem S1x1024x1024 .f32) (harg2 : arg2.IsWhole) (x0 : Vec Ideal S1x1024x1024 .f32) (r : Fin 512) (k : Fin 1024) :
    hi arg2 harg2 x0 (ix3 0 r k) = x0 (ix3 0 ⟨512 + r.val, by omega⟩ k) := by
  refine (Memref.IsWhole.readAt_unread _ _ _ _).trans (congrArg x0 ?_)
  blk_ext
  · show 512 + 0 + 1 * r.val = 512 + r.val
    omega
  · show 0 + 0 + 1 * k.val = k.val
    omega

theorem row_lt (q : Fin 4) (cho : ℕ) (hc : cho ≤ 512) (r : Fin 512) : 1024 * q.val + (cho + r.val) < 4096 := by omega
theorem full_lt (q : Fin 4) (r : Fin 1024) : 1024 * q.val + r.val < 4096 := by omega
theorem col_lt (n : Fin 3328) : n.val < 5912 := by omega

theorem lane_lt (goff : ℕ) (h : goff + 512 ≤ 3456) (s : Fin 4) (e : Fin 2) (j : Fin 64) : goff + (128 * s.val + (64 * e.val + j.val)) < 3456 := by omega
theorem g0 : 0 + 512 ≤ 3456 := by omega
theorem g512 : 512 + 512 ≤ 3456 := by omega
theorem g2048 : 2048 + 512 ≤ 3456 := by omega

section Piece

variable (X : FVec Ideal S4x4096x1024 .f32) (NW : FVec Ideal S1x1024 .f32) (W : FVec Ideal S1x1024x5912 .f32) (gn : FVec Ideal S1x64 .f32)
  (b q s : Fin 4) (cho : ℕ) (hc : cho ≤ 512)
  (xs : Vec Ideal S1x512x1024 .f32) (x1 : Vec Ideal S1x1024 .f32) (x2 : Vec Ideal S1024x3328 .bf16) (x4 : Vec Ideal S1x3456 .f32)
  (hx : ∀ (r : Fin 512) (k : Fin 1024), xs (ix3 0 r k) = X (ix3 b ⟨1024 * q.val + (cho + r.val), row_lt q cho hc r⟩ k))
  (hn : ∀ k : Fin 1024, x1 (ix2 0 k) = NW (ix2 0 k))
  (hw : ∀ (k : Fin 1024) (n : Fin 3328), x2 (ix2 k n) = W (ix3 0 k ⟨n.val, col_lt n⟩))

include hx hn hw in
/-- The projection's block is the tokens' columns. -/
theorem proj_piece (off : ℕ) (ho : off + 512 ≤ 3328) (hi) (r n : Fin 512) :
    k0_pay7 xs x1 (View.ld x2 (Rect.unit ![0, off] ![1024, 512] hi)) (ix2 r n)
      = tok X NW W b ⟨1024 * q.val + (cho + r.val), by omega⟩ ⟨off + n.val, by omega⟩ :=
  proj_tok xs x1 _ off (by omega) r _ _ (fun k l => W (ix3 0 k l)) (fun k => hx r k) hn
    (fun k n => (ld_w x2 off hi ho k n).trans (hw k _)) n

/-- The gain's lanes of a slab. -/
theorem gain_piece (goff : ℕ) (hgo : goff + 512 ≤ 3456) (hg : ∀ (s : Fin 4) (e : Fin 2) (j : Fin 64),
      x4 (ix2 0 ⟨goff + (128 * s.val + (64 * e.val + j.val)), lane_lt _ hgo s e j⟩) = gn (ix2 0 j))
    (G : ℕ) (hG : G = goff + 128 * s.val) (hi) (e : Fin 2) (j : Fin 64) :
    View.ld x4 (Rect.unit ![0, G] ![1, 128] hi) (ix2 0 ⟨64 * e.val + j.val, by omega⟩) = gn (ix2 0 j) := by
  refine (ld_g x4 G hi (by omega) _).trans (Eq.trans (congrArg (fun n => x4 (ix2 0 n)) (Fin.ext ?_)) (hg s e j))
  show G + (64 * e.val + j.val) = goff + (128 * s.val + (64 * e.val + j.val))
  omega

variable (so : ℕ) (hs : so = 128 * s.val)
  (x : S1x512x128.Idx) (y : S1x1024x512.Idx) (h1 : (y 1).val = cho + (x 1).val) (h2 : (y 2).val = so + (x 2).val)

include hc hs hx hn hw h1 h2 in
theorem qa_piece (G : ℕ) (hG : G = 0 + 128 * s.val)
    (hg : ∀ (s : Fin 4) (e : Fin 2) (j : Fin 64), x4 (ix2 0 ⟨0 + (128 * s.val + (64 * e.val + j.val)), lane_lt _ g0 s e j⟩) = gn (ix2 0 j)) (iw) (ig) :
    put (scaled (segK (slab s (k0_pay7 xs x1 (View.ld x2 (Rect.unit ![0, 0] ![1024, 512] iw)))) (View.ld x4 (Rect.unit ![0, G] ![1, 128] ig)))) x
      = InRef.qaR X NW W gn (into b q y) :=
  piece_of _ _ b q s cho so hc hs (fun r e j => (query_tok xs x1 _ _ _ 0 (by omega) s r e j
    (proj_piece X NW W b q cho hc xs x1 x2 hx hn hw 0 (by omega) iw r) _
    (gain_piece gn s cho x4 0 (by omega) hg G hG ig)).trans (InRef.qa_at X NW W gn b _ s e j).symm) x y h1 h2

include hc hs hx hn hw h1 h2 in
theorem qb_piece (G : ℕ) (hG : G = 2048 + 128 * s.val)
    (hg : ∀ (s : Fin 4) (e : Fin 2) (j : Fin 64), x4 (ix2 0 ⟨2048 + (128 * s.val + (64 * e.val + j.val)), lane_lt _ g2048 s e j⟩) = gn (ix2 0 j)) (iw) (ig) :
    put (scaled (segK (slab s (k0_pay7 xs x1 (View.ld x2 (Rect.unit ![0, 2048] ![1024, 512] iw)))) (View.ld x4 (Rect.unit ![0, G] ![1, 128] ig)))) x
      = InRef.qbR X NW W gn (into b q y) :=
  piece_of _ _ b q s cho so hc hs (fun r e j => (query_tok xs x1 _ _ _ 2048 (by omega) s r e j
    (proj_piece X NW W b q cho hc xs x1 x2 hx hn hw 2048 (by omega) iw r) _
    (gain_piece gn s cho x4 2048 (by omega) hg G hG ig)).trans (InRef.qb_at X NW W gn b _ s e j).symm) x y h1 h2

section Keys

variable (a : BitVec 32) (p : Fin 8) (ha : a = BitVec.ofNat 32 (2 * p.val)) (hp : 512 * p.val = 1024 * q.val + cho)
  (G : ℕ) (hG : G = 512 + 128 * s.val)
  (hg : ∀ (s : Fin 4) (e : Fin 2) (j : Fin 64), x4 (ix2 0 ⟨512 + (128 * s.val + (64 * e.val + j.val)), lane_lt _ g512 s e j⟩) = gn (ix2 0 j))

include hc hs hx hn hw h1 h2 ha hp hG hg in
theorem kae_piece (iw) (ig) :
    paired (segK (slab s (k0_pay7 xs x1 (View.ld x2 (Rect.unit ![0, 512] ![1024, 512] iw)))) (View.ld x4 (Rect.unit ![0, G] ![1, 128] ig)))
        (k0_pay33 (F := Ideal) lane (blockK a)) x
      = InRef.kaeR X NW W gn (into b q y) := by
  subst ha
  refine piece_of _ _ b q s cho so hc hs (fun r e j => (key_low xs x1 _ _ _ 512 (by omega) s r e j
    (proj_piece X NW W b q cho hc xs x1 x2 hx hn hw 512 (by omega) iw r) _
    (gain_piece gn s cho x4 512 (by omega) hg G hG ig) p).trans (Eq.trans ?_ (InRef.kae_at X NW W gn b _ s e j).symm)) x y h1 h2
  show _ = if e = 0 then _ else flag (j.val = (1024 * q.val + (cho + r.val)) / 256)
  rw [hp, Nat.add_assoc]

include hc hs hx hn hw h1 h2 ha hp hG hg in
theorem kao_piece (iw) (ig) :
    paired (k0_pay34 (F := Ideal) lane (blockK a))
        (segK (slab s (k0_pay7 xs x1 (View.ld x2 (Rect.unit ![0, 512] ![1024, 512] iw)))) (View.ld x4 (Rect.unit ![0, G] ![1, 128] ig))) x
      = InRef.kaoR X NW W gn (into b q y) := by
  subst ha
  refine piece_of _ _ b q s cho so hc hs (fun r e j => (key_high xs x1 _ _ _ 512 (by omega) s r e j
    (proj_piece X NW W b q cho hc xs x1 x2 hx hn hw 512 (by omega) iw r) _
    (gain_piece gn s cho x4 512 (by omega) hg G hG ig) p).trans (Eq.trans ?_ (InRef.kao_at X NW W gn b _ s e j).symm)) x y h1 h2
  show _ = if e = 0 then flag (j.val = (1024 * q.val + (cho + r.val)) / 256) else _
  rw [hp, Nat.add_assoc]

end Keys

include hc hs hx hn hw h1 h2 in
theorem vae_piece (iw) :
    paired (slab s (k0_pay7 xs x1 (View.ld x2 (Rect.unit ![0, 1024] ![1024, 512] iw)))) onesK x = InRef.vaeR X NW W (into b q y) :=
  piece_of _ _ b q s cho so hc hs (fun r e j => (val_low xs x1 _ _ 1024 (by omega) s r e j
    (proj_piece X NW W b q cho hc xs x1 x2 hx hn hw 1024 (by omega) iw r)).trans (InRef.vae_at X NW W b _ s e j).symm) x y h1 h2

include hc hs hx hn hw h1 h2 in
theorem vao_piece (iw) :
    paired onesK (slab s (k0_pay7 xs x1 (View.ld x2 (Rect.unit ![0, 1024] ![1024, 512] iw)))) x = InRef.vaoR X NW W (into b q y) :=
  piece_of _ _ b q s cho so hc hs (fun r e j => (val_high xs x1 _ _ 1024 (by omega) s r e j
    (proj_piece X NW W b q cho hc xs x1 x2 hx hn hw 1024 (by omega) iw r)).trans (InRef.vao_at X NW W b _ s e j).symm) x y h1 h2

end Piece

/-- An index of a block of gates in the whole array. -/
def intoG (b q : Fin 4) (y : S1x1024x128.Idx) : S4x4096x128.Idx :=
  ix3 b (⟨1024 * q.val + (y 1).val, by have := (y 1).isLt; have h : S1x1024x128.size 1 = 1024 := rfl; omega⟩ : Fin 4096) (y 2)

theorem gate_lt (n : Fin 128) (h : n.val < 24) : 3328 + n.val < 5912 := by omega

/-- The gates of a chain: 24 columns of the projection, and zeros after them. -/
theorem gate_piece (X : FVec Ideal S4x4096x1024 .f32) (NW : FVec Ideal S1x1024 .f32) (W : FVec Ideal S1x1024x5912 .f32)
    (b q : Fin 4) (cho : ℕ) (hc : cho ≤ 512) (xs : Vec Ideal S1x512x1024 .f32) (x1 : Vec Ideal S1x1024 .f32) (x3 : Vec Ideal S1024x128 .bf16)
    (hx : ∀ (r : Fin 512) (k : Fin 1024), xs (ix3 0 r k) = X (ix3 b ⟨1024 * q.val + (cho + r.val), row_lt q cho hc r⟩ k))
    (hn : ∀ k : Fin 1024, x1 (ix2 0 k) = NW (ix2 0 k))
    (hw : ∀ (k : Fin 1024) (n : Fin 128), x3 (ix2 k n) = if h : n.val < 24 then W (ix3 0 k ⟨3328 + n.val, gate_lt n h⟩) else 0)
    (x : S1x512x128.Idx) (y : S1x1024x128.Idx) (h1 : (y 1).val = cho + (x 1).val) (h2 : (y 2).val = (x 2).val) :
    k0_pay88 (k0_pay3 xs x1) x3 x3 x = InRef.gateR X NW W (intoG b q y) := by
  obtain ⟨r, hr⟩ : ∃ r : Fin 512, r = x 1 := ⟨_, rfl⟩
  obtain ⟨n, hl⟩ : ∃ n : Fin 128, n = x 2 := ⟨_, rfl⟩
  have hxi : x = ix3 0 r n := by
    subst hr hl
    blk_ext
  have hy : intoG b q y = ix3 b ⟨1024 * q.val + (cho + r.val), row_lt q cho hc r⟩ n := by
    unfold intoG
    refine congrArg₂ (fun t n => (ix3 b t n : S4x4096x128.Idx)) (Fin.ext ?_) (Fin.ext ?_)
    · show 1024 * q.val + (y 1).val = 1024 * q.val + (cho + r.val)
      rw [h1, hr]
    · rw [h2, hl]
  rw [hy, hxi, InRef.gate_at, gates_at, funext (hx r), funext hn]
  by_cases h : n.val < 24
  · rw [dif_pos h]
    refine Finset.sum_congr rfl fun k _ => congrArg (_ * ·) ((hw k n).trans (dif_pos h))
  · rw [dif_neg h]
    refine Finset.sum_eq_zero fun k _ => ?_
    exact (congrArg (_ * ·) ((hw k n).trans (dif_neg h))).trans (mul_zero _)

/-- The number of 512 rows of a chain. -/
def half (q : Fin 4) (u : Fin 2) : Fin 8 := ⟨2 * q.val + u.val, by omega⟩

/-- The number of a chain's first block of 256 tokens. -/
theorem word_lo (n : ℕ) (q : Fin 4) (h : n = q.val) : Scalar.muli (Scalar.addi (Scalar.muli (BitVec.ofNat 32 n) 2#32) 0#32) 2#32
    = BitVec.ofNat 32 (2 * (half q 0).val) := by
  subst h
  revert q
  decide
theorem word_hi (n : ℕ) (q : Fin 4) (h : n = q.val) : Scalar.muli (Scalar.addi (Scalar.muli (BitVec.ofNat 32 n) 2#32) 1#32) 2#32
    = BitVec.ofNat 32 (2 * (half q 1).val) := by
  subst h
  revert q
  decide

end Cert.InBlock

end
-- ==== Proof.InStore.lean ====
/- What the input projection's body stores into each of its results. -/
module

public import proofs.«01_k».proof.Proof.InBlock
public import proofs.«01_k».proof.Proof.Gen.InProjIdeal.Frame
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.InStore

open Cert.InProjIdeal Cert.InProjIdeal.Gen
open Cert.InRow Cert.InBlock
open Cert.InRef (tok)

variable (X : FVec Ideal S4x4096x1024 .f32) (NW : FVec Ideal S1x1024 .f32) (W : FVec Ideal S1x1024x5912 .f32) (gn : FVec Ideal S1x64 .f32)
  (b q : Fin 4)
  (c : Dev nD) (i : grid0.Coords) (arg2 : Memref sig .tc .vmem S1x1024x1024 .f32) (harg2 : arg2.IsWhole) (arg3 : Memref sig .tc .vmem S1x1024 .f32) (harg3 : arg3.IsWhole) (arg4 : Memref sig .tc .vmem S1024x3328 .bf16) (harg4 : arg4.IsWhole) (arg5 : Memref sig .tc .vmem S1024x128 .bf16) (harg5 : arg5.IsWhole) (arg6 : Memref sig .tc .vmem S1x3456 .f32) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x4x8x512 .f32) (harg13 : arg13.IsWhole) (arg14 : Memref sig .tc .vmem S1x2x64x1024 .bf16) (harg14 : arg14.IsWhole) (arg15 : Memref sig .tc .vmem S1x2x64x1024 .bf16) (harg15 : arg15.IsWhole) (arg16 : Memref sig .tc .vmem S1x2x1024x128 .bf16) (harg16 : arg16.IsWhole) (arg17 : Memref sig .tc .vmem S1x2x1024x128 .bf16) (harg17 : arg17.IsWhole) (arg18 : Memref sig .tc .vmem S1x2x1024x128 .bf16) (harg18 : arg18.IsWhole) (arg19 : Memref sig .tc .vmem S1x2x1024x128 .bf16) (harg19 : arg19.IsWhole) (arg20 : Memref sig .tc .vmem S1x2x1024x128 .bf16) (harg20 : arg20.IsWhole) (arg21 : Memref sig .tc .vmem S1x1024x128 .f32) (harg21 : arg21.IsWhole) (arg22 : Memref sig .tc .vmem S2x512x128 .f32) (harg22 : arg22.IsWhole) (arg23 : Memref sig .tc .vmem S2x512x128 .f32) (harg23 : arg23.IsWhole) (x0 : Vec Ideal S1x1024x1024 .f32) (x1 : Vec Ideal S1x1024 .f32) (x2 : Vec Ideal S1024x3328 .bf16) (x3 : Vec Ideal S1024x128 .bf16) (x4 : Vec Ideal S1x3456 .f32)
  (hx : ∀ (r k : Fin 1024), x0 (ix3 0 r k) = X (ix3 b ⟨1024 * q.val + r.val, full_lt q r⟩ k))
  (hn : ∀ k : Fin 1024, x1 (ix2 0 k) = NW (ix2 0 k))
  (hw : ∀ (k : Fin 1024) (n : Fin 3328), x2 (ix2 k n) = W (ix3 0 k ⟨n.val, col_lt n⟩))

include hx in
theorem rows_lo (r : Fin 512) (k : Fin 1024) : lo arg2 harg2 x0 (ix3 0 r k) = X (ix3 b ⟨1024 * q.val + (0 + r.val), by omega⟩ k) :=
  (lo_at arg2 harg2 x0 r k).trans (hx _ k)

include hx in
theorem rows_hi (r : Fin 512) (k : Fin 1024) : hi arg2 harg2 x0 (ix3 0 r k) = X (ix3 b ⟨1024 * q.val + (512 + r.val), by omega⟩ k) :=
  (hi_at arg2 harg2 x0 r k).trans (hx _ k)

set_option maxHeartbeats 1000000 in
include hx hn hw in
theorem block5 (hg : ∀ (s : Fin 4) (e : Fin 2) (j : Fin 64), x4 (ix2 0 ⟨0 + (128 * s.val + (64 * e.val + j.val)), lane_lt _ g0 s e j⟩) = gn (ix2 0 j))
    (y : S1x1024x512.Idx) :
    out0_A_5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 y
      = InRef.qaR X NW W gn (into b q y) := by
  have h_lo := rows_lo X b q arg2 harg2 x0 hx
  have h_hi := rows_hi X b q arg2 harg2 x0 hx
  frame_out
  canon_tiles x h
  · exact qa_piece X NW W gn b q 3 512 (by omega) (hi arg2 harg2 x0) x1 x2 x4 h_hi hn hw 384 rfl x y (by omega) (by omega) 384 rfl hg _ _
  · exact qa_piece X NW W gn b q 2 512 (by omega) (hi arg2 harg2 x0) x1 x2 x4 h_hi hn hw 256 rfl x y (by omega) (by omega) 256 rfl hg _ _
  · exact qa_piece X NW W gn b q 1 512 (by omega) (hi arg2 harg2 x0) x1 x2 x4 h_hi hn hw 128 rfl x y (by omega) (by omega) 128 rfl hg _ _
  · exact qa_piece X NW W gn b q 0 512 (by omega) (hi arg2 harg2 x0) x1 x2 x4 h_hi hn hw 0 rfl x y (by omega) (by omega) 0 rfl hg _ _
  · exact qa_piece X NW W gn b q 3 0 (by omega) (lo arg2 harg2 x0) x1 x2 x4 h_lo hn hw 384 rfl x y (by omega) (by omega) 384 rfl hg _ _
  · exact qa_piece X NW W gn b q 2 0 (by omega) (lo arg2 harg2 x0) x1 x2 x4 h_lo hn hw 256 rfl x y (by omega) (by omega) 256 rfl hg _ _
  · exact qa_piece X NW W gn b q 1 0 (by omega) (lo arg2 harg2 x0) x1 x2 x4 h_lo hn hw 128 rfl x y (by omega) (by omega) 128 rfl hg _ _
  · exact qa_piece X NW W gn b q 0 0 (by omega) (lo arg2 harg2 x0) x1 x2 x4 h_lo hn hw 0 rfl x y (by omega) (by omega) 0 rfl hg _ _

set_option maxHeartbeats 1000000 in
include hx hn hw in
theorem block10 (hg : ∀ (s : Fin 4) (e : Fin 2) (j : Fin 64), x4 (ix2 0 ⟨2048 + (128 * s.val + (64 * e.val + j.val)), lane_lt _ g2048 s e j⟩) = gn (ix2 0 j))
    (y : S1x1024x512.Idx) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 y
      = InRef.qbR X NW W gn (into b q y) := by
  have h_lo := rows_lo X b q arg2 harg2 x0 hx
  have h_hi := rows_hi X b q arg2 harg2 x0 hx
  frame_out
  canon_tiles x h
  · exact qb_piece X NW W gn b q 3 512 (by omega) (hi arg2 harg2 x0) x1 x2 x4 h_hi hn hw 384 rfl x y (by omega) (by omega) 2432 rfl hg _ _
  · exact qb_piece X NW W gn b q 2 512 (by omega) (hi arg2 harg2 x0) x1 x2 x4 h_hi hn hw 256 rfl x y (by omega) (by omega) 2304 rfl hg _ _
  · exact qb_piece X NW W gn b q 1 512 (by omega) (hi arg2 harg2 x0) x1 x2 x4 h_hi hn hw 128 rfl x y (by omega) (by omega) 2176 rfl hg _ _
  · exact qb_piece X NW W gn b q 0 512 (by omega) (hi arg2 harg2 x0) x1 x2 x4 h_hi hn hw 0 rfl x y (by omega) (by omega) 2048 rfl hg _ _
  · exact qb_piece X NW W gn b q 3 0 (by omega) (lo arg2 harg2 x0) x1 x2 x4 h_lo hn hw 384 rfl x y (by omega) (by omega) 2432 rfl hg _ _
  · exact qb_piece X NW W gn b q 2 0 (by omega) (lo arg2 harg2 x0) x1 x2 x4 h_lo hn hw 256 rfl x y (by omega) (by omega) 2304 rfl hg _ _
  · exact qb_piece X NW W gn b q 1 0 (by omega) (lo arg2 harg2 x0) x1 x2 x4 h_lo hn hw 128 rfl x y (by omega) (by omega) 2176 rfl hg _ _
  · exact qb_piece X NW W gn b q 0 0 (by omega) (lo arg2 harg2 x0) x1 x2 x4 h_lo hn hw 0 rfl x y (by omega) (by omega) 2048 rfl hg _ _

set_option maxHeartbeats 1000000 in
include hx hn hw in
theorem block6 (hg : ∀ (s : Fin 4) (e : Fin 2) (j : Fin 64), x4 (ix2 0 ⟨512 + (128 * s.val + (64 * e.val + j.val)), lane_lt _ g512 s e j⟩) = gn (ix2 0 j))
    (hq : (i 1).val = q.val) (y : S1x1024x512.Idx) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 y
      = InRef.kaeR X NW W gn (into b q y) := by
  have hlo := word_lo _ q hq
  have hhi := word_hi _ q hq
  have h_lo := rows_lo X b q arg2 harg2 x0 hx
  have h_hi := rows_hi X b q arg2 harg2 x0 hx
  frame_out
  canon_tiles x h
  · exact kae_piece X NW W gn b q 3 512 (by omega) (hi arg2 harg2 x0) x1 x2 x4 h_hi hn hw 384 rfl x y (by omega) (by omega) _ (half q 1) hhi (by show 512 * (2 * q.val + 1) = 1024 * q.val + 512; omega) 896 rfl hg _ _
  · exact kae_piece X NW W gn b q 2 512 (by omega) (hi arg2 harg2 x0) x1 x2 x4 h_hi hn hw 256 rfl x y (by omega) (by omega) _ (half q 1) hhi (by show 512 * (2 * q.val + 1) = 1024 * q.val + 512; omega) 768 rfl hg _ _
  · exact kae_piece X NW W gn b q 1 512 (by omega) (hi arg2 harg2 x0) x1 x2 x4 h_hi hn hw 128 rfl x y (by omega) (by omega) _ (half q 1) hhi (by show 512 * (2 * q.val + 1) = 1024 * q.val + 512; omega) 640 rfl hg _ _
  · exact kae_piece X NW W gn b q 0 512 (by omega) (hi arg2 harg2 x0) x1 x2 x4 h_hi hn hw 0 rfl x y (by omega) (by omega) _ (half q 1) hhi (by show 512 * (2 * q.val + 1) = 1024 * q.val + 512; omega) 512 rfl hg _ _
  · exact kae_piece X NW W gn b q 3 0 (by omega) (lo arg2 harg2 x0) x1 x2 x4 h_lo hn hw 384 rfl x y (by omega) (by omega) _ (half q 0) hlo (by show 512 * (2 * q.val + 0) = 1024 * q.val + 0; omega) 896 rfl hg _ _
  · exact kae_piece X NW W gn b q 2 0 (by omega) (lo arg2 harg2 x0) x1 x2 x4 h_lo hn hw 256 rfl x y (by omega) (by omega) _ (half q 0) hlo (by show 512 * (2 * q.val + 0) = 1024 * q.val + 0; omega) 768 rfl hg _ _
  · exact kae_piece X NW W gn b q 1 0 (by omega) (lo arg2 harg2 x0) x1 x2 x4 h_lo hn hw 128 rfl x y (by omega) (by omega) _ (half q 0) hlo (by show 512 * (2 * q.val + 0) = 1024 * q.val + 0; omega) 640 rfl hg _ _
  · exact kae_piece X NW W gn b q 0 0 (by omega) (lo arg2 harg2 x0) x1 x2 x4 h_lo hn hw 0 rfl x y (by omega) (by omega) _ (half q 0) hlo (by show 512 * (2 * q.val + 0) = 1024 * q.val + 0; omega) 512 rfl hg _ _

set_option maxHeartbeats 1000000 in
include hx hn hw in
theorem block7 (hg : ∀ (s : Fin 4) (e : Fin 2) (j : Fin 64), x4 (ix2 0 ⟨512 + (128 * s.val + (64 * e.val + j.val)), lane_lt _ g512 s e j⟩) = gn (ix2 0 j))
    (hq : (i 1).val = q.val) (y : S1x1024x512.Idx) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 y
      = InRef.kaoR X NW W gn (into b q y) := by
  have hlo := word_lo _ q hq
  have hhi := word_hi _ q hq
  have h_lo := rows_lo X b q arg2 harg2 x0 hx
  have h_hi := rows_hi X b q arg2 harg2 x0 hx
  frame_out
  canon_tiles x h
  · exact kao_piece X NW W gn b q 3 512 (by omega) (hi arg2 harg2 x0) x1 x2 x4 h_hi hn hw 384 rfl x y (by omega) (by omega) _ (half q 1) hhi (by show 512 * (2 * q.val + 1) = 1024 * q.val + 512; omega) 896 rfl hg _ _
  · exact kao_piece X NW W gn b q 2 512 (by omega) (hi arg2 harg2 x0) x1 x2 x4 h_hi hn hw 256 rfl x y (by omega) (by omega) _ (half q 1) hhi (by show 512 * (2 * q.val + 1) = 1024 * q.val + 512; omega) 768 rfl hg _ _
  · exact kao_piece X NW W gn b q 1 512 (by omega) (hi arg2 harg2 x0) x1 x2 x4 h_hi hn hw 128 rfl x y (by omega) (by omega) _ (half q 1) hhi (by show 512 * (2 * q.val + 1) = 1024 * q.val + 512; omega) 640 rfl hg _ _
  · exact kao_piece X NW W gn b q 0 512 (by omega) (hi arg2 harg2 x0) x1 x2 x4 h_hi hn hw 0 rfl x y (by omega) (by omega) _ (half q 1) hhi (by show 512 * (2 * q.val + 1) = 1024 * q.val + 512; omega) 512 rfl hg _ _
  · exact kao_piece X NW W gn b q 3 0 (by omega) (lo arg2 harg2 x0) x1 x2 x4 h_lo hn hw 384 rfl x y (by omega) (by omega) _ (half q 0) hlo (by show 512 * (2 * q.val + 0) = 1024 * q.val + 0; omega) 896 rfl hg _ _
  · exact kao_piece X NW W gn b q 2 0 (by omega) (lo arg2 harg2 x0) x1 x2 x4 h_lo hn hw 256 rfl x y (by omega) (by omega) _ (half q 0) hlo (by show 512 * (2 * q.val + 0) = 1024 * q.val + 0; omega) 768 rfl hg _ _
  · exact kao_piece X NW W gn b q 1 0 (by omega) (lo arg2 harg2 x0) x1 x2 x4 h_lo hn hw 128 rfl x y (by omega) (by omega) _ (half q 0) hlo (by show 512 * (2 * q.val + 0) = 1024 * q.val + 0; omega) 640 rfl hg _ _
  · exact kao_piece X NW W gn b q 0 0 (by omega) (lo arg2 harg2 x0) x1 x2 x4 h_lo hn hw 0 rfl x y (by omega) (by omega) _ (half q 0) hlo (by show 512 * (2 * q.val + 0) = 1024 * q.val + 0; omega) 512 rfl hg _ _

set_option maxHeartbeats 1000000 in
include hx hn hw in
theorem block8 (y : S1x1024x512.Idx) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 y
      = InRef.vaeR X NW W (into b q y) := by
  have h_lo := rows_lo X b q arg2 harg2 x0 hx
  have h_hi := rows_hi X b q arg2 harg2 x0 hx
  frame_out
  canon_tiles x h
  · exact vae_piece X NW W b q 3 512 (by omega) (hi arg2 harg2 x0) x1 x2 h_hi hn hw 384 rfl x y (by omega) (by omega) _
  · exact vae_piece X NW W b q 2 512 (by omega) (hi arg2 harg2 x0) x1 x2 h_hi hn hw 256 rfl x y (by omega) (by omega) _
  · exact vae_piece X NW W b q 1 512 (by omega) (hi arg2 harg2 x0) x1 x2 h_hi hn hw 128 rfl x y (by omega) (by omega) _
  · exact vae_piece X NW W b q 0 512 (by omega) (hi arg2 harg2 x0) x1 x2 h_hi hn hw 0 rfl x y (by omega) (by omega) _
  · exact vae_piece X NW W b q 3 0 (by omega) (lo arg2 harg2 x0) x1 x2 h_lo hn hw 384 rfl x y (by omega) (by omega) _
  · exact vae_piece X NW W b q 2 0 (by omega) (lo arg2 harg2 x0) x1 x2 h_lo hn hw 256 rfl x y (by omega) (by omega) _
  · exact vae_piece X NW W b q 1 0 (by omega) (lo arg2 harg2 x0) x1 x2 h_lo hn hw 128 rfl x y (by omega) (by omega) _
  · exact vae_piece X NW W b q 0 0 (by omega) (lo arg2 harg2 x0) x1 x2 h_lo hn hw 0 rfl x y (by omega) (by omega) _

set_option maxHeartbeats 1000000 in
include hx hn hw in
theorem block9 (y : S1x1024x512.Idx) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 y
      = InRef.vaoR X NW W (into b q y) := by
  have h_lo := rows_lo X b q arg2 harg2 x0 hx
  have h_hi := rows_hi X b q arg2 harg2 x0 hx
  frame_out
  canon_tiles x h
  · exact vao_piece X NW W b q 3 512 (by omega) (hi arg2 harg2 x0) x1 x2 h_hi hn hw 384 rfl x y (by omega) (by omega) _
  · exact vao_piece X NW W b q 2 512 (by omega) (hi arg2 harg2 x0) x1 x2 h_hi hn hw 256 rfl x y (by omega) (by omega) _
  · exact vao_piece X NW W b q 1 512 (by omega) (hi arg2 harg2 x0) x1 x2 h_hi hn hw 128 rfl x y (by omega) (by omega) _
  · exact vao_piece X NW W b q 0 512 (by omega) (hi arg2 harg2 x0) x1 x2 h_hi hn hw 0 rfl x y (by omega) (by omega) _
  · exact vao_piece X NW W b q 3 0 (by omega) (lo arg2 harg2 x0) x1 x2 h_lo hn hw 384 rfl x y (by omega) (by omega) _
  · exact vao_piece X NW W b q 2 0 (by omega) (lo arg2 harg2 x0) x1 x2 h_lo hn hw 256 rfl x y (by omega) (by omega) _
  · exact vao_piece X NW W b q 1 0 (by omega) (lo arg2 harg2 x0) x1 x2 h_lo hn hw 128 rfl x y (by omega) (by omega) _
  · exact vao_piece X NW W b q 0 0 (by omega) (lo arg2 harg2 x0) x1 x2 h_lo hn hw 0 rfl x y (by omega) (by omega) _

set_option maxHeartbeats 1000000 in
include hx hn in
theorem block19 (hg : ∀ (k : Fin 1024) (n : Fin 128), x3 (ix2 k n) = if h : n.val < 24 then W (ix3 0 k ⟨3328 + n.val, gate_lt n h⟩) else 0)
    (y : S1x1024x128.Idx) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 y
      = InRef.gateR X NW W (intoG b q y) := by
  have h_lo := rows_lo X b q arg2 harg2 x0 hx
  have h_hi := rows_hi X b q arg2 harg2 x0 hx
  frame_out
  canon_tiles x h
  case piece0 => exact gate_piece X NW W b q 512 (by omega) (hi arg2 harg2 x0) x1 x3 h_hi hn hg x y (by omega) (by omega)
  case piece1 => exact gate_piece X NW W b q 0 (by omega) (lo arg2 harg2 x0) x1 x3 h_lo hn hg x y (by omega) (by omega)
  all_goals decide

end Cert.InStore

end
-- ==== Proof.InHost.lean ====
/- The arrays that the input projection's call is given, read at an index, and its windows' blocks. -/
module

public import proofs.«01_k».proof.Proof.InBlock
public import proofs.«01_k».proof.Proof.Gen.InProjIdeal.Frame
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.InHost

open Cert.InProjIdeal Cert.InProjIdeal.Gen

variable (m : (ℓ : Loc nD τ sig) → Buf (Elt Ideal) ℓ) (c : Dev nD)

abbrev A0 : S4x4096x1024.Idx → EReal := m ((c : Thread nD τ).loc main_arg0)
abbrev A1 : S1x1024.Idx → EReal := m ((c : Thread nD τ).loc main_arg1)
abbrev A2 : S1x1024x5912.Idx → EReal := m ((c : Thread nD τ).loc main_arg2)
abbrev A3 : S1x64.Idx → EReal := m ((c : Thread nD τ).loc main_arg3)
abbrev A4 : S1x64.Idx → EReal := m ((c : Thread nD τ).loc main_arg4)
abbrev A5 : S1x64.Idx → EReal := m ((c : Thread nD τ).loc main_arg5)

/-- The norm's weights. -/
theorem nw_at (k : Fin 1024) : (show EReal from V m c main_v40 (ix2 0 k)) = A1 m c (ix2 0 k) := by
  unfold V
  after_reads_at

/-- The columns of the products. -/
theorem w_at (k : Fin 1024) (n : Fin 3328) : (show EReal from V m c main_v7 (ix2 k n)) = A2 m c (ix3 0 k ⟨n.val, by omega⟩) := by
  unfold V
  after_reads_at

/-- The gates' columns, and zeros after them. -/
theorem wg_at (k : Fin 1024) (n : Fin 128) : (show EReal from V m c main_v11 (ix2 k n))
    = if h : n.val < 24 then A2 m c (ix3 0 k ⟨3328 + n.val, by omega⟩) else 0 := by
  unfold V
  after_reads_at
  split
  · rfl
  · show (((0#32 : BitVec 32).toInt : ℝ) : EReal) = 0
    simp

/-- The gains of the first branch's queries and keys, and of the second's queries. -/
theorem gain0_at (s : Fin 4) (e : Fin 2) (j : Fin 64) :
    (show EReal from V m c main_v38 (ix2 0 ⟨0 + (128 * s.val + (64 * e.val + j.val)), by omega⟩)) = A3 m c (ix2 0 j) := by
  unfold V
  after_reads_at
  refine (dif_pos (by omega)).trans ?_
  after_reads_at

theorem gain512_at (s : Fin 4) (e : Fin 2) (j : Fin 64) :
    (show EReal from V m c main_v38 (ix2 0 ⟨512 + (128 * s.val + (64 * e.val + j.val)), by omega⟩)) = A4 m c (ix2 0 j) := by
  unfold V
  after_reads_at
  refine (dif_pos (by omega)).trans ?_
  after_reads_at

theorem gain2048_at (s : Fin 4) (e : Fin 2) (j : Fin 64) :
    (show EReal from V m c main_v38 (ix2 0 ⟨2048 + (128 * s.val + (64 * e.val + j.val)), by omega⟩)) = A5 m c (ix2 0 j) := by
  unfold V
  after_reads_at
  refine (dif_neg (by omega)).trans ?_
  refine (dif_neg (by omega)).trans ?_
  refine (dif_neg (by omega)).trans ?_
  refine (dif_pos (by omega)).trans ?_
  after_reads_at
  exact congrArg (fun j => A5 m c (ix2 0 j)) (Fin.ext (by show (2048 + (128 * s.val + (64 * e.val + j.val)) - 512 - 512 - 1024) % 64 = j.val; omega))

theorem idx : ∀ t : Fin cfg0.N, win0_0.index t = ![t.val / 4, t.val % 4, 0] ∧ win0_1.index t = ![0, 0]
    ∧ win0_2.index t = ![0, 0] ∧ win0_3.index t = ![0, 0] ∧ win0_4.index t = ![0, 0] ∧ t.val / 4 < 4 :=
  (by decide +kernel : ∀ t : Fin grid0.N, _)

/-- The batch and the block of 1024 tokens of a point. -/
def bat (t : Fin cfg0.N) : Fin 4 := ⟨t.val / 4, (idx t).2.2.2.2.2⟩
def row (t : Fin cfg0.N) : Fin 4 := ⟨t.val % 4, by omega⟩

theorem r0 (t : Fin cfg0.N) (r k : Fin 1024) (f : FVec Ideal S4x4096x1024 .f32) :
    ((cfg0.win 0).blk t).view.read (Elt Ideal) f (ix3 0 r k) = f (ix3 (bat t) ⟨1024 * (row t).val + r.val, by omega⟩ k) := by
  refine congrArg f ?_
  unfold bat row
  blk_ext [idx t] <;> omega

theorem w0 (t : Fin cfg0.N) (r k : Fin 1024) : iblk m c 0 t (ix3 0 r k) = A0 m c (ix3 (bat t) ⟨1024 * (row t).val + r.val, by omega⟩ k) := by
  unfold iblk
  refine (r0 t r k (V m c main_arg0)).trans ?_
  exact congrFun (V_main_arg0 m c) _

theorem r1 (t : Fin cfg0.N) (k : Fin 1024) (f : FVec Ideal S1x1024 .f32) :
    ((cfg0.win 1).blk t).view.read (Elt Ideal) f (ix2 0 k) = f (ix2 0 k) := by
  refine congrArg f ?_
  blk_ext [idx t] <;> omega

theorem w1 (t : Fin cfg0.N) (k : Fin 1024) : iblk m c 1 t (ix2 0 k) = A1 m c (ix2 0 k) := by
  unfold iblk
  exact (r1 t k (V m c main_v40)).trans (nw_at m c k)

theorem r2 (t : Fin cfg0.N) (k : Fin 1024) (n : Fin 3328) (f : FVec Ideal S1024x3328 .bf16) :
    ((cfg0.win 2).blk t).view.read (Elt Ideal) f (ix2 k n) = f (ix2 k n) := by
  refine congrArg f ?_
  blk_ext [idx t] <;> omega

theorem w2 (t : Fin cfg0.N) (k : Fin 1024) (n : Fin 3328) : iblk m c 2 t (ix2 k n) = A2 m c (ix3 0 k ⟨n.val, by omega⟩) := by
  unfold iblk
  exact (r2 t k n (V m c main_v7)).trans (w_at m c k n)

theorem r3 (t : Fin cfg0.N) (k : Fin 1024) (n : Fin 128) (f : FVec Ideal S1024x128 .bf16) :
    ((cfg0.win 3).blk t).view.read (Elt Ideal) f (ix2 k n) = f (ix2 k n) := by
  refine congrArg f ?_
  blk_ext [idx t] <;> omega

theorem w3 (t : Fin cfg0.N) (k : Fin 1024) (n : Fin 128) : iblk m c 3 t (ix2 k n) = if h : n.val < 24 then A2 m c (ix3 0 k ⟨3328 + n.val, by omega⟩) else 0 := by
  unfold iblk
  exact (r3 t k n (V m c main_v11)).trans (wg_at m c k n)

theorem r4 (t : Fin cfg0.N) (n : Fin 3456) (f : FVec Ideal S1x3456 .f32) :
    ((cfg0.win 4).blk t).view.read (Elt Ideal) f (ix2 0 n) = f (ix2 0 n) := by
  refine congrArg f ?_
  blk_ext [idx t] <;> omega

theorem w4 (t : Fin cfg0.N) (n : Fin 3456) : iblk m c 4 t (ix2 0 n) = (show EReal from V m c main_v38 (ix2 0 n)) := by
  unfold iblk
  exact r4 t n (V m c main_v38)

end Cert.InHost

end
-- ==== Proof.InValue.lean ====
/- What each of the seven result arrays holds after the input projection's run. -/
module

public import proofs.«01_k».proof.Proof.InStore
public import proofs.«01_k».proof.Proof.InHost
public import proofs.«01_k».proof.Proof.Gen.InProjIdeal.Value

@[expose] public section

set_option maxRecDepth 16384

noncomputable section

open Idealize.ShloMosaic Idealize.ShloMosaic.TcCoe Idealize.SL.Sem
open Idealize.ShloMosaic.Pipeline (Dat)

namespace Cert.InValue

open Cert.InProjIdeal Cert.InProjIdeal.Gen
open Cert.InHost Cert.InBlock Cert.InStore

variable (m : (ℓ : Loc nD τ sig) → Buf (Elt Ideal) ℓ) (c : Dev nD)

theorem odx : ∀ t : Fin cfg0.N, win0_5.index t = ![t.val / 4, t.val % 4, 0] ∧ win0_6.index t = ![t.val / 4, t.val % 4, 0] ∧ win0_7.index t = ![t.val / 4, t.val % 4, 0] ∧ win0_8.index t = ![t.val / 4, t.val % 4, 0] ∧ win0_9.index t = ![t.val / 4, t.val % 4, 0] ∧ win0_10.index t = ![t.val / 4, t.val % 4, 0] ∧ win0_19.index t = ![t.val / 4, t.val % 4, 0] ∧ (grid0.coords t 1).val = t.val % 4 :=
  (by decide +kernel : ∀ t : Fin grid0.N, _)

/-- The windows' blocks in terms of the arguments. -/
theorem hn (t : Fin cfg0.N) (k : Fin 1024) : iblk m c 1 t (ix2 0 k) = A1 m c (ix2 0 k) := w1 m c t k
theorem hq (t : Fin cfg0.N) : (grid0.coords t 1).val = (row t).val := (odx t).2.2.2.2.2.2.2
theorem hgq (t : Fin cfg0.N) (s : Fin 4) (e : Fin 2) (j : Fin 64) :
    iblk m c 4 t (ix2 0 ⟨0 + (128 * s.val + (64 * e.val + j.val)), lane_lt _ g0 s e j⟩) = A3 m c (ix2 0 j) := (w4 m c t _).trans (gain0_at m c s e j)
theorem hgk (t : Fin cfg0.N) (s : Fin 4) (e : Fin 2) (j : Fin 64) :
    iblk m c 4 t (ix2 0 ⟨512 + (128 * s.val + (64 * e.val + j.val)), lane_lt _ g512 s e j⟩) = A4 m c (ix2 0 j) := (w4 m c t _).trans (gain512_at m c s e j)
theorem hgb (t : Fin cfg0.N) (s : Fin 4) (e : Fin 2) (j : Fin 64) :
    iblk m c 4 t (ix2 0 ⟨2048 + (128 * s.val + (64 * e.val + j.val)), lane_lt _ g2048 s e j⟩) = A5 m c (ix2 0 j) := (w4 m c t _).trans (gain2048_at m c s e j)

theorem emb5 (t : Fin cfg0.N) (y : S1x1024x512.Idx) : ((cfg0.win 5).blk t).view.emb y = into (bat t) (row t) y := by
  unfold into bat row
  blk_ext [odx t] <;> omega

theorem point5 (t : Fin cfg0.N) (y : S1x1024x512.Idx) : (outsAt0 m c t).1 y = (InRef.qaR (A0 m c) (A1 m c) (A2 m c) (A3 m c)) (into (bat t) (row t) y) := by
  unfold outsAt0
  dsimp only
  exact block5 (A0 m c) (A1 m c) (A2 m c) (A3 m c) (bat t) (row t) _ _ _ _ _ _ _ _ _ _ _ _ _ _ _ _ _ _ _ _ _ _ _ _ _ _ _ _ _ _ _ _ _ _ _ _ _ _ _ _ _ _ _ _ _ _ _ _ _ _ _ (w0 m c t) (hn m c t) (w2 m c t) (hgq m c t) y

/-- The first branch's queries. -/
theorem final5 : (dats m 0 c).arrAt 5 (cfgs 0).N = (InRef.qaR (A0 m c) (A1 m c) (A2 m c) (A3 m c)) := by
  refine (dats m 0 c).arrAt_eq_of_covers 5 _ (by decide +kernel) fun t _ y => ?_
  blk_simp
  rw [after0_5]
  exact (point5 m c t y).trans (congrArg (InRef.qaR (A0 m c) (A1 m c) (A2 m c) (A3 m c)) (emb5 t y).symm)

theorem emb6 (t : Fin cfg0.N) (y : S1x1024x512.Idx) : ((cfg0.win 6).blk t).view.emb y = into (bat t) (row t) y := by
  unfold into bat row
  blk_ext [odx t] <;> omega

theorem point6 (t : Fin cfg0.N) (y : S1x1024x512.Idx) : (outsAt0 m c t).2.1 y = (InRef.kaeR (A0 m c) (A1 m c) (A2 m c) (A4 m c)) (into (bat t) (row t) y) := by
  unfold outsAt0
  dsimp only
  exact block6 (A0 m c) (A1 m c) (A2 m c) (A4 m c) (bat t) (row t) _ _ _ _ _ _ _ _ _ _ _ _ _ _ _ _ _ _ _ _ _ _ _ _ _ _ _ _ _ _ _ _ _ _ _ _ _ _ _ _ _ _ _ _ _ _ _ _ _ _ _ (w0 m c t) (hn m c t) (w2 m c t) (hgk m c t) (hq t) y

/-- Its keys of the even heads, with the one-hot of the block. -/
theorem final6 : (dats m 0 c).arrAt 6 (cfgs 0).N = (InRef.kaeR (A0 m c) (A1 m c) (A2 m c) (A4 m c)) := by
  refine (dats m 0 c).arrAt_eq_of_covers 6 _ (by decide +kernel) fun t _ y => ?_
  blk_simp
  rw [after0_6]
  exact (point6 m c t y).trans (congrArg (InRef.kaeR (A0 m c) (A1 m c) (A2 m c) (A4 m c)) (emb6 t y).symm)

theorem emb7 (t : Fin cfg0.N) (y : S1x1024x512.Idx) : ((cfg0.win 7).blk t).view.emb y = into (bat t) (row t) y := by
  unfold into bat row
  blk_ext [odx t] <;> omega

theorem point7 (t : Fin cfg0.N) (y : S1x1024x512.Idx) : (outsAt0 m c t).2.2.1 y = (InRef.kaoR (A0 m c) (A1 m c) (A2 m c) (A4 m c)) (into (bat t) (row t) y) := by
  unfold outsAt0
  dsimp only
  exact block7 (A0 m c) (A1 m c) (A2 m c) (A4 m c) (bat t) (row t) _ _ _ _ _ _ _ _ _ _ _ _ _ _ _ _ _ _ _ _ _ _ _ _ _ _ _ _ _ _ _ _ _ _ _ _ _ _ _ _ _ _ _ _ _ _ _ _ _ _ _ (w0 m c t) (hn m c t) (w2 m c t) (hgk m c t) (hq t) y

/-- Its keys of the odd heads. -/
theorem final7 : (dats m 0 c).arrAt 7 (cfgs 0).N = (InRef.kaoR (A0 m c) (A1 m c) (A2 m c) (A4 m c)) := by
  refine (dats m 0 c).arrAt_eq_of_covers 7 _ (by decide +kernel) fun t _ y => ?_
  blk_simp
  rw [after0_7]
  exact (point7 m c t y).trans (congrArg (InRef.kaoR (A0 m c) (A1 m c) (A2 m c) (A4 m c)) (emb7 t y).symm)

theorem emb8 (t : Fin cfg0.N) (y : S1x1024x512.Idx) : ((cfg0.win 8).blk t).view.emb y = into (bat t) (row t) y := by
  unfold into bat row
  blk_ext [odx t] <;> omega

theorem point8 (t : Fin cfg0.N) (y : S1x1024x512.Idx) : (outsAt0 m c t).2.2.2.1 y = (InRef.vaeR (A0 m c) (A1 m c) (A2 m c)) (into (bat t) (row t) y) := by
  unfold outsAt0
  dsimp only
  exact block8 (A0 m c) (A1 m c) (A2 m c) (bat t) (row t) _ _ _ _ _ _ _ _ _ _ _ _ _ _ _ _ _ _ _ _ _ _ _ _ _ _ _ _ _ _ _ _ _ _ _ _ _ _ _ _ _ _ _ _ _ _ _ _ _ _ _ (w0 m c t) (hn m c t) (w2 m c t) y

/-- Its values of the even heads, with ones. -/
theorem final8 : (dats m 0 c).arrAt 8 (cfgs 0).N = (InRef.vaeR (A0 m c) (A1 m c) (A2 m c)) := by
  refine (dats m 0 c).arrAt_eq_of_covers 8 _ (by decide +kernel) fun t _ y => ?_
  blk_simp
  rw [after0_8]
  exact (point8 m c t y).trans (congrArg (InRef.vaeR (A0 m c) (A1 m c) (A2 m c)) (emb8 t y).symm)

theorem emb9 (t : Fin cfg0.N) (y : S1x1024x512.Idx) : ((cfg0.win 9).blk t).view.emb y = into (bat t) (row t) y := by
  unfold into bat row
  blk_ext [odx t] <;> omega

theorem point9 (t : Fin cfg0.N) (y : S1x1024x512.Idx) : (outsAt0 m c t).2.2.2.2.1 y = (InRef.vaoR (A0 m c) (A1 m c) (A2 m c)) (into (bat t) (row t) y) := by
  unfold outsAt0
  dsimp only
  exact block9 (A0 m c) (A1 m c) (A2 m c) (bat t) (row t) _ _ _ _ _ _ _ _ _ _ _ _ _ _ _ _ _ _ _ _ _ _ _ _ _ _ _ _ _ _ _ _ _ _ _ _ _ _ _ _ _ _ _ _ _ _ _ _ _ _ _ (w0 m c t) (hn m c t) (w2 m c t) y

/-- Its values of the odd heads. -/
theorem final9 : (dats m 0 c).arrAt 9 (cfgs 0).N = (InRef.vaoR (A0 m c) (A1 m c) (A2 m c)) := by
  refine (dats m 0 c).arrAt_eq_of_covers 9 _ (by decide +kernel) fun t _ y => ?_
  blk_simp
  rw [after0_9]
  exact (point9 m c t y).trans (congrArg (InRef.vaoR (A0 m c) (A1 m c) (A2 m c)) (emb9 t y).symm)

theorem emb10 (t : Fin cfg0.N) (y : S1x1024x512.Idx) : ((cfg0.win 10).blk t).view.emb y = into (bat t) (row t) y := by
  unfold into bat row
  blk_ext [odx t] <;> omega

theorem point10 (t : Fin cfg0.N) (y : S1x1024x512.Idx) : (outsAt0 m c t).2.2.2.2.2.1 y = (InRef.qbR (A0 m c) (A1 m c) (A2 m c) (A5 m c)) (into (bat t) (row t) y) := by
  unfold outsAt0
  dsimp only
  exact block10 (A0 m c) (A1 m c) (A2 m c) (A5 m c) (bat t) (row t) _ _ _ _ _ _ _ _ _ _ _ _ _ _ _ _ _ _ _ _ _ _ _ _ _ _ _ _ _ _ _ _ _ _ _ _ _ _ _ _ _ _ _ _ _ _ _ _ _ _ _ (w0 m c t) (hn m c t) (w2 m c t) (hgb m c t) y

/-- The second branch's queries. -/
theorem final10 : (dats m 0 c).arrAt 10 (cfgs 0).N = (InRef.qbR (A0 m c) (A1 m c) (A2 m c) (A5 m c)) := by
  refine (dats m 0 c).arrAt_eq_of_covers 10 _ (by decide +kernel) fun t _ y => ?_
  blk_simp
  rw [after0_10]
  exact (point10 m c t y).trans (congrArg (InRef.qbR (A0 m c) (A1 m c) (A2 m c) (A5 m c)) (emb10 t y).symm)

theorem emb19 (t : Fin cfg0.N) (y : S1x1024x128.Idx) : ((cfg0.win 19).blk t).view.emb y = intoG (bat t) (row t) y := by
  unfold intoG bat row
  blk_ext [odx t] <;> omega

theorem point19 (t : Fin cfg0.N) (y : S1x1024x128.Idx) : (outsAt0 m c t).2.2.2.2.2.2.2.2.2.2.2.2.2.2 y = (InRef.gateR (A0 m c) (A1 m c) (A2 m c)) (intoG (bat t) (row t) y) := by
  unfold outsAt0
  dsimp only
  exact block19 (A0 m c) (A1 m c) (A2 m c) (bat t) (row t) _ _ _ _ _ _ _ _ _ _ _ _ _ _ _ _ _ _ _ _ _ _ _ _ _ _ _ _ _ _ _ _ _ _ _ _ _ _ _ _ _ _ _ _ _ _ _ _ _ _ _ (w0 m c t) (hn m c t) (w3 m c t) y

/-- The gates. -/
theorem final19 : (dats m 0 c).arrAt 19 (cfgs 0).N = (InRef.gateR (A0 m c) (A1 m c) (A2 m c)) := by
  refine (dats m 0 c).arrAt_eq_of_covers 19 _ (by decide +kernel) fun t _ y => ?_
  blk_simp
  rw [after0_19]
  exact (point19 m c t y).trans (congrArg (InRef.gateR (A0 m c) (A1 m c) (A2 m c)) (emb19 t y).symm)

end Cert.InValue

end
-- ==== Proof.InClaims.lean ====
/- The claims about the input projection's call. -/
module

public import proofs.«01_k».proof.Defs
public import proofs.«01_k».proof.Proof.Gen.InProj.Frame
public import proofs.«01_k».proof.Proof.Gen.InProjIdeal.Value
public import proofs.«01_k».proof.Proof.Gen.InRefIdeal.Run
public import proofs.«01_k».proof.Proof.InRefRun
public import proofs.«01_k».proof.Proof.InValue
public import Idealize.ShloMosaic.Adequacy
public import Idealize.ShloMosaic.Init

@[expose] public section

set_option maxRecDepth 16384

noncomputable section

open Idealize.ShloMosaic Idealize.ShloMosaic.TcCoe Idealize.SL.Sem

namespace Cert.InClaims

/-- The call, its ideal program and the reference end without fault, with the arguments unchanged and every semaphore at zero. -/
theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InRefIdeal := fun m ρ _ =>
  (θ_run Cert.InRefIdeal.defs _ _).mono
    (fun r h => ⟨fun c => (h c).2.2.2.2.2.2.2, sem_eq_zero_of_no_sems (by decide) r.2⟩)
    (Cert.InRefIdeal.Value.run (F := Ideal) m ρ)

section Reference

open Cert.InRefIdeal Cert.InRefIdeal.Gen

variable (m : (ℓ : Loc nD τ sig) → Buf (Elt Ideal) ℓ) (ρ : Dev nD → PrngReg)

/-- The reference's run, its results as the seven terms of the arguments. -/
theorem run_ref : θ_run defs (onTc (τ := τ) (main (F := Ideal))) ⟨m, fun _ => 0, ρ⟩ fun r => ∀ c : Dev nD,
      r.2.mem ((c.tc : Thread nD τ).loc main_v35) = InRef.qaR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v89) = InRef.kaeR (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v94) = InRef.kaoR (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v98) = InRef.vaeR (m ((c.tc : Thread nD τ).loc main_arg0)) (m ((c.tc : Thread nD τ).loc main_arg1)) (m ((c.tc : Thread nD τ).loc main_arg2))
      ∧ r.2.mem ((c.tc : Thread nD τ).loc main_v102) = InRef.vaoR (m ((c.tc : Thread nD τ).loc main_arg0)) (m ((c.tc : Thread nD τ).loc main_arg1)) (m ((c.tc : Thread nD τ).loc main_arg2))
      ∧ r.2.mem ((c.tc : Thread nD τ).loc main_v55) = InRef.qbR (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_v104) = InRef.gateR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c).1.trans (InRef.qa_eq m c), (h c).2.1.trans (InRef.kae_eq m c), (h c).2.2.1.trans (InRef.kao_eq m c),
      (h c).2.2.2.1.trans (by
        unfold InRef.vaeR InRef.pairR InRef.evens InRef.onesR InRef.valsR InRef.heads InRef.proj OutRow.refProj OutRow.refNormed
        rfl),
      (h c).2.2.2.2.1.trans (by
        unfold InRef.vaoR InRef.pairR InRef.odds InRef.onesR InRef.valsR InRef.heads InRef.proj OutRow.refProj OutRow.refNormed
        rfl),
      (h c).2.2.2.2.2.1.trans (InRef.qb_eq m c),
      (h c).2.2.2.2.2.2.1.trans (by
        unfold InRef.gateR InRef.proj OutRow.refProj OutRow.refNormed
        rfl),
      (h c).2.2.2.2.2.2.2⟩)
    (Value.run (F := Ideal) m ρ)

end Reference

section Call

open Cert.InProjIdeal Cert.InProjIdeal.Gen Cert.InHost

variable (m : (ℓ : Loc nD τ sig) → Buf (Elt Ideal) ℓ) (ρ : Dev nD → PrngReg)

/-- The call's run, its results as the same terms. -/
theorem run_call : θ_run defs (onTc (τ := τ) (main (F := Ideal))) ⟨m, fun _ => 0, ρ⟩ fun r => ∀ c : Dev nD,
      r.2.mem ((c : Thread nD τ).loc main_v41_0) = InRef.qaR (A0 m c) (A1 m c) (A2 m c) (A3 m c)
      ∧ r.2.mem ((c : Thread nD τ).loc main_v41_1) = InRef.kaeR (A0 m c) (A1 m c) (A2 m c) (A4 m c)
      ∧ r.2.mem ((c : Thread nD τ).loc main_v41_2) = InRef.kaoR (A0 m c) (A1 m c) (A2 m c) (A4 m c)
      ∧ r.2.mem ((c : Thread nD τ).loc main_v41_3) = InRef.vaeR (A0 m c) (A1 m c) (A2 m c)
      ∧ r.2.mem ((c : Thread nD τ).loc main_v41_4) = InRef.vaoR (A0 m c) (A1 m c) (A2 m c)
      ∧ r.2.mem ((c : Thread nD τ).loc main_v41_5) = InRef.qbR (A0 m c) (A1 m c) (A2 m c) (A5 m c)
      ∧ r.2.mem ((c : Thread nD τ).loc main_v41_14) = InRef.gateR (A0 m c) (A1 m c) (A2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨h5, h6, h7, h8, h9, h10, -, -, -, -, -, -, -, -, h19, hk⟩ := h c
    exact ⟨h5.trans (InValue.final5 m c), h6.trans (InValue.final6 m c), h7.trans (InValue.final7 m c), h8.trans (InValue.final8 m c),
      h9.trans (InValue.final9 m c), h10.trans (InValue.final10 m c), h19.trans (InValue.final19 m c), hk⟩)
    (Value.run_blocks (F := Ideal) m ρ)

end Call

/-- Of equal arguments the call and the reference compute the same seven arrays. -/
theorem algebraic : Cert.algebraic_InProjIdeal_InRefIdeal := by
  intro m ρ m' ρ' _ hagree
  refine ⟨_, _, _, _, _, _, _, run_call m ρ, ?_⟩
  refine (θ_run Cert.InRefIdeal.defs _ _).mono (fun _ h c => ?_) (run_ref m' ρ')
  obtain ⟨a0, a1, a2, a3, a4, a5, -, -⟩ := hagree c
  have hc := h c
  rw [a0, a1, a2, a3, a4, a5] at hc
  refine ⟨hc.1, hc.2.1, hc.2.2.1, hc.2.2.2.1, hc.2.2.2.2.1, hc.2.2.2.2.2.1, hc.2.2.2.2.2.2.1, (h c).2.2.2.2.2.2.2⟩

end Cert.InClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutRefIdeal.Run
public import proofs.«01_k».proof.Proof.OutClaims
public import proofs.«01_k».proof.Proof.MobaClaims
public import proofs.«01_k».proof.Proof.InClaims
public import proofs.«01_k».proof.Proof.Gen.InProj.Frame
public import proofs.«01_k».proof.Proof.Gen.InProjIdeal.Value
public import proofs.«01_k».proof.Proof.Gen.InRefIdeal.Run
public import Idealize.ShloMosaic.Adequacy
public import Idealize.ShloMosaic.Init

@[expose] public section

noncomputable section

namespace Cert.Proof

open Idealize.ShloMosaic Idealize.SL.Sem

/-- Every claim of the statement. -/
theorem claim : Cert.Claim :=
  ⟨Cert.Kernel.Gen.facts, Cert.KernelIdeal.Gen.facts, Cert.ReferenceIdeal.Gen.facts, Cert.OutProj.Gen.facts, Cert.OutProjIdeal.Gen.facts,
    Cert.OutRefIdeal.Gen.facts, Cert.InProj.Gen.facts, Cert.InProjIdeal.Gen.facts, Cert.InRefIdeal.Gen.facts, Cert.Pre_finite.facts,
    MobaClaims.frame_p, MobaClaims.frame_pi, MobaClaims.frame_pi_finite, MobaClaims.frame_ri, MobaClaims.frame_ri_finite,
    OutClaims.frame_p, OutClaims.frame_pi, OutClaims.frame_ri, InClaims.frame_p, InClaims.frame_pi, InClaims.frame_ri,
    IdealRules.named_const.statement Cert.KernelIdeal.κ "mask" .f32 0xF149F2CA#32 ⊥ rfl, MobaClaims.algebraic, trivial, OutClaims.algebraic,
    trivial, InClaims.algebraic⟩

end Cert.Proof

end
